-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelDwZ (m : (ℓ : Loc Cert.KernelDwZ.nD Cert.KernelDwZ.τ Cert.KernelDwZ.sig) → Buf (Elt Bits) ℓ) : Prop :=
  True

def Pre_KernelDwZIdeal (m : (ℓ : Loc Cert.KernelDwZIdeal.nD Cert.KernelDwZIdeal.τ Cert.KernelDwZIdeal.sig) → Buf (Elt Ideal) ℓ) : Prop :=
  True

def Pre_ReferenceDwZIdeal (m : (ℓ : Loc Cert.ReferenceDwZIdeal.nD Cert.ReferenceDwZIdeal.τ Cert.ReferenceDwZIdeal.sig) → Buf (Elt Ideal) ℓ) : Prop :=
  True

def Pre_KernelDwQ (m : (ℓ : Loc Cert.KernelDwQ.nD Cert.KernelDwQ.τ Cert.KernelDwQ.sig) → Buf (Elt Bits) ℓ) : Prop :=
  True

def Pre_KernelDwQIdeal (m : (ℓ : Loc Cert.KernelDwQIdeal.nD Cert.KernelDwQIdeal.τ Cert.KernelDwQIdeal.sig) → Buf (Elt Ideal) ℓ) : Prop :=
  True

def Pre_ReferenceDwQIdeal (m : (ℓ : Loc Cert.ReferenceDwQIdeal.nD Cert.ReferenceDwQIdeal.τ Cert.ReferenceDwQIdeal.sig) → Buf (Elt Ideal) ℓ) : Prop :=
  True

def Pre_KernelDwV (m : (ℓ : Loc Cert.KernelDwV.nD Cert.KernelDwV.τ Cert.KernelDwV.sig) → Buf (Elt Bits) ℓ) : Prop :=
  True

def Pre_KernelDwVIdeal (m : (ℓ : Loc Cert.KernelDwVIdeal.nD Cert.KernelDwVIdeal.τ Cert.KernelDwVIdeal.sig) → Buf (Elt Ideal) ℓ) : Prop :=
  True

def Pre_ReferenceDwVIdeal (m : (ℓ : Loc Cert.ReferenceDwVIdeal.nD Cert.ReferenceDwVIdeal.τ Cert.ReferenceDwVIdeal.sig) → Buf (Elt Ideal) ℓ) : Prop :=
  True

def Pre_KernelDwRw (m : (ℓ : Loc Cert.KernelDwRw.nD Cert.KernelDwRw.τ Cert.KernelDwRw.sig) → Buf (Elt Bits) ℓ) : Prop :=
  True

def Pre_KernelDwRwIdeal (m : (ℓ : Loc Cert.KernelDwRwIdeal.nD Cert.KernelDwRwIdeal.τ Cert.KernelDwRwIdeal.sig) → Buf (Elt Ideal) ℓ) : Prop :=
  True

def Pre_ReferenceDwRwIdeal (m : (ℓ : Loc Cert.ReferenceDwRwIdeal.nD Cert.ReferenceDwRwIdeal.τ Cert.ReferenceDwRwIdeal.sig) → Buf (Elt Ideal) ℓ) : Prop :=
  True

def Pre_KernelDxRw (m : (ℓ : Loc Cert.KernelDxRw.nD Cert.KernelDxRw.τ Cert.KernelDxRw.sig) → Buf (Elt Bits) ℓ) : Prop :=
  True

def Pre_KernelDxRwIdeal (m : (ℓ : Loc Cert.KernelDxRwIdeal.nD Cert.KernelDxRwIdeal.τ Cert.KernelDxRwIdeal.sig) → Buf (Elt Ideal) ℓ) : Prop :=
  True

def Pre_ReferenceDxRwIdeal (m : (ℓ : Loc Cert.ReferenceDxRwIdeal.nD Cert.ReferenceDxRwIdeal.τ Cert.ReferenceDxRwIdeal.sig) → Buf (Elt Ideal) ℓ) : Prop :=
  True

def Pre_KernelYRw (m : (ℓ : Loc Cert.KernelYRw.nD Cert.KernelYRw.τ Cert.KernelYRw.sig) → Buf (Elt Bits) ℓ) : Prop :=
  True

def Pre_KernelYRwIdeal (m : (ℓ : Loc Cert.KernelYRwIdeal.nD Cert.KernelYRwIdeal.τ Cert.KernelYRwIdeal.sig) → Buf (Elt Ideal) ℓ) : Prop :=
  True

def Pre_ReferenceYRwIdeal (m : (ℓ : Loc Cert.ReferenceYRwIdeal.nD Cert.ReferenceYRwIdeal.τ Cert.ReferenceYRwIdeal.sig) → Buf (Elt Ideal) ℓ) : Prop :=
  True

def Pre_KernelDwAt (m : (ℓ : Loc Cert.KernelDwAt.nD Cert.KernelDwAt.τ Cert.KernelDwAt.sig) → Buf (Elt Bits) ℓ) : Prop :=
  True

def Pre_KernelDwAtIdeal (m : (ℓ : Loc Cert.KernelDwAtIdeal.nD Cert.KernelDwAtIdeal.τ Cert.KernelDwAtIdeal.sig) → Buf (Elt Ideal) ℓ) : Prop :=
  True

def Pre_ReferenceDwAtIdeal (m : (ℓ : Loc Cert.ReferenceDwAtIdeal.nD Cert.ReferenceDwAtIdeal.τ Cert.ReferenceDwAtIdeal.sig) → Buf (Elt Ideal) ℓ) : Prop :=
  True

def Pre_KernelDxAt (m : (ℓ : Loc Cert.KernelDxAt.nD Cert.KernelDxAt.τ Cert.KernelDxAt.sig) → Buf (Elt Bits) ℓ) : Prop :=
  True

def Pre_KernelDxAtIdeal (m : (ℓ : Loc Cert.KernelDxAtIdeal.nD Cert.KernelDxAtIdeal.τ Cert.KernelDxAtIdeal.sig) → Buf (Elt Ideal) ℓ) : Prop :=
  True

def Pre_ReferenceDxAtIdeal (m : (ℓ : Loc Cert.ReferenceDxAtIdeal.nD Cert.ReferenceDxAtIdeal.τ Cert.ReferenceDxAtIdeal.sig) → Buf (Elt Ideal) ℓ) : Prop :=
  True

def Pre_KernelYAt (m : (ℓ : Loc Cert.KernelYAt.nD Cert.KernelYAt.τ Cert.KernelYAt.sig) → Buf (Elt Bits) ℓ) : Prop :=
  True

def Pre_KernelYAtIdeal (m : (ℓ : Loc Cert.KernelYAtIdeal.nD Cert.KernelYAtIdeal.τ Cert.KernelYAtIdeal.sig) → Buf (Elt Ideal) ℓ) : Prop :=
  True

def Pre_ReferenceYAtIdeal (m : (ℓ : Loc Cert.ReferenceYAtIdeal.nD Cert.ReferenceYAtIdeal.τ Cert.ReferenceYAtIdeal.sig) → Buf (Elt Ideal) ℓ) : Prop :=
  True

def Pre_KernelDwPle (m : (ℓ : Loc Cert.KernelDwPle.nD Cert.KernelDwPle.τ Cert.KernelDwPle.sig) → Buf (Elt Bits) ℓ) : Prop :=
  True

def Pre_KernelDwPleIdeal (m : (ℓ : Loc Cert.KernelDwPleIdeal.nD Cert.KernelDwPleIdeal.τ Cert.KernelDwPleIdeal.sig) → Buf (Elt Ideal) ℓ) : Prop :=
  True

def Pre_ReferenceDwPleIdeal (m : (ℓ : Loc Cert.ReferenceDwPleIdeal.nD Cert.ReferenceDwPleIdeal.τ Cert.ReferenceDwPleIdeal.sig) → Buf (Elt Ideal) ℓ) : Prop :=
  True

def Pre_KernelYPle (m : (ℓ : Loc Cert.KernelYPle.nD Cert.KernelYPle.τ Cert.KernelYPle.sig) → Buf (Elt Bits) ℓ) : Prop :=
  True

def Pre_KernelYPleIdeal (m : (ℓ : Loc Cert.KernelYPleIdeal.nD Cert.KernelYPleIdeal.τ Cert.KernelYPleIdeal.sig) → Buf (Elt Ideal) ℓ) : Prop :=
  True

def Pre_ReferenceYPleIdeal (m : (ℓ : Loc Cert.ReferenceYPleIdeal.nD Cert.ReferenceYPleIdeal.τ Cert.ReferenceYPleIdeal.sig) → Buf (Elt Ideal) ℓ) : Prop :=
  True

def Pre_KernelAdIn (m : (ℓ : Loc Cert.KernelAdIn.nD Cert.KernelAdIn.τ Cert.KernelAdIn.sig) → Buf (Elt Bits) ℓ) : Prop :=
  True

def Pre_KernelAdInIdeal (m : (ℓ : Loc Cert.KernelAdInIdeal.nD Cert.KernelAdInIdeal.τ Cert.KernelAdInIdeal.sig) → Buf (Elt Ideal) ℓ) : Prop :=
  True

def Pre_ReferenceAdInIdeal (m : (ℓ : Loc Cert.ReferenceAdInIdeal.nD Cert.ReferenceAdInIdeal.τ Cert.ReferenceAdInIdeal.sig) → Buf (Elt Ideal) ℓ) : Prop :=
  True

def Pre_KernelAdMlpIn (m : (ℓ : Loc Cert.KernelAdMlpIn.nD Cert.KernelAdMlpIn.τ Cert.KernelAdMlpIn.sig) → Buf (Elt Bits) ℓ) : Prop :=
  True

def Pre_KernelAdMlpInIdeal (m : (ℓ : Loc Cert.KernelAdMlpInIdeal.nD Cert.KernelAdMlpInIdeal.τ Cert.KernelAdMlpInIdeal.sig) → Buf (Elt Ideal) ℓ) : Prop :=
  True

def Pre_ReferenceAdMlpInIdeal (m : (ℓ : Loc Cert.ReferenceAdMlpInIdeal.nD Cert.ReferenceAdMlpInIdeal.τ Cert.ReferenceAdMlpInIdeal.sig) → Buf (Elt Ideal) ℓ) : Prop :=
  True

def Pre_KernelAdMlpOut (m : (ℓ : Loc Cert.KernelAdMlpOut.nD Cert.KernelAdMlpOut.τ Cert.KernelAdMlpOut.sig) → Buf (Elt Bits) ℓ) : Prop :=
  True

def Pre_KernelAdMlpOutIdeal (m : (ℓ : Loc Cert.KernelAdMlpOutIdeal.nD Cert.KernelAdMlpOutIdeal.τ Cert.KernelAdMlpOutIdeal.sig) → Buf (Elt Ideal) ℓ) : Prop :=
  True

def Pre_ReferenceAdMlpOutIdeal (m : (ℓ : Loc Cert.ReferenceAdMlpOutIdeal.nD Cert.ReferenceAdMlpOutIdeal.τ Cert.ReferenceAdMlpOutIdeal.sig) → Buf (Elt Ideal) ℓ) : Prop :=
  True

def Pre_KernelAdOut (m : (ℓ : Loc Cert.KernelAdOut.nD Cert.KernelAdOut.τ Cert.KernelAdOut.sig) → Buf (Elt Bits) ℓ) : Prop :=
  True

def Pre_KernelAdOutIdeal (m : (ℓ : Loc Cert.KernelAdOutIdeal.nD Cert.KernelAdOutIdeal.τ Cert.KernelAdOutIdeal.sig) → Buf (Elt Ideal) ℓ) : Prop :=
  True

def Pre_ReferenceAdOutIdeal (m : (ℓ : Loc Cert.ReferenceAdOutIdeal.nD Cert.ReferenceAdOutIdeal.τ Cert.ReferenceAdOutIdeal.sig) → Buf (Elt Ideal) ℓ) : Prop :=
  True

def Pre_KernelAdRw (m : (ℓ : Loc Cert.KernelAdRw.nD Cert.KernelAdRw.τ Cert.KernelAdRw.sig) → Buf (Elt Bits) ℓ) : Prop :=
  True

def Pre_KernelAdRwIdeal (m : (ℓ : Loc Cert.KernelAdRwIdeal.nD Cert.KernelAdRwIdeal.τ Cert.KernelAdRwIdeal.sig) → Buf (Elt Ideal) ℓ) : Prop :=
  True

def Pre_ReferenceAdRwIdeal (m : (ℓ : Loc Cert.ReferenceAdRwIdeal.nD Cert.ReferenceAdRwIdeal.τ Cert.ReferenceAdRwIdeal.sig) → Buf (Elt Ideal) ℓ) : Prop :=
  True

def Pre_KernelAdAt (m : (ℓ : Loc Cert.KernelAdAt.nD Cert.KernelAdAt.τ Cert.KernelAdAt.sig) → Buf (Elt Bits) ℓ) : Prop :=
  True

def Pre_KernelAdAtIdeal (m : (ℓ : Loc Cert.KernelAdAtIdeal.nD Cert.KernelAdAtIdeal.τ Cert.KernelAdAtIdeal.sig) → Buf (Elt Ideal) ℓ) : Prop :=
  True

def Pre_ReferenceAdAtIdeal (m : (ℓ : Loc Cert.ReferenceAdAtIdeal.nD Cert.ReferenceAdAtIdeal.τ Cert.ReferenceAdAtIdeal.sig) → Buf (Elt Ideal) ℓ) : Prop :=
  True

def Pre_KernelAdPle (m : (ℓ : Loc Cert.KernelAdPle.nD Cert.KernelAdPle.τ Cert.KernelAdPle.sig) → Buf (Elt Bits) ℓ) : Prop :=
  True

def Pre_KernelAdPleIdeal (m : (ℓ : Loc Cert.KernelAdPleIdeal.nD Cert.KernelAdPleIdeal.τ Cert.KernelAdPleIdeal.sig) → Buf (Elt Ideal) ℓ) : Prop :=
  True

def Pre_ReferenceAdPleIdeal (m : (ℓ : Loc Cert.ReferenceAdPleIdeal.nD Cert.ReferenceAdPleIdeal.τ Cert.ReferenceAdPleIdeal.sig) → Buf (Elt Ideal) ℓ) : Prop :=
  True

def Pre_KernelAdGate (m : (ℓ : Loc Cert.KernelAdGate.nD Cert.KernelAdGate.τ Cert.KernelAdGate.sig) → Buf (Elt Bits) ℓ) : Prop :=
  True

def Pre_KernelAdGateIdeal (m : (ℓ : Loc Cert.KernelAdGateIdeal.nD Cert.KernelAdGateIdeal.τ Cert.KernelAdGateIdeal.sig) → Buf (Elt Ideal) ℓ) : Prop :=
  True

def Pre_ReferenceAdGateIdeal (m : (ℓ : Loc Cert.ReferenceAdGateIdeal.nD Cert.ReferenceAdGateIdeal.τ Cert.ReferenceAdGateIdeal.sig) → Buf (Elt Ideal) ℓ) : Prop :=
  True

def Pre_KernelAdDecay (m : (ℓ : Loc Cert.KernelAdDecay.nD Cert.KernelAdDecay.τ Cert.KernelAdDecay.sig) → Buf (Elt Bits) ℓ) : Prop :=
  True

def Pre_KernelAdDecayIdeal (m : (ℓ : Loc Cert.KernelAdDecayIdeal.nD Cert.KernelAdDecayIdeal.τ Cert.KernelAdDecayIdeal.sig) → Buf (Elt Ideal) ℓ) : Prop :=
  True

def Pre_ReferenceAdDecayIdeal (m : (ℓ : Loc Cert.ReferenceAdDecayIdeal.nD Cert.ReferenceAdDecayIdeal.τ Cert.ReferenceAdDecayIdeal.sig) → Buf (Elt Ideal) ℓ) : Prop :=
  True

def Pre_KernelAdSmall (m : (ℓ : Loc Cert.KernelAdSmall.nD Cert.KernelAdSmall.τ Cert.KernelAdSmall.sig) → Buf (Elt Bits) ℓ) : Prop :=
  True

def Pre_KernelAdSmallIdeal (m : (ℓ : Loc Cert.KernelAdSmallIdeal.nD Cert.KernelAdSmallIdeal.τ Cert.KernelAdSmallIdeal.sig) → Buf (Elt Ideal) ℓ) : Prop :=
  True

def Pre_ReferenceAdSmallIdeal (m : (ℓ : Loc Cert.ReferenceAdSmallIdeal.nD Cert.ReferenceAdSmallIdeal.τ Cert.ReferenceAdSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1))
      ∧ r.2.sem = fun _ => 0)

def quiescent_KernelDwZ [hKernelDwZ : Cert.KernelDwZ.Facts] : Prop :=
  ∀ (m : (ℓ : Loc Cert.KernelDwZ.nD Cert.KernelDwZ.τ Cert.KernelDwZ.sig) → Buf (Elt Bits) ℓ) (g : Dev Cert.KernelDwZ.nD → PrngReg), Pre_KernelDwZ m →
    θ_run (Cert.KernelDwZ.defs (F := Bits)) (onTc (τ := Cert.KernelDwZ.τ) (Cert.KernelDwZ.main (F := Bits))) ⟨m, fun _ => 0, g⟩ (fun r => (∀ c : Dev Cert.KernelDwZ.nD,
      r.2.mem ((c.tc : Thread Cert.KernelDwZ.nD Cert.KernelDwZ.τ).loc Cert.KernelDwZ.main_arg0) = m ((c.tc : Thread Cert.KernelDwZ.nD Cert.KernelDwZ.τ).loc Cert.KernelDwZ.main_arg0)
      ∧ r.2.mem ((c.tc : Thread Cert.KernelDwZ.nD Cert.KernelDwZ.τ).loc Cert.KernelDwZ.main_arg1) = m ((c.tc : Thread Cert.KernelDwZ.nD Cert.KernelDwZ.τ).loc Cert.KernelDwZ.main_arg1))
      ∧ r.2.sem = fun _ => 0)

def quiescent_KernelDwZIdeal [hKernelDwZIdeal : Cert.KernelDwZIdeal.Facts] : Prop :=
  ∀ (m : (ℓ : Loc Cert.KernelDwZIdeal.nD Cert.KernelDwZIdeal.τ Cert.KernelDwZIdeal.sig) → Buf (Elt Ideal) ℓ) (g : Dev Cert.KernelDwZIdeal.nD → PrngReg), Pre_KernelDwZIdeal m →
    θ_run (Cert.KernelDwZIdeal.defs (F := Ideal)) (onTc (τ := Cert.KernelDwZIdeal.τ) (Cert.KernelDwZIdeal.main (F := Ideal))) ⟨m, fun _ => 0, g⟩ (fun r => (∀ c : Dev Cert.KernelDwZIdeal.nD,
      r.2.mem ((c.tc : Thread Cert.KernelDwZIdeal.nD Cert.KernelDwZIdeal.τ).loc Cert.KernelDwZIdeal.main_arg0) = m ((c.tc : Thread Cert.KernelDwZIdeal.nD Cert.KernelDwZIdeal.τ).loc Cert.KernelDwZIdeal.main_arg0)
      ∧ r.2.mem ((c.tc : Thread Cert.KernelDwZIdeal.nD Cert.KernelDwZIdeal.τ).loc Cert.KernelDwZIdeal.main_arg1) = m ((c.tc : Thread Cert.KernelDwZIdeal.nD Cert.KernelDwZIdeal.τ).loc Cert.KernelDwZIdeal.main_arg1))
      ∧ r.2.sem = fun _ => 0)

def quiescent_ReferenceDwZIdeal [hReferenceDwZIdeal : Cert.ReferenceDwZIdeal.Facts] : Prop :=
  ∀ (m : (ℓ : Loc Cert.ReferenceDwZIdeal.nD Cert.ReferenceDwZIdeal.τ Cert.ReferenceDwZIdeal.sig) → Buf (Elt Ideal) ℓ) (g : Dev Cert.ReferenceDwZIdeal.nD → PrngReg), Pre_ReferenceDwZIdeal m →
    θ_run (Cert.ReferenceDwZIdeal.defs (F := Ideal)) (onTc (τ := Cert.ReferenceDwZIdeal.τ) (Cert.ReferenceDwZIdeal.main (F := Ideal))) ⟨m, fun _ => 0, g⟩ (fun r => (∀ c : Dev Cert.ReferenceDwZIdeal.nD,
      r.2.mem ((c.tc : Thread Cert.ReferenceDwZIdeal.nD Cert.ReferenceDwZIdeal.τ).loc Cert.ReferenceDwZIdeal.main_arg0) = m ((c.tc : Thread Cert.ReferenceDwZIdeal.nD Cert.ReferenceDwZIdeal.τ).loc Cert.ReferenceDwZIdeal.main_arg0)
      ∧ r.2.mem ((c.tc : Thread Cert.ReferenceDwZIdeal.nD Cert.ReferenceDwZIdeal.τ).loc Cert.ReferenceDwZIdeal.main_arg1) = m ((c.tc : Thread Cert.ReferenceDwZIdeal.nD Cert.ReferenceDwZIdeal.τ).loc Cert.ReferenceDwZIdeal.main_arg1))
      ∧ r.2.sem = fun _ => 0)

def quiescent_KernelDwQ [hKernelDwQ : Cert.KernelDwQ.Facts] : Prop :=
  ∀ (m : (ℓ : Loc Cert.KernelDwQ.nD Cert.KernelDwQ.τ Cert.KernelDwQ.sig) → Buf (Elt Bits) ℓ) (g : Dev Cert.KernelDwQ.nD → PrngReg), Pre_KernelDwQ m →
    θ_run (Cert.KernelDwQ.defs (F := Bits)) (onTc (τ := Cert.KernelDwQ.τ) (Cert.KernelDwQ.main (F := Bits))) ⟨m, fun _ => 0, g⟩ (fun r => (∀ c : Dev Cert.KernelDwQ.nD,
      r.2.mem ((c.tc : Thread Cert.KernelDwQ.nD Cert.KernelDwQ.τ).loc Cert.KernelDwQ.main_arg0) = m ((c.tc : Thread Cert.KernelDwQ.nD Cert.KernelDwQ.τ).loc Cert.KernelDwQ.main_arg0)
      ∧ r.2.mem ((c.tc : Thread Cert.KernelDwQ.nD Cert.KernelDwQ.τ).loc Cert.KernelDwQ.main_arg1) = m ((c.tc : Thread Cert.KernelDwQ.nD Cert.KernelDwQ.τ).loc Cert.KernelDwQ.main_arg1))
      ∧ r.2.sem = fun _ => 0)

def quiescent_KernelDwQIdeal [hKernelDwQIdeal : Cert.KernelDwQIdeal.Facts] : Prop :=
  ∀ (m : (ℓ : Loc Cert.KernelDwQIdeal.nD Cert.KernelDwQIdeal.τ Cert.KernelDwQIdeal.sig) → Buf (Elt Ideal) ℓ) (g : Dev Cert.KernelDwQIdeal.nD → PrngReg), Pre_KernelDwQIdeal m →
    θ_run (Cert.KernelDwQIdeal.defs (F := Ideal)) (onTc (τ := Cert.KernelDwQIdeal.τ) (Cert.KernelDwQIdeal.main (F := Ideal))) ⟨m, fun _ => 0, g⟩ (fun r => (∀ c : Dev Cert.KernelDwQIdeal.nD,
      r.2.mem ((c.tc : Thread Cert.KernelDwQIdeal.nD Cert.KernelDwQIdeal.τ).loc Cert.KernelDwQIdeal.main_arg0) = m ((c.tc : Thread Cert.KernelDwQIdeal.nD Cert.KernelDwQIdeal.τ).loc Cert.KernelDwQIdeal.main_arg0)
      ∧ r.2.mem ((c.tc : Thread Cert.KernelDwQIdeal.nD Cert.KernelDwQIdeal.τ).loc Cert.KernelDwQIdeal.main_arg1) = m ((c.tc : Thread Cert.KernelDwQIdeal.nD Cert.KernelDwQIdeal.τ).loc Cert.KernelDwQIdeal.main_arg1))
      ∧ r.2.sem = fun _ => 0)

def quiescent_ReferenceDwQIdeal [hReferenceDwQIdeal : Cert.ReferenceDwQIdeal.Facts] : Prop :=
  ∀ (m : (ℓ : Loc Cert.ReferenceDwQIdeal.nD Cert.ReferenceDwQIdeal.τ Cert.ReferenceDwQIdeal.sig) → Buf (Elt Ideal) ℓ) (g : Dev Cert.ReferenceDwQIdeal.nD → PrngReg), Pre_ReferenceDwQIdeal m →
    θ_run (Cert.ReferenceDwQIdeal.defs (F := Ideal)) (onTc (τ := Cert.ReferenceDwQIdeal.τ) (Cert.ReferenceDwQIdeal.main (F := Ideal))) ⟨m, fun _ => 0, g⟩ (fun r => (∀ c : Dev Cert.ReferenceDwQIdeal.nD,
      r.2.mem ((c.tc : Thread Cert.ReferenceDwQIdeal.nD Cert.ReferenceDwQIdeal.τ).loc Cert.ReferenceDwQIdeal.main_arg0) = m ((c.tc : Thread Cert.ReferenceDwQIdeal.nD Cert.ReferenceDwQIdeal.τ).loc Cert.ReferenceDwQIdeal.main_arg0)
      ∧ r.2.mem ((c.tc : Thread Cert.ReferenceDwQIdeal.nD Cert.ReferenceDwQIdeal.τ).loc Cert.ReferenceDwQIdeal.main_arg1) = m ((c.tc : Thread Cert.ReferenceDwQIdeal.nD Cert.ReferenceDwQIdeal.τ).loc Cert.ReferenceDwQIdeal.main_arg1))
      ∧ r.2.sem = fun _ => 0)

def quiescent_KernelDwV [hKernelDwV : Cert.KernelDwV.Facts] : Prop :=
  ∀ (m : (ℓ : Loc Cert.KernelDwV.nD Cert.KernelDwV.τ Cert.KernelDwV.sig) → Buf (Elt Bits) ℓ) (g : Dev Cert.KernelDwV.nD → PrngReg), Pre_KernelDwV m →
    θ_run (Cert.KernelDwV.defs (F := Bits)) (onTc (τ := Cert.KernelDwV.τ) (Cert.KernelDwV.main (F := Bits))) ⟨m, fun _ => 0, g⟩ (fun r => (∀ c : Dev Cert.KernelDwV.nD,
      r.2.mem ((c.tc : Thread Cert.KernelDwV.nD Cert.KernelDwV.τ).loc Cert.KernelDwV.main_arg0) = m ((c.tc : Thread Cert.KernelDwV.nD Cert.KernelDwV.τ).loc Cert.KernelDwV.main_arg0)
      ∧ r.2.mem ((c.tc : Thread Cert.KernelDwV.nD Cert.KernelDwV.τ).loc Cert.KernelDwV.main_arg1) = m ((c.tc : Thread Cert.KernelDwV.nD Cert.KernelDwV.τ).loc Cert.KernelDwV.main_arg1))
      ∧ r.2.sem = fun _ => 0)

def quiescent_KernelDwVIdeal [hKernelDwVIdeal : Cert.KernelDwVIdeal.Facts] : Prop :=
  ∀ (m : (ℓ : Loc Cert.KernelDwVIdeal.nD Cert.KernelDwVIdeal.τ Cert.KernelDwVIdeal.sig) → Buf (Elt Ideal) ℓ) (g : Dev Cert.KernelDwVIdeal.nD → PrngReg), Pre_KernelDwVIdeal m →
    θ_run (Cert.KernelDwVIdeal.defs (F := Ideal)) (onTc (τ := Cert.KernelDwVIdeal.τ) (Cert.KernelDwVIdeal.main (F := Ideal))) ⟨m, fun _ => 0, g⟩ (fun r => (∀ c : Dev Cert.KernelDwVIdeal.nD,
      r.2.mem ((c.tc : Thread Cert.KernelDwVIdeal.nD Cert.KernelDwVIdeal.τ).loc Cert.KernelDwVIdeal.main_arg0) = m ((c.tc : Thread Cert.KernelDwVIdeal.nD Cert.KernelDwVIdeal.τ).loc Cert.KernelDwVIdeal.main_arg0)
      ∧ r.2.mem ((c.tc : Thread Cert.KernelDwVIdeal.nD Cert.KernelDwVIdeal.τ).loc Cert.KernelDwVIdeal.main_arg1) = m ((c.tc : Thread Cert.KernelDwVIdeal.nD Cert.KernelDwVIdeal.τ).loc Cert.KernelDwVIdeal.main_arg1))
      ∧ r.2.sem = fun _ => 0)

def quiescent_ReferenceDwVIdeal [hReferenceDwVIdeal : Cert.ReferenceDwVIdeal.Facts] : Prop :=
  ∀ (m : (ℓ : Loc Cert.ReferenceDwVIdeal.nD Cert.ReferenceDwVIdeal.τ Cert.ReferenceDwVIdeal.sig) → Buf (Elt Ideal) ℓ) (g : Dev Cert.ReferenceDwVIdeal.nD → PrngReg), Pre_ReferenceDwVIdeal m →
    θ_run (Cert.ReferenceDwVIdeal.defs (F := Ideal)) (onTc (τ := Cert.ReferenceDwVIdeal.τ) (Cert.ReferenceDwVIdeal.main (F := Ideal))) ⟨m, fun _ => 0, g⟩ (fun r => (∀ c : Dev Cert.ReferenceDwVIdeal.nD,
      r.2.mem ((c.tc : Thread Cert.ReferenceDwVIdeal.nD Cert.ReferenceDwVIdeal.τ).loc Cert.ReferenceDwVIdeal.main_arg0) = m ((c.tc : Thread Cert.ReferenceDwVIdeal.nD Cert.ReferenceDwVIdeal.τ).loc Cert.ReferenceDwVIdeal.main_arg0)
      ∧ r.2.mem ((c.tc : Thread Cert.ReferenceDwVIdeal.nD Cert.ReferenceDwVIdeal.τ).loc Cert.ReferenceDwVIdeal.main_arg1) = m ((c.tc : Thread Cert.ReferenceDwVIdeal.nD Cert.ReferenceDwVIdeal.τ).loc Cert.ReferenceDwVIdeal.main_arg1))
      ∧ r.2.sem = fun _ => 0)

def quiescent_KernelDwRw [hKernelDwRw : Cert.KernelDwRw.Facts] : Prop :=
  ∀ (m : (ℓ : Loc Cert.KernelDwRw.nD Cert.KernelDwRw.τ Cert.KernelDwRw.sig) → Buf (Elt Bits) ℓ) (g : Dev Cert.KernelDwRw.nD → PrngReg), Pre_KernelDwRw m →
    θ_run (Cert.KernelDwRw.defs (F := Bits)) (onTc (τ := Cert.KernelDwRw.τ) (Cert.KernelDwRw.main (F := Bits))) ⟨m, fun _ => 0, g⟩ (fun r => (∀ c : Dev Cert.KernelDwRw.nD,
      r.2.mem ((c.tc : Thread Cert.KernelDwRw.nD Cert.KernelDwRw.τ).loc Cert.KernelDwRw.main_arg0) = m ((c.tc : Thread Cert.KernelDwRw.nD Cert.KernelDwRw.τ).loc Cert.KernelDwRw.main_arg0)
      ∧ r.2.mem ((c.tc : Thread Cert.KernelDwRw.nD Cert.KernelDwRw.τ).loc Cert.KernelDwRw.main_arg1) = m ((c.tc : Thread Cert.KernelDwRw.nD Cert.KernelDwRw.τ).loc Cert.KernelDwRw.main_arg1))
      ∧ r.2.sem = fun _ => 0)

def quiescent_KernelDwRwIdeal [hKernelDwRwIdeal : Cert.KernelDwRwIdeal.Facts] : Prop :=
  ∀ (m : (ℓ : Loc Cert.KernelDwRwIdeal.nD Cert.KernelDwRwIdeal.τ Cert.KernelDwRwIdeal.sig) → Buf (Elt Ideal) ℓ) (g : Dev Cert.KernelDwRwIdeal.nD → PrngReg), Pre_KernelDwRwIdeal m →
    θ_run (Cert.KernelDwRwIdeal.defs (F := Ideal)) (onTc (τ := Cert.KernelDwRwIdeal.τ) (Cert.KernelDwRwIdeal.main (F := Ideal))) ⟨m, fun _ => 0, g⟩ (fun r => (∀ c : Dev Cert.KernelDwRwIdeal.nD,
      r.2.mem ((c.tc : Thread Cert.KernelDwRwIdeal.nD Cert.KernelDwRwIdeal.τ).loc Cert.KernelDwRwIdeal.main_arg0) = m ((c.tc : Thread Cert.KernelDwRwIdeal.nD Cert.KernelDwRwIdeal.τ).loc Cert.KernelDwRwIdeal.main_arg0)
      ∧ r.2.mem ((c.tc : Thread Cert.KernelDwRwIdeal.nD Cert.KernelDwRwIdeal.τ).loc Cert.KernelDwRwIdeal.main_arg1) = m ((c.tc : Thread Cert.KernelDwRwIdeal.nD Cert.KernelDwRwIdeal.τ).loc Cert.KernelDwRwIdeal.main_arg1))
      ∧ r.2.sem = fun _ => 0)

def quiescent_ReferenceDwRwIdeal [hReferenceDwRwIdeal : Cert.ReferenceDwRwIdeal.Facts] : Prop :=
  ∀ (m : (ℓ : Loc Cert.ReferenceDwRwIdeal.nD Cert.ReferenceDwRwIdeal.τ Cert.ReferenceDwRwIdeal.sig) → Buf (Elt Ideal) ℓ) (g : Dev Cert.ReferenceDwRwIdeal.nD → PrngReg), Pre_ReferenceDwRwIdeal m →
    θ_run (Cert.ReferenceDwRwIdeal.defs (F := Ideal)) (onTc (τ := Cert.ReferenceDwRwIdeal.τ) (Cert.ReferenceDwRwIdeal.main (F := Ideal))) ⟨m, fun _ => 0, g⟩ (fun r => (∀ c : Dev Cert.ReferenceDwRwIdeal.nD,
      r.2.mem ((c.tc : Thread Cert.ReferenceDwRwIdeal.nD Cert.ReferenceDwRwIdeal.τ).loc Cert.ReferenceDwRwIdeal.main_arg0) = m ((c.tc : Thread Cert.ReferenceDwRwIdeal.nD Cert.ReferenceDwRwIdeal.τ).loc Cert.ReferenceDwRwIdeal.main_arg0)
      ∧ r.2.mem ((c.tc : Thread Cert.ReferenceDwRwIdeal.nD Cert.ReferenceDwRwIdeal.τ).loc Cert.ReferenceDwRwIdeal.main_arg1) = m ((c.tc : Thread Cert.ReferenceDwRwIdeal.nD Cert.ReferenceDwRwIdeal.τ).loc Cert.ReferenceDwRwIdeal.main_arg1))
      ∧ r.2.sem = fun _ => 0)

def quiescent_KernelDxRw [hKernelDxRw : Cert.KernelDxRw.Facts] : Prop :=
  ∀ (m : (ℓ : Loc Cert.KernelDxRw.nD Cert.KernelDxRw.τ Cert.KernelDxRw.sig) → Buf (Elt Bits) ℓ) (g : Dev Cert.KernelDxRw.nD → PrngReg), Pre_KernelDxRw m →
    θ_run (Cert.KernelDxRw.defs (F := Bits)) (onTc (τ := Cert.KernelDxRw.τ) (Cert.KernelDxRw.main (F := Bits))) ⟨m, fun _ => 0, g⟩ (fun r => (∀ c : Dev Cert.KernelDxRw.nD,
      r.2.mem ((c.tc : Thread Cert.KernelDxRw.nD Cert.KernelDxRw.τ).loc Cert.KernelDxRw.main_arg0) = m ((c.tc : Thread Cert.KernelDxRw.nD Cert.KernelDxRw.τ).loc Cert.KernelDxRw.main_arg0)
      ∧ r.2.mem ((c.tc : Thread Cert.KernelDxRw.nD Cert.KernelDxRw.τ).loc Cert.KernelDxRw.main_arg1) = m ((c.tc : Thread Cert.KernelDxRw.nD Cert.KernelDxRw.τ).loc Cert.KernelDxRw.main_arg1))
      ∧ r.2.sem = fun _ => 0)

def quiescent_KernelDxRwIdeal [hKernelDxRwIdeal : Cert.KernelDxRwIdeal.Facts] : Prop :=
  ∀ (m : (ℓ : Loc Cert.KernelDxRwIdeal.nD Cert.KernelDxRwIdeal.τ Cert.KernelDxRwIdeal.sig) → Buf (Elt Ideal) ℓ) (g : Dev Cert.KernelDxRwIdeal.nD → PrngReg), Pre_KernelDxRwIdeal m →
    θ_run (Cert.KernelDxRwIdeal.defs (F := Ideal)) (onTc (τ := Cert.KernelDxRwIdeal.τ) (Cert.KernelDxRwIdeal.main (F := Ideal))) ⟨m, fun _ => 0, g⟩ (fun r => (∀ c : Dev Cert.KernelDxRwIdeal.nD,
      r.2.mem ((c.tc : Thread Cert.KernelDxRwIdeal.nD Cert.KernelDxRwIdeal.τ).loc Cert.KernelDxRwIdeal.main_arg0) = m ((c.tc : Thread Cert.KernelDxRwIdeal.nD Cert.KernelDxRwIdeal.τ).loc Cert.KernelDxRwIdeal.main_arg0)
      ∧ r.2.mem ((c.tc : Thread Cert.KernelDxRwIdeal.nD Cert.KernelDxRwIdeal.τ).loc Cert.KernelDxRwIdeal.main_arg1) = m ((c.tc : Thread Cert.KernelDxRwIdeal.nD Cert.KernelDxRwIdeal.τ).loc Cert.KernelDxRwIdeal.main_arg1))
      ∧ r.2.sem = fun _ => 0)

def quiescent_ReferenceDxRwIdeal [hReferenceDxRwIdeal : Cert.ReferenceDxRwIdeal.Facts] : Prop :=
  ∀ (m : (ℓ : Loc Cert.ReferenceDxRwIdeal.nD Cert.ReferenceDxRwIdeal.τ Cert.ReferenceDxRwIdeal.sig) → Buf (Elt Ideal) ℓ) (g : Dev Cert.ReferenceDxRwIdeal.nD → PrngReg), Pre_ReferenceDxRwIdeal m →
    θ_run (Cert.ReferenceDxRwIdeal.defs (F := Ideal)) (onTc (τ := Cert.ReferenceDxRwIdeal.τ) (Cert.ReferenceDxRwIdeal.main (F := Ideal))) ⟨m, fun _ => 0, g⟩ (fun r => (∀ c : Dev Cert.ReferenceDxRwIdeal.nD,
      r.2.mem ((c.tc : Thread Cert.ReferenceDxRwIdeal.nD Cert.ReferenceDxRwIdeal.τ).loc Cert.ReferenceDxRwIdeal.main_arg0) = m ((c.tc : Thread Cert.ReferenceDxRwIdeal.nD Cert.ReferenceDxRwIdeal.τ).loc Cert.ReferenceDxRwIdeal.main_arg0)
      ∧ r.2.mem ((c.tc : Thread Cert.ReferenceDxRwIdeal.nD Cert.ReferenceDxRwIdeal.τ).loc Cert.ReferenceDxRwIdeal.main_arg1) = m ((c.tc : Thread Cert.ReferenceDxRwIdeal.nD Cert.ReferenceDxRwIdeal.τ).loc Cert.ReferenceDxRwIdeal.main_arg1))
      ∧ r.2.sem = fun _ => 0)

def quiescent_KernelYRw [hKernelYRw : Cert.KernelYRw.Facts] : Prop :=
  ∀ (m : (ℓ : Loc Cert.KernelYRw.nD Cert.KernelYRw.τ Cert.KernelYRw.sig) → Buf (Elt Bits) ℓ) (g : Dev Cert.KernelYRw.nD → PrngReg), Pre_KernelYRw m →
    θ_run (Cert.KernelYRw.defs (F := Bits)) (onTc (τ := Cert.KernelYRw.τ) (Cert.KernelYRw.main (F := Bits))) ⟨m, fun _ => 0, g⟩ (fun r => (∀ c : Dev Cert.KernelYRw.nD,
      r.2.mem ((c.tc : Thread Cert.KernelYRw.nD Cert.KernelYRw.τ).loc Cert.KernelYRw.main_arg0) = m ((c.tc : Thread Cert.KernelYRw.nD Cert.KernelYRw.τ).loc Cert.KernelYRw.main_arg0)
      ∧ r.2.mem ((c.tc : Thread Cert.KernelYRw.nD Cert.KernelYRw.τ).loc Cert.KernelYRw.main_arg1) = m ((c.tc : Thread Cert.KernelYRw.nD Cert.KernelYRw.τ).loc Cert.KernelYRw.main_arg1))
      ∧ r.2.sem = fun _ => 0)

def quiescent_KernelYRwIdeal [hKernelYRwIdeal : Cert.KernelYRwIdeal.Facts] : Prop :=
  ∀ (m : (ℓ : Loc Cert.KernelYRwIdeal.nD Cert.KernelYRwIdeal.τ Cert.KernelYRwIdeal.sig) → Buf (Elt Ideal) ℓ) (g : Dev Cert.KernelYRwIdeal.nD → PrngReg), Pre_KernelYRwIdeal m →
    θ_run (Cert.KernelYRwIdeal.defs (F := Ideal)) (onTc (τ := Cert.KernelYRwIdeal.τ) (Cert.KernelYRwIdeal.main (F := Ideal))) ⟨m, fun _ => 0, g⟩ (fun r => (∀ c : Dev Cert.KernelYRwIdeal.nD,
      r.2.mem ((c.tc : Thread Cert.KernelYRwIdeal.nD Cert.KernelYRwIdeal.τ).loc Cert.KernelYRwIdeal.main_arg0) = m ((c.tc : Thread Cert.KernelYRwIdeal.nD Cert.KernelYRwIdeal.τ).loc Cert.KernelYRwIdeal.main_arg0)
      ∧ r.2.mem ((c.tc : Thread Cert.KernelYRwIdeal.nD Cert.KernelYRwIdeal.τ).loc Cert.KernelYRwIdeal.main_arg1) = m ((c.tc : Thread Cert.KernelYRwIdeal.nD Cert.KernelYRwIdeal.τ).loc Cert.KernelYRwIdeal.main_arg1))
      ∧ r.2.sem = fun _ => 0)

def quiescent_ReferenceYRwIdeal [hReferenceYRwIdeal : Cert.ReferenceYRwIdeal.Facts] : Prop :=
  ∀ (m : (ℓ : Loc Cert.ReferenceYRwIdeal.nD Cert.ReferenceYRwIdeal.τ Cert.ReferenceYRwIdeal.sig) → Buf (Elt Ideal) ℓ) (g : Dev Cert.ReferenceYRwIdeal.nD → PrngReg), Pre_ReferenceYRwIdeal m →
    θ_run (Cert.ReferenceYRwIdeal.defs (F := Ideal)) (onTc (τ := Cert.ReferenceYRwIdeal.τ) (Cert.ReferenceYRwIdeal.main (F := Ideal))) ⟨m, fun _ => 0, g⟩ (fun r => (∀ c : Dev Cert.ReferenceYRwIdeal.nD,
      r.2.mem ((c.tc : Thread Cert.ReferenceYRwIdeal.nD Cert.ReferenceYRwIdeal.τ).loc Cert.ReferenceYRwIdeal.main_arg0) = m ((c.tc : Thread Cert.ReferenceYRwIdeal.nD Cert.ReferenceYRwIdeal.τ).loc Cert.ReferenceYRwIdeal.main_arg0)
      ∧ r.2.mem ((c.tc : Thread Cert.ReferenceYRwIdeal.nD Cert.ReferenceYRwIdeal.τ).loc Cert.ReferenceYRwIdeal.main_arg1) = m ((c.tc : Thread Cert.ReferenceYRwIdeal.nD Cert.ReferenceYRwIdeal.τ).loc Cert.ReferenceYRwIdeal.main_arg1))
      ∧ r.2.sem = fun _ => 0)

def quiescent_KernelDwAt [hKernelDwAt : Cert.KernelDwAt.Facts] : Prop :=
  ∀ (m : (ℓ : Loc Cert.KernelDwAt.nD Cert.KernelDwAt.τ Cert.KernelDwAt.sig) → Buf (Elt Bits) ℓ) (g : Dev Cert.KernelDwAt.nD → PrngReg), Pre_KernelDwAt m →
    θ_run (Cert.KernelDwAt.defs (F := Bits)) (onTc (τ := Cert.KernelDwAt.τ) (Cert.KernelDwAt.main (F := Bits))) ⟨m, fun _ => 0, g⟩ (fun r => (∀ c : Dev Cert.KernelDwAt.nD,
      r.2.mem ((c.tc : Thread Cert.KernelDwAt.nD Cert.KernelDwAt.τ).loc Cert.KernelDwAt.main_arg0) = m ((c.tc : Thread Cert.KernelDwAt.nD Cert.KernelDwAt.τ).loc Cert.KernelDwAt.main_arg0)
      ∧ r.2.mem ((c.tc : Thread Cert.KernelDwAt.nD Cert.KernelDwAt.τ).loc Cert.KernelDwAt.main_arg1) = m ((c.tc : Thread Cert.KernelDwAt.nD Cert.KernelDwAt.τ).loc Cert.KernelDwAt.main_arg1))
      ∧ r.2.sem = fun _ => 0)

def quiescent_KernelDwAtIdeal [hKernelDwAtIdeal : Cert.KernelDwAtIdeal.Facts] : Prop :=
  ∀ (m : (ℓ : Loc Cert.KernelDwAtIdeal.nD Cert.KernelDwAtIdeal.τ Cert.KernelDwAtIdeal.sig) → Buf (Elt Ideal) ℓ) (g : Dev Cert.KernelDwAtIdeal.nD → PrngReg), Pre_KernelDwAtIdeal m →
    θ_run (Cert.KernelDwAtIdeal.defs (F := Ideal)) (onTc (τ := Cert.KernelDwAtIdeal.τ) (Cert.KernelDwAtIdeal.main (F := Ideal))) ⟨m, fun _ => 0, g⟩ (fun r => (∀ c : Dev Cert.KernelDwAtIdeal.nD,
      r.2.mem ((c.tc : Thread Cert.KernelDwAtIdeal.nD Cert.KernelDwAtIdeal.τ).loc Cert.KernelDwAtIdeal.main_arg0) = m ((c.tc : Thread Cert.KernelDwAtIdeal.nD Cert.KernelDwAtIdeal.τ).loc Cert.KernelDwAtIdeal.main_arg0)
      ∧ r.2.mem ((c.tc : Thread Cert.KernelDwAtIdeal.nD Cert.KernelDwAtIdeal.τ).loc Cert.KernelDwAtIdeal.main_arg1) = m ((c.tc : Thread Cert.KernelDwAtIdeal.nD Cert.KernelDwAtIdeal.τ).loc Cert.KernelDwAtIdeal.main_arg1))
      ∧ r.2.sem = fun _ => 0)

def quiescent_ReferenceDwAtIdeal [hReferenceDwAtIdeal : Cert.ReferenceDwAtIdeal.Facts] : Prop :=
  ∀ (m : (ℓ : Loc Cert.ReferenceDwAtIdeal.nD Cert.ReferenceDwAtIdeal.τ Cert.ReferenceDwAtIdeal.sig) → Buf (Elt Ideal) ℓ) (g : Dev Cert.ReferenceDwAtIdeal.nD → PrngReg), Pre_ReferenceDwAtIdeal m →
    θ_run (Cert.ReferenceDwAtIdeal.defs (F := Ideal)) (onTc (τ := Cert.ReferenceDwAtIdeal.τ) (Cert.ReferenceDwAtIdeal.main (F := Ideal))) ⟨m, fun _ => 0, g⟩ (fun r => (∀ c : Dev Cert.ReferenceDwAtIdeal.nD,
      r.2.mem ((c.tc : Thread Cert.ReferenceDwAtIdeal.nD Cert.ReferenceDwAtIdeal.τ).loc Cert.ReferenceDwAtIdeal.main_arg0) = m ((c.tc : Thread Cert.ReferenceDwAtIdeal.nD Cert.ReferenceDwAtIdeal.τ).loc Cert.ReferenceDwAtIdeal.main_arg0)
      ∧ r.2.mem ((c.tc : Thread Cert.ReferenceDwAtIdeal.nD Cert.ReferenceDwAtIdeal.τ).loc Cert.ReferenceDwAtIdeal.main_arg1) = m ((c.tc : Thread Cert.ReferenceDwAtIdeal.nD Cert.ReferenceDwAtIdeal.τ).loc Cert.ReferenceDwAtIdeal.main_arg1))
      ∧ r.2.sem = fun _ => 0)

def quiescent_KernelDxAt [hKernelDxAt : Cert.KernelDxAt.Facts] : Prop :=
  ∀ (m : (ℓ : Loc Cert.KernelDxAt.nD Cert.KernelDxAt.τ Cert.KernelDxAt.sig) → Buf (Elt Bits) ℓ) (g : Dev Cert.KernelDxAt.nD → PrngReg), Pre_KernelDxAt m →
    θ_run (Cert.KernelDxAt.defs (F := Bits)) (onTc (τ := Cert.KernelDxAt.τ) (Cert.KernelDxAt.main (F := Bits))) ⟨m, fun _ => 0, g⟩ (fun r => (∀ c : Dev Cert.KernelDxAt.nD,
      r.2.mem ((c.tc : Thread Cert.KernelDxAt.nD Cert.KernelDxAt.τ).loc Cert.KernelDxAt.main_arg0) = m ((c.tc : Thread Cert.KernelDxAt.nD Cert.KernelDxAt.τ).loc Cert.KernelDxAt.main_arg0)
      ∧ r.2.mem ((c.tc : Thread Cert.KernelDxAt.nD Cert.KernelDxAt.τ).loc Cert.KernelDxAt.main_arg1) = m ((c.tc : Thread Cert.KernelDxAt.nD Cert.KernelDxAt.τ).loc Cert.KernelDxAt.main_arg1))
      ∧ r.2.sem = fun _ => 0)

def quiescent_KernelDxAtIdeal [hKernelDxAtIdeal : Cert.KernelDxAtIdeal.Facts] : Prop :=
  ∀ (m : (ℓ : Loc Cert.KernelDxAtIdeal.nD Cert.KernelDxAtIdeal.τ Cert.KernelDxAtIdeal.sig) → Buf (Elt Ideal) ℓ) (g : Dev Cert.KernelDxAtIdeal.nD → PrngReg), Pre_KernelDxAtIdeal m →
    θ_run (Cert.KernelDxAtIdeal.defs (F := Ideal)) (onTc (τ := Cert.KernelDxAtIdeal.τ) (Cert.KernelDxAtIdeal.main (F := Ideal))) ⟨m, fun _ => 0, g⟩ (fun r => (∀ c : Dev Cert.KernelDxAtIdeal.nD,
      r.2.mem ((c.tc : Thread Cert.KernelDxAtIdeal.nD Cert.KernelDxAtIdeal.τ).loc Cert.KernelDxAtIdeal.main_arg0) = m ((c.tc : Thread Cert.KernelDxAtIdeal.nD Cert.KernelDxAtIdeal.τ).loc Cert.KernelDxAtIdeal.main_arg0)
      ∧ r.2.mem ((c.tc : Thread Cert.KernelDxAtIdeal.nD Cert.KernelDxAtIdeal.τ).loc Cert.KernelDxAtIdeal.main_arg1) = m ((c.tc : Thread Cert.KernelDxAtIdeal.nD Cert.KernelDxAtIdeal.τ).loc Cert.KernelDxAtIdeal.main_arg1))
      ∧ r.2.sem = fun _ => 0)

def quiescent_ReferenceDxAtIdeal [hReferenceDxAtIdeal : Cert.ReferenceDxAtIdeal.Facts] : Prop :=
  ∀ (m : (ℓ : Loc Cert.ReferenceDxAtIdeal.nD Cert.ReferenceDxAtIdeal.τ Cert.ReferenceDxAtIdeal.sig) → Buf (Elt Ideal) ℓ) (g : Dev Cert.ReferenceDxAtIdeal.nD → PrngReg), Pre_ReferenceDxAtIdeal m →
    θ_run (Cert.ReferenceDxAtIdeal.defs (F := Ideal)) (onTc (τ := Cert.ReferenceDxAtIdeal.τ) (Cert.ReferenceDxAtIdeal.main (F := Ideal))) ⟨m, fun _ => 0, g⟩ (fun r => (∀ c : Dev Cert.ReferenceDxAtIdeal.nD,
      r.2.mem ((c.tc : Thread Cert.ReferenceDxAtIdeal.nD Cert.ReferenceDxAtIdeal.τ).loc Cert.ReferenceDxAtIdeal.main_arg0) = m ((c.tc : Thread Cert.ReferenceDxAtIdeal.nD Cert.ReferenceDxAtIdeal.τ).loc Cert.ReferenceDxAtIdeal.main_arg0)
      ∧ r.2.mem ((c.tc : Thread Cert.ReferenceDxAtIdeal.nD Cert.ReferenceDxAtIdeal.τ).loc Cert.ReferenceDxAtIdeal.main_arg1) = m ((c.tc : Thread Cert.ReferenceDxAtIdeal.nD Cert.ReferenceDxAtIdeal.τ).loc Cert.ReferenceDxAtIdeal.main_arg1))
      ∧ r.2.sem = fun _ => 0)

def quiescent_KernelYAt [hKernelYAt : Cert.KernelYAt.Facts] : Prop :=
  ∀ (m : (ℓ : Loc Cert.KernelYAt.nD Cert.KernelYAt.τ Cert.KernelYAt.sig) → Buf (Elt Bits) ℓ) (g : Dev Cert.KernelYAt.nD → PrngReg), Pre_KernelYAt m →
    θ_run (Cert.KernelYAt.defs (F := Bits)) (onTc (τ := Cert.KernelYAt.τ) (Cert.KernelYAt.main (F := Bits))) ⟨m, fun _ => 0, g⟩ (fun r => (∀ c : Dev Cert.KernelYAt.nD,
      r.2.mem ((c.tc : Thread Cert.KernelYAt.nD Cert.KernelYAt.τ).loc Cert.KernelYAt.main_arg0) = m ((c.tc : Thread Cert.KernelYAt.nD Cert.KernelYAt.τ).loc Cert.KernelYAt.main_arg0)
      ∧ r.2.mem ((c.tc : Thread Cert.KernelYAt.nD Cert.KernelYAt.τ).loc Cert.KernelYAt.main_arg1) = m ((c.tc : Thread Cert.KernelYAt.nD Cert.KernelYAt.τ).loc Cert.KernelYAt.main_arg1))
      ∧ r.2.sem = fun _ => 0)

def quiescent_KernelYAtIdeal [hKernelYAtIdeal : Cert.KernelYAtIdeal.Facts] : Prop :=
  ∀ (m : (ℓ : Loc Cert.KernelYAtIdeal.nD Cert.KernelYAtIdeal.τ Cert.KernelYAtIdeal.sig) → Buf (Elt Ideal) ℓ) (g : Dev Cert.KernelYAtIdeal.nD → PrngReg), Pre_KernelYAtIdeal m →
    θ_run (Cert.KernelYAtIdeal.defs (F := Ideal)) (onTc (τ := Cert.KernelYAtIdeal.τ) (Cert.KernelYAtIdeal.main (F := Ideal))) ⟨m, fun _ => 0, g⟩ (fun r => (∀ c : Dev Cert.KernelYAtIdeal.nD,
      r.2.mem ((c.tc : Thread Cert.KernelYAtIdeal.nD Cert.KernelYAtIdeal.τ).loc Cert.KernelYAtIdeal.main_arg0) = m ((c.tc : Thread Cert.KernelYAtIdeal.nD Cert.KernelYAtIdeal.τ).loc Cert.KernelYAtIdeal.main_arg0)
      ∧ r.2.mem ((c.tc : Thread Cert.KernelYAtIdeal.nD Cert.KernelYAtIdeal.τ).loc Cert.KernelYAtIdeal.main_arg1) = m ((c.tc : Thread Cert.KernelYAtIdeal.nD Cert.KernelYAtIdeal.τ).loc Cert.KernelYAtIdeal.main_arg1))
      ∧ r.2.sem = fun _ => 0)

def quiescent_ReferenceYAtIdeal [hReferenceYAtIdeal : Cert.ReferenceYAtIdeal.Facts] : Prop :=
  ∀ (m : (ℓ : Loc Cert.ReferenceYAtIdeal.nD Cert.ReferenceYAtIdeal.τ Cert.ReferenceYAtIdeal.sig) → Buf (Elt Ideal) ℓ) (g : Dev Cert.ReferenceYAtIdeal.nD → PrngReg), Pre_ReferenceYAtIdeal m →
    θ_run (Cert.ReferenceYAtIdeal.defs (F := Ideal)) (onTc (τ := Cert.ReferenceYAtIdeal.τ) (Cert.ReferenceYAtIdeal.main (F := Ideal))) ⟨m, fun _ => 0, g⟩ (fun r => (∀ c : Dev Cert.ReferenceYAtIdeal.nD,
      r.2.mem ((c.tc : Thread Cert.ReferenceYAtIdeal.nD Cert.ReferenceYAtIdeal.τ).loc Cert.ReferenceYAtIdeal.main_arg0) = m ((c.tc : Thread Cert.ReferenceYAtIdeal.nD Cert.ReferenceYAtIdeal.τ).loc Cert.ReferenceYAtIdeal.main_arg0)
      ∧ r.2.mem ((c.tc : Thread Cert.ReferenceYAtIdeal.nD Cert.ReferenceYAtIdeal.τ).loc Cert.ReferenceYAtIdeal.main_arg1) = m ((c.tc : Thread Cert.ReferenceYAtIdeal.nD Cert.ReferenceYAtIdeal.τ).loc Cert.ReferenceYAtIdeal.main_arg1))
      ∧ r.2.sem = fun _ => 0)

def quiescent_KernelDwPle [hKernelDwPle : Cert.KernelDwPle.Facts] : Prop :=
  ∀ (m : (ℓ : Loc Cert.KernelDwPle.nD Cert.KernelDwPle.τ Cert.KernelDwPle.sig) → Buf (Elt Bits) ℓ) (g : Dev Cert.KernelDwPle.nD → PrngReg), Pre_KernelDwPle m →
    θ_run (Cert.KernelDwPle.defs (F := Bits)) (onTc (τ := Cert.KernelDwPle.τ) (Cert.KernelDwPle.main (F := Bits))) ⟨m, fun _ => 0, g⟩ (fun r => (∀ c : Dev Cert.KernelDwPle.nD,
      r.2.mem ((c.tc : Thread Cert.KernelDwPle.nD Cert.KernelDwPle.τ).loc Cert.KernelDwPle.main_arg0) = m ((c.tc : Thread Cert.KernelDwPle.nD Cert.KernelDwPle.τ).loc Cert.KernelDwPle.main_arg0)
      ∧ r.2.mem ((c.tc : Thread Cert.KernelDwPle.nD Cert.KernelDwPle.τ).loc Cert.KernelDwPle.main_arg1) = m ((c.tc : Thread Cert.KernelDwPle.nD Cert.KernelDwPle.τ).loc Cert.KernelDwPle.main_arg1))
      ∧ r.2.sem = fun _ => 0)

def quiescent_KernelDwPleIdeal [hKernelDwPleIdeal : Cert.KernelDwPleIdeal.Facts] : Prop :=
  ∀ (m : (ℓ : Loc Cert.KernelDwPleIdeal.nD Cert.KernelDwPleIdeal.τ Cert.KernelDwPleIdeal.sig) → Buf (Elt Ideal) ℓ) (g : Dev Cert.KernelDwPleIdeal.nD → PrngReg), Pre_KernelDwPleIdeal m →
    θ_run (Cert.KernelDwPleIdeal.defs (F := Ideal)) (onTc (τ := Cert.KernelDwPleIdeal.τ) (Cert.KernelDwPleIdeal.main (F := Ideal))) ⟨m, fun _ => 0, g⟩ (fun r => (∀ c : Dev Cert.KernelDwPleIdeal.nD,
      r.2.mem ((c.tc : Thread Cert.KernelDwPleIdeal.nD Cert.KernelDwPleIdeal.τ).loc Cert.KernelDwPleIdeal.main_arg0) = m ((c.tc : Thread Cert.KernelDwPleIdeal.nD Cert.KernelDwPleIdeal.τ).loc Cert.KernelDwPleIdeal.main_arg0)
      ∧ r.2.mem ((c.tc : Thread Cert.KernelDwPleIdeal.nD Cert.KernelDwPleIdeal.τ).loc Cert.KernelDwPleIdeal.main_arg1) = m ((c.tc : Thread Cert.KernelDwPleIdeal.nD Cert.KernelDwPleIdeal.τ).loc Cert.KernelDwPleIdeal.main_arg1))
      ∧ r.2.sem = fun _ => 0)

def quiescent_ReferenceDwPleIdeal [hReferenceDwPleIdeal : Cert.ReferenceDwPleIdeal.Facts] : Prop :=
  ∀ (m : (ℓ : Loc Cert.ReferenceDwPleIdeal.nD Cert.ReferenceDwPleIdeal.τ Cert.ReferenceDwPleIdeal.sig) → Buf (Elt Ideal) ℓ) (g : Dev Cert.ReferenceDwPleIdeal.nD → PrngReg), Pre_ReferenceDwPleIdeal m →
    θ_run (Cert.ReferenceDwPleIdeal.defs (F := Ideal)) (onTc (τ := Cert.ReferenceDwPleIdeal.τ) (Cert.ReferenceDwPleIdeal.main (F := Ideal))) ⟨m, fun _ => 0, g⟩ (fun r => (∀ c : Dev Cert.ReferenceDwPleIdeal.nD,
      r.2.mem ((c.tc : Thread Cert.ReferenceDwPleIdeal.nD Cert.ReferenceDwPleIdeal.τ).loc Cert.ReferenceDwPleIdeal.main_arg0) = m ((c.tc : Thread Cert.ReferenceDwPleIdeal.nD Cert.ReferenceDwPleIdeal.τ).loc Cert.ReferenceDwPleIdeal.main_arg0)
      ∧ r.2.mem ((c.tc : Thread Cert.ReferenceDwPleIdeal.nD Cert.ReferenceDwPleIdeal.τ).loc Cert.ReferenceDwPleIdeal.main_arg1) = m ((c.tc : Thread Cert.ReferenceDwPleIdeal.nD Cert.ReferenceDwPleIdeal.τ).loc Cert.ReferenceDwPleIdeal.main_arg1))
      ∧ r.2.sem = fun _ => 0)

def quiescent_KernelYPle [hKernelYPle : Cert.KernelYPle.Facts] : Prop :=
  ∀ (m : (ℓ : Loc Cert.KernelYPle.nD Cert.KernelYPle.τ Cert.KernelYPle.sig) → Buf (Elt Bits) ℓ) (g : Dev Cert.KernelYPle.nD → PrngReg), Pre_KernelYPle m →
    θ_run (Cert.KernelYPle.defs (F := Bits)) (onTc (τ := Cert.KernelYPle.τ) (Cert.KernelYPle.main (F := Bits))) ⟨m, fun _ => 0, g⟩ (fun r => (∀ c : Dev Cert.KernelYPle.nD,
      r.2.mem ((c.tc : Thread Cert.KernelYPle.nD Cert.KernelYPle.τ).loc Cert.KernelYPle.main_arg0) = m ((c.tc : Thread Cert.KernelYPle.nD Cert.KernelYPle.τ).loc Cert.KernelYPle.main_arg0)
      ∧ r.2.mem ((c.tc : Thread Cert.KernelYPle.nD Cert.KernelYPle.τ).loc Cert.KernelYPle.main_arg1) = m ((c.tc : Thread Cert.KernelYPle.nD Cert.KernelYPle.τ).loc Cert.KernelYPle.main_arg1))
      ∧ r.2.sem = fun _ => 0)

def quiescent_KernelYPleIdeal [hKernelYPleIdeal : Cert.KernelYPleIdeal.Facts] : Prop :=
  ∀ (m : (ℓ : Loc Cert.KernelYPleIdeal.nD Cert.KernelYPleIdeal.τ Cert.KernelYPleIdeal.sig) → Buf (Elt Ideal) ℓ) (g : Dev Cert.KernelYPleIdeal.nD → PrngReg), Pre_KernelYPleIdeal m →
    θ_run (Cert.KernelYPleIdeal.defs (F := Ideal)) (onTc (τ := Cert.KernelYPleIdeal.τ) (Cert.KernelYPleIdeal.main (F := Ideal))) ⟨m, fun _ => 0, g⟩ (fun r => (∀ c : Dev Cert.KernelYPleIdeal.nD,
      r.2.mem ((c.tc : Thread Cert.KernelYPleIdeal.nD Cert.KernelYPleIdeal.τ).loc Cert.KernelYPleIdeal.main_arg0) = m ((c.tc : Thread Cert.KernelYPleIdeal.nD Cert.KernelYPleIdeal.τ).loc Cert.KernelYPleIdeal.main_arg0)
      ∧ r.2.mem ((c.tc : Thread Cert.KernelYPleIdeal.nD Cert.KernelYPleIdeal.τ).loc Cert.KernelYPleIdeal.main_arg1) = m ((c.tc : Thread Cert.KernelYPleIdeal.nD Cert.KernelYPleIdeal.τ).loc Cert.KernelYPleIdeal.main_arg1))
      ∧ r.2.sem = fun _ => 0)

def quiescent_ReferenceYPleIdeal [hReferenceYPleIdeal : Cert.ReferenceYPleIdeal.Facts] : Prop :=
  ∀ (m : (ℓ : Loc Cert.ReferenceYPleIdeal.nD Cert.ReferenceYPleIdeal.τ Cert.ReferenceYPleIdeal.sig) → Buf (Elt Ideal) ℓ) (g : Dev Cert.ReferenceYPleIdeal.nD → PrngReg), Pre_ReferenceYPleIdeal m →
    θ_run (Cert.ReferenceYPleIdeal.defs (F := Ideal)) (onTc (τ := Cert.ReferenceYPleIdeal.τ) (Cert.ReferenceYPleIdeal.main (F := Ideal))) ⟨m, fun _ => 0, g⟩ (fun r => (∀ c : Dev Cert.ReferenceYPleIdeal.nD,
      r.2.mem ((c.tc : Thread Cert.ReferenceYPleIdeal.nD Cert.ReferenceYPleIdeal.τ).loc Cert.ReferenceYPleIdeal.main_arg0) = m ((c.tc : Thread Cert.ReferenceYPleIdeal.nD Cert.ReferenceYPleIdeal.τ).loc Cert.ReferenceYPleIdeal.main_arg0)
      ∧ r.2.mem ((c.tc : Thread Cert.ReferenceYPleIdeal.nD Cert.ReferenceYPleIdeal.τ).loc Cert.ReferenceYPleIdeal.main_arg1) = m ((c.tc : Thread Cert.ReferenceYPleIdeal.nD Cert.ReferenceYPleIdeal.τ).loc Cert.ReferenceYPleIdeal.main_arg1))
      ∧ r.2.sem = fun _ => 0)

def quiescent_KernelAdIn [hKernelAdIn : Cert.KernelAdIn.Facts] : Prop :=
  ∀ (m : (ℓ : Loc Cert.KernelAdIn.nD Cert.KernelAdIn.τ Cert.KernelAdIn.sig) → Buf (Elt Bits) ℓ) (g : Dev Cert.KernelAdIn.nD → PrngReg), Pre_KernelAdIn m →
    θ_run (Cert.KernelAdIn.defs (F := Bits)) (onTc (τ := Cert.KernelAdIn.τ) (Cert.KernelAdIn.main (F := Bits))) ⟨m, fun _ => 0, g⟩ (fun r => (∀ c : Dev Cert.KernelAdIn.nD,
      r.2.mem ((c.tc : Thread Cert.KernelAdIn.nD Cert.KernelAdIn.τ).loc Cert.KernelAdIn.main_arg0) = m ((c.tc : Thread Cert.KernelAdIn.nD Cert.KernelAdIn.τ).loc Cert.KernelAdIn.main_arg0)
      ∧ r.2.mem ((c.tc : Thread Cert.KernelAdIn.nD Cert.KernelAdIn.τ).loc Cert.KernelAdIn.main_arg1) = m ((c.tc : Thread Cert.KernelAdIn.nD Cert.KernelAdIn.τ).loc Cert.KernelAdIn.main_arg1)
      ∧ r.2.mem ((c.tc : Thread Cert.KernelAdIn.nD Cert.KernelAdIn.τ).loc Cert.KernelAdIn.main_arg2) = m ((c.tc : Thread Cert.KernelAdIn.nD Cert.KernelAdIn.τ).loc Cert.KernelAdIn.main_arg2)
      ∧ r.2.mem ((c.tc : Thread Cert.KernelAdIn.nD Cert.KernelAdIn.τ).loc Cert.KernelAdIn.main_arg3) = m ((c.tc : Thread Cert.KernelAdIn.nD Cert.KernelAdIn.τ).loc Cert.KernelAdIn.main_arg3))
      ∧ r.2.sem = fun _ => 0)

def quiescent_KernelAdInIdeal [hKernelAdInIdeal : Cert.KernelAdInIdeal.Facts] : Prop :=
  ∀ (m : (ℓ : Loc Cert.KernelAdInIdeal.nD Cert.KernelAdInIdeal.τ Cert.KernelAdInIdeal.sig) → Buf (Elt Ideal) ℓ) (g : Dev Cert.KernelAdInIdeal.nD → PrngReg), Pre_KernelAdInIdeal m →
    θ_run (Cert.KernelAdInIdeal.defs (F := Ideal)) (onTc (τ := Cert.KernelAdInIdeal.τ) (Cert.KernelAdInIdeal.main (F := Ideal))) ⟨m, fun _ => 0, g⟩ (fun r => (∀ c : Dev Cert.KernelAdInIdeal.nD,
      r.2.mem ((c.tc : Thread Cert.KernelAdInIdeal.nD Cert.KernelAdInIdeal.τ).loc Cert.KernelAdInIdeal.main_arg0) = m ((c.tc : Thread Cert.KernelAdInIdeal.nD Cert.KernelAdInIdeal.τ).loc Cert.KernelAdInIdeal.main_arg0)
      ∧ r.2.mem ((c.tc : Thread Cert.KernelAdInIdeal.nD Cert.KernelAdInIdeal.τ).loc Cert.KernelAdInIdeal.main_arg1) = m ((c.tc : Thread Cert.KernelAdInIdeal.nD Cert.KernelAdInIdeal.τ).loc Cert.KernelAdInIdeal.main_arg1)
      ∧ r.2.mem ((c.tc : Thread Cert.KernelAdInIdeal.nD Cert.KernelAdInIdeal.τ).loc Cert.KernelAdInIdeal.main_arg2) = m ((c.tc : Thread Cert.KernelAdInIdeal.nD Cert.KernelAdInIdeal.τ).loc Cert.KernelAdInIdeal.main_arg2)
      ∧ r.2.mem ((c.tc : Thread Cert.KernelAdInIdeal.nD Cert.KernelAdInIdeal.τ).loc Cert.KernelAdInIdeal.main_arg3) = m ((c.tc : Thread Cert.KernelAdInIdeal.nD Cert.KernelAdInIdeal.τ).loc Cert.KernelAdInIdeal.main_arg3))
      ∧ r.2.sem = fun _ => 0)

def quiescent_ReferenceAdInIdeal [hReferenceAdInIdeal : Cert.ReferenceAdInIdeal.Facts] : Prop :=
  ∀ (m : (ℓ : Loc Cert.ReferenceAdInIdeal.nD Cert.ReferenceAdInIdeal.τ Cert.ReferenceAdInIdeal.sig) → Buf (Elt Ideal) ℓ) (g : Dev Cert.ReferenceAdInIdeal.nD → PrngReg), Pre_ReferenceAdInIdeal m →
    θ_run (Cert.ReferenceAdInIdeal.defs (F := Ideal)) (onTc (τ := Cert.ReferenceAdInIdeal.τ) (Cert.ReferenceAdInIdeal.main (F := Ideal))) ⟨m, fun _ => 0, g⟩ (fun r => (∀ c : Dev Cert.ReferenceAdInIdeal.nD,
      r.2.mem ((c.tc : Thread Cert.ReferenceAdInIdeal.nD Cert.ReferenceAdInIdeal.τ).loc Cert.ReferenceAdInIdeal.main_arg0) = m ((c.tc : Thread Cert.ReferenceAdInIdeal.nD Cert.ReferenceAdInIdeal.τ).loc Cert.ReferenceAdInIdeal.main_arg0)
      ∧ r.2.mem ((c.tc : Thread Cert.ReferenceAdInIdeal.nD Cert.ReferenceAdInIdeal.τ).loc Cert.ReferenceAdInIdeal.main_arg1) = m ((c.tc : Thread Cert.ReferenceAdInIdeal.nD Cert.ReferenceAdInIdeal.τ).loc Cert.ReferenceAdInIdeal.main_arg1)
      ∧ r.2.mem ((c.tc : Thread Cert.ReferenceAdInIdeal.nD Cert.ReferenceAdInIdeal.τ).loc Cert.ReferenceAdInIdeal.main_arg2) = m ((c.tc : Thread Cert.ReferenceAdInIdeal.nD Cert.ReferenceAdInIdeal.τ).loc Cert.ReferenceAdInIdeal.main_arg2)
      ∧ r.2.mem ((c.tc : Thread Cert.ReferenceAdInIdeal.nD Cert.ReferenceAdInIdeal.τ).loc Cert.ReferenceAdInIdeal.main_arg3) = m ((c.tc : Thread Cert.ReferenceAdInIdeal.nD Cert.ReferenceAdInIdeal.τ).loc Cert.ReferenceAdInIdeal.main_arg3))
      ∧ r.2.sem = fun _ => 0)

def quiescent_KernelAdMlpIn [hKernelAdMlpIn : Cert.KernelAdMlpIn.Facts] : Prop :=
  ∀ (m : (ℓ : Loc Cert.KernelAdMlpIn.nD Cert.KernelAdMlpIn.τ Cert.KernelAdMlpIn.sig) → Buf (Elt Bits) ℓ) (g : Dev Cert.KernelAdMlpIn.nD → PrngReg), Pre_KernelAdMlpIn m →
    θ_run (Cert.KernelAdMlpIn.defs (F := Bits)) (onTc (τ := Cert.KernelAdMlpIn.τ) (Cert.KernelAdMlpIn.main (F := Bits))) ⟨m, fun _ => 0, g⟩ (fun r => (∀ c : Dev Cert.KernelAdMlpIn.nD,
      r.2.mem ((c.tc : Thread Cert.KernelAdMlpIn.nD Cert.KernelAdMlpIn.τ).loc Cert.KernelAdMlpIn.main_arg0) = m ((c.tc : Thread Cert.KernelAdMlpIn.nD Cert.KernelAdMlpIn.τ).loc Cert.KernelAdMlpIn.main_arg0)
      ∧ r.2.mem ((c.tc : Thread Cert.KernelAdMlpIn.nD Cert.KernelAdMlpIn.τ).loc Cert.KernelAdMlpIn.main_arg1) = m ((c.tc : Thread Cert.KernelAdMlpIn.nD Cert.KernelAdMlpIn.τ).loc Cert.KernelAdMlpIn.main_arg1)
      ∧ r.2.mem ((c.tc : Thread Cert.KernelAdMlpIn.nD Cert.KernelAdMlpIn.τ).loc Cert.KernelAdMlpIn.main_arg2) = m ((c.tc : Thread Cert.KernelAdMlpIn.nD Cert.KernelAdMlpIn.τ).loc Cert.KernelAdMlpIn.main_arg2)
      ∧ r.2.mem ((c.tc : Thread Cert.KernelAdMlpIn.nD Cert.KernelAdMlpIn.τ).loc Cert.KernelAdMlpIn.main_arg3) = m ((c.tc : Thread Cert.KernelAdMlpIn.nD Cert.KernelAdMlpIn.τ).loc Cert.KernelAdMlpIn.main_arg3))
      ∧ r.2.sem = fun _ => 0)

def quiescent_KernelAdMlpInIdeal [hKernelAdMlpInIdeal : Cert.KernelAdMlpInIdeal.Facts] : Prop :=
  ∀ (m : (ℓ : Loc Cert.KernelAdMlpInIdeal.nD Cert.KernelAdMlpInIdeal.τ Cert.KernelAdMlpInIdeal.sig) → Buf (Elt Ideal) ℓ) (g : Dev Cert.KernelAdMlpInIdeal.nD → PrngReg), Pre_KernelAdMlpInIdeal m →
    θ_run (Cert.KernelAdMlpInIdeal.defs (F := Ideal)) (onTc (τ := Cert.KernelAdMlpInIdeal.τ) (Cert.KernelAdMlpInIdeal.main (F := Ideal))) ⟨m, fun _ => 0, g⟩ (fun r => (∀ c : Dev Cert.KernelAdMlpInIdeal.nD,
      r.2.mem ((c.tc : Thread Cert.KernelAdMlpInIdeal.nD Cert.KernelAdMlpInIdeal.τ).loc Cert.KernelAdMlpInIdeal.main_arg0) = m ((c.tc : Thread Cert.KernelAdMlpInIdeal.nD Cert.KernelAdMlpInIdeal.τ).loc Cert.KernelAdMlpInIdeal.main_arg0)
      ∧ r.2.mem ((c.tc : Thread Cert.KernelAdMlpInIdeal.nD Cert.KernelAdMlpInIdeal.τ).loc Cert.KernelAdMlpInIdeal.main_arg1) = m ((c.tc : Thread Cert.KernelAdMlpInIdeal.nD Cert.KernelAdMlpInIdeal.τ).loc Cert.KernelAdMlpInIdeal.main_arg1)
      ∧ r.2.mem ((c.tc : Thread Cert.KernelAdMlpInIdeal.nD Cert.KernelAdMlpInIdeal.τ).loc Cert.KernelAdMlpInIdeal.main_arg2) = m ((c.tc : Thread Cert.KernelAdMlpInIdeal.nD Cert.KernelAdMlpInIdeal.τ).loc Cert.KernelAdMlpInIdeal.main_arg2)
      ∧ r.2.mem ((c.tc : Thread Cert.KernelAdMlpInIdeal.nD Cert.KernelAdMlpInIdeal.τ).loc Cert.KernelAdMlpInIdeal.main_arg3) = m ((c.tc : Thread Cert.KernelAdMlpInIdeal.nD Cert.KernelAdMlpInIdeal.τ).loc Cert.KernelAdMlpInIdeal.main_arg3))
      ∧ r.2.sem = fun _ => 0)

def quiescent_ReferenceAdMlpInIdeal [hReferenceAdMlpInIdeal : Cert.ReferenceAdMlpInIdeal.Facts] : Prop :=
  ∀ (m : (ℓ : Loc Cert.ReferenceAdMlpInIdeal.nD Cert.ReferenceAdMlpInIdeal.τ Cert.ReferenceAdMlpInIdeal.sig) → Buf (Elt Ideal) ℓ) (g : Dev Cert.ReferenceAdMlpInIdeal.nD → PrngReg), Pre_ReferenceAdMlpInIdeal m →
    θ_run (Cert.ReferenceAdMlpInIdeal.defs (F := Ideal)) (onTc (τ := Cert.ReferenceAdMlpInIdeal.τ) (Cert.ReferenceAdMlpInIdeal.main (F := Ideal))) ⟨m, fun _ => 0, g⟩ (fun r => (∀ c : Dev Cert.ReferenceAdMlpInIdeal.nD,
      r.2.mem ((c.tc : Thread Cert.ReferenceAdMlpInIdeal.nD Cert.ReferenceAdMlpInIdeal.τ).loc Cert.ReferenceAdMlpInIdeal.main_arg0) = m ((c.tc : Thread Cert.ReferenceAdMlpInIdeal.nD Cert.ReferenceAdMlpInIdeal.τ).loc Cert.ReferenceAdMlpInIdeal.main_arg0)
      ∧ r.2.mem ((c.tc : Thread Cert.ReferenceAdMlpInIdeal.nD Cert.ReferenceAdMlpInIdeal.τ).loc Cert.ReferenceAdMlpInIdeal.main_arg1) = m ((c.tc : Thread Cert.ReferenceAdMlpInIdeal.nD Cert.ReferenceAdMlpInIdeal.τ).loc Cert.ReferenceAdMlpInIdeal.main_arg1)
      ∧ r.2.mem ((c.tc : Thread Cert.ReferenceAdMlpInIdeal.nD Cert.ReferenceAdMlpInIdeal.τ).loc Cert.ReferenceAdMlpInIdeal.main_arg2) = m ((c.tc : Thread Cert.ReferenceAdMlpInIdeal.nD Cert.ReferenceAdMlpInIdeal.τ).loc Cert.ReferenceAdMlpInIdeal.main_arg2)
      ∧ r.2.mem ((c.tc : Thread Cert.ReferenceAdMlpInIdeal.nD Cert.ReferenceAdMlpInIdeal.τ).loc Cert.ReferenceAdMlpInIdeal.main_arg3) = m ((c.tc : Thread Cert.ReferenceAdMlpInIdeal.nD Cert.ReferenceAdMlpInIdeal.τ).loc Cert.ReferenceAdMlpInIdeal.main_arg3))
      ∧ r.2.sem = fun _ => 0)

def quiescent_KernelAdMlpOut [hKernelAdMlpOut : Cert.KernelAdMlpOut.Facts] : Prop :=
  ∀ (m : (ℓ : Loc Cert.KernelAdMlpOut.nD Cert.KernelAdMlpOut.τ Cert.KernelAdMlpOut.sig) → Buf (Elt Bits) ℓ) (g : Dev Cert.KernelAdMlpOut.nD → PrngReg), Pre_KernelAdMlpOut m →
    θ_run (Cert.KernelAdMlpOut.defs (F := Bits)) (onTc (τ := Cert.KernelAdMlpOut.τ) (Cert.KernelAdMlpOut.main (F := Bits))) ⟨m, fun _ => 0, g⟩ (fun r => (∀ c : Dev Cert.KernelAdMlpOut.nD,
      r.2.mem ((c.tc : Thread Cert.KernelAdMlpOut.nD Cert.KernelAdMlpOut.τ).loc Cert.KernelAdMlpOut.main_arg0) = m ((c.tc : Thread Cert.KernelAdMlpOut.nD Cert.KernelAdMlpOut.τ).loc Cert.KernelAdMlpOut.main_arg0)
      ∧ r.2.mem ((c.tc : Thread Cert.KernelAdMlpOut.nD Cert.KernelAdMlpOut.τ).loc Cert.KernelAdMlpOut.main_arg1) = m ((c.tc : Thread Cert.KernelAdMlpOut.nD Cert.KernelAdMlpOut.τ).loc Cert.KernelAdMlpOut.main_arg1)
      ∧ r.2.mem ((c.tc : Thread Cert.KernelAdMlpOut.nD Cert.KernelAdMlpOut.τ).loc Cert.KernelAdMlpOut.main_arg2) = m ((c.tc : Thread Cert.KernelAdMlpOut.nD Cert.KernelAdMlpOut.τ).loc Cert.KernelAdMlpOut.main_arg2)
      ∧ r.2.mem ((c.tc : Thread Cert.KernelAdMlpOut.nD Cert.KernelAdMlpOut.τ).loc Cert.KernelAdMlpOut.main_arg3) = m ((c.tc : Thread Cert.KernelAdMlpOut.nD Cert.KernelAdMlpOut.τ).loc Cert.KernelAdMlpOut.main_arg3))
      ∧ r.2.sem = fun _ => 0)

def quiescent_KernelAdMlpOutIdeal [hKernelAdMlpOutIdeal : Cert.KernelAdMlpOutIdeal.Facts] : Prop :=
  ∀ (m : (ℓ : Loc Cert.KernelAdMlpOutIdeal.nD Cert.KernelAdMlpOutIdeal.τ Cert.KernelAdMlpOutIdeal.sig) → Buf (Elt Ideal) ℓ) (g : Dev Cert.KernelAdMlpOutIdeal.nD → PrngReg), Pre_KernelAdMlpOutIdeal m →
    θ_run (Cert.KernelAdMlpOutIdeal.defs (F := Ideal)) (onTc (τ := Cert.KernelAdMlpOutIdeal.τ) (Cert.KernelAdMlpOutIdeal.main (F := Ideal))) ⟨m, fun _ => 0, g⟩ (fun r => (∀ c : Dev Cert.KernelAdMlpOutIdeal.nD,
      r.2.mem ((c.tc : Thread Cert.KernelAdMlpOutIdeal.nD Cert.KernelAdMlpOutIdeal.τ).loc Cert.KernelAdMlpOutIdeal.main_arg0) = m ((c.tc : Thread Cert.KernelAdMlpOutIdeal.nD Cert.KernelAdMlpOutIdeal.τ).loc Cert.KernelAdMlpOutIdeal.main_arg0)
      ∧ r.2.mem ((c.tc : Thread Cert.KernelAdMlpOutIdeal.nD Cert.KernelAdMlpOutIdeal.τ).loc Cert.KernelAdMlpOutIdeal.main_arg1) = m ((c.tc : Thread Cert.KernelAdMlpOutIdeal.nD Cert.KernelAdMlpOutIdeal.τ).loc Cert.KernelAdMlpOutIdeal.main_arg1)
      ∧ r.2.mem ((c.tc : Thread Cert.KernelAdMlpOutIdeal.nD Cert.KernelAdMlpOutIdeal.τ).loc Cert.KernelAdMlpOutIdeal.main_arg2) = m ((c.tc : Thread Cert.KernelAdMlpOutIdeal.nD Cert.KernelAdMlpOutIdeal.τ).loc Cert.KernelAdMlpOutIdeal.main_arg2)
      ∧ r.2.mem ((c.tc : Thread Cert.KernelAdMlpOutIdeal.nD Cert.KernelAdMlpOutIdeal.τ).loc Cert.KernelAdMlpOutIdeal.main_arg3) = m ((c.tc : Thread Cert.KernelAdMlpOutIdeal.nD Cert.KernelAdMlpOutIdeal.τ).loc Cert.KernelAdMlpOutIdeal.main_arg3))
      ∧ r.2.sem = fun _ => 0)

def quiescent_ReferenceAdMlpOutIdeal [hReferenceAdMlpOutIdeal : Cert.ReferenceAdMlpOutIdeal.Facts] : Prop :=
  ∀ (m : (ℓ : Loc Cert.ReferenceAdMlpOutIdeal.nD Cert.ReferenceAdMlpOutIdeal.τ Cert.ReferenceAdMlpOutIdeal.sig) → Buf (Elt Ideal) ℓ) (g : Dev Cert.ReferenceAdMlpOutIdeal.nD → PrngReg), Pre_ReferenceAdMlpOutIdeal m →
    θ_run (Cert.ReferenceAdMlpOutIdeal.defs (F := Ideal)) (onTc (τ := Cert.ReferenceAdMlpOutIdeal.τ) (Cert.ReferenceAdMlpOutIdeal.main (F := Ideal))) ⟨m, fun _ => 0, g⟩ (fun r => (∀ c : Dev Cert.ReferenceAdMlpOutIdeal.nD,
      r.2.mem ((c.tc : Thread Cert.ReferenceAdMlpOutIdeal.nD Cert.ReferenceAdMlpOutIdeal.τ).loc Cert.ReferenceAdMlpOutIdeal.main_arg0) = m ((c.tc : Thread Cert.ReferenceAdMlpOutIdeal.nD Cert.ReferenceAdMlpOutIdeal.τ).loc Cert.ReferenceAdMlpOutIdeal.main_arg0)
      ∧ r.2.mem ((c.tc : Thread Cert.ReferenceAdMlpOutIdeal.nD Cert.ReferenceAdMlpOutIdeal.τ).loc Cert.ReferenceAdMlpOutIdeal.main_arg1) = m ((c.tc : Thread Cert.ReferenceAdMlpOutIdeal.nD Cert.ReferenceAdMlpOutIdeal.τ).loc Cert.ReferenceAdMlpOutIdeal.main_arg1)
      ∧ r.2.mem ((c.tc : Thread Cert.ReferenceAdMlpOutIdeal.nD Cert.ReferenceAdMlpOutIdeal.τ).loc Cert.ReferenceAdMlpOutIdeal.main_arg2) = m ((c.tc : Thread Cert.ReferenceAdMlpOutIdeal.nD Cert.ReferenceAdMlpOutIdeal.τ).loc Cert.ReferenceAdMlpOutIdeal.main_arg2)
      ∧ r.2.mem ((c.tc : Thread Cert.ReferenceAdMlpOutIdeal.nD Cert.ReferenceAdMlpOutIdeal.τ).loc Cert.ReferenceAdMlpOutIdeal.main_arg3) = m ((c.tc : Thread Cert.ReferenceAdMlpOutIdeal.nD Cert.ReferenceAdMlpOutIdeal.τ).loc Cert.ReferenceAdMlpOutIdeal.main_arg3))
      ∧ r.2.sem = fun _ => 0)

def quiescent_KernelAdOut [hKernelAdOut : Cert.KernelAdOut.Facts] : Prop :=
  ∀ (m : (ℓ : Loc Cert.KernelAdOut.nD Cert.KernelAdOut.τ Cert.KernelAdOut.sig) → Buf (Elt Bits) ℓ) (g : Dev Cert.KernelAdOut.nD → PrngReg), Pre_KernelAdOut m →
    θ_run (Cert.KernelAdOut.defs (F := Bits)) (onTc (τ := Cert.KernelAdOut.τ) (Cert.KernelAdOut.main (F := Bits))) ⟨m, fun _ => 0, g⟩ (fun r => (∀ c : Dev Cert.KernelAdOut.nD,
      r.2.mem ((c.tc : Thread Cert.KernelAdOut.nD Cert.KernelAdOut.τ).loc Cert.KernelAdOut.main_arg0) = m ((c.tc : Thread Cert.KernelAdOut.nD Cert.KernelAdOut.τ).loc Cert.KernelAdOut.main_arg0)
      ∧ r.2.mem ((c.tc : Thread Cert.KernelAdOut.nD Cert.KernelAdOut.τ).loc Cert.KernelAdOut.main_arg1) = m ((c.tc : Thread Cert.KernelAdOut.nD Cert.KernelAdOut.τ).loc Cert.KernelAdOut.main_arg1)
      ∧ r.2.mem ((c.tc : Thread Cert.KernelAdOut.nD Cert.KernelAdOut.τ).loc Cert.KernelAdOut.main_arg2) = m ((c.tc : Thread Cert.KernelAdOut.nD Cert.KernelAdOut.τ).loc Cert.KernelAdOut.main_arg2)
      ∧ r.2.mem ((c.tc : Thread Cert.KernelAdOut.nD Cert.KernelAdOut.τ).loc Cert.KernelAdOut.main_arg3) = m ((c.tc : Thread Cert.KernelAdOut.nD Cert.KernelAdOut.τ).loc Cert.KernelAdOut.main_arg3))
      ∧ r.2.sem = fun _ => 0)

def quiescent_KernelAdOutIdeal [hKernelAdOutIdeal : Cert.KernelAdOutIdeal.Facts] : Prop :=
  ∀ (m : (ℓ : Loc Cert.KernelAdOutIdeal.nD Cert.KernelAdOutIdeal.τ Cert.KernelAdOutIdeal.sig) → Buf (Elt Ideal) ℓ) (g : Dev Cert.KernelAdOutIdeal.nD → PrngReg), Pre_KernelAdOutIdeal m →
    θ_run (Cert.KernelAdOutIdeal.defs (F := Ideal)) (onTc (τ := Cert.KernelAdOutIdeal.τ) (Cert.KernelAdOutIdeal.main (F := Ideal))) ⟨m, fun _ => 0, g⟩ (fun r => (∀ c : Dev Cert.KernelAdOutIdeal.nD,
      r.2.mem ((c.tc : Thread Cert.KernelAdOutIdeal.nD Cert.KernelAdOutIdeal.τ).loc Cert.KernelAdOutIdeal.main_arg0) = m ((c.tc : Thread Cert.KernelAdOutIdeal.nD Cert.KernelAdOutIdeal.τ).loc Cert.KernelAdOutIdeal.main_arg0)
      ∧ r.2.mem ((c.tc : Thread Cert.KernelAdOutIdeal.nD Cert.KernelAdOutIdeal.τ).loc Cert.KernelAdOutIdeal.main_arg1) = m ((c.tc : Thread Cert.KernelAdOutIdeal.nD Cert.KernelAdOutIdeal.τ).loc Cert.KernelAdOutIdeal.main_arg1)
      ∧ r.2.mem ((c.tc : Thread Cert.KernelAdOutIdeal.nD Cert.KernelAdOutIdeal.τ).loc Cert.KernelAdOutIdeal.main_arg2) = m ((c.tc : Thread Cert.KernelAdOutIdeal.nD Cert.KernelAdOutIdeal.τ).loc Cert.KernelAdOutIdeal.main_arg2)
      ∧ r.2.mem ((c.tc : Thread Cert.KernelAdOutIdeal.nD Cert.KernelAdOutIdeal.τ).loc Cert.KernelAdOutIdeal.main_arg3) = m ((c.tc : Thread Cert.KernelAdOutIdeal.nD Cert.KernelAdOutIdeal.τ).loc Cert.KernelAdOutIdeal.main_arg3))
      ∧ r.2.sem = fun _ => 0)

def quiescent_ReferenceAdOutIdeal [hReferenceAdOutIdeal : Cert.ReferenceAdOutIdeal.Facts] : Prop :=
  ∀ (m : (ℓ : Loc Cert.ReferenceAdOutIdeal.nD Cert.ReferenceAdOutIdeal.τ Cert.ReferenceAdOutIdeal.sig) → Buf (Elt Ideal) ℓ) (g : Dev Cert.ReferenceAdOutIdeal.nD → PrngReg), Pre_ReferenceAdOutIdeal m →
    θ_run (Cert.ReferenceAdOutIdeal.defs (F := Ideal)) (onTc (τ := Cert.ReferenceAdOutIdeal.τ) (Cert.ReferenceAdOutIdeal.main (F := Ideal))) ⟨m, fun _ => 0, g⟩ (fun r => (∀ c : Dev Cert.ReferenceAdOutIdeal.nD,
      r.2.mem ((c.tc : Thread Cert.ReferenceAdOutIdeal.nD Cert.ReferenceAdOutIdeal.τ).loc Cert.ReferenceAdOutIdeal.main_arg0) = m ((c.tc : Thread Cert.ReferenceAdOutIdeal.nD Cert.ReferenceAdOutIdeal.τ).loc Cert.ReferenceAdOutIdeal.main_arg0)
      ∧ r.2.mem ((c.tc : Thread Cert.ReferenceAdOutIdeal.nD Cert.ReferenceAdOutIdeal.τ).loc Cert.ReferenceAdOutIdeal.main_arg1) = m ((c.tc : Thread Cert.ReferenceAdOutIdeal.nD Cert.ReferenceAdOutIdeal.τ).loc Cert.ReferenceAdOutIdeal.main_arg1)
      ∧ r.2.mem ((c.tc : Thread Cert.ReferenceAdOutIdeal.nD Cert.ReferenceAdOutIdeal.τ).loc Cert.ReferenceAdOutIdeal.main_arg2) = m ((c.tc : Thread Cert.ReferenceAdOutIdeal.nD Cert.ReferenceAdOutIdeal.τ).loc Cert.ReferenceAdOutIdeal.main_arg2)
      ∧ r.2.mem ((c.tc : Thread Cert.ReferenceAdOutIdeal.nD Cert.ReferenceAdOutIdeal.τ).loc Cert.ReferenceAdOutIdeal.main_arg3) = m ((c.tc : Thread Cert.ReferenceAdOutIdeal.nD Cert.ReferenceAdOutIdeal.τ).loc Cert.ReferenceAdOutIdeal.main_arg3))
      ∧ r.2.sem = fun _ => 0)

def quiescent_KernelAdRw [hKernelAdRw : Cert.KernelAdRw.Facts] : Prop :=
  ∀ (m : (ℓ : Loc Cert.KernelAdRw.nD Cert.KernelAdRw.τ Cert.KernelAdRw.sig) → Buf (Elt Bits) ℓ) (g : Dev Cert.KernelAdRw.nD → PrngReg), Pre_KernelAdRw m →
    θ_run (Cert.KernelAdRw.defs (F := Bits)) (onTc (τ := Cert.KernelAdRw.τ) (Cert.KernelAdRw.main (F := Bits))) ⟨m, fun _ => 0, g⟩ (fun r => (∀ c : Dev Cert.KernelAdRw.nD,
      r.2.mem ((c.tc : Thread Cert.KernelAdRw.nD Cert.KernelAdRw.τ).loc Cert.KernelAdRw.main_arg0) = m ((c.tc : Thread Cert.KernelAdRw.nD Cert.KernelAdRw.τ).loc Cert.KernelAdRw.main_arg0)
      ∧ r.2.mem ((c.tc : Thread Cert.KernelAdRw.nD Cert.KernelAdRw.τ).loc Cert.KernelAdRw.main_arg1) = m ((c.tc : Thread Cert.KernelAdRw.nD Cert.KernelAdRw.τ).loc Cert.KernelAdRw.main_arg1)
      ∧ r.2.mem ((c.tc : Thread Cert.KernelAdRw.nD Cert.KernelAdRw.τ).loc Cert.KernelAdRw.main_arg2) = m ((c.tc : Thread Cert.KernelAdRw.nD Cert.KernelAdRw.τ).loc Cert.KernelAdRw.main_arg2)
      ∧ r.2.mem ((c.tc : Thread Cert.KernelAdRw.nD Cert.KernelAdRw.τ).loc Cert.KernelAdRw.main_arg3) = m ((c.tc : Thread Cert.KernelAdRw.nD Cert.KernelAdRw.τ).loc Cert.KernelAdRw.main_arg3))
      ∧ r.2.sem = fun _ => 0)

def quiescent_KernelAdRwIdeal [hKernelAdRwIdeal : Cert.KernelAdRwIdeal.Facts] : Prop :=
  ∀ (m : (ℓ : Loc Cert.KernelAdRwIdeal.nD Cert.KernelAdRwIdeal.τ Cert.KernelAdRwIdeal.sig) → Buf (Elt Ideal) ℓ) (g : Dev Cert.KernelAdRwIdeal.nD → PrngReg), Pre_KernelAdRwIdeal m →
    θ_run (Cert.KernelAdRwIdeal.defs (F := Ideal)) (onTc (τ := Cert.KernelAdRwIdeal.τ) (Cert.KernelAdRwIdeal.main (F := Ideal))) ⟨m, fun _ => 0, g⟩ (fun r => (∀ c : Dev Cert.KernelAdRwIdeal.nD,
      r.2.mem ((c.tc : Thread Cert.KernelAdRwIdeal.nD Cert.KernelAdRwIdeal.τ).loc Cert.KernelAdRwIdeal.main_arg0) = m ((c.tc : Thread Cert.KernelAdRwIdeal.nD Cert.KernelAdRwIdeal.τ).loc Cert.KernelAdRwIdeal.main_arg0)
      ∧ r.2.mem ((c.tc : Thread Cert.KernelAdRwIdeal.nD Cert.KernelAdRwIdeal.τ).loc Cert.KernelAdRwIdeal.main_arg1) = m ((c.tc : Thread Cert.KernelAdRwIdeal.nD Cert.KernelAdRwIdeal.τ).loc Cert.KernelAdRwIdeal.main_arg1)
      ∧ r.2.mem ((c.tc : Thread Cert.KernelAdRwIdeal.nD Cert.KernelAdRwIdeal.τ).loc Cert.KernelAdRwIdeal.main_arg2) = m ((c.tc : Thread Cert.KernelAdRwIdeal.nD Cert.KernelAdRwIdeal.τ).loc Cert.KernelAdRwIdeal.main_arg2)
      ∧ r.2.mem ((c.tc : Thread Cert.KernelAdRwIdeal.nD Cert.KernelAdRwIdeal.τ).loc Cert.KernelAdRwIdeal.main_arg3) = m ((c.tc : Thread Cert.KernelAdRwIdeal.nD Cert.KernelAdRwIdeal.τ).loc Cert.KernelAdRwIdeal.main_arg3))
      ∧ r.2.sem = fun _ => 0)

def quiescent_ReferenceAdRwIdeal [hReferenceAdRwIdeal : Cert.ReferenceAdRwIdeal.Facts] : Prop :=
  ∀ (m : (ℓ : Loc Cert.ReferenceAdRwIdeal.nD Cert.ReferenceAdRwIdeal.τ Cert.ReferenceAdRwIdeal.sig) → Buf (Elt Ideal) ℓ) (g : Dev Cert.ReferenceAdRwIdeal.nD → PrngReg), Pre_ReferenceAdRwIdeal m →
    θ_run (Cert.ReferenceAdRwIdeal.defs (F := Ideal)) (onTc (τ := Cert.ReferenceAdRwIdeal.τ) (Cert.ReferenceAdRwIdeal.main (F := Ideal))) ⟨m, fun _ => 0, g⟩ (fun r => (∀ c : Dev Cert.ReferenceAdRwIdeal.nD,
      r.2.mem ((c.tc : Thread Cert.ReferenceAdRwIdeal.nD Cert.ReferenceAdRwIdeal.τ).loc Cert.ReferenceAdRwIdeal.main_arg0) = m ((c.tc : Thread Cert.ReferenceAdRwIdeal.nD Cert.ReferenceAdRwIdeal.τ).loc Cert.ReferenceAdRwIdeal.main_arg0)
      ∧ r.2.mem ((c.tc : Thread Cert.ReferenceAdRwIdeal.nD Cert.ReferenceAdRwIdeal.τ).loc Cert.ReferenceAdRwIdeal.main_arg1) = m ((c.tc : Thread Cert.ReferenceAdRwIdeal.nD Cert.ReferenceAdRwIdeal.τ).loc Cert.ReferenceAdRwIdeal.main_arg1)
      ∧ r.2.mem ((c.tc : Thread Cert.ReferenceAdRwIdeal.nD Cert.ReferenceAdRwIdeal.τ).loc Cert.ReferenceAdRwIdeal.main_arg2) = m ((c.tc : Thread Cert.ReferenceAdRwIdeal.nD Cert.ReferenceAdRwIdeal.τ).loc Cert.ReferenceAdRwIdeal.main_arg2)
      ∧ r.2.mem ((c.tc : Thread Cert.ReferenceAdRwIdeal.nD Cert.ReferenceAdRwIdeal.τ).loc Cert.ReferenceAdRwIdeal.main_arg3) = m ((c.tc : Thread Cert.ReferenceAdRwIdeal.nD Cert.ReferenceAdRwIdeal.τ).loc Cert.ReferenceAdRwIdeal.main_arg3))
      ∧ r.2.sem = fun _ => 0)

def quiescent_KernelAdAt [hKernelAdAt : Cert.KernelAdAt.Facts] : Prop :=
  ∀ (m : (ℓ : Loc Cert.KernelAdAt.nD Cert.KernelAdAt.τ Cert.KernelAdAt.sig) → Buf (Elt Bits) ℓ) (g : Dev Cert.KernelAdAt.nD → PrngReg), Pre_KernelAdAt m →
    θ_run (Cert.KernelAdAt.defs (F := Bits)) (onTc (τ := Cert.KernelAdAt.τ) (Cert.KernelAdAt.main (F := Bits))) ⟨m, fun _ => 0, g⟩ (fun r => (∀ c : Dev Cert.KernelAdAt.nD,
      r.2.mem ((c.tc : Thread Cert.KernelAdAt.nD Cert.KernelAdAt.τ).loc Cert.KernelAdAt.main_arg0) = m ((c.tc : Thread Cert.KernelAdAt.nD Cert.KernelAdAt.τ).loc Cert.KernelAdAt.main_arg0)
      ∧ r.2.mem ((c.tc : Thread Cert.KernelAdAt.nD Cert.KernelAdAt.τ).loc Cert.KernelAdAt.main_arg1) = m ((c.tc : Thread Cert.KernelAdAt.nD Cert.KernelAdAt.τ).loc Cert.KernelAdAt.main_arg1)
      ∧ r.2.mem ((c.tc : Thread Cert.KernelAdAt.nD Cert.KernelAdAt.τ).loc Cert.KernelAdAt.main_arg2) = m ((c.tc : Thread Cert.KernelAdAt.nD Cert.KernelAdAt.τ).loc Cert.KernelAdAt.main_arg2)
      ∧ r.2.mem ((c.tc : Thread Cert.KernelAdAt.nD Cert.KernelAdAt.τ).loc Cert.KernelAdAt.main_arg3) = m ((c.tc : Thread Cert.KernelAdAt.nD Cert.KernelAdAt.τ).loc Cert.KernelAdAt.main_arg3))
      ∧ r.2.sem = fun _ => 0)

def quiescent_KernelAdAtIdeal [hKernelAdAtIdeal : Cert.KernelAdAtIdeal.Facts] : Prop :=
  ∀ (m : (ℓ : Loc Cert.KernelAdAtIdeal.nD Cert.KernelAdAtIdeal.τ Cert.KernelAdAtIdeal.sig) → Buf (Elt Ideal) ℓ) (g : Dev Cert.KernelAdAtIdeal.nD → PrngReg), Pre_KernelAdAtIdeal m →
    θ_run (Cert.KernelAdAtIdeal.defs (F := Ideal)) (onTc (τ := Cert.KernelAdAtIdeal.τ) (Cert.KernelAdAtIdeal.main (F := Ideal))) ⟨m, fun _ => 0, g⟩ (fun r => (∀ c : Dev Cert.KernelAdAtIdeal.nD,
      r.2.mem ((c.tc : Thread Cert.KernelAdAtIdeal.nD Cert.KernelAdAtIdeal.τ).loc Cert.KernelAdAtIdeal.main_arg0) = m ((c.tc : Thread Cert.KernelAdAtIdeal.nD Cert.KernelAdAtIdeal.τ).loc Cert.KernelAdAtIdeal.main_arg0)
      ∧ r.2.mem ((c.tc : Thread Cert.KernelAdAtIdeal.nD Cert.KernelAdAtIdeal.τ).loc Cert.KernelAdAtIdeal.main_arg1) = m ((c.tc : Thread Cert.KernelAdAtIdeal.nD Cert.KernelAdAtIdeal.τ).loc Cert.KernelAdAtIdeal.main_arg1)
      ∧ r.2.mem ((c.tc : Thread Cert.KernelAdAtIdeal.nD Cert.KernelAdAtIdeal.τ).loc Cert.KernelAdAtIdeal.main_arg2) = m ((c.tc : Thread Cert.KernelAdAtIdeal.nD Cert.KernelAdAtIdeal.τ).loc Cert.KernelAdAtIdeal.main_arg2)
      ∧ r.2.mem ((c.tc : Thread Cert.KernelAdAtIdeal.nD Cert.KernelAdAtIdeal.τ).loc Cert.KernelAdAtIdeal.main_arg3) = m ((c.tc : Thread Cert.KernelAdAtIdeal.nD Cert.KernelAdAtIdeal.τ).loc Cert.KernelAdAtIdeal.main_arg3))
      ∧ r.2.sem = fun _ => 0)

def quiescent_ReferenceAdAtIdeal [hReferenceAdAtIdeal : Cert.ReferenceAdAtIdeal.Facts] : Prop :=
  ∀ (m : (ℓ : Loc Cert.ReferenceAdAtIdeal.nD Cert.ReferenceAdAtIdeal.τ Cert.ReferenceAdAtIdeal.sig) → Buf (Elt Ideal) ℓ) (g : Dev Cert.ReferenceAdAtIdeal.nD → PrngReg), Pre_ReferenceAdAtIdeal m →
    θ_run (Cert.ReferenceAdAtIdeal.defs (F := Ideal)) (onTc (τ := Cert.ReferenceAdAtIdeal.τ) (Cert.ReferenceAdAtIdeal.main (F := Ideal))) ⟨m, fun _ => 0, g⟩ (fun r => (∀ c : Dev Cert.ReferenceAdAtIdeal.nD,
      r.2.mem ((c.tc : Thread Cert.ReferenceAdAtIdeal.nD Cert.ReferenceAdAtIdeal.τ).loc Cert.ReferenceAdAtIdeal.main_arg0) = m ((c.tc : Thread Cert.ReferenceAdAtIdeal.nD Cert.ReferenceAdAtIdeal.τ).loc Cert.ReferenceAdAtIdeal.main_arg0)
      ∧ r.2.mem ((c.tc : Thread Cert.ReferenceAdAtIdeal.nD Cert.ReferenceAdAtIdeal.τ).loc Cert.ReferenceAdAtIdeal.main_arg1) = m ((c.tc : Thread Cert.ReferenceAdAtIdeal.nD Cert.ReferenceAdAtIdeal.τ).loc Cert.ReferenceAdAtIdeal.main_arg1)
      ∧ r.2.mem ((c.tc : Thread Cert.ReferenceAdAtIdeal.nD Cert.ReferenceAdAtIdeal.τ).loc Cert.ReferenceAdAtIdeal.main_arg2) = m ((c.tc : Thread Cert.ReferenceAdAtIdeal.nD Cert.ReferenceAdAtIdeal.τ).loc Cert.ReferenceAdAtIdeal.main_arg2)
      ∧ r.2.mem ((c.tc : Thread Cert.ReferenceAdAtIdeal.nD Cert.ReferenceAdAtIdeal.τ).loc Cert.ReferenceAdAtIdeal.main_arg3) = m ((c.tc : Thread Cert.ReferenceAdAtIdeal.nD Cert.ReferenceAdAtIdeal.τ).loc Cert.ReferenceAdAtIdeal.main_arg3))
      ∧ r.2.sem = fun _ => 0)

def quiescent_KernelAdPle [hKernelAdPle : Cert.KernelAdPle.Facts] : Prop :=
  ∀ (m : (ℓ : Loc Cert.KernelAdPle.nD Cert.KernelAdPle.τ Cert.KernelAdPle.sig) → Buf (Elt Bits) ℓ) (g : Dev Cert.KernelAdPle.nD → PrngReg), Pre_KernelAdPle m →
    θ_run (Cert.KernelAdPle.defs (F := Bits)) (onTc (τ := Cert.KernelAdPle.τ) (Cert.KernelAdPle.main (F := Bits))) ⟨m, fun _ => 0, g⟩ (fun r => (∀ c : Dev Cert.KernelAdPle.nD,
      r.2.mem ((c.tc : Thread Cert.KernelAdPle.nD Cert.KernelAdPle.τ).loc Cert.KernelAdPle.main_arg0) = m ((c.tc : Thread Cert.KernelAdPle.nD Cert.KernelAdPle.τ).loc Cert.KernelAdPle.main_arg0)
      ∧ r.2.mem ((c.tc : Thread Cert.KernelAdPle.nD Cert.KernelAdPle.τ).loc Cert.KernelAdPle.main_arg1) = m ((c.tc : Thread Cert.KernelAdPle.nD Cert.KernelAdPle.τ).loc Cert.KernelAdPle.main_arg1)
      ∧ r.2.mem ((c.tc : Thread Cert.KernelAdPle.nD Cert.KernelAdPle.τ).loc Cert.KernelAdPle.main_arg2) = m ((c.tc : Thread Cert.KernelAdPle.nD Cert.KernelAdPle.τ).loc Cert.KernelAdPle.main_arg2)
      ∧ r.2.mem ((c.tc : Thread Cert.KernelAdPle.nD Cert.KernelAdPle.τ).loc Cert.KernelAdPle.main_arg3) = m ((c.tc : Thread Cert.KernelAdPle.nD Cert.KernelAdPle.τ).loc Cert.KernelAdPle.main_arg3))
      ∧ r.2.sem = fun _ => 0)

def quiescent_KernelAdPleIdeal [hKernelAdPleIdeal : Cert.KernelAdPleIdeal.Facts] : Prop :=
  ∀ (m : (ℓ : Loc Cert.KernelAdPleIdeal.nD Cert.KernelAdPleIdeal.τ Cert.KernelAdPleIdeal.sig) → Buf (Elt Ideal) ℓ) (g : Dev Cert.KernelAdPleIdeal.nD → PrngReg), Pre_KernelAdPleIdeal m →
    θ_run (Cert.KernelAdPleIdeal.defs (F := Ideal)) (onTc (τ := Cert.KernelAdPleIdeal.τ) (Cert.KernelAdPleIdeal.main (F := Ideal))) ⟨m, fun _ => 0, g⟩ (fun r => (∀ c : Dev Cert.KernelAdPleIdeal.nD,
      r.2.mem ((c.tc : Thread Cert.KernelAdPleIdeal.nD Cert.KernelAdPleIdeal.τ).loc Cert.KernelAdPleIdeal.main_arg0) = m ((c.tc : Thread Cert.KernelAdPleIdeal.nD Cert.KernelAdPleIdeal.τ).loc Cert.KernelAdPleIdeal.main_arg0)
      ∧ r.2.mem ((c.tc : Thread Cert.KernelAdPleIdeal.nD Cert.KernelAdPleIdeal.τ).loc Cert.KernelAdPleIdeal.main_arg1) = m ((c.tc : Thread Cert.KernelAdPleIdeal.nD Cert.KernelAdPleIdeal.τ).loc Cert.KernelAdPleIdeal.main_arg1)
      ∧ r.2.mem ((c.tc : Thread Cert.KernelAdPleIdeal.nD Cert.KernelAdPleIdeal.τ).loc Cert.KernelAdPleIdeal.main_arg2) = m ((c.tc : Thread Cert.KernelAdPleIdeal.nD Cert.KernelAdPleIdeal.τ).loc Cert.KernelAdPleIdeal.main_arg2)
      ∧ r.2.mem ((c.tc : Thread Cert.KernelAdPleIdeal.nD Cert.KernelAdPleIdeal.τ).loc Cert.KernelAdPleIdeal.main_arg3) = m ((c.tc : Thread Cert.KernelAdPleIdeal.nD Cert.KernelAdPleIdeal.τ).loc Cert.KernelAdPleIdeal.main_arg3))
      ∧ r.2.sem = fun _ => 0)

def quiescent_ReferenceAdPleIdeal [hReferenceAdPleIdeal : Cert.ReferenceAdPleIdeal.Facts] : Prop :=
  ∀ (m : (ℓ : Loc Cert.ReferenceAdPleIdeal.nD Cert.ReferenceAdPleIdeal.τ Cert.ReferenceAdPleIdeal.sig) → Buf (Elt Ideal) ℓ) (g : Dev Cert.ReferenceAdPleIdeal.nD → PrngReg), Pre_ReferenceAdPleIdeal m →
    θ_run (Cert.ReferenceAdPleIdeal.defs (F := Ideal)) (onTc (τ := Cert.ReferenceAdPleIdeal.τ) (Cert.ReferenceAdPleIdeal.main (F := Ideal))) ⟨m, fun _ => 0, g⟩ (fun r => (∀ c : Dev Cert.ReferenceAdPleIdeal.nD,
      r.2.mem ((c.tc : Thread Cert.ReferenceAdPleIdeal.nD Cert.ReferenceAdPleIdeal.τ).loc Cert.ReferenceAdPleIdeal.main_arg0) = m ((c.tc : Thread Cert.ReferenceAdPleIdeal.nD Cert.ReferenceAdPleIdeal.τ).loc Cert.ReferenceAdPleIdeal.main_arg0)
      ∧ r.2.mem ((c.tc : Thread Cert.ReferenceAdPleIdeal.nD Cert.ReferenceAdPleIdeal.τ).loc Cert.ReferenceAdPleIdeal.main_arg1) = m ((c.tc : Thread Cert.ReferenceAdPleIdeal.nD Cert.ReferenceAdPleIdeal.τ).loc Cert.ReferenceAdPleIdeal.main_arg1)
      ∧ r.2.mem ((c.tc : Thread Cert.ReferenceAdPleIdeal.nD Cert.ReferenceAdPleIdeal.τ).loc Cert.ReferenceAdPleIdeal.main_arg2) = m ((c.tc : Thread Cert.ReferenceAdPleIdeal.nD Cert.ReferenceAdPleIdeal.τ).loc Cert.ReferenceAdPleIdeal.main_arg2)
      ∧ r.2.mem ((c.tc : Thread Cert.ReferenceAdPleIdeal.nD Cert.ReferenceAdPleIdeal.τ).loc Cert.ReferenceAdPleIdeal.main_arg3) = m ((c.tc : Thread Cert.ReferenceAdPleIdeal.nD Cert.ReferenceAdPleIdeal.τ).loc Cert.ReferenceAdPleIdeal.main_arg3))
      ∧ r.2.sem = fun _ => 0)

def quiescent_KernelAdGate [hKernelAdGate : Cert.KernelAdGate.Facts] : Prop :=
  ∀ (m : (ℓ : Loc Cert.KernelAdGate.nD Cert.KernelAdGate.τ Cert.KernelAdGate.sig) → Buf (Elt Bits) ℓ) (g : Dev Cert.KernelAdGate.nD → PrngReg), Pre_KernelAdGate m →
    θ_run (Cert.KernelAdGate.defs (F := Bits)) (onTc (τ := Cert.KernelAdGate.τ) (Cert.KernelAdGate.main (F := Bits))) ⟨m, fun _ => 0, g⟩ (fun r => (∀ c : Dev Cert.KernelAdGate.nD,
      r.2.mem ((c.tc : Thread Cert.KernelAdGate.nD Cert.KernelAdGate.τ).loc Cert.KernelAdGate.main_arg0) = m ((c.tc : Thread Cert.KernelAdGate.nD Cert.KernelAdGate.τ).loc Cert.KernelAdGate.main_arg0)
      ∧ r.2.mem ((c.tc : Thread Cert.KernelAdGate.nD Cert.KernelAdGate.τ).loc Cert.KernelAdGate.main_arg1) = m ((c.tc : Thread Cert.KernelAdGate.nD Cert.KernelAdGate.τ).loc Cert.KernelAdGate.main_arg1)
      ∧ r.2.mem ((c.tc : Thread Cert.KernelAdGate.nD Cert.KernelAdGate.τ).loc Cert.KernelAdGate.main_arg2) = m ((c.tc : Thread Cert.KernelAdGate.nD Cert.KernelAdGate.τ).loc Cert.KernelAdGate.main_arg2)
      ∧ r.2.mem ((c.tc : Thread Cert.KernelAdGate.nD Cert.KernelAdGate.τ).loc Cert.KernelAdGate.main_arg3) = m ((c.tc : Thread Cert.KernelAdGate.nD Cert.KernelAdGate.τ).loc Cert.KernelAdGate.main_arg3))
      ∧ r.2.sem = fun _ => 0)

def quiescent_KernelAdGateIdeal [hKernelAdGateIdeal : Cert.KernelAdGateIdeal.Facts] : Prop :=
  ∀ (m : (ℓ : Loc Cert.KernelAdGateIdeal.nD Cert.KernelAdGateIdeal.τ Cert.KernelAdGateIdeal.sig) → Buf (Elt Ideal) ℓ) (g : Dev Cert.KernelAdGateIdeal.nD → PrngReg), Pre_KernelAdGateIdeal m →
    θ_run (Cert.KernelAdGateIdeal.defs (F := Ideal)) (onTc (τ := Cert.KernelAdGateIdeal.τ) (Cert.KernelAdGateIdeal.main (F := Ideal))) ⟨m, fun _ => 0, g⟩ (fun r => (∀ c : Dev Cert.KernelAdGateIdeal.nD,
      r.2.mem ((c.tc : Thread Cert.KernelAdGateIdeal.nD Cert.KernelAdGateIdeal.τ).loc Cert.KernelAdGateIdeal.main_arg0) = m ((c.tc : Thread Cert.KernelAdGateIdeal.nD Cert.KernelAdGateIdeal.τ).loc Cert.KernelAdGateIdeal.main_arg0)
      ∧ r.2.mem ((c.tc : Thread Cert.KernelAdGateIdeal.nD Cert.KernelAdGateIdeal.τ).loc Cert.KernelAdGateIdeal.main_arg1) = m ((c.tc : Thread Cert.KernelAdGateIdeal.nD Cert.KernelAdGateIdeal.τ).loc Cert.KernelAdGateIdeal.main_arg1)
      ∧ r.2.mem ((c.tc : Thread Cert.KernelAdGateIdeal.nD Cert.KernelAdGateIdeal.τ).loc Cert.KernelAdGateIdeal.main_arg2) = m ((c.tc : Thread Cert.KernelAdGateIdeal.nD Cert.KernelAdGateIdeal.τ).loc Cert.KernelAdGateIdeal.main_arg2)
      ∧ r.2.mem ((c.tc : Thread Cert.KernelAdGateIdeal.nD Cert.KernelAdGateIdeal.τ).loc Cert.KernelAdGateIdeal.main_arg3) = m ((c.tc : Thread Cert.KernelAdGateIdeal.nD Cert.KernelAdGateIdeal.τ).loc Cert.KernelAdGateIdeal.main_arg3))
      ∧ r.2.sem = fun _ => 0)

def quiescent_ReferenceAdGateIdeal [hReferenceAdGateIdeal : Cert.ReferenceAdGateIdeal.Facts] : Prop :=
  ∀ (m : (ℓ : Loc Cert.ReferenceAdGateIdeal.nD Cert.ReferenceAdGateIdeal.τ Cert.ReferenceAdGateIdeal.sig) → Buf (Elt Ideal) ℓ) (g : Dev Cert.ReferenceAdGateIdeal.nD → PrngReg), Pre_ReferenceAdGateIdeal m →
    θ_run (Cert.ReferenceAdGateIdeal.defs (F := Ideal)) (onTc (τ := Cert.ReferenceAdGateIdeal.τ) (Cert.ReferenceAdGateIdeal.main (F := Ideal))) ⟨m, fun _ => 0, g⟩ (fun r => (∀ c : Dev Cert.ReferenceAdGateIdeal.nD,
      r.2.mem ((c.tc : Thread Cert.ReferenceAdGateIdeal.nD Cert.ReferenceAdGateIdeal.τ).loc Cert.ReferenceAdGateIdeal.main_arg0) = m ((c.tc : Thread Cert.ReferenceAdGateIdeal.nD Cert.ReferenceAdGateIdeal.τ).loc Cert.ReferenceAdGateIdeal.main_arg0)
      ∧ r.2.mem ((c.tc : Thread Cert.ReferenceAdGateIdeal.nD Cert.ReferenceAdGateIdeal.τ).loc Cert.ReferenceAdGateIdeal.main_arg1) = m ((c.tc : Thread Cert.ReferenceAdGateIdeal.nD Cert.ReferenceAdGateIdeal.τ).loc Cert.ReferenceAdGateIdeal.main_arg1)
      ∧ r.2.mem ((c.tc : Thread Cert.ReferenceAdGateIdeal.nD Cert.ReferenceAdGateIdeal.τ).loc Cert.ReferenceAdGateIdeal.main_arg2) = m ((c.tc : Thread Cert.ReferenceAdGateIdeal.nD Cert.ReferenceAdGateIdeal.τ).loc Cert.ReferenceAdGateIdeal.main_arg2)
      ∧ r.2.mem ((c.tc : Thread Cert.ReferenceAdGateIdeal.nD Cert.ReferenceAdGateIdeal.τ).loc Cert.ReferenceAdGateIdeal.main_arg3) = m ((c.tc : Thread Cert.ReferenceAdGateIdeal.nD Cert.ReferenceAdGateIdeal.τ).loc Cert.ReferenceAdGateIdeal.main_arg3))
      ∧ r.2.sem = fun _ => 0)

def quiescent_KernelAdDecay [hKernelAdDecay : Cert.KernelAdDecay.Facts] : Prop :=
  ∀ (m : (ℓ : Loc Cert.KernelAdDecay.nD Cert.KernelAdDecay.τ Cert.KernelAdDecay.sig) → Buf (Elt Bits) ℓ) (g : Dev Cert.KernelAdDecay.nD → PrngReg), Pre_KernelAdDecay m →
    θ_run (Cert.KernelAdDecay.defs (F := Bits)) (onTc (τ := Cert.KernelAdDecay.τ) (Cert.KernelAdDecay.main (F := Bits))) ⟨m, fun _ => 0, g⟩ (fun r => (∀ c : Dev Cert.KernelAdDecay.nD,
      r.2.mem ((c.tc : Thread Cert.KernelAdDecay.nD Cert.KernelAdDecay.τ).loc Cert.KernelAdDecay.main_arg0) = m ((c.tc : Thread Cert.KernelAdDecay.nD Cert.KernelAdDecay.τ).loc Cert.KernelAdDecay.main_arg0)
      ∧ r.2.mem ((c.tc : Thread Cert.KernelAdDecay.nD Cert.KernelAdDecay.τ).loc Cert.KernelAdDecay.main_arg1) = m ((c.tc : Thread Cert.KernelAdDecay.nD Cert.KernelAdDecay.τ).loc Cert.KernelAdDecay.main_arg1)
      ∧ r.2.mem ((c.tc : Thread Cert.KernelAdDecay.nD Cert.KernelAdDecay.τ).loc Cert.KernelAdDecay.main_arg2) = m ((c.tc : Thread Cert.KernelAdDecay.nD Cert.KernelAdDecay.τ).loc Cert.KernelAdDecay.main_arg2)
      ∧ r.2.mem ((c.tc : Thread Cert.KernelAdDecay.nD Cert.KernelAdDecay.τ).loc Cert.KernelAdDecay.main_arg3) = m ((c.tc : Thread Cert.KernelAdDecay.nD Cert.KernelAdDecay.τ).loc Cert.KernelAdDecay.main_arg3))
      ∧ r.2.sem = fun _ => 0)

def quiescent_KernelAdDecayIdeal [hKernelAdDecayIdeal : Cert.KernelAdDecayIdeal.Facts] : Prop :=
  ∀ (m : (ℓ : Loc Cert.KernelAdDecayIdeal.nD Cert.KernelAdDecayIdeal.τ Cert.KernelAdDecayIdeal.sig) → Buf (Elt Ideal) ℓ) (g : Dev Cert.KernelAdDecayIdeal.nD → PrngReg), Pre_KernelAdDecayIdeal m →
    θ_run (Cert.KernelAdDecayIdeal.defs (F := Ideal)) (onTc (τ := Cert.KernelAdDecayIdeal.τ) (Cert.KernelAdDecayIdeal.main (F := Ideal))) ⟨m, fun _ => 0, g⟩ (fun r => (∀ c : Dev Cert.KernelAdDecayIdeal.nD,
      r.2.mem ((c.tc : Thread Cert.KernelAdDecayIdeal.nD Cert.KernelAdDecayIdeal.τ).loc Cert.KernelAdDecayIdeal.main_arg0) = m ((c.tc : Thread Cert.KernelAdDecayIdeal.nD Cert.KernelAdDecayIdeal.τ).loc Cert.KernelAdDecayIdeal.main_arg0)
      ∧ r.2.mem ((c.tc : Thread Cert.KernelAdDecayIdeal.nD Cert.KernelAdDecayIdeal.τ).loc Cert.KernelAdDecayIdeal.main_arg1) = m ((c.tc : Thread Cert.KernelAdDecayIdeal.nD Cert.KernelAdDecayIdeal.τ).loc Cert.KernelAdDecayIdeal.main_arg1)
      ∧ r.2.mem ((c.tc : Thread Cert.KernelAdDecayIdeal.nD Cert.KernelAdDecayIdeal.τ).loc Cert.KernelAdDecayIdeal.main_arg2) = m ((c.tc : Thread Cert.KernelAdDecayIdeal.nD Cert.KernelAdDecayIdeal.τ).loc Cert.KernelAdDecayIdeal.main_arg2)
      ∧ r.2.mem ((c.tc : Thread Cert.KernelAdDecayIdeal.nD Cert.KernelAdDecayIdeal.τ).loc Cert.KernelAdDecayIdeal.main_arg3) = m ((c.tc : Thread Cert.KernelAdDecayIdeal.nD Cert.KernelAdDecayIdeal.τ).loc Cert.KernelAdDecayIdeal.main_arg3))
      ∧ r.2.sem = fun _ => 0)

def quiescent_ReferenceAdDecayIdeal [hReferenceAdDecayIdeal : Cert.ReferenceAdDecayIdeal.Facts] : Prop :=
  ∀ (m : (ℓ : Loc Cert.ReferenceAdDecayIdeal.nD Cert.ReferenceAdDecayIdeal.τ Cert.ReferenceAdDecayIdeal.sig) → Buf (Elt Ideal) ℓ) (g : Dev Cert.ReferenceAdDecayIdeal.nD → PrngReg), Pre_ReferenceAdDecayIdeal m →
    θ_run (Cert.ReferenceAdDecayIdeal.defs (F := Ideal)) (onTc (τ := Cert.ReferenceAdDecayIdeal.τ) (Cert.ReferenceAdDecayIdeal.main (F := Ideal))) ⟨m, fun _ => 0, g⟩ (fun r => (∀ c : Dev Cert.ReferenceAdDecayIdeal.nD,
      r.2.mem ((c.tc : Thread Cert.ReferenceAdDecayIdeal.nD Cert.ReferenceAdDecayIdeal.τ).loc Cert.ReferenceAdDecayIdeal.main_arg0) = m ((c.tc : Thread Cert.ReferenceAdDecayIdeal.nD Cert.ReferenceAdDecayIdeal.τ).loc Cert.ReferenceAdDecayIdeal.main_arg0)
      ∧ r.2.mem ((c.tc : Thread Cert.ReferenceAdDecayIdeal.nD Cert.ReferenceAdDecayIdeal.τ).loc Cert.ReferenceAdDecayIdeal.main_arg1) = m ((c.tc : Thread Cert.ReferenceAdDecayIdeal.nD Cert.ReferenceAdDecayIdeal.τ).loc Cert.ReferenceAdDecayIdeal.main_arg1)
      ∧ r.2.mem ((c.tc : Thread Cert.ReferenceAdDecayIdeal.nD Cert.ReferenceAdDecayIdeal.τ).loc Cert.ReferenceAdDecayIdeal.main_arg2) = m ((c.tc : Thread Cert.ReferenceAdDecayIdeal.nD Cert.ReferenceAdDecayIdeal.τ).loc Cert.ReferenceAdDecayIdeal.main_arg2)
      ∧ r.2.mem ((c.tc : Thread Cert.ReferenceAdDecayIdeal.nD Cert.ReferenceAdDecayIdeal.τ).loc Cert.ReferenceAdDecayIdeal.main_arg3) = m ((c.tc : Thread Cert.ReferenceAdDecayIdeal.nD Cert.ReferenceAdDecayIdeal.τ).loc Cert.ReferenceAdDecayIdeal.main_arg3))
      ∧ r.2.sem = fun _ => 0)

def quiescent_KernelAdSmall [hKernelAdSmall : Cert.KernelAdSmall.Facts] : Prop :=
  ∀ (m : (ℓ : Loc Cert.KernelAdSmall.nD Cert.KernelAdSmall.τ Cert.KernelAdSmall.sig) → Buf (Elt Bits) ℓ) (g : Dev Cert.KernelAdSmall.nD → PrngReg), Pre_KernelAdSmall m →
    θ_run (Cert.KernelAdSmall.defs (F := Bits)) (onTc (τ := Cert.KernelAdSmall.τ) (Cert.KernelAdSmall.main (F := Bits))) ⟨m, fun _ => 0, g⟩ (fun r => (∀ c : Dev Cert.KernelAdSmall.nD,
      r.2.mem ((c.tc : Thread Cert.KernelAdSmall.nD Cert.KernelAdSmall.τ).loc Cert.KernelAdSmall.main_arg0) = m ((c.tc : Thread Cert.KernelAdSmall.nD Cert.KernelAdSmall.τ).loc Cert.KernelAdSmall.main_arg0)
      ∧ r.2.mem ((c.tc : Thread Cert.KernelAdSmall.nD Cert.KernelAdSmall.τ).loc Cert.KernelAdSmall.main_arg1) = m ((c.tc : Thread Cert.KernelAdSmall.nD Cert.KernelAdSmall.τ).loc Cert.KernelAdSmall.main_arg1)
      ∧ r.2.mem ((c.tc : Thread Cert.KernelAdSmall.nD Cert.KernelAdSmall.τ).loc Cert.KernelAdSmall.main_arg2) = m ((c.tc : Thread Cert.KernelAdSmall.nD Cert.KernelAdSmall.τ).loc Cert.KernelAdSmall.main_arg2)
      ∧ r.2.mem ((c.tc : Thread Cert.KernelAdSmall.nD Cert.KernelAdSmall.τ).loc Cert.KernelAdSmall.main_arg3) = m ((c.tc : Thread Cert.KernelAdSmall.nD Cert.KernelAdSmall.τ).loc Cert.KernelAdSmall.main_arg3))
      ∧ r.2.sem = fun _ => 0)

def quiescent_KernelAdSmallIdeal [hKernelAdSmallIdeal : Cert.KernelAdSmallIdeal.Facts] : Prop :=
  ∀ (m : (ℓ : Loc Cert.KernelAdSmallIdeal.nD Cert.KernelAdSmallIdeal.τ Cert.KernelAdSmallIdeal.sig) → Buf (Elt Ideal) ℓ) (g : Dev Cert.KernelAdSmallIdeal.nD → PrngReg), Pre_KernelAdSmallIdeal m →
    θ_run (Cert.KernelAdSmallIdeal.defs (F := Ideal)) (onTc (τ := Cert.KernelAdSmallIdeal.τ) (Cert.KernelAdSmallIdeal.main (F := Ideal))) ⟨m, fun _ => 0, g⟩ (fun r => (∀ c : Dev Cert.KernelAdSmallIdeal.nD,
      r.2.mem ((c.tc : Thread Cert.KernelAdSmallIdeal.nD Cert.KernelAdSmallIdeal.τ).loc Cert.KernelAdSmallIdeal.main_arg0) = m ((c.tc : Thread Cert.KernelAdSmallIdeal.nD Cert.KernelAdSmallIdeal.τ).loc Cert.KernelAdSmallIdeal.main_arg0)
      ∧ r.2.mem ((c.tc : Thread Cert.KernelAdSmallIdeal.nD Cert.KernelAdSmallIdeal.τ).loc Cert.KernelAdSmallIdeal.main_arg1) = m ((c.tc : Thread Cert.KernelAdSmallIdeal.nD Cert.KernelAdSmallIdeal.τ).loc Cert.KernelAdSmallIdeal.main_arg1)
      ∧ r.2.mem ((c.tc : Thread Cert.KernelAdSmallIdeal.nD Cert.KernelAdSmallIdeal.τ).loc Cert.KernelAdSmallIdeal.main_arg2) = m ((c.tc : Thread Cert.KernelAdSmallIdeal.nD Cert.KernelAdSmallIdeal.τ).loc Cert.KernelAdSmallIdeal.main_arg2)
      ∧ r.2.mem ((c.tc : Thread Cert.KernelAdSmallIdeal.nD Cert.KernelAdSmallIdeal.τ).loc Cert.KernelAdSmallIdeal.main_arg3) = m ((c.tc : Thread Cert.KernelAdSmallIdeal.nD Cert.KernelAdSmallIdeal.τ).loc Cert.KernelAdSmallIdeal.main_arg3))
      ∧ r.2.sem = fun _ => 0)

def quiescent_ReferenceAdSmallIdeal [hReferenceAdSmallIdeal : Cert.ReferenceAdSmallIdeal.Facts] : Prop :=
  ∀ (m : (ℓ : Loc Cert.ReferenceAdSmallIdeal.nD Cert.ReferenceAdSmallIdeal.τ Cert.ReferenceAdSmallIdeal.sig) → Buf (Elt Ideal) ℓ) (g : Dev Cert.ReferenceAdSmallIdeal.nD → PrngReg), Pre_ReferenceAdSmallIdeal m →
    θ_run (Cert.ReferenceAdSmallIdeal.defs (F := Ideal)) (onTc (τ := Cert.ReferenceAdSmallIdeal.τ) (Cert.ReferenceAdSmallIdeal.main (F := Ideal))) ⟨m, fun _ => 0, g⟩ (fun r => (∀ c : Dev Cert.ReferenceAdSmallIdeal.nD,
      r.2.mem ((c.tc : Thread Cert.ReferenceAdSmallIdeal.nD Cert.ReferenceAdSmallIdeal.τ).loc Cert.ReferenceAdSmallIdeal.main_arg0) = m ((c.tc : Thread Cert.ReferenceAdSmallIdeal.nD Cert.ReferenceAdSmallIdeal.τ).loc Cert.ReferenceAdSmallIdeal.main_arg0)
      ∧ r.2.mem ((c.tc : Thread Cert.ReferenceAdSmallIdeal.nD Cert.ReferenceAdSmallIdeal.τ).loc Cert.ReferenceAdSmallIdeal.main_arg1) = m ((c.tc : Thread Cert.ReferenceAdSmallIdeal.nD Cert.ReferenceAdSmallIdeal.τ).loc Cert.ReferenceAdSmallIdeal.main_arg1)
      ∧ r.2.mem ((c.tc : Thread Cert.ReferenceAdSmallIdeal.nD Cert.ReferenceAdSmallIdeal.τ).loc Cert.ReferenceAdSmallIdeal.main_arg2) = m ((c.tc : Thread Cert.ReferenceAdSmallIdeal.nD Cert.ReferenceAdSmallIdeal.τ).loc Cert.ReferenceAdSmallIdeal.main_arg2)
      ∧ r.2.mem ((c.tc : Thread Cert.ReferenceAdSmallIdeal.nD Cert.ReferenceAdSmallIdeal.τ).loc Cert.ReferenceAdSmallIdeal.main_arg3) = m ((c.tc : Thread Cert.ReferenceAdSmallIdeal.nD Cert.ReferenceAdSmallIdeal.τ).loc Cert.ReferenceAdSmallIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_v134) = v5 c
          ∧ r.2.mem ((c.tc : Thread Cert.ReferenceIdeal.nD Cert.ReferenceIdeal.τ).loc Cert.ReferenceIdeal.main_v135) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)) →
    ∃ (v0 : (c : Dev Cert.KernelKvIdeal.nD) → Buf (Elt Ideal) ((c.tc : Thread Cert.KernelKvIdeal.nD Cert.KernelKvIdeal.τ).loc Cert.KernelKvIdeal.main_v0_0)) (v1 : (c : Dev Cert.KernelKvIdeal.nD) → Buf (Elt Ideal) ((c.tc : Thread Cert.KernelKvIdeal.nD Cert.KernelKvIdeal.τ).loc Cert.KernelKvIdeal.main_v0_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0_0) = v0 c
          ∧ r.2.mem ((c.tc : Thread Cert.KernelKvIdeal.nD Cert.KernelKvIdeal.τ).loc Cert.KernelKvIdeal.main_v0_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v24) = v0 c
          ∧ r.2.mem ((c.tc : Thread Cert.ReferenceKvIdeal.nD Cert.ReferenceKvIdeal.τ).loc Cert.ReferenceKvIdeal.main_v25) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v14) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v6) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v8) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v6) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)) →
    ∃ (v0 : (c : Dev Cert.KernelDxIdeal.nD) → Buf (Elt Ideal) ((c.tc : Thread Cert.KernelDxIdeal.nD Cert.KernelDxIdeal.τ).loc Cert.KernelDxIdeal.main_v0)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v4) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)) →
    ∃ (v0 : (c : Dev Cert.KernelYIdeal.nD) → Buf (Elt Ideal) ((c.tc : Thread Cert.KernelYIdeal.nD Cert.KernelYIdeal.τ).loc Cert.KernelYIdeal.main_v0)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v2) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1))

def preserves_KernelDwZ_KernelDwZIdeal : Prop :=
  True

def algebraic_KernelDwZIdeal_ReferenceDwZIdeal [hKernelDwZIdeal : Cert.KernelDwZIdeal.Facts] [hReferenceDwZIdeal : Cert.ReferenceDwZIdeal.Facts] : Prop :=
  ∀ (m : (ℓ : Loc Cert.KernelDwZIdeal.nD Cert.KernelDwZIdeal.τ Cert.KernelDwZIdeal.sig) → Buf (Elt Ideal) ℓ) (g : Dev Cert.KernelDwZIdeal.nD → PrngReg)
    (m' : (ℓ : Loc Cert.ReferenceDwZIdeal.nD Cert.ReferenceDwZIdeal.τ Cert.ReferenceDwZIdeal.sig) → Buf (Elt Ideal) ℓ) (g' : Dev Cert.ReferenceDwZIdeal.nD → PrngReg), Pre_KernelDwZIdeal m →
    (∀ c : Dev Cert.KernelDwZIdeal.nD,
      m' ((c.tc : Thread Cert.ReferenceDwZIdeal.nD Cert.ReferenceDwZIdeal.τ).loc Cert.ReferenceDwZIdeal.main_arg0) = m ((c.tc : Thread Cert.KernelDwZIdeal.nD Cert.KernelDwZIdeal.τ).loc Cert.KernelDwZIdeal.main_arg0)
      ∧ m' ((c.tc : Thread Cert.ReferenceDwZIdeal.nD Cert.ReferenceDwZIdeal.τ).loc Cert.ReferenceDwZIdeal.main_arg1) = m ((c.tc : Thread Cert.KernelDwZIdeal.nD Cert.KernelDwZIdeal.τ).loc Cert.KernelDwZIdeal.main_arg1)) →
    ∃ (v0 : (c : Dev Cert.KernelDwZIdeal.nD) → Buf (Elt Ideal) ((c.tc : Thread Cert.KernelDwZIdeal.nD Cert.KernelDwZIdeal.τ).loc Cert.KernelDwZIdeal.main_v0)),
      θ_run (Cert.KernelDwZIdeal.defs (F := Ideal)) (onTc (τ := Cert.KernelDwZIdeal.τ) (Cert.KernelDwZIdeal.main (F := Ideal))) ⟨m, fun _ => 0, g⟩ (fun r => ∀ c : Dev Cert.KernelDwZIdeal.nD,
          r.2.mem ((c.tc : Thread Cert.KernelDwZIdeal.nD Cert.KernelDwZIdeal.τ).loc Cert.KernelDwZIdeal.main_v0) = v0 c
          ∧ r.2.mem ((c.tc : Thread Cert.KernelDwZIdeal.nD Cert.KernelDwZIdeal.τ).loc Cert.KernelDwZIdeal.main_arg0) = m ((c.tc : Thread Cert.KernelDwZIdeal.nD Cert.KernelDwZIdeal.τ).loc Cert.KernelDwZIdeal.main_arg0)
          ∧ r.2.mem ((c.tc : Thread Cert.KernelDwZIdeal.nD Cert.KernelDwZIdeal.τ).loc Cert.KernelDwZIdeal.main_arg1) = m ((c.tc : Thread Cert.KernelDwZIdeal.nD Cert.KernelDwZIdeal.τ).loc Cert.KernelDwZIdeal.main_arg1))
      ∧ θ_run (Cert.ReferenceDwZIdeal.defs (F := Ideal)) (onTc (τ := Cert.ReferenceDwZIdeal.τ) (Cert.ReferenceDwZIdeal.main (F := Ideal))) ⟨m', fun _ => 0, g'⟩ (fun r => ∀ c : Dev Cert.ReferenceDwZIdeal.nD,
          r.2.mem ((c.tc : Thread Cert.ReferenceDwZIdeal.nD Cert.ReferenceDwZIdeal.τ).loc Cert.ReferenceDwZIdeal.main_v6) = v0 c
          ∧ r.2.mem ((c.tc : Thread Cert.ReferenceDwZIdeal.nD Cert.ReferenceDwZIdeal.τ).loc Cert.ReferenceDwZIdeal.main_arg0) = m' ((c.tc : Thread Cert.ReferenceDwZIdeal.nD Cert.ReferenceDwZIdeal.τ).loc Cert.ReferenceDwZIdeal.main_arg0)
          ∧ r.2.mem ((c.tc : Thread Cert.ReferenceDwZIdeal.nD Cert.ReferenceDwZIdeal.τ).loc Cert.ReferenceDwZIdeal.main_arg1) = m' ((c.tc : Thread Cert.ReferenceDwZIdeal.nD Cert.ReferenceDwZIdeal.τ).loc Cert.ReferenceDwZIdeal.main_arg1))

def preserves_KernelDwQ_KernelDwQIdeal : Prop :=
  True

def algebraic_KernelDwQIdeal_ReferenceDwQIdeal [hKernelDwQIdeal : Cert.KernelDwQIdeal.Facts] [hReferenceDwQIdeal : Cert.ReferenceDwQIdeal.Facts] : Prop :=
  ∀ (m : (ℓ : Loc Cert.KernelDwQIdeal.nD Cert.KernelDwQIdeal.τ Cert.KernelDwQIdeal.sig) → Buf (Elt Ideal) ℓ) (g : Dev Cert.KernelDwQIdeal.nD → PrngReg)
    (m' : (ℓ : Loc Cert.ReferenceDwQIdeal.nD Cert.ReferenceDwQIdeal.τ Cert.ReferenceDwQIdeal.sig) → Buf (Elt Ideal) ℓ) (g' : Dev Cert.ReferenceDwQIdeal.nD → PrngReg), Pre_KernelDwQIdeal m →
    (∀ c : Dev Cert.KernelDwQIdeal.nD,
      m' ((c.tc : Thread Cert.ReferenceDwQIdeal.nD Cert.ReferenceDwQIdeal.τ).loc Cert.ReferenceDwQIdeal.main_arg0) = m ((c.tc : Thread Cert.KernelDwQIdeal.nD Cert.KernelDwQIdeal.τ).loc Cert.KernelDwQIdeal.main_arg0)
      ∧ m' ((c.tc : Thread Cert.ReferenceDwQIdeal.nD Cert.ReferenceDwQIdeal.τ).loc Cert.ReferenceDwQIdeal.main_arg1) = m ((c.tc : Thread Cert.KernelDwQIdeal.nD Cert.KernelDwQIdeal.τ).loc Cert.KernelDwQIdeal.main_arg1)) →
    ∃ (v0 : (c : Dev Cert.KernelDwQIdeal.nD) → Buf (Elt Ideal) ((c.tc : Thread Cert.KernelDwQIdeal.nD Cert.KernelDwQIdeal.τ).loc Cert.KernelDwQIdeal.main_v0)),
      θ_run (Cert.KernelDwQIdeal.defs (F := Ideal)) (onTc (τ := Cert.KernelDwQIdeal.τ) (Cert.KernelDwQIdeal.main (F := Ideal))) ⟨m, fun _ => 0, g⟩ (fun r => ∀ c : Dev Cert.KernelDwQIdeal.nD,
          r.2.mem ((c.tc : Thread Cert.KernelDwQIdeal.nD Cert.KernelDwQIdeal.τ).loc Cert.KernelDwQIdeal.main_v0) = v0 c
          ∧ r.2.mem ((c.tc : Thread Cert.KernelDwQIdeal.nD Cert.KernelDwQIdeal.τ).loc Cert.KernelDwQIdeal.main_arg0) = m ((c.tc : Thread Cert.KernelDwQIdeal.nD Cert.KernelDwQIdeal.τ).loc Cert.KernelDwQIdeal.main_arg0)
          ∧ r.2.mem ((c.tc : Thread Cert.KernelDwQIdeal.nD Cert.KernelDwQIdeal.τ).loc Cert.KernelDwQIdeal.main_arg1) = m ((c.tc : Thread Cert.KernelDwQIdeal.nD Cert.KernelDwQIdeal.τ).loc Cert.KernelDwQIdeal.main_arg1))
      ∧ θ_run (Cert.ReferenceDwQIdeal.defs (F := Ideal)) (onTc (τ := Cert.ReferenceDwQIdeal.τ) (Cert.ReferenceDwQIdeal.main (F := Ideal))) ⟨m', fun _ => 0, g'⟩ (fun r => ∀ c : Dev Cert.ReferenceDwQIdeal.nD,
          r.2.mem ((c.tc : Thread Cert.ReferenceDwQIdeal.nD Cert.ReferenceDwQIdeal.τ).loc Cert.ReferenceDwQIdeal.main_v6) = v0 c
          ∧ r.2.mem ((c.tc : Thread Cert.ReferenceDwQIdeal.nD Cert.ReferenceDwQIdeal.τ).loc Cert.ReferenceDwQIdeal.main_arg0) = m' ((c.tc : Thread Cert.ReferenceDwQIdeal.nD Cert.ReferenceDwQIdeal.τ).loc Cert.ReferenceDwQIdeal.main_arg0)
          ∧ r.2.mem ((c.tc : Thread Cert.ReferenceDwQIdeal.nD Cert.ReferenceDwQIdeal.τ).loc Cert.ReferenceDwQIdeal.main_arg1) = m' ((c.tc : Thread Cert.ReferenceDwQIdeal.nD Cert.ReferenceDwQIdeal.τ).loc Cert.ReferenceDwQIdeal.main_arg1))

def preserves_KernelDwV_KernelDwVIdeal : Prop :=
  True

def algebraic_KernelDwVIdeal_ReferenceDwVIdeal [hKernelDwVIdeal : Cert.KernelDwVIdeal.Facts] [hReferenceDwVIdeal : Cert.ReferenceDwVIdeal.Facts] : Prop :=
  ∀ (m : (ℓ : Loc Cert.KernelDwVIdeal.nD Cert.KernelDwVIdeal.τ Cert.KernelDwVIdeal.sig) → Buf (Elt Ideal) ℓ) (g : Dev Cert.KernelDwVIdeal.nD → PrngReg)
    (m' : (ℓ : Loc Cert.ReferenceDwVIdeal.nD Cert.ReferenceDwVIdeal.τ Cert.ReferenceDwVIdeal.sig) → Buf (Elt Ideal) ℓ) (g' : Dev Cert.ReferenceDwVIdeal.nD → PrngReg), Pre_KernelDwVIdeal m →
    (∀ c : Dev Cert.KernelDwVIdeal.nD,
      m' ((c.tc : Thread Cert.ReferenceDwVIdeal.nD Cert.ReferenceDwVIdeal.τ).loc Cert.ReferenceDwVIdeal.main_arg0) = m ((c.tc : Thread Cert.KernelDwVIdeal.nD Cert.KernelDwVIdeal.τ).loc Cert.KernelDwVIdeal.main_arg0)
      ∧ m' ((c.tc : Thread Cert.ReferenceDwVIdeal.nD Cert.ReferenceDwVIdeal.τ).loc Cert.ReferenceDwVIdeal.main_arg1) = m ((c.tc : Thread Cert.KernelDwVIdeal.nD Cert.KernelDwVIdeal.τ).loc Cert.KernelDwVIdeal.main_arg1)) →
    ∃ (v0 : (c : Dev Cert.KernelDwVIdeal.nD) → Buf (Elt Ideal) ((c.tc : Thread Cert.KernelDwVIdeal.nD Cert.KernelDwVIdeal.τ).loc Cert.KernelDwVIdeal.main_v0)),
      θ_run (Cert.KernelDwVIdeal.defs (F := Ideal)) (onTc (τ := Cert.KernelDwVIdeal.τ) (Cert.KernelDwVIdeal.main (F := Ideal))) ⟨m, fun _ => 0, g⟩ (fun r => ∀ c : Dev Cert.KernelDwVIdeal.nD,
          r.2.mem ((c.tc : Thread Cert.KernelDwVIdeal.nD Cert.KernelDwVIdeal.τ).loc Cert.KernelDwVIdeal.main_v0) = v0 c
          ∧ r.2.mem ((c.tc : Thread Cert.KernelDwVIdeal.nD Cert.KernelDwVIdeal.τ).loc Cert.KernelDwVIdeal.main_arg0) = m ((c.tc : Thread Cert.KernelDwVIdeal.nD Cert.KernelDwVIdeal.τ).loc Cert.KernelDwVIdeal.main_arg0)
          ∧ r.2.mem ((c.tc : Thread Cert.KernelDwVIdeal.nD Cert.KernelDwVIdeal.τ).loc Cert.KernelDwVIdeal.main_arg1) = m ((c.tc : Thread Cert.KernelDwVIdeal.nD Cert.KernelDwVIdeal.τ).loc Cert.KernelDwVIdeal.main_arg1))
      ∧ θ_run (Cert.ReferenceDwVIdeal.defs (F := Ideal)) (onTc (τ := Cert.ReferenceDwVIdeal.τ) (Cert.ReferenceDwVIdeal.main (F := Ideal))) ⟨m', fun _ => 0, g'⟩ (fun r => ∀ c : Dev Cert.ReferenceDwVIdeal.nD,
          r.2.mem ((c.tc : Thread Cert.ReferenceDwVIdeal.nD Cert.ReferenceDwVIdeal.τ).loc Cert.ReferenceDwVIdeal.main_v6) = v0 c
          ∧ r.2.mem ((c.tc : Thread Cert.ReferenceDwVIdeal.nD Cert.ReferenceDwVIdeal.τ).loc Cert.ReferenceDwVIdeal.main_arg0) = m' ((c.tc : Thread Cert.ReferenceDwVIdeal.nD Cert.ReferenceDwVIdeal.τ).loc Cert.ReferenceDwVIdeal.main_arg0)
          ∧ r.2.mem ((c.tc : Thread Cert.ReferenceDwVIdeal.nD Cert.ReferenceDwVIdeal.τ).loc Cert.ReferenceDwVIdeal.main_arg1) = m' ((c.tc : Thread Cert.ReferenceDwVIdeal.nD Cert.ReferenceDwVIdeal.τ).loc Cert.ReferenceDwVIdeal.main_arg1))

def preserves_KernelDwRw_KernelDwRwIdeal : Prop :=
  True

def algebraic_KernelDwRwIdeal_ReferenceDwRwIdeal [hKernelDwRwIdeal : Cert.KernelDwRwIdeal.Facts] [hReferenceDwRwIdeal : Cert.ReferenceDwRwIdeal.Facts] : Prop :=
  ∀ (m : (ℓ : Loc Cert.KernelDwRwIdeal.nD Cert.KernelDwRwIdeal.τ Cert.KernelDwRwIdeal.sig) → Buf (Elt Ideal) ℓ) (g : Dev Cert.KernelDwRwIdeal.nD → PrngReg)
    (m' : (ℓ : Loc Cert.ReferenceDwRwIdeal.nD Cert.ReferenceDwRwIdeal.τ Cert.ReferenceDwRwIdeal.sig) → Buf (Elt Ideal) ℓ) (g' : Dev Cert.ReferenceDwRwIdeal.nD → PrngReg), Pre_KernelDwRwIdeal m →
    (∀ c : Dev Cert.KernelDwRwIdeal.nD,
      m' ((c.tc : Thread Cert.ReferenceDwRwIdeal.nD Cert.ReferenceDwRwIdeal.τ).loc Cert.ReferenceDwRwIdeal.main_arg0) = m ((c.tc : Thread Cert.KernelDwRwIdeal.nD Cert.KernelDwRwIdeal.τ).loc Cert.KernelDwRwIdeal.main_arg0)
      ∧ m' ((c.tc : Thread Cert.ReferenceDwRwIdeal.nD Cert.ReferenceDwRwIdeal.τ).loc Cert.ReferenceDwRwIdeal.main_arg1) = m ((c.tc : Thread Cert.KernelDwRwIdeal.nD Cert.KernelDwRwIdeal.τ).loc Cert.KernelDwRwIdeal.main_arg1)) →
    ∃ (v0 : (c : Dev Cert.KernelDwRwIdeal.nD) → Buf (Elt Ideal) ((c.tc : Thread Cert.KernelDwRwIdeal.nD Cert.KernelDwRwIdeal.τ).loc Cert.KernelDwRwIdeal.main_v0)),
      θ_run (Cert.KernelDwRwIdeal.defs (F := Ideal)) (onTc (τ := Cert.KernelDwRwIdeal.τ) (Cert.KernelDwRwIdeal.main (F := Ideal))) ⟨m, fun _ => 0, g⟩ (fun r => ∀ c : Dev Cert.KernelDwRwIdeal.nD,
          r.2.mem ((c.tc : Thread Cert.KernelDwRwIdeal.nD Cert.KernelDwRwIdeal.τ).loc Cert.KernelDwRwIdeal.main_v0) = v0 c
          ∧ r.2.mem ((c.tc : Thread Cert.KernelDwRwIdeal.nD Cert.KernelDwRwIdeal.τ).loc Cert.KernelDwRwIdeal.main_arg0) = m ((c.tc : Thread Cert.KernelDwRwIdeal.nD Cert.KernelDwRwIdeal.τ).loc Cert.KernelDwRwIdeal.main_arg0)
          ∧ r.2.mem ((c.tc : Thread Cert.KernelDwRwIdeal.nD Cert.KernelDwRwIdeal.τ).loc Cert.KernelDwRwIdeal.main_arg1) = m ((c.tc : Thread Cert.KernelDwRwIdeal.nD Cert.KernelDwRwIdeal.τ).loc Cert.KernelDwRwIdeal.main_arg1))
      ∧ θ_run (Cert.ReferenceDwRwIdeal.defs (F := Ideal)) (onTc (τ := Cert.ReferenceDwRwIdeal.τ) (Cert.ReferenceDwRwIdeal.main (F := Ideal))) ⟨m', fun _ => 0, g'⟩ (fun r => ∀ c : Dev Cert.ReferenceDwRwIdeal.nD,
          r.2.mem ((c.tc : Thread Cert.ReferenceDwRwIdeal.nD Cert.ReferenceDwRwIdeal.τ).loc Cert.ReferenceDwRwIdeal.main_v8) = v0 c
          ∧ r.2.mem ((c.tc : Thread Cert.ReferenceDwRwIdeal.nD Cert.ReferenceDwRwIdeal.τ).loc Cert.ReferenceDwRwIdeal.main_arg0) = m' ((c.tc : Thread Cert.ReferenceDwRwIdeal.nD Cert.ReferenceDwRwIdeal.τ).loc Cert.ReferenceDwRwIdeal.main_arg0)
          ∧ r.2.mem ((c.tc : Thread Cert.ReferenceDwRwIdeal.nD Cert.ReferenceDwRwIdeal.τ).loc Cert.ReferenceDwRwIdeal.main_arg1) = m' ((c.tc : Thread Cert.ReferenceDwRwIdeal.nD Cert.ReferenceDwRwIdeal.τ).loc Cert.ReferenceDwRwIdeal.main_arg1))

def preserves_KernelDxRw_KernelDxRwIdeal : Prop :=
  True

def algebraic_KernelDxRwIdeal_ReferenceDxRwIdeal [hKernelDxRwIdeal : Cert.KernelDxRwIdeal.Facts] [hReferenceDxRwIdeal : Cert.ReferenceDxRwIdeal.Facts] : Prop :=
  ∀ (m : (ℓ : Loc Cert.KernelDxRwIdeal.nD Cert.KernelDxRwIdeal.τ Cert.KernelDxRwIdeal.sig) → Buf (Elt Ideal) ℓ) (g : Dev Cert.KernelDxRwIdeal.nD → PrngReg)
    (m' : (ℓ : Loc Cert.ReferenceDxRwIdeal.nD Cert.ReferenceDxRwIdeal.τ Cert.ReferenceDxRwIdeal.sig) → Buf (Elt Ideal) ℓ) (g' : Dev Cert.ReferenceDxRwIdeal.nD → PrngReg), Pre_KernelDxRwIdeal m →
    (∀ c : Dev Cert.KernelDxRwIdeal.nD,
      m' ((c.tc : Thread Cert.ReferenceDxRwIdeal.nD Cert.ReferenceDxRwIdeal.τ).loc Cert.ReferenceDxRwIdeal.main_arg0) = m ((c.tc : Thread Cert.KernelDxRwIdeal.nD Cert.KernelDxRwIdeal.τ).loc Cert.KernelDxRwIdeal.main_arg0)
      ∧ m' ((c.tc : Thread Cert.ReferenceDxRwIdeal.nD Cert.ReferenceDxRwIdeal.τ).loc Cert.ReferenceDxRwIdeal.main_arg1) = m ((c.tc : Thread Cert.KernelDxRwIdeal.nD Cert.KernelDxRwIdeal.τ).loc Cert.KernelDxRwIdeal.main_arg1)) →
    ∃ (v0 : (c : Dev Cert.KernelDxRwIdeal.nD) → Buf (Elt Ideal) ((c.tc : Thread Cert.KernelDxRwIdeal.nD Cert.KernelDxRwIdeal.τ).loc Cert.KernelDxRwIdeal.main_v0)),
      θ_run (Cert.KernelDxRwIdeal.defs (F := Ideal)) (onTc (τ := Cert.KernelDxRwIdeal.τ) (Cert.KernelDxRwIdeal.main (F := Ideal))) ⟨m, fun _ => 0, g⟩ (fun r => ∀ c : Dev Cert.KernelDxRwIdeal.nD,
          r.2.mem ((c.tc : Thread Cert.KernelDxRwIdeal.nD Cert.KernelDxRwIdeal.τ).loc Cert.KernelDxRwIdeal.main_v0) = v0 c
          ∧ r.2.mem ((c.tc : Thread Cert.KernelDxRwIdeal.nD Cert.KernelDxRwIdeal.τ).loc Cert.KernelDxRwIdeal.main_arg0) = m ((c.tc : Thread Cert.KernelDxRwIdeal.nD Cert.KernelDxRwIdeal.τ).loc Cert.KernelDxRwIdeal.main_arg0)
          ∧ r.2.mem ((c.tc : Thread Cert.KernelDxRwIdeal.nD Cert.KernelDxRwIdeal.τ).loc Cert.KernelDxRwIdeal.main_arg1) = m ((c.tc : Thread Cert.KernelDxRwIdeal.nD Cert.KernelDxRwIdeal.τ).loc Cert.KernelDxRwIdeal.main_arg1))
      ∧ θ_run (Cert.ReferenceDxRwIdeal.defs (F := Ideal)) (onTc (τ := Cert.ReferenceDxRwIdeal.τ) (Cert.ReferenceDxRwIdeal.main (F := Ideal))) ⟨m', fun _ => 0, g'⟩ (fun r => ∀ c : Dev Cert.ReferenceDxRwIdeal.nD,
          r.2.mem ((c.tc : Thread Cert.ReferenceDxRwIdeal.nD Cert.ReferenceDxRwIdeal.τ).loc Cert.ReferenceDxRwIdeal.main_v6) = v0 c
          ∧ r.2.mem ((c.tc : Thread Cert.ReferenceDxRwIdeal.nD Cert.ReferenceDxRwIdeal.τ).loc Cert.ReferenceDxRwIdeal.main_arg0) = m' ((c.tc : Thread Cert.ReferenceDxRwIdeal.nD Cert.ReferenceDxRwIdeal.τ).loc Cert.ReferenceDxRwIdeal.main_arg0)
          ∧ r.2.mem ((c.tc : Thread Cert.ReferenceDxRwIdeal.nD Cert.ReferenceDxRwIdeal.τ).loc Cert.ReferenceDxRwIdeal.main_arg1) = m' ((c.tc : Thread Cert.ReferenceDxRwIdeal.nD Cert.ReferenceDxRwIdeal.τ).loc Cert.ReferenceDxRwIdeal.main_arg1))

def preserves_KernelYRw_KernelYRwIdeal : Prop :=
  True

def algebraic_KernelYRwIdeal_ReferenceYRwIdeal [hKernelYRwIdeal : Cert.KernelYRwIdeal.Facts] [hReferenceYRwIdeal : Cert.ReferenceYRwIdeal.Facts] : Prop :=
  ∀ (m : (ℓ : Loc Cert.KernelYRwIdeal.nD Cert.KernelYRwIdeal.τ Cert.KernelYRwIdeal.sig) → Buf (Elt Ideal) ℓ) (g : Dev Cert.KernelYRwIdeal.nD → PrngReg)
    (m' : (ℓ : Loc Cert.ReferenceYRwIdeal.nD Cert.ReferenceYRwIdeal.τ Cert.ReferenceYRwIdeal.sig) → Buf (Elt Ideal) ℓ) (g' : Dev Cert.ReferenceYRwIdeal.nD → PrngReg), Pre_KernelYRwIdeal m →
    (∀ c : Dev Cert.KernelYRwIdeal.nD,
      m' ((c.tc : Thread Cert.ReferenceYRwIdeal.nD Cert.ReferenceYRwIdeal.τ).loc Cert.ReferenceYRwIdeal.main_arg0) = m ((c.tc : Thread Cert.KernelYRwIdeal.nD Cert.KernelYRwIdeal.τ).loc Cert.KernelYRwIdeal.main_arg0)
      ∧ m' ((c.tc : Thread Cert.ReferenceYRwIdeal.nD Cert.ReferenceYRwIdeal.τ).loc Cert.ReferenceYRwIdeal.main_arg1) = m ((c.tc : Thread Cert.KernelYRwIdeal.nD Cert.KernelYRwIdeal.τ).loc Cert.KernelYRwIdeal.main_arg1)) →
    ∃ (v0 : (c : Dev Cert.KernelYRwIdeal.nD) → Buf (Elt Ideal) ((c.tc : Thread Cert.KernelYRwIdeal.nD Cert.KernelYRwIdeal.τ).loc Cert.KernelYRwIdeal.main_v0)),
      θ_run (Cert.KernelYRwIdeal.defs (F := Ideal)) (onTc (τ := Cert.KernelYRwIdeal.τ) (Cert.KernelYRwIdeal.main (F := Ideal))) ⟨m, fun _ => 0, g⟩ (fun r => ∀ c : Dev Cert.KernelYRwIdeal.nD,
          r.2.mem ((c.tc : Thread Cert.KernelYRwIdeal.nD Cert.KernelYRwIdeal.τ).loc Cert.KernelYRwIdeal.main_v0) = v0 c
          ∧ r.2.mem ((c.tc : Thread Cert.KernelYRwIdeal.nD Cert.KernelYRwIdeal.τ).loc Cert.KernelYRwIdeal.main_arg0) = m ((c.tc : Thread Cert.KernelYRwIdeal.nD Cert.KernelYRwIdeal.τ).loc Cert.KernelYRwIdeal.main_arg0)
          ∧ r.2.mem ((c.tc : Thread Cert.KernelYRwIdeal.nD Cert.KernelYRwIdeal.τ).loc Cert.KernelYRwIdeal.main_arg1) = m ((c.tc : Thread Cert.KernelYRwIdeal.nD Cert.KernelYRwIdeal.τ).loc Cert.KernelYRwIdeal.main_arg1))
      ∧ θ_run (Cert.ReferenceYRwIdeal.defs (F := Ideal)) (onTc (τ := Cert.ReferenceYRwIdeal.τ) (Cert.ReferenceYRwIdeal.main (F := Ideal))) ⟨m', fun _ => 0, g'⟩ (fun r => ∀ c : Dev Cert.ReferenceYRwIdeal.nD,
          r.2.mem ((c.tc : Thread Cert.ReferenceYRwIdeal.nD Cert.ReferenceYRwIdeal.τ).loc Cert.ReferenceYRwIdeal.main_v4) = v0 c
          ∧ r.2.mem ((c.tc : Thread Cert.ReferenceYRwIdeal.nD Cert.ReferenceYRwIdeal.τ).loc Cert.ReferenceYRwIdeal.main_arg0) = m' ((c.tc : Thread Cert.ReferenceYRwIdeal.nD Cert.ReferenceYRwIdeal.τ).loc Cert.ReferenceYRwIdeal.main_arg0)
          ∧ r.2.mem ((c.tc : Thread Cert.ReferenceYRwIdeal.nD Cert.ReferenceYRwIdeal.τ).loc Cert.ReferenceYRwIdeal.main_arg1) = m' ((c.tc : Thread Cert.ReferenceYRwIdeal.nD Cert.ReferenceYRwIdeal.τ).loc Cert.ReferenceYRwIdeal.main_arg1))

def preserves_KernelDwAt_KernelDwAtIdeal : Prop :=
  True

def algebraic_KernelDwAtIdeal_ReferenceDwAtIdeal [hKernelDwAtIdeal : Cert.KernelDwAtIdeal.Facts] [hReferenceDwAtIdeal : Cert.ReferenceDwAtIdeal.Facts] : Prop :=
  ∀ (m : (ℓ : Loc Cert.KernelDwAtIdeal.nD Cert.KernelDwAtIdeal.τ Cert.KernelDwAtIdeal.sig) → Buf (Elt Ideal) ℓ) (g : Dev Cert.KernelDwAtIdeal.nD → PrngReg)
    (m' : (ℓ : Loc Cert.ReferenceDwAtIdeal.nD Cert.ReferenceDwAtIdeal.τ Cert.ReferenceDwAtIdeal.sig) → Buf (Elt Ideal) ℓ) (g' : Dev Cert.ReferenceDwAtIdeal.nD → PrngReg), Pre_KernelDwAtIdeal m →
    (∀ c : Dev Cert.KernelDwAtIdeal.nD,
      m' ((c.tc : Thread Cert.ReferenceDwAtIdeal.nD Cert.ReferenceDwAtIdeal.τ).loc Cert.ReferenceDwAtIdeal.main_arg0) = m ((c.tc : Thread Cert.KernelDwAtIdeal.nD Cert.KernelDwAtIdeal.τ).loc Cert.KernelDwAtIdeal.main_arg0)
      ∧ m' ((c.tc : Thread Cert.ReferenceDwAtIdeal.nD Cert.ReferenceDwAtIdeal.τ).loc Cert.ReferenceDwAtIdeal.main_arg1) = m ((c.tc : Thread Cert.KernelDwAtIdeal.nD Cert.KernelDwAtIdeal.τ).loc Cert.KernelDwAtIdeal.main_arg1)) →
    ∃ (v0 : (c : Dev Cert.KernelDwAtIdeal.nD) → Buf (Elt Ideal) ((c.tc : Thread Cert.KernelDwAtIdeal.nD Cert.KernelDwAtIdeal.τ).loc Cert.KernelDwAtIdeal.main_v0)),
      θ_run (Cert.KernelDwAtIdeal.defs (F := Ideal)) (onTc (τ := Cert.KernelDwAtIdeal.τ) (Cert.KernelDwAtIdeal.main (F := Ideal))) ⟨m, fun _ => 0, g⟩ (fun r => ∀ c : Dev Cert.KernelDwAtIdeal.nD,
          r.2.mem ((c.tc : Thread Cert.KernelDwAtIdeal.nD Cert.KernelDwAtIdeal.τ).loc Cert.KernelDwAtIdeal.main_v0) = v0 c
          ∧ r.2.mem ((c.tc : Thread Cert.KernelDwAtIdeal.nD Cert.KernelDwAtIdeal.τ).loc Cert.KernelDwAtIdeal.main_arg0) = m ((c.tc : Thread Cert.KernelDwAtIdeal.nD Cert.KernelDwAtIdeal.τ).loc Cert.KernelDwAtIdeal.main_arg0)
          ∧ r.2.mem ((c.tc : Thread Cert.KernelDwAtIdeal.nD Cert.KernelDwAtIdeal.τ).loc Cert.KernelDwAtIdeal.main_arg1) = m ((c.tc : Thread Cert.KernelDwAtIdeal.nD Cert.KernelDwAtIdeal.τ).loc Cert.KernelDwAtIdeal.main_arg1))
      ∧ θ_run (Cert.ReferenceDwAtIdeal.defs (F := Ideal)) (onTc (τ := Cert.ReferenceDwAtIdeal.τ) (Cert.ReferenceDwAtIdeal.main (F := Ideal))) ⟨m', fun _ => 0, g'⟩ (fun r => ∀ c : Dev Cert.ReferenceDwAtIdeal.nD,
          r.2.mem ((c.tc : Thread Cert.ReferenceDwAtIdeal.nD Cert.ReferenceDwAtIdeal.τ).loc Cert.ReferenceDwAtIdeal.main_v8) = v0 c
          ∧ r.2.mem ((c.tc : Thread Cert.ReferenceDwAtIdeal.nD Cert.ReferenceDwAtIdeal.τ).loc Cert.ReferenceDwAtIdeal.main_arg0) = m' ((c.tc : Thread Cert.ReferenceDwAtIdeal.nD Cert.ReferenceDwAtIdeal.τ).loc Cert.ReferenceDwAtIdeal.main_arg0)
          ∧ r.2.mem ((c.tc : Thread Cert.ReferenceDwAtIdeal.nD Cert.ReferenceDwAtIdeal.τ).loc Cert.ReferenceDwAtIdeal.main_arg1) = m' ((c.tc : Thread Cert.ReferenceDwAtIdeal.nD Cert.ReferenceDwAtIdeal.τ).loc Cert.ReferenceDwAtIdeal.main_arg1))

def preserves_KernelDxAt_KernelDxAtIdeal : Prop :=
  True

def algebraic_KernelDxAtIdeal_ReferenceDxAtIdeal [hKernelDxAtIdeal : Cert.KernelDxAtIdeal.Facts] [hReferenceDxAtIdeal : Cert.ReferenceDxAtIdeal.Facts] : Prop :=
  ∀ (m : (ℓ : Loc Cert.KernelDxAtIdeal.nD Cert.KernelDxAtIdeal.τ Cert.KernelDxAtIdeal.sig) → Buf (Elt Ideal) ℓ) (g : Dev Cert.KernelDxAtIdeal.nD → PrngReg)
    (m' : (ℓ : Loc Cert.ReferenceDxAtIdeal.nD Cert.ReferenceDxAtIdeal.τ Cert.ReferenceDxAtIdeal.sig) → Buf (Elt Ideal) ℓ) (g' : Dev Cert.ReferenceDxAtIdeal.nD → PrngReg), Pre_KernelDxAtIdeal m →
    (∀ c : Dev Cert.KernelDxAtIdeal.nD,
      m' ((c.tc : Thread Cert.ReferenceDxAtIdeal.nD Cert.ReferenceDxAtIdeal.τ).loc Cert.ReferenceDxAtIdeal.main_arg0) = m ((c.tc : Thread Cert.KernelDxAtIdeal.nD Cert.KernelDxAtIdeal.τ).loc Cert.KernelDxAtIdeal.main_arg0)
      ∧ m' ((c.tc : Thread Cert.ReferenceDxAtIdeal.nD Cert.ReferenceDxAtIdeal.τ).loc Cert.ReferenceDxAtIdeal.main_arg1) = m ((c.tc : Thread Cert.KernelDxAtIdeal.nD Cert.KernelDxAtIdeal.τ).loc Cert.KernelDxAtIdeal.main_arg1)) →
    ∃ (v0 : (c : Dev Cert.KernelDxAtIdeal.nD) → Buf (Elt Ideal) ((c.tc : Thread Cert.KernelDxAtIdeal.nD Cert.KernelDxAtIdeal.τ).loc Cert.KernelDxAtIdeal.main_v0)),
      θ_run (Cert.KernelDxAtIdeal.defs (F := Ideal)) (onTc (τ := Cert.KernelDxAtIdeal.τ) (Cert.KernelDxAtIdeal.main (F := Ideal))) ⟨m, fun _ => 0, g⟩ (fun r => ∀ c : Dev Cert.KernelDxAtIdeal.nD,
          r.2.mem ((c.tc : Thread Cert.KernelDxAtIdeal.nD Cert.KernelDxAtIdeal.τ).loc Cert.KernelDxAtIdeal.main_v0) = v0 c
          ∧ r.2.mem ((c.tc : Thread Cert.KernelDxAtIdeal.nD Cert.KernelDxAtIdeal.τ).loc Cert.KernelDxAtIdeal.main_arg0) = m ((c.tc : Thread Cert.KernelDxAtIdeal.nD Cert.KernelDxAtIdeal.τ).loc Cert.KernelDxAtIdeal.main_arg0)
          ∧ r.2.mem ((c.tc : Thread Cert.KernelDxAtIdeal.nD Cert.KernelDxAtIdeal.τ).loc Cert.KernelDxAtIdeal.main_arg1) = m ((c.tc : Thread Cert.KernelDxAtIdeal.nD Cert.KernelDxAtIdeal.τ).loc Cert.KernelDxAtIdeal.main_arg1))
      ∧ θ_run (Cert.ReferenceDxAtIdeal.defs (F := Ideal)) (onTc (τ := Cert.ReferenceDxAtIdeal.τ) (Cert.ReferenceDxAtIdeal.main (F := Ideal))) ⟨m', fun _ => 0, g'⟩ (fun r => ∀ c : Dev Cert.ReferenceDxAtIdeal.nD,
          r.2.mem ((c.tc : Thread Cert.ReferenceDxAtIdeal.nD Cert.ReferenceDxAtIdeal.τ).loc Cert.ReferenceDxAtIdeal.main_v6) = v0 c
          ∧ r.2.mem ((c.tc : Thread Cert.ReferenceDxAtIdeal.nD Cert.ReferenceDxAtIdeal.τ).loc Cert.ReferenceDxAtIdeal.main_arg0) = m' ((c.tc : Thread Cert.ReferenceDxAtIdeal.nD Cert.ReferenceDxAtIdeal.τ).loc Cert.ReferenceDxAtIdeal.main_arg0)
          ∧ r.2.mem ((c.tc : Thread Cert.ReferenceDxAtIdeal.nD Cert.ReferenceDxAtIdeal.τ).loc Cert.ReferenceDxAtIdeal.main_arg1) = m' ((c.tc : Thread Cert.ReferenceDxAtIdeal.nD Cert.ReferenceDxAtIdeal.τ).loc Cert.ReferenceDxAtIdeal.main_arg1))

def preserves_KernelYAt_KernelYAtIdeal : Prop :=
  True

def algebraic_KernelYAtIdeal_ReferenceYAtIdeal [hKernelYAtIdeal : Cert.KernelYAtIdeal.Facts] [hReferenceYAtIdeal : Cert.ReferenceYAtIdeal.Facts] : Prop :=
  ∀ (m : (ℓ : Loc Cert.KernelYAtIdeal.nD Cert.KernelYAtIdeal.τ Cert.KernelYAtIdeal.sig) → Buf (Elt Ideal) ℓ) (g : Dev Cert.KernelYAtIdeal.nD → PrngReg)
    (m' : (ℓ : Loc Cert.ReferenceYAtIdeal.nD Cert.ReferenceYAtIdeal.τ Cert.ReferenceYAtIdeal.sig) → Buf (Elt Ideal) ℓ) (g' : Dev Cert.ReferenceYAtIdeal.nD → PrngReg), Pre_KernelYAtIdeal m →
    (∀ c : Dev Cert.KernelYAtIdeal.nD,
      m' ((c.tc : Thread Cert.ReferenceYAtIdeal.nD Cert.ReferenceYAtIdeal.τ).loc Cert.ReferenceYAtIdeal.main_arg0) = m ((c.tc : Thread Cert.KernelYAtIdeal.nD Cert.KernelYAtIdeal.τ).loc Cert.KernelYAtIdeal.main_arg0)
      ∧ m' ((c.tc : Thread Cert.ReferenceYAtIdeal.nD Cert.ReferenceYAtIdeal.τ).loc Cert.ReferenceYAtIdeal.main_arg1) = m ((c.tc : Thread Cert.KernelYAtIdeal.nD Cert.KernelYAtIdeal.τ).loc Cert.KernelYAtIdeal.main_arg1)) →
    ∃ (v0 : (c : Dev Cert.KernelYAtIdeal.nD) → Buf (Elt Ideal) ((c.tc : Thread Cert.KernelYAtIdeal.nD Cert.KernelYAtIdeal.τ).loc Cert.KernelYAtIdeal.main_v0)),
      θ_run (Cert.KernelYAtIdeal.defs (F := Ideal)) (onTc (τ := Cert.KernelYAtIdeal.τ) (Cert.KernelYAtIdeal.main (F := Ideal))) ⟨m, fun _ => 0, g⟩ (fun r => ∀ c : Dev Cert.KernelYAtIdeal.nD,
          r.2.mem ((c.tc : Thread Cert.KernelYAtIdeal.nD Cert.KernelYAtIdeal.τ).loc Cert.KernelYAtIdeal.main_v0) = v0 c
          ∧ r.2.mem ((c.tc : Thread Cert.KernelYAtIdeal.nD Cert.KernelYAtIdeal.τ).loc Cert.KernelYAtIdeal.main_arg0) = m ((c.tc : Thread Cert.KernelYAtIdeal.nD Cert.KernelYAtIdeal.τ).loc Cert.KernelYAtIdeal.main_arg0)
          ∧ r.2.mem ((c.tc : Thread Cert.KernelYAtIdeal.nD Cert.KernelYAtIdeal.τ).loc Cert.KernelYAtIdeal.main_arg1) = m ((c.tc : Thread Cert.KernelYAtIdeal.nD Cert.KernelYAtIdeal.τ).loc Cert.KernelYAtIdeal.main_arg1))
      ∧ θ_run (Cert.ReferenceYAtIdeal.defs (F := Ideal)) (onTc (τ := Cert.ReferenceYAtIdeal.τ) (Cert.ReferenceYAtIdeal.main (F := Ideal))) ⟨m', fun _ => 0, g'⟩ (fun r => ∀ c : Dev Cert.ReferenceYAtIdeal.nD,
          r.2.mem ((c.tc : Thread Cert.ReferenceYAtIdeal.nD Cert.ReferenceYAtIdeal.τ).loc Cert.ReferenceYAtIdeal.main_v4) = v0 c
          ∧ r.2.mem ((c.tc : Thread Cert.ReferenceYAtIdeal.nD Cert.ReferenceYAtIdeal.τ).loc Cert.ReferenceYAtIdeal.main_arg0) = m' ((c.tc : Thread Cert.ReferenceYAtIdeal.nD Cert.ReferenceYAtIdeal.τ).loc Cert.ReferenceYAtIdeal.main_arg0)
          ∧ r.2.mem ((c.tc : Thread Cert.ReferenceYAtIdeal.nD Cert.ReferenceYAtIdeal.τ).loc Cert.ReferenceYAtIdeal.main_arg1) = m' ((c.tc : Thread Cert.ReferenceYAtIdeal.nD Cert.ReferenceYAtIdeal.τ).loc Cert.ReferenceYAtIdeal.main_arg1))

def preserves_KernelDwPle_KernelDwPleIdeal : Prop :=
  True

def algebraic_KernelDwPleIdeal_ReferenceDwPleIdeal [hKernelDwPleIdeal : Cert.KernelDwPleIdeal.Facts] [hReferenceDwPleIdeal : Cert.ReferenceDwPleIdeal.Facts] : Prop :=
  ∀ (m : (ℓ : Loc Cert.KernelDwPleIdeal.nD Cert.KernelDwPleIdeal.τ Cert.KernelDwPleIdeal.sig) → Buf (Elt Ideal) ℓ) (g : Dev Cert.KernelDwPleIdeal.nD → PrngReg)
    (m' : (ℓ : Loc Cert.ReferenceDwPleIdeal.nD Cert.ReferenceDwPleIdeal.τ Cert.ReferenceDwPleIdeal.sig) → Buf (Elt Ideal) ℓ) (g' : Dev Cert.ReferenceDwPleIdeal.nD → PrngReg), Pre_KernelDwPleIdeal m →
    (∀ c : Dev Cert.KernelDwPleIdeal.nD,
      m' ((c.tc : Thread Cert.ReferenceDwPleIdeal.nD Cert.ReferenceDwPleIdeal.τ).loc Cert.ReferenceDwPleIdeal.main_arg0) = m ((c.tc : Thread Cert.KernelDwPleIdeal.nD Cert.KernelDwPleIdeal.τ).loc Cert.KernelDwPleIdeal.main_arg0)
      ∧ m' ((c.tc : Thread Cert.ReferenceDwPleIdeal.nD Cert.ReferenceDwPleIdeal.τ).loc Cert.ReferenceDwPleIdeal.main_arg1) = m ((c.tc : Thread Cert.KernelDwPleIdeal.nD Cert.KernelDwPleIdeal.τ).loc Cert.KernelDwPleIdeal.main_arg1)) →
    ∃ (v0 : (c : Dev Cert.KernelDwPleIdeal.nD) → Buf (Elt Ideal) ((c.tc : Thread Cert.KernelDwPleIdeal.nD Cert.KernelDwPleIdeal.τ).loc Cert.KernelDwPleIdeal.main_v0)),
      θ_run (Cert.KernelDwPleIdeal.defs (F := Ideal)) (onTc (τ := Cert.KernelDwPleIdeal.τ) (Cert.KernelDwPleIdeal.main (F := Ideal))) ⟨m, fun _ => 0, g⟩ (fun r => ∀ c : Dev Cert.KernelDwPleIdeal.nD,
          r.2.mem ((c.tc : Thread Cert.KernelDwPleIdeal.nD Cert.KernelDwPleIdeal.τ).loc Cert.KernelDwPleIdeal.main_v0) = v0 c
          ∧ r.2.mem ((c.tc : Thread Cert.KernelDwPleIdeal.nD Cert.KernelDwPleIdeal.τ).loc Cert.KernelDwPleIdeal.main_arg0) = m ((c.tc : Thread Cert.KernelDwPleIdeal.nD Cert.KernelDwPleIdeal.τ).loc Cert.KernelDwPleIdeal.main_arg0)
          ∧ r.2.mem ((c.tc : Thread Cert.KernelDwPleIdeal.nD Cert.KernelDwPleIdeal.τ).loc Cert.KernelDwPleIdeal.main_arg1) = m ((c.tc : Thread Cert.KernelDwPleIdeal.nD Cert.KernelDwPleIdeal.τ).loc Cert.KernelDwPleIdeal.main_arg1))
      ∧ θ_run (Cert.ReferenceDwPleIdeal.defs (F := Ideal)) (onTc (τ := Cert.ReferenceDwPleIdeal.τ) (Cert.ReferenceDwPleIdeal.main (F := Ideal))) ⟨m', fun _ => 0, g'⟩ (fun r => ∀ c : Dev Cert.ReferenceDwPleIdeal.nD,
          r.2.mem ((c.tc : Thread Cert.ReferenceDwPleIdeal.nD Cert.ReferenceDwPleIdeal.τ).loc Cert.ReferenceDwPleIdeal.main_v8) = v0 c
          ∧ r.2.mem ((c.tc : Thread Cert.ReferenceDwPleIdeal.nD Cert.ReferenceDwPleIdeal.τ).loc Cert.ReferenceDwPleIdeal.main_arg0) = m' ((c.tc : Thread Cert.ReferenceDwPleIdeal.nD Cert.ReferenceDwPleIdeal.τ).loc Cert.ReferenceDwPleIdeal.main_arg0)
          ∧ r.2.mem ((c.tc : Thread Cert.ReferenceDwPleIdeal.nD Cert.ReferenceDwPleIdeal.τ).loc Cert.ReferenceDwPleIdeal.main_arg1) = m' ((c.tc : Thread Cert.ReferenceDwPleIdeal.nD Cert.ReferenceDwPleIdeal.τ).loc Cert.ReferenceDwPleIdeal.main_arg1))

def preserves_KernelYPle_KernelYPleIdeal : Prop :=
  True

def algebraic_KernelYPleIdeal_ReferenceYPleIdeal [hKernelYPleIdeal : Cert.KernelYPleIdeal.Facts] [hReferenceYPleIdeal : Cert.ReferenceYPleIdeal.Facts] : Prop :=
  ∀ (m : (ℓ : Loc Cert.KernelYPleIdeal.nD Cert.KernelYPleIdeal.τ Cert.KernelYPleIdeal.sig) → Buf (Elt Ideal) ℓ) (g : Dev Cert.KernelYPleIdeal.nD → PrngReg)
    (m' : (ℓ : Loc Cert.ReferenceYPleIdeal.nD Cert.ReferenceYPleIdeal.τ Cert.ReferenceYPleIdeal.sig) → Buf (Elt Ideal) ℓ) (g' : Dev Cert.ReferenceYPleIdeal.nD → PrngReg), Pre_KernelYPleIdeal m →
    (∀ c : Dev Cert.KernelYPleIdeal.nD,
      m' ((c.tc : Thread Cert.ReferenceYPleIdeal.nD Cert.ReferenceYPleIdeal.τ).loc Cert.ReferenceYPleIdeal.main_arg0) = m ((c.tc : Thread Cert.KernelYPleIdeal.nD Cert.KernelYPleIdeal.τ).loc Cert.KernelYPleIdeal.main_arg0)
      ∧ m' ((c.tc : Thread Cert.ReferenceYPleIdeal.nD Cert.ReferenceYPleIdeal.τ).loc Cert.ReferenceYPleIdeal.main_arg1) = m ((c.tc : Thread Cert.KernelYPleIdeal.nD Cert.KernelYPleIdeal.τ).loc Cert.KernelYPleIdeal.main_arg1)) →
    ∃ (v0 : (c : Dev Cert.KernelYPleIdeal.nD) → Buf (Elt Ideal) ((c.tc : Thread Cert.KernelYPleIdeal.nD Cert.KernelYPleIdeal.τ).loc Cert.KernelYPleIdeal.main_v0)),
      θ_run (Cert.KernelYPleIdeal.defs (F := Ideal)) (onTc (τ := Cert.KernelYPleIdeal.τ) (Cert.KernelYPleIdeal.main (F := Ideal))) ⟨m, fun _ => 0, g⟩ (fun r => ∀ c : Dev Cert.KernelYPleIdeal.nD,
          r.2.mem ((c.tc : Thread Cert.KernelYPleIdeal.nD Cert.KernelYPleIdeal.τ).loc Cert.KernelYPleIdeal.main_v0) = v0 c
          ∧ r.2.mem ((c.tc : Thread Cert.KernelYPleIdeal.nD Cert.KernelYPleIdeal.τ).loc Cert.KernelYPleIdeal.main_arg0) = m ((c.tc : Thread Cert.KernelYPleIdeal.nD Cert.KernelYPleIdeal.τ).loc Cert.KernelYPleIdeal.main_arg0)
          ∧ r.2.mem ((c.tc : Thread Cert.KernelYPleIdeal.nD Cert.KernelYPleIdeal.τ).loc Cert.KernelYPleIdeal.main_arg1) = m ((c.tc : Thread Cert.KernelYPleIdeal.nD Cert.KernelYPleIdeal.τ).loc Cert.KernelYPleIdeal.main_arg1))
      ∧ θ_run (Cert.ReferenceYPleIdeal.defs (F := Ideal)) (onTc (τ := Cert.ReferenceYPleIdeal.τ) (Cert.ReferenceYPleIdeal.main (F := Ideal))) ⟨m', fun _ => 0, g'⟩ (fun r => ∀ c : Dev Cert.ReferenceYPleIdeal.nD,
          r.2.mem ((c.tc : Thread Cert.ReferenceYPleIdeal.nD Cert.ReferenceYPleIdeal.τ).loc Cert.ReferenceYPleIdeal.main_v4) = v0 c
          ∧ r.2.mem ((c.tc : Thread Cert.ReferenceYPleIdeal.nD Cert.ReferenceYPleIdeal.τ).loc Cert.ReferenceYPleIdeal.main_arg0) = m' ((c.tc : Thread Cert.ReferenceYPleIdeal.nD Cert.ReferenceYPleIdeal.τ).loc Cert.ReferenceYPleIdeal.main_arg0)
          ∧ r.2.mem ((c.tc : Thread Cert.ReferenceYPleIdeal.nD Cert.ReferenceYPleIdeal.τ).loc Cert.ReferenceYPleIdeal.main_arg1) = m' ((c.tc : Thread Cert.ReferenceYPleIdeal.nD Cert.ReferenceYPleIdeal.τ).loc Cert.ReferenceYPleIdeal.main_arg1))

def preserves_KernelAdIn_KernelAdInIdeal : Prop :=
  True

def algebraic_KernelAdInIdeal_ReferenceAdInIdeal [hKernelAdInIdeal : Cert.KernelAdInIdeal.Facts] [hReferenceAdInIdeal : Cert.ReferenceAdInIdeal.Facts] : Prop :=
  ∀ (m : (ℓ : Loc Cert.KernelAdInIdeal.nD Cert.KernelAdInIdeal.τ Cert.KernelAdInIdeal.sig) → Buf (Elt Ideal) ℓ) (g : Dev Cert.KernelAdInIdeal.nD → PrngReg)
    (m' : (ℓ : Loc Cert.ReferenceAdInIdeal.nD Cert.ReferenceAdInIdeal.τ Cert.ReferenceAdInIdeal.sig) → Buf (Elt Ideal) ℓ) (g' : Dev Cert.ReferenceAdInIdeal.nD → PrngReg), Pre_KernelAdInIdeal m →
    (∀ c : Dev Cert.KernelAdInIdeal.nD,
      m' ((c.tc : Thread Cert.ReferenceAdInIdeal.nD Cert.ReferenceAdInIdeal.τ).loc Cert.ReferenceAdInIdeal.main_arg0) = m ((c.tc : Thread Cert.KernelAdInIdeal.nD Cert.KernelAdInIdeal.τ).loc Cert.KernelAdInIdeal.main_arg0)
      ∧ m' ((c.tc : Thread Cert.ReferenceAdInIdeal.nD Cert.ReferenceAdInIdeal.τ).loc Cert.ReferenceAdInIdeal.main_arg1) = m ((c.tc : Thread Cert.KernelAdInIdeal.nD Cert.KernelAdInIdeal.τ).loc Cert.KernelAdInIdeal.main_arg1)
      ∧ m' ((c.tc : Thread Cert.ReferenceAdInIdeal.nD Cert.ReferenceAdInIdeal.τ).loc Cert.ReferenceAdInIdeal.main_arg2) = m ((c.tc : Thread Cert.KernelAdInIdeal.nD Cert.KernelAdInIdeal.τ).loc Cert.KernelAdInIdeal.main_arg2)
      ∧ m' ((c.tc : Thread Cert.ReferenceAdInIdeal.nD Cert.ReferenceAdInIdeal.τ).loc Cert.ReferenceAdInIdeal.main_arg3) = m ((c.tc : Thread Cert.KernelAdInIdeal.nD Cert.KernelAdInIdeal.τ).loc Cert.KernelAdInIdeal.main_arg3)) →
    ∃ (v0 : (c : Dev Cert.KernelAdInIdeal.nD) → Buf (Elt Ideal) ((c.tc : Thread Cert.KernelAdInIdeal.nD Cert.KernelAdInIdeal.τ).loc Cert.KernelAdInIdeal.main_v0_0)) (v1 : (c : Dev Cert.KernelAdInIdeal.nD) → Buf (Elt Ideal) ((c.tc : Thread Cert.KernelAdInIdeal.nD Cert.KernelAdInIdeal.τ).loc Cert.KernelAdInIdeal.main_v0_1)) (v2 : (c : Dev Cert.KernelAdInIdeal.nD) → Buf (Elt Ideal) ((c.tc : Thread Cert.KernelAdInIdeal.nD Cert.KernelAdInIdeal.τ).loc Cert.KernelAdInIdeal.main_v0_2)) (v3 : (c : Dev Cert.KernelAdInIdeal.nD) → Buf (Elt Ideal) ((c.tc : Thread Cert.KernelAdInIdeal.nD Cert.KernelAdInIdeal.τ).loc Cert.KernelAdInIdeal.main_v0_3)),
      θ_run (Cert.KernelAdInIdeal.defs (F := Ideal)) (onTc (τ := Cert.KernelAdInIdeal.τ) (Cert.KernelAdInIdeal.main (F := Ideal))) ⟨m, fun _ => 0, g⟩ (fun r => ∀ c : Dev Cert.KernelAdInIdeal.nD,
          r.2.mem ((c.tc : Thread Cert.KernelAdInIdeal.nD Cert.KernelAdInIdeal.τ).loc Cert.KernelAdInIdeal.main_v0_0) = v0 c
          ∧ r.2.mem ((c.tc : Thread Cert.KernelAdInIdeal.nD Cert.KernelAdInIdeal.τ).loc Cert.KernelAdInIdeal.main_v0_1) = v1 c
          ∧ r.2.mem ((c.tc : Thread Cert.KernelAdInIdeal.nD Cert.KernelAdInIdeal.τ).loc Cert.KernelAdInIdeal.main_v0_2) = v2 c
          ∧ r.2.mem ((c.tc : Thread Cert.KernelAdInIdeal.nD Cert.KernelAdInIdeal.τ).loc Cert.KernelAdInIdeal.main_v0_3) = v3 c
          ∧ r.2.mem ((c.tc : Thread Cert.KernelAdInIdeal.nD Cert.KernelAdInIdeal.τ).loc Cert.KernelAdInIdeal.main_arg0) = m ((c.tc : Thread Cert.KernelAdInIdeal.nD Cert.KernelAdInIdeal.τ).loc Cert.KernelAdInIdeal.main_arg0)
          ∧ r.2.mem ((c.tc : Thread Cert.KernelAdInIdeal.nD Cert.KernelAdInIdeal.τ).loc Cert.KernelAdInIdeal.main_arg1) = m ((c.tc : Thread Cert.KernelAdInIdeal.nD Cert.KernelAdInIdeal.τ).loc Cert.KernelAdInIdeal.main_arg1)
          ∧ r.2.mem ((c.tc : Thread Cert.KernelAdInIdeal.nD Cert.KernelAdInIdeal.τ).loc Cert.KernelAdInIdeal.main_arg2) = m ((c.tc : Thread Cert.KernelAdInIdeal.nD Cert.KernelAdInIdeal.τ).loc Cert.KernelAdInIdeal.main_arg2)
          ∧ r.2.mem ((c.tc : Thread Cert.KernelAdInIdeal.nD Cert.KernelAdInIdeal.τ).loc Cert.KernelAdInIdeal.main_arg3) = m ((c.tc : Thread Cert.KernelAdInIdeal.nD Cert.KernelAdInIdeal.τ).loc Cert.KernelAdInIdeal.main_arg3))
      ∧ θ_run (Cert.ReferenceAdInIdeal.defs (F := Ideal)) (onTc (τ := Cert.ReferenceAdInIdeal.τ) (Cert.ReferenceAdInIdeal.main (F := Ideal))) ⟨m', fun _ => 0, g'⟩ (fun r => ∀ c : Dev Cert.ReferenceAdInIdeal.nD,
          r.2.mem ((c.tc : Thread Cert.ReferenceAdInIdeal.nD Cert.ReferenceAdInIdeal.τ).loc Cert.ReferenceAdInIdeal.main_v2) = v0 c
          ∧ r.2.mem ((c.tc : Thread Cert.ReferenceAdInIdeal.nD Cert.ReferenceAdInIdeal.τ).loc Cert.ReferenceAdInIdeal.main_v26) = v1 c
          ∧ r.2.mem ((c.tc : Thread Cert.ReferenceAdInIdeal.nD Cert.ReferenceAdInIdeal.τ).loc Cert.ReferenceAdInIdeal.main_v7) = v2 c
          ∧ r.2.mem ((c.tc : Thread Cert.ReferenceAdInIdeal.nD Cert.ReferenceAdInIdeal.τ).loc Cert.ReferenceAdInIdeal.main_v13) = v3 c
          ∧ r.2.mem ((c.tc : Thread Cert.ReferenceAdInIdeal.nD Cert.ReferenceAdInIdeal.τ).loc Cert.ReferenceAdInIdeal.main_arg0) = m' ((c.tc : Thread Cert.ReferenceAdInIdeal.nD Cert.ReferenceAdInIdeal.τ).loc Cert.ReferenceAdInIdeal.main_arg0)
          ∧ r.2.mem ((c.tc : Thread Cert.ReferenceAdInIdeal.nD Cert.ReferenceAdInIdeal.τ).loc Cert.ReferenceAdInIdeal.main_arg1) = m' ((c.tc : Thread Cert.ReferenceAdInIdeal.nD Cert.ReferenceAdInIdeal.τ).loc Cert.ReferenceAdInIdeal.main_arg1)
          ∧ r.2.mem ((c.tc : Thread Cert.ReferenceAdInIdeal.nD Cert.ReferenceAdInIdeal.τ).loc Cert.ReferenceAdInIdeal.main_arg2) = m' ((c.tc : Thread Cert.ReferenceAdInIdeal.nD Cert.ReferenceAdInIdeal.τ).loc Cert.ReferenceAdInIdeal.main_arg2)
          ∧ r.2.mem ((c.tc : Thread Cert.ReferenceAdInIdeal.nD Cert.ReferenceAdInIdeal.τ).loc Cert.ReferenceAdInIdeal.main_arg3) = m' ((c.tc : Thread Cert.ReferenceAdInIdeal.nD Cert.ReferenceAdInIdeal.τ).loc Cert.ReferenceAdInIdeal.main_arg3))

def preserves_KernelAdMlpIn_KernelAdMlpInIdeal : Prop :=
  True

def algebraic_KernelAdMlpInIdeal_ReferenceAdMlpInIdeal [hKernelAdMlpInIdeal : Cert.KernelAdMlpInIdeal.Facts] [hReferenceAdMlpInIdeal : Cert.ReferenceAdMlpInIdeal.Facts] : Prop :=
  ∀ (m : (ℓ : Loc Cert.KernelAdMlpInIdeal.nD Cert.KernelAdMlpInIdeal.τ Cert.KernelAdMlpInIdeal.sig) → Buf (Elt Ideal) ℓ) (g : Dev Cert.KernelAdMlpInIdeal.nD → PrngReg)
    (m' : (ℓ : Loc Cert.ReferenceAdMlpInIdeal.nD Cert.ReferenceAdMlpInIdeal.τ Cert.ReferenceAdMlpInIdeal.sig) → Buf (Elt Ideal) ℓ) (g' : Dev Cert.ReferenceAdMlpInIdeal.nD → PrngReg), Pre_KernelAdMlpInIdeal m →
    (∀ c : Dev Cert.KernelAdMlpInIdeal.nD,
      m' ((c.tc : Thread Cert.ReferenceAdMlpInIdeal.nD Cert.ReferenceAdMlpInIdeal.τ).loc Cert.ReferenceAdMlpInIdeal.main_arg0) = m ((c.tc : Thread Cert.KernelAdMlpInIdeal.nD Cert.KernelAdMlpInIdeal.τ).loc Cert.KernelAdMlpInIdeal.main_arg0)
      ∧ m' ((c.tc : Thread Cert.ReferenceAdMlpInIdeal.nD Cert.ReferenceAdMlpInIdeal.τ).loc Cert.ReferenceAdMlpInIdeal.main_arg1) = m ((c.tc : Thread Cert.KernelAdMlpInIdeal.nD Cert.KernelAdMlpInIdeal.τ).loc Cert.KernelAdMlpInIdeal.main_arg1)
      ∧ m' ((c.tc : Thread Cert.ReferenceAdMlpInIdeal.nD Cert.ReferenceAdMlpInIdeal.τ).loc Cert.ReferenceAdMlpInIdeal.main_arg2) = m ((c.tc : Thread Cert.KernelAdMlpInIdeal.nD Cert.KernelAdMlpInIdeal.τ).loc Cert.KernelAdMlpInIdeal.main_arg2)
      ∧ m' ((c.tc : Thread Cert.ReferenceAdMlpInIdeal.nD Cert.ReferenceAdMlpInIdeal.τ).loc Cert.ReferenceAdMlpInIdeal.main_arg3) = m ((c.tc : Thread Cert.KernelAdMlpInIdeal.nD Cert.KernelAdMlpInIdeal.τ).loc Cert.KernelAdMlpInIdeal.main_arg3)) →
    ∃ (v0 : (c : Dev Cert.KernelAdMlpInIdeal.nD) → Buf (Elt Ideal) ((c.tc : Thread Cert.KernelAdMlpInIdeal.nD Cert.KernelAdMlpInIdeal.τ).loc Cert.KernelAdMlpInIdeal.main_v0_0)) (v1 : (c : Dev Cert.KernelAdMlpInIdeal.nD) → Buf (Elt Ideal) ((c.tc : Thread Cert.KernelAdMlpInIdeal.nD Cert.KernelAdMlpInIdeal.τ).loc Cert.KernelAdMlpInIdeal.main_v0_1)) (v2 : (c : Dev Cert.KernelAdMlpInIdeal.nD) → Buf (Elt Ideal) ((c.tc : Thread Cert.KernelAdMlpInIdeal.nD Cert.KernelAdMlpInIdeal.τ).loc Cert.KernelAdMlpInIdeal.main_v0_2)) (v3 : (c : Dev Cert.KernelAdMlpInIdeal.nD) → Buf (Elt Ideal) ((c.tc : Thread Cert.KernelAdMlpInIdeal.nD Cert.KernelAdMlpInIdeal.τ).loc Cert.KernelAdMlpInIdeal.main_v0_3)),
      θ_run (Cert.KernelAdMlpInIdeal.defs (F := Ideal)) (onTc (τ := Cert.KernelAdMlpInIdeal.τ) (Cert.KernelAdMlpInIdeal.main (F := Ideal))) ⟨m, fun _ => 0, g⟩ (fun r => ∀ c : Dev Cert.KernelAdMlpInIdeal.nD,
          r.2.mem ((c.tc : Thread Cert.KernelAdMlpInIdeal.nD Cert.KernelAdMlpInIdeal.τ).loc Cert.KernelAdMlpInIdeal.main_v0_0) = v0 c
          ∧ r.2.mem ((c.tc : Thread Cert.KernelAdMlpInIdeal.nD Cert.KernelAdMlpInIdeal.τ).loc Cert.KernelAdMlpInIdeal.main_v0_1) = v1 c
          ∧ r.2.mem ((c.tc : Thread Cert.KernelAdMlpInIdeal.nD Cert.KernelAdMlpInIdeal.τ).loc Cert.KernelAdMlpInIdeal.main_v0_2) = v2 c
          ∧ r.2.mem ((c.tc : Thread Cert.KernelAdMlpInIdeal.nD Cert.KernelAdMlpInIdeal.τ).loc Cert.KernelAdMlpInIdeal.main_v0_3) = v3 c
          ∧ r.2.mem ((c.tc : Thread Cert.KernelAdMlpInIdeal.nD Cert.KernelAdMlpInIdeal.τ).loc Cert.KernelAdMlpInIdeal.main_arg0) = m ((c.tc : Thread Cert.KernelAdMlpInIdeal.nD Cert.KernelAdMlpInIdeal.τ).loc Cert.KernelAdMlpInIdeal.main_arg0)
          ∧ r.2.mem ((c.tc : Thread Cert.KernelAdMlpInIdeal.nD Cert.KernelAdMlpInIdeal.τ).loc Cert.KernelAdMlpInIdeal.main_arg1) = m ((c.tc : Thread Cert.KernelAdMlpInIdeal.nD Cert.KernelAdMlpInIdeal.τ).loc Cert.KernelAdMlpInIdeal.main_arg1)
          ∧ r.2.mem ((c.tc : Thread Cert.KernelAdMlpInIdeal.nD Cert.KernelAdMlpInIdeal.τ).loc Cert.KernelAdMlpInIdeal.main_arg2) = m ((c.tc : Thread Cert.KernelAdMlpInIdeal.nD Cert.KernelAdMlpInIdeal.τ).loc Cert.KernelAdMlpInIdeal.main_arg2)
          ∧ r.2.mem ((c.tc : Thread Cert.KernelAdMlpInIdeal.nD Cert.KernelAdMlpInIdeal.τ).loc Cert.KernelAdMlpInIdeal.main_arg3) = m ((c.tc : Thread Cert.KernelAdMlpInIdeal.nD Cert.KernelAdMlpInIdeal.τ).loc Cert.KernelAdMlpInIdeal.main_arg3))
      ∧ θ_run (Cert.ReferenceAdMlpInIdeal.defs (F := Ideal)) (onTc (τ := Cert.ReferenceAdMlpInIdeal.τ) (Cert.ReferenceAdMlpInIdeal.main (F := Ideal))) ⟨m', fun _ => 0, g'⟩ (fun r => ∀ c : Dev Cert.ReferenceAdMlpInIdeal.nD,
          r.2.mem ((c.tc : Thread Cert.ReferenceAdMlpInIdeal.nD Cert.ReferenceAdMlpInIdeal.τ).loc Cert.ReferenceAdMlpInIdeal.main_v2) = v0 c
          ∧ r.2.mem ((c.tc : Thread Cert.ReferenceAdMlpInIdeal.nD Cert.ReferenceAdMlpInIdeal.τ).loc Cert.ReferenceAdMlpInIdeal.main_v26) = v1 c
          ∧ r.2.mem ((c.tc : Thread Cert.ReferenceAdMlpInIdeal.nD Cert.ReferenceAdMlpInIdeal.τ).loc Cert.ReferenceAdMlpInIdeal.main_v7) = v2 c
          ∧ r.2.mem ((c.tc : Thread Cert.ReferenceAdMlpInIdeal.nD Cert.ReferenceAdMlpInIdeal.τ).loc Cert.ReferenceAdMlpInIdeal.main_v13) = v3 c
          ∧ r.2.mem ((c.tc : Thread Cert.ReferenceAdMlpInIdeal.nD Cert.ReferenceAdMlpInIdeal.τ).loc Cert.ReferenceAdMlpInIdeal.main_arg0) = m' ((c.tc : Thread Cert.ReferenceAdMlpInIdeal.nD Cert.ReferenceAdMlpInIdeal.τ).loc Cert.ReferenceAdMlpInIdeal.main_arg0)
          ∧ r.2.mem ((c.tc : Thread Cert.ReferenceAdMlpInIdeal.nD Cert.ReferenceAdMlpInIdeal.τ).loc Cert.ReferenceAdMlpInIdeal.main_arg1) = m' ((c.tc : Thread Cert.ReferenceAdMlpInIdeal.nD Cert.ReferenceAdMlpInIdeal.τ).loc Cert.ReferenceAdMlpInIdeal.main_arg1)
          ∧ r.2.mem ((c.tc : Thread Cert.ReferenceAdMlpInIdeal.nD Cert.ReferenceAdMlpInIdeal.τ).loc Cert.ReferenceAdMlpInIdeal.main_arg2) = m' ((c.tc : Thread Cert.ReferenceAdMlpInIdeal.nD Cert.ReferenceAdMlpInIdeal.τ).loc Cert.ReferenceAdMlpInIdeal.main_arg2)
          ∧ r.2.mem ((c.tc : Thread Cert.ReferenceAdMlpInIdeal.nD Cert.ReferenceAdMlpInIdeal.τ).loc Cert.ReferenceAdMlpInIdeal.main_arg3) = m' ((c.tc : Thread Cert.ReferenceAdMlpInIdeal.nD Cert.ReferenceAdMlpInIdeal.τ).loc Cert.ReferenceAdMlpInIdeal.main_arg3))

def preserves_KernelAdMlpOut_KernelAdMlpOutIdeal : Prop :=
  True

def algebraic_KernelAdMlpOutIdeal_ReferenceAdMlpOutIdeal [hKernelAdMlpOutIdeal : Cert.KernelAdMlpOutIdeal.Facts] [hReferenceAdMlpOutIdeal : Cert.ReferenceAdMlpOutIdeal.Facts] : Prop :=
  ∀ (m : (ℓ : Loc Cert.KernelAdMlpOutIdeal.nD Cert.KernelAdMlpOutIdeal.τ Cert.KernelAdMlpOutIdeal.sig) → Buf (Elt Ideal) ℓ) (g : Dev Cert.KernelAdMlpOutIdeal.nD → PrngReg)
    (m' : (ℓ : Loc Cert.ReferenceAdMlpOutIdeal.nD Cert.ReferenceAdMlpOutIdeal.τ Cert.ReferenceAdMlpOutIdeal.sig) → Buf (Elt Ideal) ℓ) (g' : Dev Cert.ReferenceAdMlpOutIdeal.nD → PrngReg), Pre_KernelAdMlpOutIdeal m →
    (∀ c : Dev Cert.KernelAdMlpOutIdeal.nD,
      m' ((c.tc : Thread Cert.ReferenceAdMlpOutIdeal.nD Cert.ReferenceAdMlpOutIdeal.τ).loc Cert.ReferenceAdMlpOutIdeal.main_arg0) = m ((c.tc : Thread Cert.KernelAdMlpOutIdeal.nD Cert.KernelAdMlpOutIdeal.τ).loc Cert.KernelAdMlpOutIdeal.main_arg0)
      ∧ m' ((c.tc : Thread Cert.ReferenceAdMlpOutIdeal.nD Cert.ReferenceAdMlpOutIdeal.τ).loc Cert.ReferenceAdMlpOutIdeal.main_arg1) = m ((c.tc : Thread Cert.KernelAdMlpOutIdeal.nD Cert.KernelAdMlpOutIdeal.τ).loc Cert.KernelAdMlpOutIdeal.main_arg1)
      ∧ m' ((c.tc : Thread Cert.ReferenceAdMlpOutIdeal.nD Cert.ReferenceAdMlpOutIdeal.τ).loc Cert.ReferenceAdMlpOutIdeal.main_arg2) = m ((c.tc : Thread Cert.KernelAdMlpOutIdeal.nD Cert.KernelAdMlpOutIdeal.τ).loc Cert.KernelAdMlpOutIdeal.main_arg2)
      ∧ m' ((c.tc : Thread Cert.ReferenceAdMlpOutIdeal.nD Cert.ReferenceAdMlpOutIdeal.τ).loc Cert.ReferenceAdMlpOutIdeal.main_arg3) = m ((c.tc : Thread Cert.KernelAdMlpOutIdeal.nD Cert.KernelAdMlpOutIdeal.τ).loc Cert.KernelAdMlpOutIdeal.main_arg3)) →
    ∃ (v0 : (c : Dev Cert.KernelAdMlpOutIdeal.nD) → Buf (Elt Ideal) ((c.tc : Thread Cert.KernelAdMlpOutIdeal.nD Cert.KernelAdMlpOutIdeal.τ).loc Cert.KernelAdMlpOutIdeal.main_v0_0)) (v1 : (c : Dev Cert.KernelAdMlpOutIdeal.nD) → Buf (Elt Ideal) ((c.tc : Thread Cert.KernelAdMlpOutIdeal.nD Cert.KernelAdMlpOutIdeal.τ).loc Cert.KernelAdMlpOutIdeal.main_v0_1)) (v2 : (c : Dev Cert.KernelAdMlpOutIdeal.nD) → Buf (Elt Ideal) ((c.tc : Thread Cert.KernelAdMlpOutIdeal.nD Cert.KernelAdMlpOutIdeal.τ).loc Cert.KernelAdMlpOutIdeal.main_v0_2)) (v3 : (c : Dev Cert.KernelAdMlpOutIdeal.nD) → Buf (Elt Ideal) ((c.tc : Thread Cert.KernelAdMlpOutIdeal.nD Cert.KernelAdMlpOutIdeal.τ).loc Cert.KernelAdMlpOutIdeal.main_v0_3)),
      θ_run (Cert.KernelAdMlpOutIdeal.defs (F := Ideal)) (onTc (τ := Cert.KernelAdMlpOutIdeal.τ) (Cert.KernelAdMlpOutIdeal.main (F := Ideal))) ⟨m, fun _ => 0, g⟩ (fun r => ∀ c : Dev Cert.KernelAdMlpOutIdeal.nD,
          r.2.mem ((c.tc : Thread Cert.KernelAdMlpOutIdeal.nD Cert.KernelAdMlpOutIdeal.τ).loc Cert.KernelAdMlpOutIdeal.main_v0_0) = v0 c
          ∧ r.2.mem ((c.tc : Thread Cert.KernelAdMlpOutIdeal.nD Cert.KernelAdMlpOutIdeal.τ).loc Cert.KernelAdMlpOutIdeal.main_v0_1) = v1 c
          ∧ r.2.mem ((c.tc : Thread Cert.KernelAdMlpOutIdeal.nD Cert.KernelAdMlpOutIdeal.τ).loc Cert.KernelAdMlpOutIdeal.main_v0_2) = v2 c
          ∧ r.2.mem ((c.tc : Thread Cert.KernelAdMlpOutIdeal.nD Cert.KernelAdMlpOutIdeal.τ).loc Cert.KernelAdMlpOutIdeal.main_v0_3) = v3 c
          ∧ r.2.mem ((c.tc : Thread Cert.KernelAdMlpOutIdeal.nD Cert.KernelAdMlpOutIdeal.τ).loc Cert.KernelAdMlpOutIdeal.main_arg0) = m ((c.tc : Thread Cert.KernelAdMlpOutIdeal.nD Cert.KernelAdMlpOutIdeal.τ).loc Cert.KernelAdMlpOutIdeal.main_arg0)
          ∧ r.2.mem ((c.tc : Thread Cert.KernelAdMlpOutIdeal.nD Cert.KernelAdMlpOutIdeal.τ).loc Cert.KernelAdMlpOutIdeal.main_arg1) = m ((c.tc : Thread Cert.KernelAdMlpOutIdeal.nD Cert.KernelAdMlpOutIdeal.τ).loc Cert.KernelAdMlpOutIdeal.main_arg1)
          ∧ r.2.mem ((c.tc : Thread Cert.KernelAdMlpOutIdeal.nD Cert.KernelAdMlpOutIdeal.τ).loc Cert.KernelAdMlpOutIdeal.main_arg2) = m ((c.tc : Thread Cert.KernelAdMlpOutIdeal.nD Cert.KernelAdMlpOutIdeal.τ).loc Cert.KernelAdMlpOutIdeal.main_arg2)
          ∧ r.2.mem ((c.tc : Thread Cert.KernelAdMlpOutIdeal.nD Cert.KernelAdMlpOutIdeal.τ).loc Cert.KernelAdMlpOutIdeal.main_arg3) = m ((c.tc : Thread Cert.KernelAdMlpOutIdeal.nD Cert.KernelAdMlpOutIdeal.τ).loc Cert.KernelAdMlpOutIdeal.main_arg3))
      ∧ θ_run (Cert.ReferenceAdMlpOutIdeal.defs (F := Ideal)) (onTc (τ := Cert.ReferenceAdMlpOutIdeal.τ) (Cert.ReferenceAdMlpOutIdeal.main (F := Ideal))) ⟨m', fun _ => 0, g'⟩ (fun r => ∀ c : Dev Cert.ReferenceAdMlpOutIdeal.nD,
          r.2.mem ((c.tc : Thread Cert.ReferenceAdMlpOutIdeal.nD Cert.ReferenceAdMlpOutIdeal.τ).loc Cert.ReferenceAdMlpOutIdeal.main_v2) = v0 c
          ∧ r.2.mem ((c.tc : Thread Cert.ReferenceAdMlpOutIdeal.nD Cert.ReferenceAdMlpOutIdeal.τ).loc Cert.ReferenceAdMlpOutIdeal.main_v26) = v1 c
          ∧ r.2.mem ((c.tc : Thread Cert.ReferenceAdMlpOutIdeal.nD Cert.ReferenceAdMlpOutIdeal.τ).loc Cert.ReferenceAdMlpOutIdeal.main_v7) = v2 c
          ∧ r.2.mem ((c.tc : Thread Cert.ReferenceAdMlpOutIdeal.nD Cert.ReferenceAdMlpOutIdeal.τ).loc Cert.ReferenceAdMlpOutIdeal.main_v13) = v3 c
          ∧ r.2.mem ((c.tc : Thread Cert.ReferenceAdMlpOutIdeal.nD Cert.ReferenceAdMlpOutIdeal.τ).loc Cert.ReferenceAdMlpOutIdeal.main_arg0) = m' ((c.tc : Thread Cert.ReferenceAdMlpOutIdeal.nD Cert.ReferenceAdMlpOutIdeal.τ).loc Cert.ReferenceAdMlpOutIdeal.main_arg0)
          ∧ r.2.mem ((c.tc : Thread Cert.ReferenceAdMlpOutIdeal.nD Cert.ReferenceAdMlpOutIdeal.τ).loc Cert.ReferenceAdMlpOutIdeal.main_arg1) = m' ((c.tc : Thread Cert.ReferenceAdMlpOutIdeal.nD Cert.ReferenceAdMlpOutIdeal.τ).loc Cert.ReferenceAdMlpOutIdeal.main_arg1)
          ∧ r.2.mem ((c.tc : Thread Cert.ReferenceAdMlpOutIdeal.nD Cert.ReferenceAdMlpOutIdeal.τ).loc Cert.ReferenceAdMlpOutIdeal.main_arg2) = m' ((c.tc : Thread Cert.ReferenceAdMlpOutIdeal.nD Cert.ReferenceAdMlpOutIdeal.τ).loc Cert.ReferenceAdMlpOutIdeal.main_arg2)
          ∧ r.2.mem ((c.tc : Thread Cert.ReferenceAdMlpOutIdeal.nD Cert.ReferenceAdMlpOutIdeal.τ).loc Cert.ReferenceAdMlpOutIdeal.main_arg3) = m' ((c.tc : Thread Cert.ReferenceAdMlpOutIdeal.nD Cert.ReferenceAdMlpOutIdeal.τ).loc Cert.ReferenceAdMlpOutIdeal.main_arg3))

def preserves_KernelAdOut_KernelAdOutIdeal : Prop :=
  True

def algebraic_KernelAdOutIdeal_ReferenceAdOutIdeal [hKernelAdOutIdeal : Cert.KernelAdOutIdeal.Facts] [hReferenceAdOutIdeal : Cert.ReferenceAdOutIdeal.Facts] : Prop :=
  ∀ (m : (ℓ : Loc Cert.KernelAdOutIdeal.nD Cert.KernelAdOutIdeal.τ Cert.KernelAdOutIdeal.sig) → Buf (Elt Ideal) ℓ) (g : Dev Cert.KernelAdOutIdeal.nD → PrngReg)
    (m' : (ℓ : Loc Cert.ReferenceAdOutIdeal.nD Cert.ReferenceAdOutIdeal.τ Cert.ReferenceAdOutIdeal.sig) → Buf (Elt Ideal) ℓ) (g' : Dev Cert.ReferenceAdOutIdeal.nD → PrngReg), Pre_KernelAdOutIdeal m →
    (∀ c : Dev Cert.KernelAdOutIdeal.nD,
      m' ((c.tc : Thread Cert.ReferenceAdOutIdeal.nD Cert.ReferenceAdOutIdeal.τ).loc Cert.ReferenceAdOutIdeal.main_arg0) = m ((c.tc : Thread Cert.KernelAdOutIdeal.nD Cert.KernelAdOutIdeal.τ).loc Cert.KernelAdOutIdeal.main_arg0)
      ∧ m' ((c.tc : Thread Cert.ReferenceAdOutIdeal.nD Cert.ReferenceAdOutIdeal.τ).loc Cert.ReferenceAdOutIdeal.main_arg1) = m ((c.tc : Thread Cert.KernelAdOutIdeal.nD Cert.KernelAdOutIdeal.τ).loc Cert.KernelAdOutIdeal.main_arg1)
      ∧ m' ((c.tc : Thread Cert.ReferenceAdOutIdeal.nD Cert.ReferenceAdOutIdeal.τ).loc Cert.ReferenceAdOutIdeal.main_arg2) = m ((c.tc : Thread Cert.KernelAdOutIdeal.nD Cert.KernelAdOutIdeal.τ).loc Cert.KernelAdOutIdeal.main_arg2)
      ∧ m' ((c.tc : Thread Cert.ReferenceAdOutIdeal.nD Cert.ReferenceAdOutIdeal.τ).loc Cert.ReferenceAdOutIdeal.main_arg3) = m ((c.tc : Thread Cert.KernelAdOutIdeal.nD Cert.KernelAdOutIdeal.τ).loc Cert.KernelAdOutIdeal.main_arg3)) →
    ∃ (v0 : (c : Dev Cert.KernelAdOutIdeal.nD) → Buf (Elt Ideal) ((c.tc : Thread Cert.KernelAdOutIdeal.nD Cert.KernelAdOutIdeal.τ).loc Cert.KernelAdOutIdeal.main_v0_0)) (v1 : (c : Dev Cert.KernelAdOutIdeal.nD) → Buf (Elt Ideal) ((c.tc : Thread Cert.KernelAdOutIdeal.nD Cert.KernelAdOutIdeal.τ).loc Cert.KernelAdOutIdeal.main_v0_1)) (v2 : (c : Dev Cert.KernelAdOutIdeal.nD) → Buf (Elt Ideal) ((c.tc : Thread Cert.KernelAdOutIdeal.nD Cert.KernelAdOutIdeal.τ).loc Cert.KernelAdOutIdeal.main_v0_2)) (v3 : (c : Dev Cert.KernelAdOutIdeal.nD) → Buf (Elt Ideal) ((c.tc : Thread Cert.KernelAdOutIdeal.nD Cert.KernelAdOutIdeal.τ).loc Cert.KernelAdOutIdeal.main_v0_3)),
      θ_run (Cert.KernelAdOutIdeal.defs (F := Ideal)) (onTc (τ := Cert.KernelAdOutIdeal.τ) (Cert.KernelAdOutIdeal.main (F := Ideal))) ⟨m, fun _ => 0, g⟩ (fun r => ∀ c : Dev Cert.KernelAdOutIdeal.nD,
          r.2.mem ((c.tc : Thread Cert.KernelAdOutIdeal.nD Cert.KernelAdOutIdeal.τ).loc Cert.KernelAdOutIdeal.main_v0_0) = v0 c
          ∧ r.2.mem ((c.tc : Thread Cert.KernelAdOutIdeal.nD Cert.KernelAdOutIdeal.τ).loc Cert.KernelAdOutIdeal.main_v0_1) = v1 c
          ∧ r.2.mem ((c.tc : Thread Cert.KernelAdOutIdeal.nD Cert.KernelAdOutIdeal.τ).loc Cert.KernelAdOutIdeal.main_v0_2) = v2 c
          ∧ r.2.mem ((c.tc : Thread Cert.KernelAdOutIdeal.nD Cert.KernelAdOutIdeal.τ).loc Cert.KernelAdOutIdeal.main_v0_3) = v3 c
          ∧ r.2.mem ((c.tc : Thread Cert.KernelAdOutIdeal.nD Cert.KernelAdOutIdeal.τ).loc Cert.KernelAdOutIdeal.main_arg0) = m ((c.tc : Thread Cert.KernelAdOutIdeal.nD Cert.KernelAdOutIdeal.τ).loc Cert.KernelAdOutIdeal.main_arg0)
          ∧ r.2.mem ((c.tc : Thread Cert.KernelAdOutIdeal.nD Cert.KernelAdOutIdeal.τ).loc Cert.KernelAdOutIdeal.main_arg1) = m ((c.tc : Thread Cert.KernelAdOutIdeal.nD Cert.KernelAdOutIdeal.τ).loc Cert.KernelAdOutIdeal.main_arg1)
          ∧ r.2.mem ((c.tc : Thread Cert.KernelAdOutIdeal.nD Cert.KernelAdOutIdeal.τ).loc Cert.KernelAdOutIdeal.main_arg2) = m ((c.tc : Thread Cert.KernelAdOutIdeal.nD Cert.KernelAdOutIdeal.τ).loc Cert.KernelAdOutIdeal.main_arg2)
          ∧ r.2.mem ((c.tc : Thread Cert.KernelAdOutIdeal.nD Cert.KernelAdOutIdeal.τ).loc Cert.KernelAdOutIdeal.main_arg3) = m ((c.tc : Thread Cert.KernelAdOutIdeal.nD Cert.KernelAdOutIdeal.τ).loc Cert.KernelAdOutIdeal.main_arg3))
      ∧ θ_run (Cert.ReferenceAdOutIdeal.defs (F := Ideal)) (onTc (τ := Cert.ReferenceAdOutIdeal.τ) (Cert.ReferenceAdOutIdeal.main (F := Ideal))) ⟨m', fun _ => 0, g'⟩ (fun r => ∀ c : Dev Cert.ReferenceAdOutIdeal.nD,
          r.2.mem ((c.tc : Thread Cert.ReferenceAdOutIdeal.nD Cert.ReferenceAdOutIdeal.τ).loc Cert.ReferenceAdOutIdeal.main_v2) = v0 c
          ∧ r.2.mem ((c.tc : Thread Cert.ReferenceAdOutIdeal.nD Cert.ReferenceAdOutIdeal.τ).loc Cert.ReferenceAdOutIdeal.main_v26) = v1 c
          ∧ r.2.mem ((c.tc : Thread Cert.ReferenceAdOutIdeal.nD Cert.ReferenceAdOutIdeal.τ).loc Cert.ReferenceAdOutIdeal.main_v7) = v2 c
          ∧ r.2.mem ((c.tc : Thread Cert.ReferenceAdOutIdeal.nD Cert.ReferenceAdOutIdeal.τ).loc Cert.ReferenceAdOutIdeal.main_v13) = v3 c
          ∧ r.2.mem ((c.tc : Thread Cert.ReferenceAdOutIdeal.nD Cert.ReferenceAdOutIdeal.τ).loc Cert.ReferenceAdOutIdeal.main_arg0) = m' ((c.tc : Thread Cert.ReferenceAdOutIdeal.nD Cert.ReferenceAdOutIdeal.τ).loc Cert.ReferenceAdOutIdeal.main_arg0)
          ∧ r.2.mem ((c.tc : Thread Cert.ReferenceAdOutIdeal.nD Cert.ReferenceAdOutIdeal.τ).loc Cert.ReferenceAdOutIdeal.main_arg1) = m' ((c.tc : Thread Cert.ReferenceAdOutIdeal.nD Cert.ReferenceAdOutIdeal.τ).loc Cert.ReferenceAdOutIdeal.main_arg1)
          ∧ r.2.mem ((c.tc : Thread Cert.ReferenceAdOutIdeal.nD Cert.ReferenceAdOutIdeal.τ).loc Cert.ReferenceAdOutIdeal.main_arg2) = m' ((c.tc : Thread Cert.ReferenceAdOutIdeal.nD Cert.ReferenceAdOutIdeal.τ).loc Cert.ReferenceAdOutIdeal.main_arg2)
          ∧ r.2.mem ((c.tc : Thread Cert.ReferenceAdOutIdeal.nD Cert.ReferenceAdOutIdeal.τ).loc Cert.ReferenceAdOutIdeal.main_arg3) = m' ((c.tc : Thread Cert.ReferenceAdOutIdeal.nD Cert.ReferenceAdOutIdeal.τ).loc Cert.ReferenceAdOutIdeal.main_arg3))

def preserves_KernelAdRw_KernelAdRwIdeal : Prop :=
  True

def algebraic_KernelAdRwIdeal_ReferenceAdRwIdeal [hKernelAdRwIdeal : Cert.KernelAdRwIdeal.Facts] [hReferenceAdRwIdeal : Cert.ReferenceAdRwIdeal.Facts] : Prop :=
  ∀ (m : (ℓ : Loc Cert.KernelAdRwIdeal.nD Cert.KernelAdRwIdeal.τ Cert.KernelAdRwIdeal.sig) → Buf (Elt Ideal) ℓ) (g : Dev Cert.KernelAdRwIdeal.nD → PrngReg)
    (m' : (ℓ : Loc Cert.ReferenceAdRwIdeal.nD Cert.ReferenceAdRwIdeal.τ Cert.ReferenceAdRwIdeal.sig) → Buf (Elt Ideal) ℓ) (g' : Dev Cert.ReferenceAdRwIdeal.nD → PrngReg), Pre_KernelAdRwIdeal m →
    (∀ c : Dev Cert.KernelAdRwIdeal.nD,
      m' ((c.tc : Thread Cert.ReferenceAdRwIdeal.nD Cert.ReferenceAdRwIdeal.τ).loc Cert.ReferenceAdRwIdeal.main_arg0) = m ((c.tc : Thread Cert.KernelAdRwIdeal.nD Cert.KernelAdRwIdeal.τ).loc Cert.KernelAdRwIdeal.main_arg0)
      ∧ m' ((c.tc : Thread Cert.ReferenceAdRwIdeal.nD Cert.ReferenceAdRwIdeal.τ).loc Cert.ReferenceAdRwIdeal.main_arg1) = m ((c.tc : Thread Cert.KernelAdRwIdeal.nD Cert.KernelAdRwIdeal.τ).loc Cert.KernelAdRwIdeal.main_arg1)
      ∧ m' ((c.tc : Thread Cert.ReferenceAdRwIdeal.nD Cert.ReferenceAdRwIdeal.τ).loc Cert.ReferenceAdRwIdeal.main_arg2) = m ((c.tc : Thread Cert.KernelAdRwIdeal.nD Cert.KernelAdRwIdeal.τ).loc Cert.KernelAdRwIdeal.main_arg2)
      ∧ m' ((c.tc : Thread Cert.ReferenceAdRwIdeal.nD Cert.ReferenceAdRwIdeal.τ).loc Cert.ReferenceAdRwIdeal.main_arg3) = m ((c.tc : Thread Cert.KernelAdRwIdeal.nD Cert.KernelAdRwIdeal.τ).loc Cert.KernelAdRwIdeal.main_arg3)) →
    ∃ (v0 : (c : Dev Cert.KernelAdRwIdeal.nD) → Buf (Elt Ideal) ((c.tc : Thread Cert.KernelAdRwIdeal.nD Cert.KernelAdRwIdeal.τ).loc Cert.KernelAdRwIdeal.main_v0_0)) (v1 : (c : Dev Cert.KernelAdRwIdeal.nD) → Buf (Elt Ideal) ((c.tc : Thread Cert.KernelAdRwIdeal.nD Cert.KernelAdRwIdeal.τ).loc Cert.KernelAdRwIdeal.main_v0_1)) (v2 : (c : Dev Cert.KernelAdRwIdeal.nD) → Buf (Elt Ideal) ((c.tc : Thread Cert.KernelAdRwIdeal.nD Cert.KernelAdRwIdeal.τ).loc Cert.KernelAdRwIdeal.main_v0_2)) (v3 : (c : Dev Cert.KernelAdRwIdeal.nD) → Buf (Elt Ideal) ((c.tc : Thread Cert.KernelAdRwIdeal.nD Cert.KernelAdRwIdeal.τ).loc Cert.KernelAdRwIdeal.main_v0_3)),
      θ_run (Cert.KernelAdRwIdeal.defs (F := Ideal)) (onTc (τ := Cert.KernelAdRwIdeal.τ) (Cert.KernelAdRwIdeal.main (F := Ideal))) ⟨m, fun _ => 0, g⟩ (fun r => ∀ c : Dev Cert.KernelAdRwIdeal.nD,
          r.2.mem ((c.tc : Thread Cert.KernelAdRwIdeal.nD Cert.KernelAdRwIdeal.τ).loc Cert.KernelAdRwIdeal.main_v0_0) = v0 c
          ∧ r.2.mem ((c.tc : Thread Cert.KernelAdRwIdeal.nD Cert.KernelAdRwIdeal.τ).loc Cert.KernelAdRwIdeal.main_v0_1) = v1 c
          ∧ r.2.mem ((c.tc : Thread Cert.KernelAdRwIdeal.nD Cert.KernelAdRwIdeal.τ).loc Cert.KernelAdRwIdeal.main_v0_2) = v2 c
          ∧ r.2.mem ((c.tc : Thread Cert.KernelAdRwIdeal.nD Cert.KernelAdRwIdeal.τ).loc Cert.KernelAdRwIdeal.main_v0_3) = v3 c
          ∧ r.2.mem ((c.tc : Thread Cert.KernelAdRwIdeal.nD Cert.KernelAdRwIdeal.τ).loc Cert.KernelAdRwIdeal.main_arg0) = m ((c.tc : Thread Cert.KernelAdRwIdeal.nD Cert.KernelAdRwIdeal.τ).loc Cert.KernelAdRwIdeal.main_arg0)
          ∧ r.2.mem ((c.tc : Thread Cert.KernelAdRwIdeal.nD Cert.KernelAdRwIdeal.τ).loc Cert.KernelAdRwIdeal.main_arg1) = m ((c.tc : Thread Cert.KernelAdRwIdeal.nD Cert.KernelAdRwIdeal.τ).loc Cert.KernelAdRwIdeal.main_arg1)
          ∧ r.2.mem ((c.tc : Thread Cert.KernelAdRwIdeal.nD Cert.KernelAdRwIdeal.τ).loc Cert.KernelAdRwIdeal.main_arg2) = m ((c.tc : Thread Cert.KernelAdRwIdeal.nD Cert.KernelAdRwIdeal.τ).loc Cert.KernelAdRwIdeal.main_arg2)
          ∧ r.2.mem ((c.tc : Thread Cert.KernelAdRwIdeal.nD Cert.KernelAdRwIdeal.τ).loc Cert.KernelAdRwIdeal.main_arg3) = m ((c.tc : Thread Cert.KernelAdRwIdeal.nD Cert.KernelAdRwIdeal.τ).loc Cert.KernelAdRwIdeal.main_arg3))
      ∧ θ_run (Cert.ReferenceAdRwIdeal.defs (F := Ideal)) (onTc (τ := Cert.ReferenceAdRwIdeal.τ) (Cert.ReferenceAdRwIdeal.main (F := Ideal))) ⟨m', fun _ => 0, g'⟩ (fun r => ∀ c : Dev Cert.ReferenceAdRwIdeal.nD,
          r.2.mem ((c.tc : Thread Cert.ReferenceAdRwIdeal.nD Cert.ReferenceAdRwIdeal.τ).loc Cert.ReferenceAdRwIdeal.main_v2) = v0 c
          ∧ r.2.mem ((c.tc : Thread Cert.ReferenceAdRwIdeal.nD Cert.ReferenceAdRwIdeal.τ).loc Cert.ReferenceAdRwIdeal.main_v26) = v1 c
          ∧ r.2.mem ((c.tc : Thread Cert.ReferenceAdRwIdeal.nD Cert.ReferenceAdRwIdeal.τ).loc Cert.ReferenceAdRwIdeal.main_v7) = v2 c
          ∧ r.2.mem ((c.tc : Thread Cert.ReferenceAdRwIdeal.nD Cert.ReferenceAdRwIdeal.τ).loc Cert.ReferenceAdRwIdeal.main_v13) = v3 c
          ∧ r.2.mem ((c.tc : Thread Cert.ReferenceAdRwIdeal.nD Cert.ReferenceAdRwIdeal.τ).loc Cert.ReferenceAdRwIdeal.main_arg0) = m' ((c.tc : Thread Cert.ReferenceAdRwIdeal.nD Cert.ReferenceAdRwIdeal.τ).loc Cert.ReferenceAdRwIdeal.main_arg0)
          ∧ r.2.mem ((c.tc : Thread Cert.ReferenceAdRwIdeal.nD Cert.ReferenceAdRwIdeal.τ).loc Cert.ReferenceAdRwIdeal.main_arg1) = m' ((c.tc : Thread Cert.ReferenceAdRwIdeal.nD Cert.ReferenceAdRwIdeal.τ).loc Cert.ReferenceAdRwIdeal.main_arg1)
          ∧ r.2.mem ((c.tc : Thread Cert.ReferenceAdRwIdeal.nD Cert.ReferenceAdRwIdeal.τ).loc Cert.ReferenceAdRwIdeal.main_arg2) = m' ((c.tc : Thread Cert.ReferenceAdRwIdeal.nD Cert.ReferenceAdRwIdeal.τ).loc Cert.ReferenceAdRwIdeal.main_arg2)
          ∧ r.2.mem ((c.tc : Thread Cert.ReferenceAdRwIdeal.nD Cert.ReferenceAdRwIdeal.τ).loc Cert.ReferenceAdRwIdeal.main_arg3) = m' ((c.tc : Thread Cert.ReferenceAdRwIdeal.nD Cert.ReferenceAdRwIdeal.τ).loc Cert.ReferenceAdRwIdeal.main_arg3))

def preserves_KernelAdAt_KernelAdAtIdeal : Prop :=
  True

def algebraic_KernelAdAtIdeal_ReferenceAdAtIdeal [hKernelAdAtIdeal : Cert.KernelAdAtIdeal.Facts] [hReferenceAdAtIdeal : Cert.ReferenceAdAtIdeal.Facts] : Prop :=
  ∀ (m : (ℓ : Loc Cert.KernelAdAtIdeal.nD Cert.KernelAdAtIdeal.τ Cert.KernelAdAtIdeal.sig) → Buf (Elt Ideal) ℓ) (g : Dev Cert.KernelAdAtIdeal.nD → PrngReg)
    (m' : (ℓ : Loc Cert.ReferenceAdAtIdeal.nD Cert.ReferenceAdAtIdeal.τ Cert.ReferenceAdAtIdeal.sig) → Buf (Elt Ideal) ℓ) (g' : Dev Cert.ReferenceAdAtIdeal.nD → PrngReg), Pre_KernelAdAtIdeal m →
    (∀ c : Dev Cert.KernelAdAtIdeal.nD,
      m' ((c.tc : Thread Cert.ReferenceAdAtIdeal.nD Cert.ReferenceAdAtIdeal.τ).loc Cert.ReferenceAdAtIdeal.main_arg0) = m ((c.tc : Thread Cert.KernelAdAtIdeal.nD Cert.KernelAdAtIdeal.τ).loc Cert.KernelAdAtIdeal.main_arg0)
      ∧ m' ((c.tc : Thread Cert.ReferenceAdAtIdeal.nD Cert.ReferenceAdAtIdeal.τ).loc Cert.ReferenceAdAtIdeal.main_arg1) = m ((c.tc : Thread Cert.KernelAdAtIdeal.nD Cert.KernelAdAtIdeal.τ).loc Cert.KernelAdAtIdeal.main_arg1)
      ∧ m' ((c.tc : Thread Cert.ReferenceAdAtIdeal.nD Cert.ReferenceAdAtIdeal.τ).loc Cert.ReferenceAdAtIdeal.main_arg2) = m ((c.tc : Thread Cert.KernelAdAtIdeal.nD Cert.KernelAdAtIdeal.τ).loc Cert.KernelAdAtIdeal.main_arg2)
      ∧ m' ((c.tc : Thread Cert.ReferenceAdAtIdeal.nD Cert.ReferenceAdAtIdeal.τ).loc Cert.ReferenceAdAtIdeal.main_arg3) = m ((c.tc : Thread Cert.KernelAdAtIdeal.nD Cert.KernelAdAtIdeal.τ).loc Cert.KernelAdAtIdeal.main_arg3)) →
    ∃ (v0 : (c : Dev Cert.KernelAdAtIdeal.nD) → Buf (Elt Ideal) ((c.tc : Thread Cert.KernelAdAtIdeal.nD Cert.KernelAdAtIdeal.τ).loc Cert.KernelAdAtIdeal.main_v0_0)) (v1 : (c : Dev Cert.KernelAdAtIdeal.nD) → Buf (Elt Ideal) ((c.tc : Thread Cert.KernelAdAtIdeal.nD Cert.KernelAdAtIdeal.τ).loc Cert.KernelAdAtIdeal.main_v0_1)) (v2 : (c : Dev Cert.KernelAdAtIdeal.nD) → Buf (Elt Ideal) ((c.tc : Thread Cert.KernelAdAtIdeal.nD Cert.KernelAdAtIdeal.τ).loc Cert.KernelAdAtIdeal.main_v0_2)) (v3 : (c : Dev Cert.KernelAdAtIdeal.nD) → Buf (Elt Ideal) ((c.tc : Thread Cert.KernelAdAtIdeal.nD Cert.KernelAdAtIdeal.τ).loc Cert.KernelAdAtIdeal.main_v0_3)),
      θ_run (Cert.KernelAdAtIdeal.defs (F := Ideal)) (onTc (τ := Cert.KernelAdAtIdeal.τ) (Cert.KernelAdAtIdeal.main (F := Ideal))) ⟨m, fun _ => 0, g⟩ (fun r => ∀ c : Dev Cert.KernelAdAtIdeal.nD,
          r.2.mem ((c.tc : Thread Cert.KernelAdAtIdeal.nD Cert.KernelAdAtIdeal.τ).loc Cert.KernelAdAtIdeal.main_v0_0) = v0 c
          ∧ r.2.mem ((c.tc : Thread Cert.KernelAdAtIdeal.nD Cert.KernelAdAtIdeal.τ).loc Cert.KernelAdAtIdeal.main_v0_1) = v1 c
          ∧ r.2.mem ((c.tc : Thread Cert.KernelAdAtIdeal.nD Cert.KernelAdAtIdeal.τ).loc Cert.KernelAdAtIdeal.main_v0_2) = v2 c
          ∧ r.2.mem ((c.tc : Thread Cert.KernelAdAtIdeal.nD Cert.KernelAdAtIdeal.τ).loc Cert.KernelAdAtIdeal.main_v0_3) = v3 c
          ∧ r.2.mem ((c.tc : Thread Cert.KernelAdAtIdeal.nD Cert.KernelAdAtIdeal.τ).loc Cert.KernelAdAtIdeal.main_arg0) = m ((c.tc : Thread Cert.KernelAdAtIdeal.nD Cert.KernelAdAtIdeal.τ).loc Cert.KernelAdAtIdeal.main_arg0)
          ∧ r.2.mem ((c.tc : Thread Cert.KernelAdAtIdeal.nD Cert.KernelAdAtIdeal.τ).loc Cert.KernelAdAtIdeal.main_arg1) = m ((c.tc : Thread Cert.KernelAdAtIdeal.nD Cert.KernelAdAtIdeal.τ).loc Cert.KernelAdAtIdeal.main_arg1)
          ∧ r.2.mem ((c.tc : Thread Cert.KernelAdAtIdeal.nD Cert.KernelAdAtIdeal.τ).loc Cert.KernelAdAtIdeal.main_arg2) = m ((c.tc : Thread Cert.KernelAdAtIdeal.nD Cert.KernelAdAtIdeal.τ).loc Cert.KernelAdAtIdeal.main_arg2)
          ∧ r.2.mem ((c.tc : Thread Cert.KernelAdAtIdeal.nD Cert.KernelAdAtIdeal.τ).loc Cert.KernelAdAtIdeal.main_arg3) = m ((c.tc : Thread Cert.KernelAdAtIdeal.nD Cert.KernelAdAtIdeal.τ).loc Cert.KernelAdAtIdeal.main_arg3))
      ∧ θ_run (Cert.ReferenceAdAtIdeal.defs (F := Ideal)) (onTc (τ := Cert.ReferenceAdAtIdeal.τ) (Cert.ReferenceAdAtIdeal.main (F := Ideal))) ⟨m', fun _ => 0, g'⟩ (fun r => ∀ c : Dev Cert.ReferenceAdAtIdeal.nD,
          r.2.mem ((c.tc : Thread Cert.ReferenceAdAtIdeal.nD Cert.ReferenceAdAtIdeal.τ).loc Cert.ReferenceAdAtIdeal.main_v2) = v0 c
          ∧ r.2.mem ((c.tc : Thread Cert.ReferenceAdAtIdeal.nD Cert.ReferenceAdAtIdeal.τ).loc Cert.ReferenceAdAtIdeal.main_v26) = v1 c
          ∧ r.2.mem ((c.tc : Thread Cert.ReferenceAdAtIdeal.nD Cert.ReferenceAdAtIdeal.τ).loc Cert.ReferenceAdAtIdeal.main_v7) = v2 c
          ∧ r.2.mem ((c.tc : Thread Cert.ReferenceAdAtIdeal.nD Cert.ReferenceAdAtIdeal.τ).loc Cert.ReferenceAdAtIdeal.main_v13) = v3 c
          ∧ r.2.mem ((c.tc : Thread Cert.ReferenceAdAtIdeal.nD Cert.ReferenceAdAtIdeal.τ).loc Cert.ReferenceAdAtIdeal.main_arg0) = m' ((c.tc : Thread Cert.ReferenceAdAtIdeal.nD Cert.ReferenceAdAtIdeal.τ).loc Cert.ReferenceAdAtIdeal.main_arg0)
          ∧ r.2.mem ((c.tc : Thread Cert.ReferenceAdAtIdeal.nD Cert.ReferenceAdAtIdeal.τ).loc Cert.ReferenceAdAtIdeal.main_arg1) = m' ((c.tc : Thread Cert.ReferenceAdAtIdeal.nD Cert.ReferenceAdAtIdeal.τ).loc Cert.ReferenceAdAtIdeal.main_arg1)
          ∧ r.2.mem ((c.tc : Thread Cert.ReferenceAdAtIdeal.nD Cert.ReferenceAdAtIdeal.τ).loc Cert.ReferenceAdAtIdeal.main_arg2) = m' ((c.tc : Thread Cert.ReferenceAdAtIdeal.nD Cert.ReferenceAdAtIdeal.τ).loc Cert.ReferenceAdAtIdeal.main_arg2)
          ∧ r.2.mem ((c.tc : Thread Cert.ReferenceAdAtIdeal.nD Cert.ReferenceAdAtIdeal.τ).loc Cert.ReferenceAdAtIdeal.main_arg3) = m' ((c.tc : Thread Cert.ReferenceAdAtIdeal.nD Cert.ReferenceAdAtIdeal.τ).loc Cert.ReferenceAdAtIdeal.main_arg3))

def preserves_KernelAdPle_KernelAdPleIdeal : Prop :=
  True

def algebraic_KernelAdPleIdeal_ReferenceAdPleIdeal [hKernelAdPleIdeal : Cert.KernelAdPleIdeal.Facts] [hReferenceAdPleIdeal : Cert.ReferenceAdPleIdeal.Facts] : Prop :=
  ∀ (m : (ℓ : Loc Cert.KernelAdPleIdeal.nD Cert.KernelAdPleIdeal.τ Cert.KernelAdPleIdeal.sig) → Buf (Elt Ideal) ℓ) (g : Dev Cert.KernelAdPleIdeal.nD → PrngReg)
    (m' : (ℓ : Loc Cert.ReferenceAdPleIdeal.nD Cert.ReferenceAdPleIdeal.τ Cert.ReferenceAdPleIdeal.sig) → Buf (Elt Ideal) ℓ) (g' : Dev Cert.ReferenceAdPleIdeal.nD → PrngReg), Pre_KernelAdPleIdeal m →
    (∀ c : Dev Cert.KernelAdPleIdeal.nD,
      m' ((c.tc : Thread Cert.ReferenceAdPleIdeal.nD Cert.ReferenceAdPleIdeal.τ).loc Cert.ReferenceAdPleIdeal.main_arg0) = m ((c.tc : Thread Cert.KernelAdPleIdeal.nD Cert.KernelAdPleIdeal.τ).loc Cert.KernelAdPleIdeal.main_arg0)
      ∧ m' ((c.tc : Thread Cert.ReferenceAdPleIdeal.nD Cert.ReferenceAdPleIdeal.τ).loc Cert.ReferenceAdPleIdeal.main_arg1) = m ((c.tc : Thread Cert.KernelAdPleIdeal.nD Cert.KernelAdPleIdeal.τ).loc Cert.KernelAdPleIdeal.main_arg1)
      ∧ m' ((c.tc : Thread Cert.ReferenceAdPleIdeal.nD Cert.ReferenceAdPleIdeal.τ).loc Cert.ReferenceAdPleIdeal.main_arg2) = m ((c.tc : Thread Cert.KernelAdPleIdeal.nD Cert.KernelAdPleIdeal.τ).loc Cert.KernelAdPleIdeal.main_arg2)
      ∧ m' ((c.tc : Thread Cert.ReferenceAdPleIdeal.nD Cert.ReferenceAdPleIdeal.τ).loc Cert.ReferenceAdPleIdeal.main_arg3) = m ((c.tc : Thread Cert.KernelAdPleIdeal.nD Cert.KernelAdPleIdeal.τ).loc Cert.KernelAdPleIdeal.main_arg3)) →
    ∃ (v0 : (c : Dev Cert.KernelAdPleIdeal.nD) → Buf (Elt Ideal) ((c.tc : Thread Cert.KernelAdPleIdeal.nD Cert.KernelAdPleIdeal.τ).loc Cert.KernelAdPleIdeal.main_v0_0)) (v1 : (c : Dev Cert.KernelAdPleIdeal.nD) → Buf (Elt Ideal) ((c.tc : Thread Cert.KernelAdPleIdeal.nD Cert.KernelAdPleIdeal.τ).loc Cert.KernelAdPleIdeal.main_v0_1)) (v2 : (c : Dev Cert.KernelAdPleIdeal.nD) → Buf (Elt Ideal) ((c.tc : Thread Cert.KernelAdPleIdeal.nD Cert.KernelAdPleIdeal.τ).loc Cert.KernelAdPleIdeal.main_v0_2)) (v3 : (c : Dev Cert.KernelAdPleIdeal.nD) → Buf (Elt Ideal) ((c.tc : Thread Cert.KernelAdPleIdeal.nD Cert.KernelAdPleIdeal.τ).loc Cert.KernelAdPleIdeal.main_v0_3)),
      θ_run (Cert.KernelAdPleIdeal.defs (F := Ideal)) (onTc (τ := Cert.KernelAdPleIdeal.τ) (Cert.KernelAdPleIdeal.main (F := Ideal))) ⟨m, fun _ => 0, g⟩ (fun r => ∀ c : Dev Cert.KernelAdPleIdeal.nD,
          r.2.mem ((c.tc : Thread Cert.KernelAdPleIdeal.nD Cert.KernelAdPleIdeal.τ).loc Cert.KernelAdPleIdeal.main_v0_0) = v0 c
          ∧ r.2.mem ((c.tc : Thread Cert.KernelAdPleIdeal.nD Cert.KernelAdPleIdeal.τ).loc Cert.KernelAdPleIdeal.main_v0_1) = v1 c
          ∧ r.2.mem ((c.tc : Thread Cert.KernelAdPleIdeal.nD Cert.KernelAdPleIdeal.τ).loc Cert.KernelAdPleIdeal.main_v0_2) = v2 c
          ∧ r.2.mem ((c.tc : Thread Cert.KernelAdPleIdeal.nD Cert.KernelAdPleIdeal.τ).loc Cert.KernelAdPleIdeal.main_v0_3) = v3 c
          ∧ r.2.mem ((c.tc : Thread Cert.KernelAdPleIdeal.nD Cert.KernelAdPleIdeal.τ).loc Cert.KernelAdPleIdeal.main_arg0) = m ((c.tc : Thread Cert.KernelAdPleIdeal.nD Cert.KernelAdPleIdeal.τ).loc Cert.KernelAdPleIdeal.main_arg0)
          ∧ r.2.mem ((c.tc : Thread Cert.KernelAdPleIdeal.nD Cert.KernelAdPleIdeal.τ).loc Cert.KernelAdPleIdeal.main_arg1) = m ((c.tc : Thread Cert.KernelAdPleIdeal.nD Cert.KernelAdPleIdeal.τ).loc Cert.KernelAdPleIdeal.main_arg1)
          ∧ r.2.mem ((c.tc : Thread Cert.KernelAdPleIdeal.nD Cert.KernelAdPleIdeal.τ).loc Cert.KernelAdPleIdeal.main_arg2) = m ((c.tc : Thread Cert.KernelAdPleIdeal.nD Cert.KernelAdPleIdeal.τ).loc Cert.KernelAdPleIdeal.main_arg2)
          ∧ r.2.mem ((c.tc : Thread Cert.KernelAdPleIdeal.nD Cert.KernelAdPleIdeal.τ).loc Cert.KernelAdPleIdeal.main_arg3) = m ((c.tc : Thread Cert.KernelAdPleIdeal.nD Cert.KernelAdPleIdeal.τ).loc Cert.KernelAdPleIdeal.main_arg3))
      ∧ θ_run (Cert.ReferenceAdPleIdeal.defs (F := Ideal)) (onTc (τ := Cert.ReferenceAdPleIdeal.τ) (Cert.ReferenceAdPleIdeal.main (F := Ideal))) ⟨m', fun _ => 0, g'⟩ (fun r => ∀ c : Dev Cert.ReferenceAdPleIdeal.nD,
          r.2.mem ((c.tc : Thread Cert.ReferenceAdPleIdeal.nD Cert.ReferenceAdPleIdeal.τ).loc Cert.ReferenceAdPleIdeal.main_v2) = v0 c
          ∧ r.2.mem ((c.tc : Thread Cert.ReferenceAdPleIdeal.nD Cert.ReferenceAdPleIdeal.τ).loc Cert.ReferenceAdPleIdeal.main_v26) = v1 c
          ∧ r.2.mem ((c.tc : Thread Cert.ReferenceAdPleIdeal.nD Cert.ReferenceAdPleIdeal.τ).loc Cert.ReferenceAdPleIdeal.main_v7) = v2 c
          ∧ r.2.mem ((c.tc : Thread Cert.ReferenceAdPleIdeal.nD Cert.ReferenceAdPleIdeal.τ).loc Cert.ReferenceAdPleIdeal.main_v13) = v3 c
          ∧ r.2.mem ((c.tc : Thread Cert.ReferenceAdPleIdeal.nD Cert.ReferenceAdPleIdeal.τ).loc Cert.ReferenceAdPleIdeal.main_arg0) = m' ((c.tc : Thread Cert.ReferenceAdPleIdeal.nD Cert.ReferenceAdPleIdeal.τ).loc Cert.ReferenceAdPleIdeal.main_arg0)
          ∧ r.2.mem ((c.tc : Thread Cert.ReferenceAdPleIdeal.nD Cert.ReferenceAdPleIdeal.τ).loc Cert.ReferenceAdPleIdeal.main_arg1) = m' ((c.tc : Thread Cert.ReferenceAdPleIdeal.nD Cert.ReferenceAdPleIdeal.τ).loc Cert.ReferenceAdPleIdeal.main_arg1)
          ∧ r.2.mem ((c.tc : Thread Cert.ReferenceAdPleIdeal.nD Cert.ReferenceAdPleIdeal.τ).loc Cert.ReferenceAdPleIdeal.main_arg2) = m' ((c.tc : Thread Cert.ReferenceAdPleIdeal.nD Cert.ReferenceAdPleIdeal.τ).loc Cert.ReferenceAdPleIdeal.main_arg2)
          ∧ r.2.mem ((c.tc : Thread Cert.ReferenceAdPleIdeal.nD Cert.ReferenceAdPleIdeal.τ).loc Cert.ReferenceAdPleIdeal.main_arg3) = m' ((c.tc : Thread Cert.ReferenceAdPleIdeal.nD Cert.ReferenceAdPleIdeal.τ).loc Cert.ReferenceAdPleIdeal.main_arg3))

def preserves_KernelAdGate_KernelAdGateIdeal : Prop :=
  True

def algebraic_KernelAdGateIdeal_ReferenceAdGateIdeal [hKernelAdGateIdeal : Cert.KernelAdGateIdeal.Facts] [hReferenceAdGateIdeal : Cert.ReferenceAdGateIdeal.Facts] : Prop :=
  ∀ (m : (ℓ : Loc Cert.KernelAdGateIdeal.nD Cert.KernelAdGateIdeal.τ Cert.KernelAdGateIdeal.sig) → Buf (Elt Ideal) ℓ) (g : Dev Cert.KernelAdGateIdeal.nD → PrngReg)
    (m' : (ℓ : Loc Cert.ReferenceAdGateIdeal.nD Cert.ReferenceAdGateIdeal.τ Cert.ReferenceAdGateIdeal.sig) → Buf (Elt Ideal) ℓ) (g' : Dev Cert.ReferenceAdGateIdeal.nD → PrngReg), Pre_KernelAdGateIdeal m →
    (∀ c : Dev Cert.KernelAdGateIdeal.nD,
      m' ((c.tc : Thread Cert.ReferenceAdGateIdeal.nD Cert.ReferenceAdGateIdeal.τ).loc Cert.ReferenceAdGateIdeal.main_arg0) = m ((c.tc : Thread Cert.KernelAdGateIdeal.nD Cert.KernelAdGateIdeal.τ).loc Cert.KernelAdGateIdeal.main_arg0)
      ∧ m' ((c.tc : Thread Cert.ReferenceAdGateIdeal.nD Cert.ReferenceAdGateIdeal.τ).loc Cert.ReferenceAdGateIdeal.main_arg1) = m ((c.tc : Thread Cert.KernelAdGateIdeal.nD Cert.KernelAdGateIdeal.τ).loc Cert.KernelAdGateIdeal.main_arg1)
      ∧ m' ((c.tc : Thread Cert.ReferenceAdGateIdeal.nD Cert.ReferenceAdGateIdeal.τ).loc Cert.ReferenceAdGateIdeal.main_arg2) = m ((c.tc : Thread Cert.KernelAdGateIdeal.nD Cert.KernelAdGateIdeal.τ).loc Cert.KernelAdGateIdeal.main_arg2)
      ∧ m' ((c.tc : Thread Cert.ReferenceAdGateIdeal.nD Cert.ReferenceAdGateIdeal.τ).loc Cert.ReferenceAdGateIdeal.main_arg3) = m ((c.tc : Thread Cert.KernelAdGateIdeal.nD Cert.KernelAdGateIdeal.τ).loc Cert.KernelAdGateIdeal.main_arg3)) →
    ∃ (v0 : (c : Dev Cert.KernelAdGateIdeal.nD) → Buf (Elt Ideal) ((c.tc : Thread Cert.KernelAdGateIdeal.nD Cert.KernelAdGateIdeal.τ).loc Cert.KernelAdGateIdeal.main_v0_0)) (v1 : (c : Dev Cert.KernelAdGateIdeal.nD) → Buf (Elt Ideal) ((c.tc : Thread Cert.KernelAdGateIdeal.nD Cert.KernelAdGateIdeal.τ).loc Cert.KernelAdGateIdeal.main_v0_1)) (v2 : (c : Dev Cert.KernelAdGateIdeal.nD) → Buf (Elt Ideal) ((c.tc : Thread Cert.KernelAdGateIdeal.nD Cert.KernelAdGateIdeal.τ).loc Cert.KernelAdGateIdeal.main_v0_2)) (v3 : (c : Dev Cert.KernelAdGateIdeal.nD) → Buf (Elt Ideal) ((c.tc : Thread Cert.KernelAdGateIdeal.nD Cert.KernelAdGateIdeal.τ).loc Cert.KernelAdGateIdeal.main_v0_3)),
      θ_run (Cert.KernelAdGateIdeal.defs (F := Ideal)) (onTc (τ := Cert.KernelAdGateIdeal.τ) (Cert.KernelAdGateIdeal.main (F := Ideal))) ⟨m, fun _ => 0, g⟩ (fun r => ∀ c : Dev Cert.KernelAdGateIdeal.nD,
          r.2.mem ((c.tc : Thread Cert.KernelAdGateIdeal.nD Cert.KernelAdGateIdeal.τ).loc Cert.KernelAdGateIdeal.main_v0_0) = v0 c
          ∧ r.2.mem ((c.tc : Thread Cert.KernelAdGateIdeal.nD Cert.KernelAdGateIdeal.τ).loc Cert.KernelAdGateIdeal.main_v0_1) = v1 c
          ∧ r.2.mem ((c.tc : Thread Cert.KernelAdGateIdeal.nD Cert.KernelAdGateIdeal.τ).loc Cert.KernelAdGateIdeal.main_v0_2) = v2 c
          ∧ r.2.mem ((c.tc : Thread Cert.KernelAdGateIdeal.nD Cert.KernelAdGateIdeal.τ).loc Cert.KernelAdGateIdeal.main_v0_3) = v3 c
          ∧ r.2.mem ((c.tc : Thread Cert.KernelAdGateIdeal.nD Cert.KernelAdGateIdeal.τ).loc Cert.KernelAdGateIdeal.main_arg0) = m ((c.tc : Thread Cert.KernelAdGateIdeal.nD Cert.KernelAdGateIdeal.τ).loc Cert.KernelAdGateIdeal.main_arg0)
          ∧ r.2.mem ((c.tc : Thread Cert.KernelAdGateIdeal.nD Cert.KernelAdGateIdeal.τ).loc Cert.KernelAdGateIdeal.main_arg1) = m ((c.tc : Thread Cert.KernelAdGateIdeal.nD Cert.KernelAdGateIdeal.τ).loc Cert.KernelAdGateIdeal.main_arg1)
          ∧ r.2.mem ((c.tc : Thread Cert.KernelAdGateIdeal.nD Cert.KernelAdGateIdeal.τ).loc Cert.KernelAdGateIdeal.main_arg2) = m ((c.tc : Thread Cert.KernelAdGateIdeal.nD Cert.KernelAdGateIdeal.τ).loc Cert.KernelAdGateIdeal.main_arg2)
          ∧ r.2.mem ((c.tc : Thread Cert.KernelAdGateIdeal.nD Cert.KernelAdGateIdeal.τ).loc Cert.KernelAdGateIdeal.main_arg3) = m ((c.tc : Thread Cert.KernelAdGateIdeal.nD Cert.KernelAdGateIdeal.τ).loc Cert.KernelAdGateIdeal.main_arg3))
      ∧ θ_run (Cert.ReferenceAdGateIdeal.defs (F := Ideal)) (onTc (τ := Cert.ReferenceAdGateIdeal.τ) (Cert.ReferenceAdGateIdeal.main (F := Ideal))) ⟨m', fun _ => 0, g'⟩ (fun r => ∀ c : Dev Cert.ReferenceAdGateIdeal.nD,
          r.2.mem ((c.tc : Thread Cert.ReferenceAdGateIdeal.nD Cert.ReferenceAdGateIdeal.τ).loc Cert.ReferenceAdGateIdeal.main_v2) = v0 c
          ∧ r.2.mem ((c.tc : Thread Cert.ReferenceAdGateIdeal.nD Cert.ReferenceAdGateIdeal.τ).loc Cert.ReferenceAdGateIdeal.main_v26) = v1 c
          ∧ r.2.mem ((c.tc : Thread Cert.ReferenceAdGateIdeal.nD Cert.ReferenceAdGateIdeal.τ).loc Cert.ReferenceAdGateIdeal.main_v7) = v2 c
          ∧ r.2.mem ((c.tc : Thread Cert.ReferenceAdGateIdeal.nD Cert.ReferenceAdGateIdeal.τ).loc Cert.ReferenceAdGateIdeal.main_v13) = v3 c
          ∧ r.2.mem ((c.tc : Thread Cert.ReferenceAdGateIdeal.nD Cert.ReferenceAdGateIdeal.τ).loc Cert.ReferenceAdGateIdeal.main_arg0) = m' ((c.tc : Thread Cert.ReferenceAdGateIdeal.nD Cert.ReferenceAdGateIdeal.τ).loc Cert.ReferenceAdGateIdeal.main_arg0)
          ∧ r.2.mem ((c.tc : Thread Cert.ReferenceAdGateIdeal.nD Cert.ReferenceAdGateIdeal.τ).loc Cert.ReferenceAdGateIdeal.main_arg1) = m' ((c.tc : Thread Cert.ReferenceAdGateIdeal.nD Cert.ReferenceAdGateIdeal.τ).loc Cert.ReferenceAdGateIdeal.main_arg1)
          ∧ r.2.mem ((c.tc : Thread Cert.ReferenceAdGateIdeal.nD Cert.ReferenceAdGateIdeal.τ).loc Cert.ReferenceAdGateIdeal.main_arg2) = m' ((c.tc : Thread Cert.ReferenceAdGateIdeal.nD Cert.ReferenceAdGateIdeal.τ).loc Cert.ReferenceAdGateIdeal.main_arg2)
          ∧ r.2.mem ((c.tc : Thread Cert.ReferenceAdGateIdeal.nD Cert.ReferenceAdGateIdeal.τ).loc Cert.ReferenceAdGateIdeal.main_arg3) = m' ((c.tc : Thread Cert.ReferenceAdGateIdeal.nD Cert.ReferenceAdGateIdeal.τ).loc Cert.ReferenceAdGateIdeal.main_arg3))

def preserves_KernelAdDecay_KernelAdDecayIdeal : Prop :=
  True

def algebraic_KernelAdDecayIdeal_ReferenceAdDecayIdeal [hKernelAdDecayIdeal : Cert.KernelAdDecayIdeal.Facts] [hReferenceAdDecayIdeal : Cert.ReferenceAdDecayIdeal.Facts] : Prop :=
  ∀ (m : (ℓ : Loc Cert.KernelAdDecayIdeal.nD Cert.KernelAdDecayIdeal.τ Cert.KernelAdDecayIdeal.sig) → Buf (Elt Ideal) ℓ) (g : Dev Cert.KernelAdDecayIdeal.nD → PrngReg)
    (m' : (ℓ : Loc Cert.ReferenceAdDecayIdeal.nD Cert.ReferenceAdDecayIdeal.τ Cert.ReferenceAdDecayIdeal.sig) → Buf (Elt Ideal) ℓ) (g' : Dev Cert.ReferenceAdDecayIdeal.nD → PrngReg), Pre_KernelAdDecayIdeal m →
    (∀ c : Dev Cert.KernelAdDecayIdeal.nD,
      m' ((c.tc : Thread Cert.ReferenceAdDecayIdeal.nD Cert.ReferenceAdDecayIdeal.τ).loc Cert.ReferenceAdDecayIdeal.main_arg0) = m ((c.tc : Thread Cert.KernelAdDecayIdeal.nD Cert.KernelAdDecayIdeal.τ).loc Cert.KernelAdDecayIdeal.main_arg0)
      ∧ m' ((c.tc : Thread Cert.ReferenceAdDecayIdeal.nD Cert.ReferenceAdDecayIdeal.τ).loc Cert.ReferenceAdDecayIdeal.main_arg1) = m ((c.tc : Thread Cert.KernelAdDecayIdeal.nD Cert.KernelAdDecayIdeal.τ).loc Cert.KernelAdDecayIdeal.main_arg1)
      ∧ m' ((c.tc : Thread Cert.ReferenceAdDecayIdeal.nD Cert.ReferenceAdDecayIdeal.τ).loc Cert.ReferenceAdDecayIdeal.main_arg2) = m ((c.tc : Thread Cert.KernelAdDecayIdeal.nD Cert.KernelAdDecayIdeal.τ).loc Cert.KernelAdDecayIdeal.main_arg2)
      ∧ m' ((c.tc : Thread Cert.ReferenceAdDecayIdeal.nD Cert.ReferenceAdDecayIdeal.τ).loc Cert.ReferenceAdDecayIdeal.main_arg3) = m ((c.tc : Thread Cert.KernelAdDecayIdeal.nD Cert.KernelAdDecayIdeal.τ).loc Cert.KernelAdDecayIdeal.main_arg3)) →
    ∃ (v0 : (c : Dev Cert.KernelAdDecayIdeal.nD) → Buf (Elt Ideal) ((c.tc : Thread Cert.KernelAdDecayIdeal.nD Cert.KernelAdDecayIdeal.τ).loc Cert.KernelAdDecayIdeal.main_v0_0)) (v1 : (c : Dev Cert.KernelAdDecayIdeal.nD) → Buf (Elt Ideal) ((c.tc : Thread Cert.KernelAdDecayIdeal.nD Cert.KernelAdDecayIdeal.τ).loc Cert.KernelAdDecayIdeal.main_v0_1)) (v2 : (c : Dev Cert.KernelAdDecayIdeal.nD) → Buf (Elt Ideal) ((c.tc : Thread Cert.KernelAdDecayIdeal.nD Cert.KernelAdDecayIdeal.τ).loc Cert.KernelAdDecayIdeal.main_v0_2)) (v3 : (c : Dev Cert.KernelAdDecayIdeal.nD) → Buf (Elt Ideal) ((c.tc : Thread Cert.KernelAdDecayIdeal.nD Cert.KernelAdDecayIdeal.τ).loc Cert.KernelAdDecayIdeal.main_v0_3)),
      θ_run (Cert.KernelAdDecayIdeal.defs (F := Ideal)) (onTc (τ := Cert.KernelAdDecayIdeal.τ) (Cert.KernelAdDecayIdeal.main (F := Ideal))) ⟨m, fun _ => 0, g⟩ (fun r => ∀ c : Dev Cert.KernelAdDecayIdeal.nD,
          r.2.mem ((c.tc : Thread Cert.KernelAdDecayIdeal.nD Cert.KernelAdDecayIdeal.τ).loc Cert.KernelAdDecayIdeal.main_v0_0) = v0 c
          ∧ r.2.mem ((c.tc : Thread Cert.KernelAdDecayIdeal.nD Cert.KernelAdDecayIdeal.τ).loc Cert.KernelAdDecayIdeal.main_v0_1) = v1 c
          ∧ r.2.mem ((c.tc : Thread Cert.KernelAdDecayIdeal.nD Cert.KernelAdDecayIdeal.τ).loc Cert.KernelAdDecayIdeal.main_v0_2) = v2 c
          ∧ r.2.mem ((c.tc : Thread Cert.KernelAdDecayIdeal.nD Cert.KernelAdDecayIdeal.τ).loc Cert.KernelAdDecayIdeal.main_v0_3) = v3 c
          ∧ r.2.mem ((c.tc : Thread Cert.KernelAdDecayIdeal.nD Cert.KernelAdDecayIdeal.τ).loc Cert.KernelAdDecayIdeal.main_arg0) = m ((c.tc : Thread Cert.KernelAdDecayIdeal.nD Cert.KernelAdDecayIdeal.τ).loc Cert.KernelAdDecayIdeal.main_arg0)
          ∧ r.2.mem ((c.tc : Thread Cert.KernelAdDecayIdeal.nD Cert.KernelAdDecayIdeal.τ).loc Cert.KernelAdDecayIdeal.main_arg1) = m ((c.tc : Thread Cert.KernelAdDecayIdeal.nD Cert.KernelAdDecayIdeal.τ).loc Cert.KernelAdDecayIdeal.main_arg1)
          ∧ r.2.mem ((c.tc : Thread Cert.KernelAdDecayIdeal.nD Cert.KernelAdDecayIdeal.τ).loc Cert.KernelAdDecayIdeal.main_arg2) = m ((c.tc : Thread Cert.KernelAdDecayIdeal.nD Cert.KernelAdDecayIdeal.τ).loc Cert.KernelAdDecayIdeal.main_arg2)
          ∧ r.2.mem ((c.tc : Thread Cert.KernelAdDecayIdeal.nD Cert.KernelAdDecayIdeal.τ).loc Cert.KernelAdDecayIdeal.main_arg3) = m ((c.tc : Thread Cert.KernelAdDecayIdeal.nD Cert.KernelAdDecayIdeal.τ).loc Cert.KernelAdDecayIdeal.main_arg3))
      ∧ θ_run (Cert.ReferenceAdDecayIdeal.defs (F := Ideal)) (onTc (τ := Cert.ReferenceAdDecayIdeal.τ) (Cert.ReferenceAdDecayIdeal.main (F := Ideal))) ⟨m', fun _ => 0, g'⟩ (fun r => ∀ c : Dev Cert.ReferenceAdDecayIdeal.nD,
          r.2.mem ((c.tc : Thread Cert.ReferenceAdDecayIdeal.nD Cert.ReferenceAdDecayIdeal.τ).loc Cert.ReferenceAdDecayIdeal.main_v2) = v0 c
          ∧ r.2.mem ((c.tc : Thread Cert.ReferenceAdDecayIdeal.nD Cert.ReferenceAdDecayIdeal.τ).loc Cert.ReferenceAdDecayIdeal.main_v26) = v1 c
          ∧ r.2.mem ((c.tc : Thread Cert.ReferenceAdDecayIdeal.nD Cert.ReferenceAdDecayIdeal.τ).loc Cert.ReferenceAdDecayIdeal.main_v7) = v2 c
          ∧ r.2.mem ((c.tc : Thread Cert.ReferenceAdDecayIdeal.nD Cert.ReferenceAdDecayIdeal.τ).loc Cert.ReferenceAdDecayIdeal.main_v13) = v3 c
          ∧ r.2.mem ((c.tc : Thread Cert.ReferenceAdDecayIdeal.nD Cert.ReferenceAdDecayIdeal.τ).loc Cert.ReferenceAdDecayIdeal.main_arg0) = m' ((c.tc : Thread Cert.ReferenceAdDecayIdeal.nD Cert.ReferenceAdDecayIdeal.τ).loc Cert.ReferenceAdDecayIdeal.main_arg0)
          ∧ r.2.mem ((c.tc : Thread Cert.ReferenceAdDecayIdeal.nD Cert.ReferenceAdDecayIdeal.τ).loc Cert.ReferenceAdDecayIdeal.main_arg1) = m' ((c.tc : Thread Cert.ReferenceAdDecayIdeal.nD Cert.ReferenceAdDecayIdeal.τ).loc Cert.ReferenceAdDecayIdeal.main_arg1)
          ∧ r.2.mem ((c.tc : Thread Cert.ReferenceAdDecayIdeal.nD Cert.ReferenceAdDecayIdeal.τ).loc Cert.ReferenceAdDecayIdeal.main_arg2) = m' ((c.tc : Thread Cert.ReferenceAdDecayIdeal.nD Cert.ReferenceAdDecayIdeal.τ).loc Cert.ReferenceAdDecayIdeal.main_arg2)
          ∧ r.2.mem ((c.tc : Thread Cert.ReferenceAdDecayIdeal.nD Cert.ReferenceAdDecayIdeal.τ).loc Cert.ReferenceAdDecayIdeal.main_arg3) = m' ((c.tc : Thread Cert.ReferenceAdDecayIdeal.nD Cert.ReferenceAdDecayIdeal.τ).loc Cert.ReferenceAdDecayIdeal.main_arg3))

def preserves_KernelAdSmall_KernelAdSmallIdeal : Prop :=
  True

def algebraic_KernelAdSmallIdeal_ReferenceAdSmallIdeal [hKernelAdSmallIdeal : Cert.KernelAdSmallIdeal.Facts] [hReferenceAdSmallIdeal : Cert.ReferenceAdSmallIdeal.Facts] : Prop :=
  ∀ (m : (ℓ : Loc Cert.KernelAdSmallIdeal.nD Cert.KernelAdSmallIdeal.τ Cert.KernelAdSmallIdeal.sig) → Buf (Elt Ideal) ℓ) (g : Dev Cert.KernelAdSmallIdeal.nD → PrngReg)
    (m' : (ℓ : Loc Cert.ReferenceAdSmallIdeal.nD Cert.ReferenceAdSmallIdeal.τ Cert.ReferenceAdSmallIdeal.sig) → Buf (Elt Ideal) ℓ) (g' : Dev Cert.ReferenceAdSmallIdeal.nD → PrngReg), Pre_KernelAdSmallIdeal m →
    (∀ c : Dev Cert.KernelAdSmallIdeal.nD,
      m' ((c.tc : Thread Cert.ReferenceAdSmallIdeal.nD Cert.ReferenceAdSmallIdeal.τ).loc Cert.ReferenceAdSmallIdeal.main_arg0) = m ((c.tc : Thread Cert.KernelAdSmallIdeal.nD Cert.KernelAdSmallIdeal.τ).loc Cert.KernelAdSmallIdeal.main_arg0)
      ∧ m' ((c.tc : Thread Cert.ReferenceAdSmallIdeal.nD Cert.ReferenceAdSmallIdeal.τ).loc Cert.ReferenceAdSmallIdeal.main_arg1) = m ((c.tc : Thread Cert.KernelAdSmallIdeal.nD Cert.KernelAdSmallIdeal.τ).loc Cert.KernelAdSmallIdeal.main_arg1)
      ∧ m' ((c.tc : Thread Cert.ReferenceAdSmallIdeal.nD Cert.ReferenceAdSmallIdeal.τ).loc Cert.ReferenceAdSmallIdeal.main_arg2) = m ((c.tc : Thread Cert.KernelAdSmallIdeal.nD Cert.KernelAdSmallIdeal.τ).loc Cert.KernelAdSmallIdeal.main_arg2)
      ∧ m' ((c.tc : Thread Cert.ReferenceAdSmallIdeal.nD Cert.ReferenceAdSmallIdeal.τ).loc Cert.ReferenceAdSmallIdeal.main_arg3) = m ((c.tc : Thread Cert.KernelAdSmallIdeal.nD Cert.KernelAdSmallIdeal.τ).loc Cert.KernelAdSmallIdeal.main_arg3)) →
    ∃ (v0 : (c : Dev Cert.KernelAdSmallIdeal.nD) → Buf (Elt Ideal) ((c.tc : Thread Cert.KernelAdSmallIdeal.nD Cert.KernelAdSmallIdeal.τ).loc Cert.KernelAdSmallIdeal.main_v0_0)) (v1 : (c : Dev Cert.KernelAdSmallIdeal.nD) → Buf (Elt Ideal) ((c.tc : Thread Cert.KernelAdSmallIdeal.nD Cert.KernelAdSmallIdeal.τ).loc Cert.KernelAdSmallIdeal.main_v0_1)) (v2 : (c : Dev Cert.KernelAdSmallIdeal.nD) → Buf (Elt Ideal) ((c.tc : Thread Cert.KernelAdSmallIdeal.nD Cert.KernelAdSmallIdeal.τ).loc Cert.KernelAdSmallIdeal.main_v0_2)) (v3 : (c : Dev Cert.KernelAdSmallIdeal.nD) → Buf (Elt Ideal) ((c.tc : Thread Cert.KernelAdSmallIdeal.nD Cert.KernelAdSmallIdeal.τ).loc Cert.KernelAdSmallIdeal.main_v0_3)),
      θ_run (Cert.KernelAdSmallIdeal.defs (F := Ideal)) (onTc (τ := Cert.KernelAdSmallIdeal.τ) (Cert.KernelAdSmallIdeal.main (F := Ideal))) ⟨m, fun _ => 0, g⟩ (fun r => ∀ c : Dev Cert.KernelAdSmallIdeal.nD,
          r.2.mem ((c.tc : Thread Cert.KernelAdSmallIdeal.nD Cert.KernelAdSmallIdeal.τ).loc Cert.KernelAdSmallIdeal.main_v0_0) = v0 c
          ∧ r.2.mem ((c.tc : Thread Cert.KernelAdSmallIdeal.nD Cert.KernelAdSmallIdeal.τ).loc Cert.KernelAdSmallIdeal.main_v0_1) = v1 c
          ∧ r.2.mem ((c.tc : Thread Cert.KernelAdSmallIdeal.nD Cert.KernelAdSmallIdeal.τ).loc Cert.KernelAdSmallIdeal.main_v0_2) = v2 c
          ∧ r.2.mem ((c.tc : Thread Cert.KernelAdSmallIdeal.nD Cert.KernelAdSmallIdeal.τ).loc Cert.KernelAdSmallIdeal.main_v0_3) = v3 c
          ∧ r.2.mem ((c.tc : Thread Cert.KernelAdSmallIdeal.nD Cert.KernelAdSmallIdeal.τ).loc Cert.KernelAdSmallIdeal.main_arg0) = m ((c.tc : Thread Cert.KernelAdSmallIdeal.nD Cert.KernelAdSmallIdeal.τ).loc Cert.KernelAdSmallIdeal.main_arg0)
          ∧ r.2.mem ((c.tc : Thread Cert.KernelAdSmallIdeal.nD Cert.KernelAdSmallIdeal.τ).loc Cert.KernelAdSmallIdeal.main_arg1) = m ((c.tc : Thread Cert.KernelAdSmallIdeal.nD Cert.KernelAdSmallIdeal.τ).loc Cert.KernelAdSmallIdeal.main_arg1)
          ∧ r.2.mem ((c.tc : Thread Cert.KernelAdSmallIdeal.nD Cert.KernelAdSmallIdeal.τ).loc Cert.KernelAdSmallIdeal.main_arg2) = m ((c.tc : Thread Cert.KernelAdSmallIdeal.nD Cert.KernelAdSmallIdeal.τ).loc Cert.KernelAdSmallIdeal.main_arg2)
          ∧ r.2.mem ((c.tc : Thread Cert.KernelAdSmallIdeal.nD Cert.KernelAdSmallIdeal.τ).loc Cert.KernelAdSmallIdeal.main_arg3) = m ((c.tc : Thread Cert.KernelAdSmallIdeal.nD Cert.KernelAdSmallIdeal.τ).loc Cert.KernelAdSmallIdeal.main_arg3))
      ∧ θ_run (Cert.ReferenceAdSmallIdeal.defs (F := Ideal)) (onTc (τ := Cert.ReferenceAdSmallIdeal.τ) (Cert.ReferenceAdSmallIdeal.main (F := Ideal))) ⟨m', fun _ => 0, g'⟩ (fun r => ∀ c : Dev Cert.ReferenceAdSmallIdeal.nD,
          r.2.mem ((c.tc : Thread Cert.ReferenceAdSmallIdeal.nD Cert.ReferenceAdSmallIdeal.τ).loc Cert.ReferenceAdSmallIdeal.main_v0) = v0 c
          ∧ r.2.mem ((c.tc : Thread Cert.ReferenceAdSmallIdeal.nD Cert.ReferenceAdSmallIdeal.τ).loc Cert.ReferenceAdSmallIdeal.main_v24) = v1 c
          ∧ r.2.mem ((c.tc : Thread Cert.ReferenceAdSmallIdeal.nD Cert.ReferenceAdSmallIdeal.τ).loc Cert.ReferenceAdSmallIdeal.main_v5) = v2 c
          ∧ r.2.mem ((c.tc : Thread Cert.ReferenceAdSmallIdeal.nD Cert.ReferenceAdSmallIdeal.τ).loc Cert.ReferenceAdSmallIdeal.main_v11) = v3 c
          ∧ r.2.mem ((c.tc : Thread Cert.ReferenceAdSmallIdeal.nD Cert.ReferenceAdSmallIdeal.τ).loc Cert.ReferenceAdSmallIdeal.main_arg0) = m' ((c.tc : Thread Cert.ReferenceAdSmallIdeal.nD Cert.ReferenceAdSmallIdeal.τ).loc Cert.ReferenceAdSmallIdeal.main_arg0)
          ∧ r.2.mem ((c.tc : Thread Cert.ReferenceAdSmallIdeal.nD Cert.ReferenceAdSmallIdeal.τ).loc Cert.ReferenceAdSmallIdeal.main_arg1) = m' ((c.tc : Thread Cert.ReferenceAdSmallIdeal.nD Cert.ReferenceAdSmallIdeal.τ).loc Cert.ReferenceAdSmallIdeal.main_arg1)
          ∧ r.2.mem ((c.tc : Thread Cert.ReferenceAdSmallIdeal.nD Cert.ReferenceAdSmallIdeal.τ).loc Cert.ReferenceAdSmallIdeal.main_arg2) = m' ((c.tc : Thread Cert.ReferenceAdSmallIdeal.nD Cert.ReferenceAdSmallIdeal.τ).loc Cert.ReferenceAdSmallIdeal.main_arg2)
          ∧ r.2.mem ((c.tc : Thread Cert.ReferenceAdSmallIdeal.nD Cert.ReferenceAdSmallIdeal.τ).loc Cert.ReferenceAdSmallIdeal.main_arg3) = m' ((c.tc : Thread Cert.ReferenceAdSmallIdeal.nD Cert.ReferenceAdSmallIdeal.τ).loc Cert.ReferenceAdSmallIdeal.main_arg3))

def Claim : Prop :=
  ∃ (hKernel : Cert.Kernel.Facts) (hKernelIdeal : Cert.KernelIdeal.Facts) (hReferenceIdeal : Cert.ReferenceIdeal.Facts) (hKernelKv : Cert.KernelKv.Facts) (hKernelKvIdeal : Cert.KernelKvIdeal.Facts) (hReferenceKvIdeal : Cert.ReferenceKvIdeal.Facts) (hKernelAct : Cert.KernelAct.Facts) (hKernelActIdeal : Cert.KernelActIdeal.Facts) (hReferenceActIdeal : Cert.ReferenceActIdeal.Facts) (hKernelDwOut : Cert.KernelDwOut.Facts) (hKernelDwOutIdeal : Cert.KernelDwOutIdeal.Facts) (hReferenceDwOutIdeal : Cert.ReferenceDwOutIdeal.Facts) (hKernelDwIn : Cert.KernelDwIn.Facts) (hKernelDwInIdeal : Cert.KernelDwInIdeal.Facts) (hReferenceDwInIdeal : Cert.ReferenceDwInIdeal.Facts) (hKernelOut : Cert.KernelOut.Facts) (hKernelOutIdeal : Cert.KernelOutIdeal.Facts) (hReferenceOutIdeal : Cert.ReferenceOutIdeal.Facts) (hKernelDw : Cert.KernelDw.Facts) (hKernelDwIdeal : Cert.KernelDwIdeal.Facts) (hReferenceDwIdeal : Cert.ReferenceDwIdeal.Facts) (hKernelDx : Cert.KernelDx.Facts) (hKernelDxIdeal : Cert.KernelDxIdeal.Facts) (hReferenceDxIdeal : Cert.ReferenceDxIdeal.Facts) (hKernelY : Cert.KernelY.Facts) (hKernelYIdeal : Cert.KernelYIdeal.Facts) (hReferenceYIdeal : Cert.ReferenceYIdeal.Facts) (hKernelDwZ : Cert.KernelDwZ.Facts) (hKernelDwZIdeal : Cert.KernelDwZIdeal.Facts) (hReferenceDwZIdeal : Cert.ReferenceDwZIdeal.Facts) (hKernelDwQ : Cert.KernelDwQ.Facts) (hKernelDwQIdeal : Cert.KernelDwQIdeal.Facts) (hReferenceDwQIdeal : Cert.ReferenceDwQIdeal.Facts) (hKernelDwV : Cert.KernelDwV.Facts) (hKernelDwVIdeal : Cert.KernelDwVIdeal.Facts) (hReferenceDwVIdeal : Cert.ReferenceDwVIdeal.Facts) (hKernelDwRw : Cert.KernelDwRw.Facts) (hKernelDwRwIdeal : Cert.KernelDwRwIdeal.Facts) (hReferenceDwRwIdeal : Cert.ReferenceDwRwIdeal.Facts) (hKernelDxRw : Cert.KernelDxRw.Facts) (hKernelDxRwIdeal : Cert.KernelDxRwIdeal.Facts) (hReferenceDxRwIdeal : Cert.ReferenceDxRwIdeal.Facts) (hKernelYRw : Cert.KernelYRw.Facts) (hKernelYRwIdeal : Cert.KernelYRwIdeal.Facts) (hReferenceYRwIdeal : Cert.ReferenceYRwIdeal.Facts) (hKernelDwAt : Cert.KernelDwAt.Facts) (hKernelDwAtIdeal : Cert.KernelDwAtIdeal.Facts) (hReferenceDwAtIdeal : Cert.ReferenceDwAtIdeal.Facts) (hKernelDxAt : Cert.KernelDxAt.Facts) (hKernelDxAtIdeal : Cert.KernelDxAtIdeal.Facts) (hReferenceDxAtIdeal : Cert.ReferenceDxAtIdeal.Facts) (hKernelYAt : Cert.KernelYAt.Facts) (hKernelYAtIdeal : Cert.KernelYAtIdeal.Facts) (hReferenceYAtIdeal : Cert.ReferenceYAtIdeal.Facts) (hKernelDwPle : Cert.KernelDwPle.Facts) (hKernelDwPleIdeal : Cert.KernelDwPleIdeal.Facts) (hReferenceDwPleIdeal : Cert.ReferenceDwPleIdeal.Facts) (hKernelYPle : Cert.KernelYPle.Facts) (hKernelYPleIdeal : Cert.KernelYPleIdeal.Facts) (hReferenceYPleIdeal : Cert.ReferenceYPleIdeal.Facts) (hKernelAdIn : Cert.KernelAdIn.Facts) (hKernelAdInIdeal : Cert.KernelAdInIdeal.Facts) (hReferenceAdInIdeal : Cert.ReferenceAdInIdeal.Facts) (hKernelAdMlpIn : Cert.KernelAdMlpIn.Facts) (hKernelAdMlpInIdeal : Cert.KernelAdMlpInIdeal.Facts) (hReferenceAdMlpInIdeal : Cert.ReferenceAdMlpInIdeal.Facts) (hKernelAdMlpOut : Cert.KernelAdMlpOut.Facts) (hKernelAdMlpOutIdeal : Cert.KernelAdMlpOutIdeal.Facts) (hReferenceAdMlpOutIdeal : Cert.ReferenceAdMlpOutIdeal.Facts) (hKernelAdOut : Cert.KernelAdOut.Facts) (hKernelAdOutIdeal : Cert.KernelAdOutIdeal.Facts) (hReferenceAdOutIdeal : Cert.ReferenceAdOutIdeal.Facts) (hKernelAdRw : Cert.KernelAdRw.Facts) (hKernelAdRwIdeal : Cert.KernelAdRwIdeal.Facts) (hReferenceAdRwIdeal : Cert.ReferenceAdRwIdeal.Facts) (hKernelAdAt : Cert.KernelAdAt.Facts) (hKernelAdAtIdeal : Cert.KernelAdAtIdeal.Facts) (hReferenceAdAtIdeal : Cert.ReferenceAdAtIdeal.Facts) (hKernelAdPle : Cert.KernelAdPle.Facts) (hKernelAdPleIdeal : Cert.KernelAdPleIdeal.Facts) (hReferenceAdPleIdeal : Cert.ReferenceAdPleIdeal.Facts) (hKernelAdGate : Cert.KernelAdGate.Facts) (hKernelAdGateIdeal : Cert.KernelAdGateIdeal.Facts) (hReferenceAdGateIdeal : Cert.ReferenceAdGateIdeal.Facts) (hKernelAdDecay : Cert.KernelAdDecay.Facts) (hKernelAdDecayIdeal : Cert.KernelAdDecayIdeal.Facts) (hReferenceAdDecayIdeal : Cert.ReferenceAdDecayIdeal.Facts) (hKernelAdSmall : Cert.KernelAdSmall.Facts) (hKernelAdSmallIdeal : Cert.KernelAdSmallIdeal.Facts) (hReferenceAdSmallIdeal : Cert.ReferenceAdSmallIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelDwZ (hKernelDwZ := hKernelDwZ)
    ∧ quiescent_KernelDwZIdeal (hKernelDwZIdeal := hKernelDwZIdeal)
    ∧ quiescent_ReferenceDwZIdeal (hReferenceDwZIdeal := hReferenceDwZIdeal)
    ∧ quiescent_KernelDwQ (hKernelDwQ := hKernelDwQ)
    ∧ quiescent_KernelDwQIdeal (hKernelDwQIdeal := hKernelDwQIdeal)
    ∧ quiescent_ReferenceDwQIdeal (hReferenceDwQIdeal := hReferenceDwQIdeal)
    ∧ quiescent_KernelDwV (hKernelDwV := hKernelDwV)
    ∧ quiescent_KernelDwVIdeal (hKernelDwVIdeal := hKernelDwVIdeal)
    ∧ quiescent_ReferenceDwVIdeal (hReferenceDwVIdeal := hReferenceDwVIdeal)
    ∧ quiescent_KernelDwRw (hKernelDwRw := hKernelDwRw)
    ∧ quiescent_KernelDwRwIdeal (hKernelDwRwIdeal := hKernelDwRwIdeal)
    ∧ quiescent_ReferenceDwRwIdeal (hReferenceDwRwIdeal := hReferenceDwRwIdeal)
    ∧ quiescent_KernelDxRw (hKernelDxRw := hKernelDxRw)
    ∧ quiescent_KernelDxRwIdeal (hKernelDxRwIdeal := hKernelDxRwIdeal)
    ∧ quiescent_ReferenceDxRwIdeal (hReferenceDxRwIdeal := hReferenceDxRwIdeal)
    ∧ quiescent_KernelYRw (hKernelYRw := hKernelYRw)
    ∧ quiescent_KernelYRwIdeal (hKernelYRwIdeal := hKernelYRwIdeal)
    ∧ quiescent_ReferenceYRwIdeal (hReferenceYRwIdeal := hReferenceYRwIdeal)
    ∧ quiescent_KernelDwAt (hKernelDwAt := hKernelDwAt)
    ∧ quiescent_KernelDwAtIdeal (hKernelDwAtIdeal := hKernelDwAtIdeal)
    ∧ quiescent_ReferenceDwAtIdeal (hReferenceDwAtIdeal := hReferenceDwAtIdeal)
    ∧ quiescent_KernelDxAt (hKernelDxAt := hKernelDxAt)
    ∧ quiescent_KernelDxAtIdeal (hKernelDxAtIdeal := hKernelDxAtIdeal)
    ∧ quiescent_ReferenceDxAtIdeal (hReferenceDxAtIdeal := hReferenceDxAtIdeal)
    ∧ quiescent_KernelYAt (hKernelYAt := hKernelYAt)
    ∧ quiescent_KernelYAtIdeal (hKernelYAtIdeal := hKernelYAtIdeal)
    ∧ quiescent_ReferenceYAtIdeal (hReferenceYAtIdeal := hReferenceYAtIdeal)
    ∧ quiescent_KernelDwPle (hKernelDwPle := hKernelDwPle)
    ∧ quiescent_KernelDwPleIdeal (hKernelDwPleIdeal := hKernelDwPleIdeal)
    ∧ quiescent_ReferenceDwPleIdeal (hReferenceDwPleIdeal := hReferenceDwPleIdeal)
    ∧ quiescent_KernelYPle (hKernelYPle := hKernelYPle)
    ∧ quiescent_KernelYPleIdeal (hKernelYPleIdeal := hKernelYPleIdeal)
    ∧ quiescent_ReferenceYPleIdeal (hReferenceYPleIdeal := hReferenceYPleIdeal)
    ∧ quiescent_KernelAdIn (hKernelAdIn := hKernelAdIn)
    ∧ quiescent_KernelAdInIdeal (hKernelAdInIdeal := hKernelAdInIdeal)
    ∧ quiescent_ReferenceAdInIdeal (hReferenceAdInIdeal := hReferenceAdInIdeal)
    ∧ quiescent_KernelAdMlpIn (hKernelAdMlpIn := hKernelAdMlpIn)
    ∧ quiescent_KernelAdMlpInIdeal (hKernelAdMlpInIdeal := hKernelAdMlpInIdeal)
    ∧ quiescent_ReferenceAdMlpInIdeal (hReferenceAdMlpInIdeal := hReferenceAdMlpInIdeal)
    ∧ quiescent_KernelAdMlpOut (hKernelAdMlpOut := hKernelAdMlpOut)
    ∧ quiescent_KernelAdMlpOutIdeal (hKernelAdMlpOutIdeal := hKernelAdMlpOutIdeal)
    ∧ quiescent_ReferenceAdMlpOutIdeal (hReferenceAdMlpOutIdeal := hReferenceAdMlpOutIdeal)
    ∧ quiescent_KernelAdOut (hKernelAdOut := hKernelAdOut)
    ∧ quiescent_KernelAdOutIdeal (hKernelAdOutIdeal := hKernelAdOutIdeal)
    ∧ quiescent_ReferenceAdOutIdeal (hReferenceAdOutIdeal := hReferenceAdOutIdeal)
    ∧ quiescent_KernelAdRw (hKernelAdRw := hKernelAdRw)
    ∧ quiescent_KernelAdRwIdeal (hKernelAdRwIdeal := hKernelAdRwIdeal)
    ∧ quiescent_ReferenceAdRwIdeal (hReferenceAdRwIdeal := hReferenceAdRwIdeal)
    ∧ quiescent_KernelAdAt (hKernelAdAt := hKernelAdAt)
    ∧ quiescent_KernelAdAtIdeal (hKernelAdAtIdeal := hKernelAdAtIdeal)
    ∧ quiescent_ReferenceAdAtIdeal (hReferenceAdAtIdeal := hReferenceAdAtIdeal)
    ∧ quiescent_KernelAdPle (hKernelAdPle := hKernelAdPle)
    ∧ quiescent_KernelAdPleIdeal (hKernelAdPleIdeal := hKernelAdPleIdeal)
    ∧ quiescent_ReferenceAdPleIdeal (hReferenceAdPleIdeal := hReferenceAdPleIdeal)
    ∧ quiescent_KernelAdGate (hKernelAdGate := hKernelAdGate)
    ∧ quiescent_KernelAdGateIdeal (hKernelAdGateIdeal := hKernelAdGateIdeal)
    ∧ quiescent_ReferenceAdGateIdeal (hReferenceAdGateIdeal := hReferenceAdGateIdeal)
    ∧ quiescent_KernelAdDecay (hKernelAdDecay := hKernelAdDecay)
    ∧ quiescent_KernelAdDecayIdeal (hKernelAdDecayIdeal := hKernelAdDecayIdeal)
    ∧ quiescent_ReferenceAdDecayIdeal (hReferenceAdDecayIdeal := hReferenceAdDecayIdeal)
    ∧ quiescent_KernelAdSmall (hKernelAdSmall := hKernelAdSmall)
    ∧ quiescent_KernelAdSmallIdeal (hKernelAdSmallIdeal := hKernelAdSmallIdeal)
    ∧ quiescent_ReferenceAdSmallIdeal (hReferenceAdSmallIdeal := hReferenceAdSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelKv_KernelKvIdeal
    ∧ algebraic_KernelKvIdeal_ReferenceKvIdeal (hKernelKvIdeal := hKernelKvIdeal) (hReferenceKvIdeal := hReferenceKvIdeal)
    ∧ preserves_KernelAct_KernelActIdeal
    ∧ algebraic_KernelActIdeal_ReferenceActIdeal (hKernelActIdeal := hKernelActIdeal) (hReferenceActIdeal := hReferenceActIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelOut_KernelOutIdeal
    ∧ algebraic_KernelOutIdeal_ReferenceOutIdeal (hKernelOutIdeal := hKernelOutIdeal) (hReferenceOutIdeal := hReferenceOutIdeal)
    ∧ preserves_KernelDw_KernelDwIdeal
    ∧ algebraic_KernelDwIdeal_ReferenceDwIdeal (hKernelDwIdeal := hKernelDwIdeal) (hReferenceDwIdeal := hReferenceDwIdeal)
    ∧ preserves_KernelDx_KernelDxIdeal
    ∧ algebraic_KernelDxIdeal_ReferenceDxIdeal (hKernelDxIdeal := hKernelDxIdeal) (hReferenceDxIdeal := hReferenceDxIdeal)
    ∧ preserves_KernelY_KernelYIdeal
    ∧ algebraic_KernelYIdeal_ReferenceYIdeal (hKernelYIdeal := hKernelYIdeal) (hReferenceYIdeal := hReferenceYIdeal)
    ∧ preserves_KernelDwZ_KernelDwZIdeal
    ∧ algebraic_KernelDwZIdeal_ReferenceDwZIdeal (hKernelDwZIdeal := hKernelDwZIdeal) (hReferenceDwZIdeal := hReferenceDwZIdeal)
    ∧ preserves_KernelDwQ_KernelDwQIdeal
    ∧ algebraic_KernelDwQIdeal_ReferenceDwQIdeal (hKernelDwQIdeal := hKernelDwQIdeal) (hReferenceDwQIdeal := hReferenceDwQIdeal)
    ∧ preserves_KernelDwV_KernelDwVIdeal
    ∧ algebraic_KernelDwVIdeal_ReferenceDwVIdeal (hKernelDwVIdeal := hKernelDwVIdeal) (hReferenceDwVIdeal := hReferenceDwVIdeal)
    ∧ preserves_KernelDwRw_KernelDwRwIdeal
    ∧ algebraic_KernelDwRwIdeal_ReferenceDwRwIdeal (hKernelDwRwIdeal := hKernelDwRwIdeal) (hReferenceDwRwIdeal := hReferenceDwRwIdeal)
    ∧ preserves_KernelDxRw_KernelDxRwIdeal
    ∧ algebraic_KernelDxRwIdeal_ReferenceDxRwIdeal (hKernelDxRwIdeal := hKernelDxRwIdeal) (hReferenceDxRwIdeal := hReferenceDxRwIdeal)
    ∧ preserves_KernelYRw_KernelYRwIdeal
    ∧ algebraic_KernelYRwIdeal_ReferenceYRwIdeal (hKernelYRwIdeal := hKernelYRwIdeal) (hReferenceYRwIdeal := hReferenceYRwIdeal)
    ∧ preserves_KernelDwAt_KernelDwAtIdeal
    ∧ algebraic_KernelDwAtIdeal_ReferenceDwAtIdeal (hKernelDwAtIdeal := hKernelDwAtIdeal) (hReferenceDwAtIdeal := hReferenceDwAtIdeal)
    ∧ preserves_KernelDxAt_KernelDxAtIdeal
    ∧ algebraic_KernelDxAtIdeal_ReferenceDxAtIdeal (hKernelDxAtIdeal := hKernelDxAtIdeal) (hReferenceDxAtIdeal := hReferenceDxAtIdeal)
    ∧ preserves_KernelYAt_KernelYAtIdeal
    ∧ algebraic_KernelYAtIdeal_ReferenceYAtIdeal (hKernelYAtIdeal := hKernelYAtIdeal) (hReferenceYAtIdeal := hReferenceYAtIdeal)
    ∧ preserves_KernelDwPle_KernelDwPleIdeal
    ∧ algebraic_KernelDwPleIdeal_ReferenceDwPleIdeal (hKernelDwPleIdeal := hKernelDwPleIdeal) (hReferenceDwPleIdeal := hReferenceDwPleIdeal)
    ∧ preserves_KernelYPle_KernelYPleIdeal
    ∧ algebraic_KernelYPleIdeal_ReferenceYPleIdeal (hKernelYPleIdeal := hKernelYPleIdeal) (hReferenceYPleIdeal := hReferenceYPleIdeal)
    ∧ preserves_KernelAdIn_KernelAdInIdeal
    ∧ algebraic_KernelAdInIdeal_ReferenceAdInIdeal (hKernelAdInIdeal := hKernelAdInIdeal) (hReferenceAdInIdeal := hReferenceAdInIdeal)
    ∧ preserves_KernelAdMlpIn_KernelAdMlpInIdeal
    ∧ algebraic_KernelAdMlpInIdeal_ReferenceAdMlpInIdeal (hKernelAdMlpInIdeal := hKernelAdMlpInIdeal) (hReferenceAdMlpInIdeal := hReferenceAdMlpInIdeal)
    ∧ preserves_KernelAdMlpOut_KernelAdMlpOutIdeal
    ∧ algebraic_KernelAdMlpOutIdeal_ReferenceAdMlpOutIdeal (hKernelAdMlpOutIdeal := hKernelAdMlpOutIdeal) (hReferenceAdMlpOutIdeal := hReferenceAdMlpOutIdeal)
    ∧ preserves_KernelAdOut_KernelAdOutIdeal
    ∧ algebraic_KernelAdOutIdeal_ReferenceAdOutIdeal (hKernelAdOutIdeal := hKernelAdOutIdeal) (hReferenceAdOutIdeal := hReferenceAdOutIdeal)
    ∧ preserves_KernelAdRw_KernelAdRwIdeal
    ∧ algebraic_KernelAdRwIdeal_ReferenceAdRwIdeal (hKernelAdRwIdeal := hKernelAdRwIdeal) (hReferenceAdRwIdeal := hReferenceAdRwIdeal)
    ∧ preserves_KernelAdAt_KernelAdAtIdeal
    ∧ algebraic_KernelAdAtIdeal_ReferenceAdAtIdeal (hKernelAdAtIdeal := hKernelAdAtIdeal) (hReferenceAdAtIdeal := hReferenceAdAtIdeal)
    ∧ preserves_KernelAdPle_KernelAdPleIdeal
    ∧ algebraic_KernelAdPleIdeal_ReferenceAdPleIdeal (hKernelAdPleIdeal := hKernelAdPleIdeal) (hReferenceAdPleIdeal := hReferenceAdPleIdeal)
    ∧ preserves_KernelAdGate_KernelAdGateIdeal
    ∧ algebraic_KernelAdGateIdeal_ReferenceAdGateIdeal (hKernelAdGateIdeal := hKernelAdGateIdeal) (hReferenceAdGateIdeal := hReferenceAdGateIdeal)
    ∧ preserves_KernelAdDecay_KernelAdDecayIdeal
    ∧ algebraic_KernelAdDecayIdeal_ReferenceAdDecayIdeal (hKernelAdDecayIdeal := hKernelAdDecayIdeal) (hReferenceAdDecayIdeal := hReferenceAdDecayIdeal)
    ∧ preserves_KernelAdSmall_KernelAdSmallIdeal
    ∧ algebraic_KernelAdSmallIdeal_ReferenceAdSmallIdeal (hKernelAdSmallIdeal := hKernelAdSmallIdeal) (hReferenceAdSmallIdeal := hReferenceAdSmallIdeal)
-- ==== Pre_finite.lean ====
abbrev S4096x512 : Shape := ⟨2, ![4096, 512]⟩
abbrev S4x128x128 : Shape := ⟨3, ![4, 128, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S4x128x128 .f32) (main_arg5 : FVec F S4096x512 .f32) (main_arg6 : FVec F S4096x512 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x512 .f32) (main_arg3 : FVec F S4x128x128 .f32) (main_arg4 : FVec F S4x128x128 .f32) (main_arg5 : FVec F S4096x512 .f32) (main_arg6 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_v13 main_v16
-- ==== Kernel.lean ====
abbrev S4096x512 : Shape := ⟨2, ![4096, 512]⟩
abbrev S4x128x128 : Shape := ⟨3, ![4, 128, 128]⟩
abbrev S1024x2048 : Shape := ⟨2, ![1024, 2048]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 19
  | .vmem => 32
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x128x128, .f32⟩
  | .hbm, ⟨4, _⟩ => ⟨S4x128x128, .f32⟩
  | .hbm, ⟨5, _⟩ => ⟨S4096x512, .f32⟩
  | .hbm, ⟨6, _⟩ => ⟨S4096x512, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S4x128x128, .f32⟩
  | .hbm, ⟨18, _⟩ => ⟨S4x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg1 : BitVec 32 := BitVec.ofNat 32 (i 1).val
  let c0_i32_63 : BitVec 32 := 0#32
  let v137 : BitVec 1 := Scalar.cmpi .eq arg1 c0_i32_63
  let arg2 : BitVec 32 := BitVec.ofNat 32 (i 2).val
  let c0_i32_64 : BitVec 32 := 0#32
  let v138 : BitVec 1 := Scalar.cmpi .eq arg2 c0_i32_64
  let v139 : BitVec 1 := Scalar.andi v137 v138
  let v140 : BitVec 32 := Scalar.extui v139
  let c0_i32_65 : BitVec 32 := 0#32
  let v141 : BitVec 1 := Scalar.cmpi .ne v140 c0_i32_65
  v141

def k0_cond2 (i : grid0.Coords) : BitVec 1 :=
  let arg1 : BitVec 32 := BitVec.ofNat 32 (i 1).val
  let c0_i32_63 : BitVec 32 := 0#32
  let v137 : BitVec 1 := Scalar.cmpi .eq arg1 c0_i32_63
  let arg2 : BitVec 32 := BitVec.ofNat 32 (i 2).val
  let c0_i32_64 : BitVec 32 := 0#32
  let v138 : BitVec 1 := Scalar.cmpi .eq arg2 c0_i32_64
  let v139 : BitVec 1 := Scalar.andi v137 v138
  let v_true : BitVec 1 := 1#1
  let v142 : BitVec 1 := Scalar.xori v139 v_true
  let v143 : BitVec 32 := Scalar.extui v142
  let c0_i32_66 : BitVec 32 := 0#32
  let v144 : BitVec 1 := Scalar.cmpi .ne v143 c0_i32_66
  v144

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c_m1_i32 : BitVec 32 := 4294967295#32
  let v0 : BitVec 32 := Scalar.addi arg2 c_m1_i32
  let c0_i32 : BitVec 32 := 0#32
  let c7_i32 : BitVec 32 := 7#32
  let v1 : BitVec 32 := Scalar.maxsi c0_i32 v0
  let v2 : BitVec 32 := Scalar.minsi c7_i32 v1
  let c4_i32 : BitVec 32 := 4#32
  let v3 : BitVec 32 := Scalar.muli arg1 c4_i32
  let c0_i32_0 : BitVec 32 := 0#32
  let v4 : BitVec 32 := Scalar.addi v3 c0_i32_0
  let v5 : BitVec 32 := Scalar.addi v4 arg0
  let c0_i32_1 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c_m1_i32 : BitVec 32 := 4294967295#32
  let v0 : BitVec 32 := Scalar.addi arg2 c_m1_i32
  let c0_i32 : BitVec 32 := 0#32
  let c7_i32 : BitVec 32 := 7#32
  let v1 : BitVec 32 := Scalar.maxsi c0_i32 v0
  let v2 : BitVec 32 := Scalar.minsi c7_i32 v1
  let c4_i32 : BitVec 32 := 4#32
  let v3 : BitVec 32 := Scalar.muli arg1 c4_i32
  let c0_i32_0 : BitVec 32 := 0#32
  let v4 : BitVec 32 := Scalar.addi v3 c0_i32_0
  let v5 : BitVec 32 := Scalar.addi v4 arg0
  let c0_i32_1 : BitVec 32 := 0#32
  ![v2.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let c0_i32_1 : BitVec 32 := 0#32
  let v4 : BitVec 32 := Scalar.addi v3 c0_i32_1
  let v5 : BitVec 32 := Scalar.addi v4 arg0
  let c0_i32_2 : BitVec 32 := 0#32
  ![v2.toNat, v5.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]
-- ==== ReferenceIdeal.lean ====
abbrev S4096x512 : Shape := ⟨2, ![4096, 512]⟩
abbrev S4x128x128 : Shape := ⟨3, ![4, 128, 128]⟩
abbrev S512x512 : Shape := ⟨2, ![512, 512]⟩
abbrev S_ : Shape := ⟨0, ![]⟩
abbrev S3584x512 : Shape := ⟨2, ![3584, 512]⟩
abbrev S1024x4x4x128 : Shape := ⟨4, ![1024, 4, 4, 128]⟩
abbrev S4x4x1024x128 : Shape := ⟨4, ![4, 4, 1024, 128]⟩
abbrev S4x4x8x128x128 : Shape := ⟨5, ![4, 4, 8, 128, 128]⟩
abbrev S4x4x8x256x128 : Shape := ⟨5, ![4, 4, 8, 256, 128]⟩
abbrev S4x4x8x128x256 : Shape := ⟨5, ![4, 4, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S4x128x256 : Shape := ⟨3, ![4, 128, 256]⟩
abbrev S4x1x128x256 : Shape := ⟨4, ![4, 1, 128, 256]⟩
abbrev S1x4x1x128x256 : Shape := ⟨5, ![1, 4, 1, 128, 256]⟩
abbrev S4x4x8x128 : Shape := ⟨4, ![4, 4, 8, 128]⟩
abbrev S4x4x8x128x1 : Shape := ⟨5, ![4, 4, 8, 128, 1]⟩
abbrev S4x4x1024 : Shape := ⟨3, ![4, 4, 1024]⟩
abbrev S1024x4x4 : Shape := ⟨3, ![1024, 4, 4]⟩
abbrev S1024x4x4x1 : Shape := ⟨4, ![1024, 4, 4, 1]⟩
abbrev S1024x2048 : Shape := ⟨2, ![1024, 2048]⟩

abbrev nBuf : Space → Nat
  | .hbm => 201
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4x128x128, .f32⟩
  | 4 => ⟨S4x128x128, .f32⟩
  | 5 => ⟨S4096x512, .f32⟩
  | 6 => ⟨S4096x512, .f32⟩
  | 7 => ⟨S512x512, .f32⟩
  | 8 => ⟨S_, .f32⟩
  | 9 => ⟨S512x512, .f32⟩
  | 10 => ⟨S3584x512, .f32⟩
  | 11 => ⟨S4096x512, .f32⟩
  | 12 => ⟨S512x512, .f32⟩
  | 13 => ⟨S_, .f32⟩
  | 14 => ⟨S512x512, .f32⟩
  | 15 => ⟨S3584x512, .f32⟩
  | 16 => ⟨S4096x512, .f32⟩
  | 17 => ⟨S1024x4x4x128, .f32⟩
  | 18 => ⟨S4x4x1024x128, .f32⟩
  | 19 => ⟨S4x4x8x128x128, .f32⟩
  | 20 => ⟨S1024x4x4x128, .f32⟩
  | 21 => ⟨S4x4x1024x128, .f32⟩
  | 22 => ⟨S4x4x8x128x128, .f32⟩
  | 23 => ⟨S1024x4x4x128, .f32⟩
  | 24 => ⟨S4x4x1024x128, .f32⟩
  | 25 => ⟨S4x4x8x128x128, .f32⟩
  | 26 => ⟨S4x4x8x256x128, .f32⟩
  | 27 => ⟨S1024x4x4x128, .f32⟩
  | 28 => ⟨S4x4x1024x128, .f32⟩
  | 29 => ⟨S4x4x8x128x128, .f32⟩
  | 30 => ⟨S1024x4x4x128, .f32⟩
  | 31 => ⟨S4x4x1024x128, .f32⟩
  | 32 => ⟨S4x4x8x128x128, .f32⟩
  | 33 => ⟨S4x4x8x256x128, .f32⟩
  | 34 => ⟨S4x4x8x128x256, .f32⟩
  | 35 => ⟨S_, .f32⟩
  | 36 => ⟨S4x4x8x128x256, .f32⟩
  | 37 => ⟨S4x4x8x128x256, .f32⟩
  | 38 => ⟨S128, .i32⟩
  | 39 => ⟨S_, .i32⟩
  | 40 => ⟨S128, .i32⟩
  | 41 => ⟨S128, .i32⟩
  | 42 => ⟨S256, .i32⟩
  | 43 => ⟨S128x1, .i32⟩
  | 44 => ⟨S1x256, .i32⟩
  | 45 => ⟨S128x256, .i32⟩
  | 46 => ⟨S128x256, .i32⟩
  | 47 => ⟨S128x256, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S8, .i32⟩
  | 56 => ⟨S8x1x1, .i32⟩
  | 57 => ⟨S_, .i32⟩
  | 58 => ⟨S8x1x1, .i32⟩
  | 59 => ⟨S8x1x1, .i1⟩
  | 60 => ⟨S1x1x256, .i32⟩
  | 61 => ⟨S_, .i32⟩
  | 62 => ⟨S1x1x256, .i32⟩
  | 63 => ⟨S1x1x256, .i1⟩
  | 64 => ⟨S8x1x256, .i1⟩
  | 65 => ⟨S8x1x256, .i1⟩
  | 66 => ⟨S8x1x256, .i1⟩
  | 67 => ⟨S1x128x256, .i1⟩
  | 68 => ⟨S8x1x256, .i1⟩
  | 69 => ⟨S8x128x256, .i1⟩
  | 70 => ⟨S8x128x256, .i1⟩
  | 71 => ⟨S8x128x256, .i1⟩
  | 72 => ⟨S4x128x256, .f32⟩
  | 73 => ⟨S4x1x128x256, .f32⟩
  | 74 => ⟨S1x4x1x128x256, .f32⟩
  | 75 => ⟨S4x4x8x128x256, .f32⟩
  | 76 => ⟨S4x4x8x128x256, .f32⟩
  | 77 => ⟨S_, .f32⟩
  | 78 => ⟨S_, .f32⟩
  | 79 => ⟨S4x4x8x128x256, .i1⟩
  | 80 => ⟨S4x4x8x128x256, .f32⟩
  | 81 => ⟨S4x4x8x128x256, .f32⟩
  | 82 => ⟨S_, .f32⟩
  | 83 => ⟨S4x4x8x128x256, .f32⟩
  | 84 => ⟨S_, .f32⟩
  | 85 => ⟨S4x4x8x128, .f32⟩
  | 86 => ⟨S4x4x8x128x1, .f32⟩
  | 87 => ⟨S4x4x8x128x256, .f32⟩
  | 88 => ⟨S4x4x8x128x256, .i1⟩
  | 89 => ⟨S4x4x8x128x256, .f32⟩
  | 90 => ⟨S_, .f32⟩
  | 91 => ⟨S4x4x8x128, .f32⟩
  | 92 => ⟨S4x4x8x128x1, .f32⟩
  | 93 => ⟨S4x4x8x128x256, .f32⟩
  | 94 => ⟨S4x4x8x128x256, .f32⟩
  | 95 => ⟨S4x4x8x128x256, .f32⟩
  | 96 => ⟨S_, .f32⟩
  | 97 => ⟨S4x4x8x128, .f32⟩
  | 98 => ⟨S4x4x8x128x1, .f32⟩
  | 99 => ⟨S4x4x8x128x128, .f32⟩
  | 100 => ⟨S4x4x8x128x128, .f32⟩
  | 101 => ⟨S4x4x8x128x128, .f32⟩
  | 102 => ⟨S4x4x8x128x1, .f32⟩
  | 103 => ⟨S_, .f32⟩
  | 104 => ⟨S4x4x8x128x1, .f32⟩
  | 105 => ⟨S4x4x8x128x1, .f32⟩
  | 106 => ⟨S4x4x8x128x1, .f32⟩
  | 107 => ⟨S4x4x8x128x1, .f32⟩
  | 108 => ⟨S4x4x8x128, .f32⟩
  | 109 => ⟨S4x4x1024x128, .f32⟩
  | 110 => ⟨S1024x4x4x128, .f32⟩
  | 111 => ⟨S4x4x1024, .f32⟩
  | 112 => ⟨S1024x4x4, .f32⟩
  | 113 => ⟨S1024x4x4x1, .f32⟩
  | 114 => ⟨S1024x4x4x128, .f32⟩
  | 115 => ⟨S4096x512, .f32⟩
  | 116 => ⟨S4096x512, .f32⟩
  | 117 => ⟨S1024x4x4x128, .f32⟩
  | 118 => ⟨S1024x4x4x128, .f32⟩
  | 119 => ⟨S_, .f32⟩
  | 120 => ⟨S1024x4x4, .f32⟩
  | 121 => ⟨S1024x4x4x1, .f32⟩
  | 122 => ⟨S_, .f32⟩
  | 123 => ⟨S1024x4x4, .f32⟩
  | 124 => ⟨S4x4x1024, .f32⟩
  | 125 => ⟨S4x4x8x128, .f32⟩
  | 126 => ⟨S4x4x1024x128, .f32⟩
  | 127 => ⟨S4x4x8x128x128, .f32⟩
  | _ => ⟨S4096x512, .f32⟩

abbrev hbmTy0_1 (i : Nat) : BufTy := match i % 128 with
  | 0 => ⟨S4x4x8x128x1, .f32⟩
  | 1 => ⟨S4x4x8x128x1, .f32⟩
  | 2 => ⟨S4x4x8x128x128, .f32⟩
  | 3 => ⟨S4x4x8x128x128, .f32⟩
  | 4 => ⟨S4x4x8x128x128, .f32⟩
  | 5 => ⟨S_, .f32⟩
  | 6 => ⟨S4x4x8x128, .f32⟩
  | 7 => ⟨S4x4x8x128x1, .f32⟩
  | 8 => ⟨S4x4x8x128x1, .f32⟩
  | 9 => ⟨S4x4x8x128x1, .f32⟩
  | 10 => ⟨S4x4x8x128x128, .f32⟩
  | 11 => ⟨S4x4x8x128x128, .f32⟩
  | 12 => ⟨S4x4x8x128x256, .f32⟩
  | 13 => ⟨S4x4x8x256x128, .f32⟩
  | 14 => ⟨S4x4x8x128x256, .f32⟩
  | 15 => ⟨S_, .f32⟩
  | 16 => ⟨S4x4x8x128, .f32⟩
  | 17 => ⟨S4x4x8x128x256, .f32⟩
  | 18 => ⟨S4x4x8x128x256, .f32⟩
  | 19 => ⟨S4x4x8x128x256, .f32⟩
  | 20 => ⟨S4x4x8x128x256, .f32⟩
  | 21 => ⟨S_, .f32⟩
  | 22 => ⟨S4x4x8x128, .f32⟩
  | 23 => ⟨S4x4x8x128x1, .f32⟩
  | 24 => ⟨S4x4x8x128x1, .f32⟩
  | 25 => ⟨S_, .f32⟩
  | 26 => ⟨S4x4x8x128, .f32⟩
  | 27 => ⟨S4x4x8x128, .f32⟩
  | 28 => ⟨S4x4x8x128x256, .f32⟩
  | 29 => ⟨S4x4x8x128x256, .f32⟩
  | 30 => ⟨S4x4x8x128x256, .f32⟩
  | 31 => ⟨S_, .f32⟩
  | 32 => ⟨S4x4x8x128x256, .f32⟩
  | 33 => ⟨S4x4x8x128x256, .f32⟩
  | 34 => ⟨S_, .f32⟩
  | 35 => ⟨S4x128x256, .f32⟩
  | 36 => ⟨S1x4x1x128x256, .f32⟩
  | 37 => ⟨S_, .f32⟩
  | 38 => ⟨S4x128x256, .f32⟩
  | 39 => ⟨S4x1x128x256, .f32⟩
  | 40 => ⟨S_, .f32⟩
  | 41 => ⟨S4x128x256, .f32⟩
  | 42 => ⟨S4x128x128, .f32⟩
  | 43 => ⟨S4x128x128, .f32⟩
  | 44 => ⟨S_, .f32⟩
  | 45 => ⟨S4x4x8x128x256, .f32⟩
  | 46 => ⟨S4x4x8x128x256, .f32⟩
  | 47 => ⟨S4x4x8x256x128, .f32⟩
  | 48 => ⟨S4x4x8x128x128, .f32⟩
  | 49 => ⟨S4x4x8x128x128, .f32⟩
  | 50 => ⟨S4x4x8x128x128, .f32⟩
  | 51 => ⟨S4x4x1024x128, .f32⟩
  | 52 => ⟨S1024x4x4x128, .f32⟩
  | 53 => ⟨S4096x512, .f32⟩
  | 54 => ⟨S4x4x1024x128, .f32⟩
  | 55 => ⟨S1024x4x4x128, .f32⟩
  | 56 => ⟨S4096x512, .f32⟩
  | 57 => ⟨S4x4x8x128x128, .f32⟩
  | 58 => ⟨S4x4x8x128x128, .f32⟩
  | 59 => ⟨S4x4x1024x128, .f32⟩
  | 60 => ⟨S1024x4x4x128, .f32⟩
  | 61 => ⟨S4096x512, .f32⟩
  | 62 => ⟨S4x4x1024x128, .f32⟩
  | 63 => ⟨S1024x4x4x128, .f32⟩
  | 64 => ⟨S4096x512, .f32⟩
  | 65 => ⟨S4x4x1024x128, .f32⟩
  | 66 => ⟨S1024x4x4x128, .f32⟩
  | 67 => ⟨S4096x512, .f32⟩
  | 68 => ⟨S1024x2048, .f32⟩
  | 69 => ⟨S1024x2048, .f32⟩
  | 70 => ⟨S1024x2048, .f32⟩
  | 71 => ⟨S1024x2048, .f32⟩
  | 72 => ⟨S1024x2048, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_2 : Ref sig .tc := ⟨.hbm, 48, rfl⟩
abbrev main_v37 : Ref sig .tc := ⟨.hbm, 49, rfl⟩
abbrev main_v38 : Ref sig .tc := ⟨.hbm, 50, rfl⟩
abbrev main_c_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_call0_v0 : Ref sig .tc := ⟨.hbm, 78, rfl⟩
abbrev main_v62_1 : Ref sig .tc := ⟨.hbm, 79, rfl⟩
abbrev main_call0_v2 : Ref sig .tc := ⟨.hbm, 80, rfl⟩
abbrev main_v62_0 : Ref sig .tc := ⟨.hbm, 81, rfl⟩
abbrev main_call0_cst : Ref sig .tc := ⟨.hbm, 82, rfl⟩
abbrev main_v62_2 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_11 : Ref sig .tc := ⟨.hbm, 119, rfl⟩
abbrev main_v94 : Ref sig .tc := ⟨.hbm, 120, rfl⟩
abbrev main_v95 : Ref sig .tc := ⟨.hbm, 121, rfl⟩
abbrev main_cst_12 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_13 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_14 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_15 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_16 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_call1_cst : Ref sig .tc := ⟨.hbm, 159, rfl⟩
abbrev main_call1_v0 : Ref sig .tc := ⟨.hbm, 160, rfl⟩
abbrev main_v128 : Ref sig .tc := ⟨.hbm, 161, rfl⟩
abbrev main_cst_17 : Ref sig .tc := ⟨.hbm, 162, rfl⟩
abbrev main_v129 : Ref sig .tc := ⟨.hbm, 163, rfl⟩
abbrev main_v130 : Ref sig .tc := ⟨.hbm, 164, rfl⟩
abbrev main_cst_18 : Ref sig .tc := ⟨.hbm, 165, rfl⟩
abbrev main_v131 : Ref sig .tc := ⟨.hbm, 166, rfl⟩
abbrev main_v132 : Ref sig .tc := ⟨.hbm, 167, rfl⟩
abbrev main_cst_19 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_20 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩

abbrev nD : Nat := 1
abbrev τ : Topo := Topo.v7x

variable {F : FTy → Type} [FloatOps F]
-- ==== KernelKv.lean ====
abbrev S1024x2048 : Shape := ⟨2, ![1024, 2048]⟩
abbrev S128x128 : Shape := ⟨2, ![128, 128]⟩

abbrev nBuf : Space → Nat
  | .hbm => 6
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let v4 : BitVec 32 := Scalar.addi v3 arg0
  let c0_i32_1 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c7_i32 : BitVec 32 := 7#32
  let v1 : BitVec 32 := Scalar.maxsi c0_i32 v0
  let v2 : BitVec 32 := Scalar.minsi c7_i32 v1
  let c4_i32 : BitVec 32 := 4#32
  let v3 : BitVec 32 := Scalar.muli arg1 c4_i32
  let v4 : BitVec 32 := Scalar.addi v3 arg0
  let c0_i32_0 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let v4 : BitVec 32 := Scalar.addi v3 arg0
  let c0_i32_1 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c7_i32 : BitVec 32 := 7#32
  let v1 : BitVec 32 := Scalar.maxsi c0_i32 v0
  let v2 : BitVec 32 := Scalar.minsi c7_i32 v1
  let c4_i32 : BitVec 32 := 4#32
  let v3 : BitVec 32 := Scalar.muli arg1 c4_i32
  let v4 : BitVec 32 := Scalar.addi v3 arg0
  let c0_i32_0 : BitVec 32 := 0#32
  ![v2.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let v4 : BitVec 32 := Scalar.addi v3 arg0
  let c0_i32_1 : BitVec 32 := 0#32
  ![v2.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c4_i32 : BitVec 32 := 4#32
  let v3 : BitVec 32 := Scalar.muli arg1 c4_i32
  let v4 : BitVec 32 := Scalar.addi v3 arg0
  let c0_i32_1 : BitVec 32 := 0#32
  ![v2.toNat, v4.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceKvIdeal.lean ====
abbrev S1024x2048 : Shape := ⟨2, ![1024, 2048]⟩
abbrev S4096x512 : Shape := ⟨2, ![4096, 512]⟩
abbrev S_ : Shape := ⟨0, ![]⟩
abbrev S512x512 : Shape := ⟨2, ![512, 512]⟩
abbrev S3584x512 : Shape := ⟨2, ![3584, 512]⟩

abbrev nBuf : Space → Nat
  | .hbm => 38
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S3584x512, .f32⟩
  | .hbm, ⟨16, _⟩ => ⟨S4096x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S3584x512, .f32⟩
  | .hbm, ⟨23, _⟩ => ⟨S4096x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S3584x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S512x512, .f32⟩
  | .hbm, ⟨32, _⟩ => ⟨S3584x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S1024x2048, .f32⟩
  | .hbm, ⟨37, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== KernelAct.lean ====
abbrev S4096x4096 : Shape := ⟨2, ![4096, 4096]⟩
abbrev S16384x4096 : Shape := ⟨2, ![16384, 4096]⟩
abbrev S4096x16384 : Shape := ⟨2, ![4096, 16384]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S4096x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceActIdeal.lean ====
abbrev S4096x4096 : Shape := ⟨2, ![4096, 4096]⟩
abbrev S16384x4096 : Shape := ⟨2, ![16384, 4096]⟩
abbrev S4096x16384 : Shape := ⟨2, ![4096, 16384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S_, .f32⟩
  | .hbm, ⟨9, _⟩ => ⟨S4096x16384, .f32⟩
  | .hbm, ⟨10, _⟩ => ⟨S4096x16384, .i1⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x4096, .f32⟩
  | .hbm, ⟨18, _⟩ => ⟨S4096x16384, .f32⟩
  | .hbm, ⟨19, _⟩ => ⟨S4096x16384, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelDwOut.lean ====
abbrev S4096x16384 : Shape := ⟨2, ![4096, 16384]⟩
abbrev S4096x4096 : Shape := ⟨2, ![4096, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOutIdeal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S4096x16384, .f32⟩
  | .hbm, ⟨3, _⟩ => ⟨S4096x4096, .f32⟩
  | .hbm, ⟨4, _⟩ => ⟨S_, .f32⟩
  | .hbm, ⟨5, _⟩ => ⟨S16384x4096, .f32⟩
  | .hbm, ⟨6, _⟩ => ⟨S4096x4096, .f32⟩
  | .hbm, ⟨7, _⟩ => ⟨S4096x16384, .f32⟩
  | .hbm, ⟨8, _⟩ => ⟨S16384x4096, .f32⟩
  | .hbm, ⟨9, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwIn.lean ====
abbrev S4096x4096 : Shape := ⟨2, ![4096, 4096]⟩
abbrev S4096x16384 : Shape := ⟨2, ![4096, 16384]⟩
abbrev S8x4096x2048 : Shape := ⟨3, ![8, 4096, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S4096x16384, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .bf16⟩
  | .hbm, ⟨10, _⟩ => ⟨S4096x8x2048, .bf16⟩
  | .hbm, ⟨11, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelOut.lean ====
abbrev S4096x16384 : Shape := ⟨2, ![4096, 16384]⟩
abbrev S16384x4096 : Shape := ⟨2, ![16384, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDw.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDx.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelY.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwZ.lean ====
abbrev S4096x4096 : Shape := ⟨2, ![4096, 4096]⟩
abbrev S4096x6656 : Shape := ⟨2, ![4096, 6656]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x6656, .bf16⟩
  | .hbm, ⟨2, _⟩ => ⟨S4096x6656, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 13, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwZIdeal.lean ====
abbrev S4096x4096 : Shape := ⟨2, ![4096, 4096]⟩
abbrev S4096x6656 : Shape := ⟨2, ![4096, 6656]⟩
abbrev S_ : Shape := ⟨0, ![]⟩
abbrev S6656x4096 : Shape := ⟨2, ![6656, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x6656, .bf16⟩
  | .hbm, ⟨2, _⟩ => ⟨S4096x4096, .f32⟩
  | .hbm, ⟨3, _⟩ => ⟨S4096x6656, .f32⟩
  | .hbm, ⟨4, _⟩ => ⟨S_, .f32⟩
  | .hbm, ⟨5, _⟩ => ⟨S4096x6656, .f32⟩
  | .hbm, ⟨6, _⟩ => ⟨S4096x6656, .f32⟩
  | .hbm, ⟨7, _⟩ => ⟨S6656x4096, .f32⟩
  | .hbm, ⟨8, _⟩ => ⟨S4096x6656, .f32⟩
  | .hbm, ⟨9, _⟩ => ⟨S4096x6656, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwQ.lean ====
abbrev S4096x4096 : Shape := ⟨2, ![4096, 4096]⟩
abbrev S4096x1536 : Shape := ⟨2, ![4096, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1536, .bf16⟩
  | .hbm, ⟨2, _⟩ => ⟨S4096x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwQIdeal.lean ====
abbrev S4096x4096 : Shape := ⟨2, ![4096, 4096]⟩
abbrev S4096x1536 : Shape := ⟨2, ![4096, 1536]⟩
abbrev S_ : Shape := ⟨0, ![]⟩
abbrev S1536x4096 : Shape := ⟨2, ![1536, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1536, .bf16⟩
  | .hbm, ⟨2, _⟩ => ⟨S4096x4096, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S1536x4096, .f32⟩
  | .hbm, ⟨8, _⟩ => ⟨S4096x1536, .f32⟩
  | .hbm, ⟨9, _⟩ => ⟨S4096x1536, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwV.lean ====
abbrev S4096x4096 : Shape := ⟨2, ![4096, 4096]⟩
abbrev S4096x512 : Shape := ⟨2, ![4096, 512]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwVIdeal.lean ====
abbrev S4096x4096 : Shape := ⟨2, ![4096, 4096]⟩
abbrev S4096x512 : Shape := ⟨2, ![4096, 512]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S4096x4096, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S512x4096, .f32⟩
  | .hbm, ⟨8, _⟩ => ⟨S4096x512, .f32⟩
  | .hbm, ⟨9, _⟩ => ⟨S4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwRw.lean ====
abbrev S4096x2048 : Shape := ⟨2, ![4096, 2048]⟩
abbrev S4096x4096 : Shape := ⟨2, ![4096, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwRwIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x8x512, .bf16⟩
  | .hbm, ⟨11, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDxRw.lean ====
abbrev S4096x4096 : Shape := ⟨2, ![4096, 4096]⟩
abbrev S8x2048x512 : Shape := ⟨3, ![8, 2048, 512]⟩
abbrev S4096x2048 : Shape := ⟨2, ![4096, 2048]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxRwIdeal.lean ====
abbrev S4096x4096 : Shape := ⟨2, ![4096, 4096]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S2048x8x512, .bf16⟩
  | .hbm, ⟨3, _⟩ => ⟨S2048x4096, .bf16⟩
  | .hbm, ⟨4, _⟩ => ⟨S2048x4096, .f32⟩
  | .hbm, ⟨5, _⟩ => ⟨S4096x4096, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelYRw.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYRwIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S2048x8x512, .bf16⟩
  | .hbm, ⟨3, _⟩ => ⟨S2048x4096, .bf16⟩
  | .hbm, ⟨4, _⟩ => ⟨S4096x2048, .f32⟩
  | .hbm, ⟨5, _⟩ => ⟨S2048x4096, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDwAt.lean ====
abbrev S4096x512 : Shape := ⟨2, ![4096, 512]⟩
abbrev S4096x4096 : Shape := ⟨2, ![4096, 4096]⟩
abbrev S8x512x512 : Shape := ⟨3, ![8, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S8x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwAtIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩
abbrev S512x8x512 : Shape := ⟨3, ![512, 8, 512]⟩
abbrev S8x512x512 : Shape := ⟨3, ![8, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x512, .f32⟩
  | .hbm, ⟨3, _⟩ => ⟨S4096x4096, .f32⟩
  | .hbm, ⟨4, _⟩ => ⟨S_, .f32⟩
  | .hbm, ⟨5, _⟩ => ⟨S512x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | .hbm, ⟨10, _⟩ => ⟨S512x8x512, .bf16⟩
  | .hbm, ⟨11, _⟩ => ⟨S8x512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDxAt.lean ====
abbrev S4096x4096 : Shape := ⟨2, ![4096, 4096]⟩
abbrev S8x512x512 : Shape := ⟨3, ![8, 512, 512]⟩
abbrev S4096x512 : Shape := ⟨2, ![4096, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x512x512, .bf16⟩
  | .hbm, ⟨2, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxAtIdeal.lean ====
abbrev S4096x4096 : Shape := ⟨2, ![4096, 4096]⟩
abbrev S8x512x512 : Shape := ⟨3, ![8, 512, 512]⟩
abbrev S512x8x512 : Shape := ⟨3, ![512, 8, 512]⟩
abbrev S512x4096 : Shape := ⟨2, ![512, 4096]⟩
abbrev S_ : Shape := ⟨0, ![]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x512x512, .bf16⟩
  | .hbm, ⟨2, _⟩ => ⟨S512x8x512, .bf16⟩
  | .hbm, ⟨3, _⟩ => ⟨S512x4096, .bf16⟩
  | .hbm, ⟨4, _⟩ => ⟨S512x4096, .f32⟩
  | .hbm, ⟨5, _⟩ => ⟨S4096x4096, .f32⟩
  | .hbm, ⟨6, _⟩ => ⟨S_, .f32⟩
  | .hbm, ⟨7, _⟩ => ⟨S4096x512, .f32⟩
  | .hbm, ⟨8, _⟩ => ⟨S4096x4096, .f32⟩
  | .hbm, ⟨9, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelYAt.lean ====
abbrev S4096x512 : Shape := ⟨2, ![4096, 512]⟩
abbrev S8x512x512 : Shape := ⟨3, ![8, 512, 512]⟩
abbrev S4096x4096 : Shape := ⟨2, ![4096, 4096]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYAtIdeal.lean ====
abbrev S4096x512 : Shape := ⟨2, ![4096, 512]⟩
abbrev S8x512x512 : Shape := ⟨3, ![8, 512, 512]⟩
abbrev S512x8x512 : Shape := ⟨3, ![512, 8, 512]⟩
abbrev S512x4096 : Shape := ⟨2, ![512, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S512x8x512, .bf16⟩
  | .hbm, ⟨3, _⟩ => ⟨S512x4096, .bf16⟩
  | .hbm, ⟨4, _⟩ => ⟨S4096x512, .f32⟩
  | .hbm, ⟨5, _⟩ => ⟨S512x4096, .f32⟩
  | .hbm, ⟨6, _⟩ => ⟨S4096x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDwPle.lean ====
abbrev S4096x256 : Shape := ⟨2, ![4096, 256]⟩
abbrev S4096x4096 : Shape := ⟨2, ![4096, 4096]⟩
abbrev S8x256x512 : Shape := ⟨3, ![8, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S8x256x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwPleIdeal.lean ====
abbrev S4096x256 : Shape := ⟨2, ![4096, 256]⟩
abbrev S4096x4096 : Shape := ⟨2, ![4096, 4096]⟩
abbrev S_ : Shape := ⟨0, ![]⟩
abbrev S256x4096 : Shape := ⟨2, ![256, 4096]⟩
abbrev S256x8x512 : Shape := ⟨3, ![256, 8, 512]⟩
abbrev S8x256x512 : Shape := ⟨3, ![8, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S4096x256, .f32⟩
  | .hbm, ⟨3, _⟩ => ⟨S4096x4096, .f32⟩
  | .hbm, ⟨4, _⟩ => ⟨S_, .f32⟩
  | .hbm, ⟨5, _⟩ => ⟨S256x4096, .f32⟩
  | .hbm, ⟨6, _⟩ => ⟨S4096x4096, .f32⟩
  | .hbm, ⟨7, _⟩ => ⟨S4096x256, .f32⟩
  | .hbm, ⟨8, _⟩ => ⟨S256x4096, .f32⟩
  | .hbm, ⟨9, _⟩ => ⟨S256x4096, .bf16⟩
  | .hbm, ⟨10, _⟩ => ⟨S256x8x512, .bf16⟩
  | .hbm, ⟨11, _⟩ => ⟨S8x256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelYPle.lean ====
abbrev S4096x256 : Shape := ⟨2, ![4096, 256]⟩
abbrev S8x256x512 : Shape := ⟨3, ![8, 256, 512]⟩
abbrev S4096x4096 : Shape := ⟨2, ![4096, 4096]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S8x256x512, .bf16⟩
  | .hbm, ⟨2, _⟩ => ⟨S4096x4096, .f32⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYPleIdeal.lean ====
abbrev S4096x256 : Shape := ⟨2, ![4096, 256]⟩
abbrev S8x256x512 : Shape := ⟨3, ![8, 256, 512]⟩
abbrev S256x8x512 : Shape := ⟨3, ![256, 8, 512]⟩
abbrev S256x4096 : Shape := ⟨2, ![256, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S8x256x512, .bf16⟩
  | .hbm, ⟨2, _⟩ => ⟨S256x8x512, .bf16⟩
  | .hbm, ⟨3, _⟩ => ⟨S256x4096, .bf16⟩
  | .hbm, ⟨4, _⟩ => ⟨S4096x256, .f32⟩
  | .hbm, ⟨5, _⟩ => ⟨S256x4096, .f32⟩
  | .hbm, ⟨6, _⟩ => ⟨S4096x4096, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelAdIn.lean ====
abbrev S4x4096x2424 : Shape := ⟨3, ![4, 4096, 2424]⟩
abbrev S1x4096x2424 : Shape := ⟨3, ![1, 4096, 2424]⟩
abbrev S4x64x2424 : Shape := ⟨3, ![4, 64, 2424]⟩
abbrev S1x64x2424 : Shape := ⟨3, ![1, 64, 2424]⟩
abbrev S64x2424 : Shape := ⟨2, ![64, 2424]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2424, .bf16⟩
  | .hbm, ⟨1, _⟩ => ⟨S1x4096x2424, .f32⟩
  | .hbm, ⟨2, _⟩ => ⟨S1x4096x2424, .f32⟩
  | .hbm, ⟨3, _⟩ => ⟨S1x4096x2424, .f32⟩
  | .hbm, ⟨4, _⟩ => ⟨S1x4096x2424, .f32⟩
  | .hbm, ⟨5, _⟩ => ⟨S1x4096x2424, .f32⟩
  | .hbm, ⟨6, _⟩ => ⟨S1x4096x2424, .f32⟩
  | .hbm, ⟨7, _⟩ => ⟨S1x4096x2424, .f32⟩
  | .local _ .vmem, ⟨0, _⟩ => ⟨S4x64x2424, .bf16⟩
  | .local _ .vmem, ⟨1, _⟩ => ⟨S4x64x2424, .bf16⟩
  | .local _ .vmem, ⟨2, _⟩ => ⟨S1x64x2424, .f32⟩
  | .local _ .vmem, ⟨3, _⟩ => ⟨S1x64x2424, .f32⟩
  | .local _ .vmem, ⟨4, _⟩ => ⟨S1x64x2424, .f32⟩
  | .local _ .vmem, ⟨5, _⟩ => ⟨S1x64x2424, .f32⟩
  | .local _ .vmem, ⟨6, _⟩ => ⟨S1x64x2424, .f32⟩
  | .local _ .vmem, ⟨7, _⟩ => ⟨S1x64x2424, .f32⟩
  | .local _ .vmem, ⟨8, _⟩ => ⟨S1x64x2424, .f32⟩
  | .local _ .vmem, ⟨9, _⟩ => ⟨S1x64x2424, .f32⟩
  | .local _ .vmem, ⟨10, _⟩ => ⟨S1x64x2424, .f32⟩
  | .local _ .vmem, ⟨11, _⟩ => ⟨S1x64x2424, .f32⟩
  | .local _ .vmem, ⟨12, _⟩ => ⟨S1x64x2424, .f32⟩
  | .local _ .vmem, ⟨13, _⟩ => ⟨S1x64x2424, .f32⟩
  | .local _ .vmem, ⟨14, _⟩ => ⟨S1x64x2424, .f32⟩
  | .local _ .vmem, ⟨15, _⟩ => ⟨S1x64x2424, .f32⟩
  | _, _ => ⟨S4x4096x2424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x64x2424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2424 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdInIdeal.lean ====
abbrev S4x4096x2424 : Shape := ⟨3, ![4, 4096, 2424]⟩
abbrev S1x4096x2424 : Shape := ⟨3, ![1, 4096, 2424]⟩
abbrev S_ : Shape := ⟨0, ![]⟩
abbrev S4096x2424 : Shape := ⟨2, ![4096, 2424]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2424, .bf16⟩
  | .hbm, ⟨1, _⟩ => ⟨S1x4096x2424, .f32⟩
  | .hbm, ⟨2, _⟩ => ⟨S1x4096x2424, .f32⟩
  | .hbm, ⟨3, _⟩ => ⟨S1x4096x2424, .f32⟩
  | .hbm, ⟨4, _⟩ => ⟨S4x4096x2424, .f32⟩
  | .hbm, ⟨5, _⟩ => ⟨S_, .f32⟩
  | .hbm, ⟨6, _⟩ => ⟨S4096x2424, .f32⟩
  | .hbm, ⟨7, _⟩ => ⟨S1x4096x2424, .f32⟩
  | .hbm, ⟨8, _⟩ => ⟨S_, .f32⟩
  | .hbm, ⟨9, _⟩ => ⟨S1x4096x2424, .f32⟩
  | .hbm, ⟨10, _⟩ => ⟨S1x4096x2424, .f32⟩
  | .hbm, ⟨11, _⟩ => ⟨S_, .f32⟩
  | .hbm, ⟨12, _⟩ => ⟨S1x4096x2424, .f32⟩
  | .hbm, ⟨13, _⟩ => ⟨S1x4096x2424, .f32⟩
  | .hbm, ⟨14, _⟩ => ⟨S1x4096x2424, .f32⟩
  | .hbm, ⟨15, _⟩ => ⟨S_, .f32⟩
  | .hbm, ⟨16, _⟩ => ⟨S1x4096x2424, .f32⟩
  | .hbm, ⟨17, _⟩ => ⟨S1x4096x2424, .f32⟩
  | .hbm, ⟨18, _⟩ => ⟨S1x4096x2424, .f32⟩
  | .hbm, ⟨19, _⟩ => ⟨S_, .f32⟩
  | .hbm, ⟨20, _⟩ => ⟨S1x4096x2424, .f32⟩
  | .hbm, ⟨21, _⟩ => ⟨S1x4096x2424, .f32⟩
  | .hbm, ⟨22, _⟩ => ⟨S1x4096x2424, .f32⟩
  | .hbm, ⟨23, _⟩ => ⟨S_, .f32⟩
  | .hbm, ⟨24, _⟩ => ⟨S1x4096x2424, .f32⟩
  | .hbm, ⟨25, _⟩ => ⟨S1x4096x2424, .f32⟩
  | .hbm, ⟨26, _⟩ => ⟨S_, .f32⟩
  | .hbm, ⟨27, _⟩ => ⟨S1x4096x2424, .f32⟩
  | .hbm, ⟨28, _⟩ => ⟨S1x4096x2424, .f32⟩
  | .hbm, ⟨29, _⟩ => ⟨S1x4096x2424, .f32⟩
  | .hbm, ⟨30, _⟩ => ⟨S_, .f32⟩
  | .hbm, ⟨31, _⟩ => ⟨S1x4096x2424, .f32⟩
  | .hbm, ⟨32, _⟩ => ⟨S1x4096x2424, .f32⟩
  | .hbm, ⟨33, _⟩ => ⟨S1x4096x2424, .f32⟩
  | .hbm, ⟨34, _⟩ => ⟨S_, .f32⟩
  | .hbm, ⟨35, _⟩ => ⟨S1x4096x2424, .f32⟩
  | .hbm, ⟨36, _⟩ => ⟨S1x4096x2424, .f32⟩
  | .hbm, ⟨37, _⟩ => ⟨S1x4096x2424, .f32⟩
  | .hbm, ⟨38, _⟩ => ⟨S_, .f32⟩
  | .hbm, ⟨39, _⟩ => ⟨S1x4096x2424, .f32⟩
  | .hbm, ⟨40, _⟩ => ⟨S1x4096x2424, .f32⟩
  | _, _ => ⟨S4x4096x2424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdMlpIn.lean ====
abbrev S4x4096x2048 : Shape := ⟨3, ![4, 4096, 2048]⟩
abbrev S1x4096x2048 : Shape := ⟨3, ![1, 4096, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2048, .bf16⟩
  | .hbm, ⟨1, _⟩ => ⟨S1x4096x2048, .f32⟩
  | .hbm, ⟨2, _⟩ => ⟨S1x4096x2048, .f32⟩
  | .hbm, ⟨3, _⟩ => ⟨S1x4096x2048, .f32⟩
  | .hbm, ⟨4, _⟩ => ⟨S1x4096x2048, .f32⟩
  | .hbm, ⟨5, _⟩ => ⟨S1x4096x2048, .f32⟩
  | .hbm, ⟨6, _⟩ => ⟨S1x4096x2048, .f32⟩
  | .hbm, ⟨7, _⟩ => ⟨S1x4096x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdMlpInIdeal.lean ====
abbrev S4x4096x2048 : Shape := ⟨3, ![4, 4096, 2048]⟩
abbrev S1x4096x2048 : Shape := ⟨3, ![1, 4096, 2048]⟩
abbrev S_ : Shape := ⟨0, ![]⟩
abbrev S4096x2048 : Shape := ⟨2, ![4096, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S1x4096x2048, .f32⟩
  | .hbm, ⟨2, _⟩ => ⟨S1x4096x2048, .f32⟩
  | .hbm, ⟨3, _⟩ => ⟨S1x4096x2048, .f32⟩
  | .hbm, ⟨4, _⟩ => ⟨S4x4096x2048, .f32⟩
  | .hbm, ⟨5, _⟩ => ⟨S_, .f32⟩
  | .hbm, ⟨6, _⟩ => ⟨S4096x2048, .f32⟩
  | .hbm, ⟨7, _⟩ => ⟨S1x4096x2048, .f32⟩
  | .hbm, ⟨8, _⟩ => ⟨S_, .f32⟩
  | .hbm, ⟨9, _⟩ => ⟨S1x4096x2048, .f32⟩
  | .hbm, ⟨10, _⟩ => ⟨S1x4096x2048, .f32⟩
  | .hbm, ⟨11, _⟩ => ⟨S_, .f32⟩
  | .hbm, ⟨12, _⟩ => ⟨S1x4096x2048, .f32⟩
  | .hbm, ⟨13, _⟩ => ⟨S1x4096x2048, .f32⟩
  | .hbm, ⟨14, _⟩ => ⟨S1x4096x2048, .f32⟩
  | .hbm, ⟨15, _⟩ => ⟨S_, .f32⟩
  | .hbm, ⟨16, _⟩ => ⟨S1x4096x2048, .f32⟩
  | .hbm, ⟨17, _⟩ => ⟨S1x4096x2048, .f32⟩
  | .hbm, ⟨18, _⟩ => ⟨S1x4096x2048, .f32⟩
  | .hbm, ⟨19, _⟩ => ⟨S_, .f32⟩
  | .hbm, ⟨20, _⟩ => ⟨S1x4096x2048, .f32⟩
  | .hbm, ⟨21, _⟩ => ⟨S1x4096x2048, .f32⟩
  | .hbm, ⟨22, _⟩ => ⟨S1x4096x2048, .f32⟩
  | .hbm, ⟨23, _⟩ => ⟨S_, .f32⟩
  | .hbm, ⟨24, _⟩ => ⟨S1x4096x2048, .f32⟩
  | .hbm, ⟨25, _⟩ => ⟨S1x4096x2048, .f32⟩
  | .hbm, ⟨26, _⟩ => ⟨S_, .f32⟩
  | .hbm, ⟨27, _⟩ => ⟨S1x4096x2048, .f32⟩
  | .hbm, ⟨28, _⟩ => ⟨S1x4096x2048, .f32⟩
  | .hbm, ⟨29, _⟩ => ⟨S1x4096x2048, .f32⟩
  | .hbm, ⟨30, _⟩ => ⟨S_, .f32⟩
  | .hbm, ⟨31, _⟩ => ⟨S1x4096x2048, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S1x4096x2048, .f32⟩
  | .hbm, ⟨36, _⟩ => ⟨S1x4096x2048, .f32⟩
  | .hbm, ⟨37, _⟩ => ⟨S1x4096x2048, .f32⟩
  | .hbm, ⟨38, _⟩ => ⟨S_, .f32⟩
  | .hbm, ⟨39, _⟩ => ⟨S1x4096x2048, .f32⟩
  | .hbm, ⟨40, _⟩ => ⟨S1x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdMlpOut.lean ====
abbrev S4x2048x4096 : Shape := ⟨3, ![4, 2048, 4096]⟩
abbrev S1x2048x4096 : Shape := ⟨3, ![1, 2048, 4096]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x4096, .bf16⟩
  | .hbm, ⟨1, _⟩ => ⟨S1x2048x4096, .f32⟩
  | .hbm, ⟨2, _⟩ => ⟨S1x2048x4096, .f32⟩
  | .hbm, ⟨3, _⟩ => ⟨S1x2048x4096, .f32⟩
  | .hbm, ⟨4, _⟩ => ⟨S1x2048x4096, .f32⟩
  | .hbm, ⟨5, _⟩ => ⟨S1x2048x4096, .f32⟩
  | .hbm, ⟨6, _⟩ => ⟨S1x2048x4096, .f32⟩
  | .hbm, ⟨7, _⟩ => ⟨S1x2048x4096, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdMlpOutIdeal.lean ====
abbrev S4x2048x4096 : Shape := ⟨3, ![4, 2048, 4096]⟩
abbrev S1x2048x4096 : Shape := ⟨3, ![1, 2048, 4096]⟩
abbrev S_ : Shape := ⟨0, ![]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x2048x4096, .f32⟩
  | .hbm, ⟨2, _⟩ => ⟨S1x2048x4096, .f32⟩
  | .hbm, ⟨3, _⟩ => ⟨S1x2048x4096, .f32⟩
  | .hbm, ⟨4, _⟩ => ⟨S4x2048x4096, .f32⟩
  | .hbm, ⟨5, _⟩ => ⟨S_, .f32⟩
  | .hbm, ⟨6, _⟩ => ⟨S2048x4096, .f32⟩
  | .hbm, ⟨7, _⟩ => ⟨S1x2048x4096, .f32⟩
  | .hbm, ⟨8, _⟩ => ⟨S_, .f32⟩
  | .hbm, ⟨9, _⟩ => ⟨S1x2048x4096, .f32⟩
  | .hbm, ⟨10, _⟩ => ⟨S1x2048x4096, .f32⟩
  | .hbm, ⟨11, _⟩ => ⟨S_, .f32⟩
  | .hbm, ⟨12, _⟩ => ⟨S1x2048x4096, .f32⟩
  | .hbm, ⟨13, _⟩ => ⟨S1x2048x4096, .f32⟩
  | .hbm, ⟨14, _⟩ => ⟨S1x2048x4096, .f32⟩
  | .hbm, ⟨15, _⟩ => ⟨S_, .f32⟩
  | .hbm, ⟨16, _⟩ => ⟨S1x2048x4096, .f32⟩
  | .hbm, ⟨17, _⟩ => ⟨S1x2048x4096, .f32⟩
  | .hbm, ⟨18, _⟩ => ⟨S1x2048x4096, .f32⟩
  | .hbm, ⟨19, _⟩ => ⟨S_, .f32⟩
  | .hbm, ⟨20, _⟩ => ⟨S1x2048x4096, .f32⟩
  | .hbm, ⟨21, _⟩ => ⟨S1x2048x4096, .f32⟩
  | .hbm, ⟨22, _⟩ => ⟨S1x2048x4096, .f32⟩
  | .hbm, ⟨23, _⟩ => ⟨S_, .f32⟩
  | .hbm, ⟨24, _⟩ => ⟨S1x2048x4096, .f32⟩
  | .hbm, ⟨25, _⟩ => ⟨S1x2048x4096, .f32⟩
  | .hbm, ⟨26, _⟩ => ⟨S_, .f32⟩
  | .hbm, ⟨27, _⟩ => ⟨S1x2048x4096, .f32⟩
  | .hbm, ⟨28, _⟩ => ⟨S1x2048x4096, .f32⟩
  | .hbm, ⟨29, _⟩ => ⟨S1x2048x4096, .f32⟩
  | .hbm, ⟨30, _⟩ => ⟨S_, .f32⟩
  | .hbm, ⟨31, _⟩ => ⟨S1x2048x4096, .f32⟩
  | .hbm, ⟨32, _⟩ => ⟨S1x2048x4096, .f32⟩
  | .hbm, ⟨33, _⟩ => ⟨S1x2048x4096, .f32⟩
  | .hbm, ⟨34, _⟩ => ⟨S_, .f32⟩
  | .hbm, ⟨35, _⟩ => ⟨S1x2048x4096, .f32⟩
  | .hbm, ⟨36, _⟩ => ⟨S1x2048x4096, .f32⟩
  | .hbm, ⟨37, _⟩ => ⟨S1x2048x4096, .f32⟩
  | .hbm, ⟨38, _⟩ => ⟨S_, .f32⟩
  | .hbm, ⟨39, _⟩ => ⟨S1x2048x4096, .f32⟩
  | .hbm, ⟨40, _⟩ => ⟨S1x2048x4096, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdOut.lean ====
abbrev S4x512x4096 : Shape := ⟨3, ![4, 512, 4096]⟩
abbrev S1x512x4096 : Shape := ⟨3, ![1, 512, 4096]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x512x4096, .bf16⟩
  | .hbm, ⟨1, _⟩ => ⟨S1x512x4096, .f32⟩
  | .hbm, ⟨2, _⟩ => ⟨S1x512x4096, .f32⟩
  | .hbm, ⟨3, _⟩ => ⟨S1x512x4096, .f32⟩
  | .hbm, ⟨4, _⟩ => ⟨S1x512x4096, .f32⟩
  | .hbm, ⟨5, _⟩ => ⟨S1x512x4096, .f32⟩
  | .hbm, ⟨6, _⟩ => ⟨S1x512x4096, .f32⟩
  | .hbm, ⟨7, _⟩ => ⟨S1x512x4096, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdOutIdeal.lean ====
abbrev S4x512x4096 : Shape := ⟨3, ![4, 512, 4096]⟩
abbrev S1x512x4096 : Shape := ⟨3, ![1, 512, 4096]⟩
abbrev S_ : Shape := ⟨0, ![]⟩
abbrev S512x4096 : Shape := ⟨2, ![512, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S1x512x4096, .f32⟩
  | .hbm, ⟨2, _⟩ => ⟨S1x512x4096, .f32⟩
  | .hbm, ⟨3, _⟩ => ⟨S1x512x4096, .f32⟩
  | .hbm, ⟨4, _⟩ => ⟨S4x512x4096, .f32⟩
  | .hbm, ⟨5, _⟩ => ⟨S_, .f32⟩
  | .hbm, ⟨6, _⟩ => ⟨S512x4096, .f32⟩
  | .hbm, ⟨7, _⟩ => ⟨S1x512x4096, .f32⟩
  | .hbm, ⟨8, _⟩ => ⟨S_, .f32⟩
  | .hbm, ⟨9, _⟩ => ⟨S1x512x4096, .f32⟩
  | .hbm, ⟨10, _⟩ => ⟨S1x512x4096, .f32⟩
  | .hbm, ⟨11, _⟩ => ⟨S_, .f32⟩
  | .hbm, ⟨12, _⟩ => ⟨S1x512x4096, .f32⟩
  | .hbm, ⟨13, _⟩ => ⟨S1x512x4096, .f32⟩
  | .hbm, ⟨14, _⟩ => ⟨S1x512x4096, .f32⟩
  | .hbm, ⟨15, _⟩ => ⟨S_, .f32⟩
  | .hbm, ⟨16, _⟩ => ⟨S1x512x4096, .f32⟩
  | .hbm, ⟨17, _⟩ => ⟨S1x512x4096, .f32⟩
  | .hbm, ⟨18, _⟩ => ⟨S1x512x4096, .f32⟩
  | .hbm, ⟨19, _⟩ => ⟨S_, .f32⟩
  | .hbm, ⟨20, _⟩ => ⟨S1x512x4096, .f32⟩
  | .hbm, ⟨21, _⟩ => ⟨S1x512x4096, .f32⟩
  | .hbm, ⟨22, _⟩ => ⟨S1x512x4096, .f32⟩
  | .hbm, ⟨23, _⟩ => ⟨S_, .f32⟩
  | .hbm, ⟨24, _⟩ => ⟨S1x512x4096, .f32⟩
  | .hbm, ⟨25, _⟩ => ⟨S1x512x4096, .f32⟩
  | .hbm, ⟨26, _⟩ => ⟨S_, .f32⟩
  | .hbm, ⟨27, _⟩ => ⟨S1x512x4096, .f32⟩
  | .hbm, ⟨28, _⟩ => ⟨S1x512x4096, .f32⟩
  | .hbm, ⟨29, _⟩ => ⟨S1x512x4096, .f32⟩
  | .hbm, ⟨30, _⟩ => ⟨S_, .f32⟩
  | .hbm, ⟨31, _⟩ => ⟨S1x512x4096, .f32⟩
  | .hbm, ⟨32, _⟩ => ⟨S1x512x4096, .f32⟩
  | .hbm, ⟨33, _⟩ => ⟨S1x512x4096, .f32⟩
  | .hbm, ⟨34, _⟩ => ⟨S_, .f32⟩
  | .hbm, ⟨35, _⟩ => ⟨S1x512x4096, .f32⟩
  | .hbm, ⟨36, _⟩ => ⟨S1x512x4096, .f32⟩
  | .hbm, ⟨37, _⟩ => ⟨S1x512x4096, .f32⟩
  | .hbm, ⟨38, _⟩ => ⟨S_, .f32⟩
  | .hbm, ⟨39, _⟩ => ⟨S1x512x4096, .f32⟩
  | .hbm, ⟨40, _⟩ => ⟨S1x512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdRw.lean ====
abbrev S4x2048x512 : Shape := ⟨3, ![4, 2048, 512]⟩
abbrev S1x2048x512 : Shape := ⟨3, ![1, 2048, 512]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x512, .f32⟩
  | .hbm, ⟨5, _⟩ => ⟨S1x2048x512, .f32⟩
  | .hbm, ⟨6, _⟩ => ⟨S1x2048x512, .f32⟩
  | .hbm, ⟨7, _⟩ => ⟨S1x2048x512, .f32⟩
  | .local _ .vmem, ⟨0, _⟩ => ⟨S4x512x512, .bf16⟩
  | .local _ .vmem, ⟨1, _⟩ => ⟨S4x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdRwIdeal.lean ====
abbrev S4x2048x512 : Shape := ⟨3, ![4, 2048, 512]⟩
abbrev S1x2048x512 : Shape := ⟨3, ![1, 2048, 512]⟩
abbrev S_ : Shape := ⟨0, ![]⟩
abbrev S2048x512 : Shape := ⟨2, ![2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S1x2048x512, .f32⟩
  | .hbm, ⟨8, _⟩ => ⟨S_, .f32⟩
  | .hbm, ⟨9, _⟩ => ⟨S1x2048x512, .f32⟩
  | .hbm, ⟨10, _⟩ => ⟨S1x2048x512, .f32⟩
  | .hbm, ⟨11, _⟩ => ⟨S_, .f32⟩
  | .hbm, ⟨12, _⟩ => ⟨S1x2048x512, .f32⟩
  | .hbm, ⟨13, _⟩ => ⟨S1x2048x512, .f32⟩
  | .hbm, ⟨14, _⟩ => ⟨S1x2048x512, .f32⟩
  | .hbm, ⟨15, _⟩ => ⟨S_, .f32⟩
  | .hbm, ⟨16, _⟩ => ⟨S1x2048x512, .f32⟩
  | .hbm, ⟨17, _⟩ => ⟨S1x2048x512, .f32⟩
  | .hbm, ⟨18, _⟩ => ⟨S1x2048x512, .f32⟩
  | .hbm, ⟨19, _⟩ => ⟨S_, .f32⟩
  | .hbm, ⟨20, _⟩ => ⟨S1x2048x512, .f32⟩
  | .hbm, ⟨21, _⟩ => ⟨S1x2048x512, .f32⟩
  | .hbm, ⟨22, _⟩ => ⟨S1x2048x512, .f32⟩
  | .hbm, ⟨23, _⟩ => ⟨S_, .f32⟩
  | .hbm, ⟨24, _⟩ => ⟨S1x2048x512, .f32⟩
  | .hbm, ⟨25, _⟩ => ⟨S1x2048x512, .f32⟩
  | .hbm, ⟨26, _⟩ => ⟨S_, .f32⟩
  | .hbm, ⟨27, _⟩ => ⟨S1x2048x512, .f32⟩
  | .hbm, ⟨28, _⟩ => ⟨S1x2048x512, .f32⟩
  | .hbm, ⟨29, _⟩ => ⟨S1x2048x512, .f32⟩
  | .hbm, ⟨30, _⟩ => ⟨S_, .f32⟩
  | .hbm, ⟨31, _⟩ => ⟨S1x2048x512, .f32⟩
  | .hbm, ⟨32, _⟩ => ⟨S1x2048x512, .f32⟩
  | .hbm, ⟨33, _⟩ => ⟨S1x2048x512, .f32⟩
  | .hbm, ⟨34, _⟩ => ⟨S_, .f32⟩
  | .hbm, ⟨35, _⟩ => ⟨S1x2048x512, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048x512, .f32⟩
  | .hbm, ⟨40, _⟩ => ⟨S1x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdAt.lean ====
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512x512, .bf16⟩
  | .hbm, ⟨1, _⟩ => ⟨S1x512x512, .f32⟩
  | .hbm, ⟨2, _⟩ => ⟨S1x512x512, .f32⟩
  | .hbm, ⟨3, _⟩ => ⟨S1x512x512, .f32⟩
  | .hbm, ⟨4, _⟩ => ⟨S1x512x512, .f32⟩
  | .hbm, ⟨5, _⟩ => ⟨S1x512x512, .f32⟩
  | .hbm, ⟨6, _⟩ => ⟨S1x512x512, .f32⟩
  | .hbm, ⟨7, _⟩ => ⟨S1x512x512, .f32⟩
  | .local _ .vmem, ⟨0, _⟩ => ⟨S4x512x512, .bf16⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S4x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S4x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdAtIdeal.lean ====
abbrev S4x512x512 : Shape := ⟨3, ![4, 512, 512]⟩
abbrev S1x512x512 : Shape := ⟨3, ![1, 512, 512]⟩
abbrev S_ : Shape := ⟨0, ![]⟩
abbrev S512x512 : Shape := ⟨2, ![512, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S1x512x512, .f32⟩
  | .hbm, ⟨2, _⟩ => ⟨S1x512x512, .f32⟩
  | .hbm, ⟨3, _⟩ => ⟨S1x512x512, .f32⟩
  | .hbm, ⟨4, _⟩ => ⟨S4x512x512, .f32⟩
  | .hbm, ⟨5, _⟩ => ⟨S_, .f32⟩
  | .hbm, ⟨6, _⟩ => ⟨S512x512, .f32⟩
  | .hbm, ⟨7, _⟩ => ⟨S1x512x512, .f32⟩
  | .hbm, ⟨8, _⟩ => ⟨S_, .f32⟩
  | .hbm, ⟨9, _⟩ => ⟨S1x512x512, .f32⟩
  | .hbm, ⟨10, _⟩ => ⟨S1x512x512, .f32⟩
  | .hbm, ⟨11, _⟩ => ⟨S_, .f32⟩
  | .hbm, ⟨12, _⟩ => ⟨S1x512x512, .f32⟩
  | .hbm, ⟨13, _⟩ => ⟨S1x512x512, .f32⟩
  | .hbm, ⟨14, _⟩ => ⟨S1x512x512, .f32⟩
  | .hbm, ⟨15, _⟩ => ⟨S_, .f32⟩
  | .hbm, ⟨16, _⟩ => ⟨S1x512x512, .f32⟩
  | .hbm, ⟨17, _⟩ => ⟨S1x512x512, .f32⟩
  | .hbm, ⟨18, _⟩ => ⟨S1x512x512, .f32⟩
  | .hbm, ⟨19, _⟩ => ⟨S_, .f32⟩
  | .hbm, ⟨20, _⟩ => ⟨S1x512x512, .f32⟩
  | .hbm, ⟨21, _⟩ => ⟨S1x512x512, .f32⟩
  | .hbm, ⟨22, _⟩ => ⟨S1x512x512, .f32⟩
  | .hbm, ⟨23, _⟩ => ⟨S_, .f32⟩
  | .hbm, ⟨24, _⟩ => ⟨S1x512x512, .f32⟩
  | .hbm, ⟨25, _⟩ => ⟨S1x512x512, .f32⟩
  | .hbm, ⟨26, _⟩ => ⟨S_, .f32⟩
  | .hbm, ⟨27, _⟩ => ⟨S1x512x512, .f32⟩
  | .hbm, ⟨28, _⟩ => ⟨S1x512x512, .f32⟩
  | .hbm, ⟨29, _⟩ => ⟨S1x512x512, .f32⟩
  | .hbm, ⟨30, _⟩ => ⟨S_, .f32⟩
  | .hbm, ⟨31, _⟩ => ⟨S1x512x512, .f32⟩
  | .hbm, ⟨32, _⟩ => ⟨S1x512x512, .f32⟩
  | .hbm, ⟨33, _⟩ => ⟨S1x512x512, .f32⟩
  | .hbm, ⟨34, _⟩ => ⟨S_, .f32⟩
  | .hbm, ⟨35, _⟩ => ⟨S1x512x512, .f32⟩
  | .hbm, ⟨36, _⟩ => ⟨S1x512x512, .f32⟩
  | .hbm, ⟨37, _⟩ => ⟨S1x512x512, .f32⟩
  | .hbm, ⟨38, _⟩ => ⟨S_, .f32⟩
  | .hbm, ⟨39, _⟩ => ⟨S1x512x512, .f32⟩
  | .hbm, ⟨40, _⟩ => ⟨S1x512x512, .f32⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdPle.lean ====
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x256x512, .bf16⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .local _ .vmem, ⟨0, _⟩ => ⟨S4x256x512, .bf16⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S4x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdPleIdeal.lean ====
abbrev S4x256x512 : Shape := ⟨3, ![4, 256, 512]⟩
abbrev S1x256x512 : Shape := ⟨3, ![1, 256, 512]⟩
abbrev S_ : Shape := ⟨0, ![]⟩
abbrev S256x512 : Shape := ⟨2, ![256, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S4x256x512, .f32⟩
  | .hbm, ⟨5, _⟩ => ⟨S_, .f32⟩
  | .hbm, ⟨6, _⟩ => ⟨S256x512, .f32⟩
  | .hbm, ⟨7, _⟩ => ⟨S1x256x512, .f32⟩
  | .hbm, ⟨8, _⟩ => ⟨S_, .f32⟩
  | .hbm, ⟨9, _⟩ => ⟨S1x256x512, .f32⟩
  | .hbm, ⟨10, _⟩ => ⟨S1x256x512, .f32⟩
  | .hbm, ⟨11, _⟩ => ⟨S_, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S_, .f32⟩
  | .hbm, ⟨16, _⟩ => ⟨S1x256x512, .f32⟩
  | .hbm, ⟨17, _⟩ => ⟨S1x256x512, .f32⟩
  | .hbm, ⟨18, _⟩ => ⟨S1x256x512, .f32⟩
  | .hbm, ⟨19, _⟩ => ⟨S_, .f32⟩
  | .hbm, ⟨20, _⟩ => ⟨S1x256x512, .f32⟩
  | .hbm, ⟨21, _⟩ => ⟨S1x256x512, .f32⟩
  | .hbm, ⟨22, _⟩ => ⟨S1x256x512, .f32⟩
  | .hbm, ⟨23, _⟩ => ⟨S_, .f32⟩
  | .hbm, ⟨24, _⟩ => ⟨S1x256x512, .f32⟩
  | .hbm, ⟨25, _⟩ => ⟨S1x256x512, .f32⟩
  | .hbm, ⟨26, _⟩ => ⟨S_, .f32⟩
  | .hbm, ⟨27, _⟩ => ⟨S1x256x512, .f32⟩
  | .hbm, ⟨28, _⟩ => ⟨S1x256x512, .f32⟩
  | .hbm, ⟨29, _⟩ => ⟨S1x256x512, .f32⟩
  | .hbm, ⟨30, _⟩ => ⟨S_, .f32⟩
  | .hbm, ⟨31, _⟩ => ⟨S1x256x512, .f32⟩
  | .hbm, ⟨32, _⟩ => ⟨S1x256x512, .f32⟩
  | .hbm, ⟨33, _⟩ => ⟨S1x256x512, .f32⟩
  | .hbm, ⟨34, _⟩ => ⟨S_, .f32⟩
  | .hbm, ⟨35, _⟩ => ⟨S1x256x512, .f32⟩
  | .hbm, ⟨36, _⟩ => ⟨S1x256x512, .f32⟩
  | .hbm, ⟨37, _⟩ => ⟨S1x256x512, .f32⟩
  | .hbm, ⟨38, _⟩ => ⟨S_, .f32⟩
  | .hbm, ⟨39, _⟩ => ⟨S1x256x512, .f32⟩
  | .hbm, ⟨40, _⟩ => ⟨S1x256x512, .f32⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdGate.lean ====
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256x256, .bf16⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S1x256x256, .f32⟩
  | .hbm, ⟨6, _⟩ => ⟨S1x256x256, .f32⟩
  | .hbm, ⟨7, _⟩ => ⟨S1x256x256, .f32⟩
  | .local _ .vmem, ⟨0, _⟩ => ⟨S4x256x256, .bf16⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S4x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdGateIdeal.lean ====
abbrev S4x256x256 : Shape := ⟨3, ![4, 256, 256]⟩
abbrev S1x256x256 : Shape := ⟨3, ![1, 256, 256]⟩
abbrev S_ : Shape := ⟨0, ![]⟩
abbrev S256x256 : Shape := ⟨2, ![256, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S4x256x256, .f32⟩
  | .hbm, ⟨5, _⟩ => ⟨S_, .f32⟩
  | .hbm, ⟨6, _⟩ => ⟨S256x256, .f32⟩
  | .hbm, ⟨7, _⟩ => ⟨S1x256x256, .f32⟩
  | .hbm, ⟨8, _⟩ => ⟨S_, .f32⟩
  | .hbm, ⟨9, _⟩ => ⟨S1x256x256, .f32⟩
  | .hbm, ⟨10, _⟩ => ⟨S1x256x256, .f32⟩
  | .hbm, ⟨11, _⟩ => ⟨S_, .f32⟩
  | .hbm, ⟨12, _⟩ => ⟨S1x256x256, .f32⟩
  | .hbm, ⟨13, _⟩ => ⟨S1x256x256, .f32⟩
  | .hbm, ⟨14, _⟩ => ⟨S1x256x256, .f32⟩
  | .hbm, ⟨15, _⟩ => ⟨S_, .f32⟩
  | .hbm, ⟨16, _⟩ => ⟨S1x256x256, .f32⟩
  | .hbm, ⟨17, _⟩ => ⟨S1x256x256, .f32⟩
  | .hbm, ⟨18, _⟩ => ⟨S1x256x256, .f32⟩
  | .hbm, ⟨19, _⟩ => ⟨S_, .f32⟩
  | .hbm, ⟨20, _⟩ => ⟨S1x256x256, .f32⟩
  | .hbm, ⟨21, _⟩ => ⟨S1x256x256, .f32⟩
  | .hbm, ⟨22, _⟩ => ⟨S1x256x256, .f32⟩
  | .hbm, ⟨23, _⟩ => ⟨S_, .f32⟩
  | .hbm, ⟨24, _⟩ => ⟨S1x256x256, .f32⟩
  | .hbm, ⟨25, _⟩ => ⟨S1x256x256, .f32⟩
  | .hbm, ⟨26, _⟩ => ⟨S_, .f32⟩
  | .hbm, ⟨27, _⟩ => ⟨S1x256x256, .f32⟩
  | .hbm, ⟨28, _⟩ => ⟨S1x256x256, .f32⟩
  | .hbm, ⟨29, _⟩ => ⟨S1x256x256, .f32⟩
  | .hbm, ⟨30, _⟩ => ⟨S_, .f32⟩
  | .hbm, ⟨31, _⟩ => ⟨S1x256x256, .f32⟩
  | .hbm, ⟨32, _⟩ => ⟨S1x256x256, .f32⟩
  | .hbm, ⟨33, _⟩ => ⟨S1x256x256, .f32⟩
  | .hbm, ⟨34, _⟩ => ⟨S_, .f32⟩
  | .hbm, ⟨35, _⟩ => ⟨S1x256x256, .f32⟩
  | .hbm, ⟨36, _⟩ => ⟨S1x256x256, .f32⟩
  | .hbm, ⟨37, _⟩ => ⟨S1x256x256, .f32⟩
  | .hbm, ⟨38, _⟩ => ⟨S_, .f32⟩
  | .hbm, ⟨39, _⟩ => ⟨S1x256x256, .f32⟩
  | .hbm, ⟨40, _⟩ => ⟨S1x256x256, .f32⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdDecay.lean ====
abbrev S4x96x256 : Shape := ⟨3, ![4, 96, 256]⟩
abbrev S1x96x256 : Shape := ⟨3, ![1, 96, 256]⟩
abbrev S4x32x256 : Shape := ⟨3, ![4, 32, 256]⟩
abbrev S1x32x256 : Shape := ⟨3, ![1, 32, 256]⟩
abbrev S32x256 : Shape := ⟨2, ![32, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x96x256, .bf16⟩
  | .hbm, ⟨1, _⟩ => ⟨S1x96x256, .f32⟩
  | .hbm, ⟨2, _⟩ => ⟨S1x96x256, .f32⟩
  | .hbm, ⟨3, _⟩ => ⟨S1x96x256, .f32⟩
  | .hbm, ⟨4, _⟩ => ⟨S1x96x256, .f32⟩
  | .hbm, ⟨5, _⟩ => ⟨S1x96x256, .f32⟩
  | .hbm, ⟨6, _⟩ => ⟨S1x96x256, .f32⟩
  | .hbm, ⟨7, _⟩ => ⟨S1x96x256, .f32⟩
  | .local _ .vmem, ⟨0, _⟩ => ⟨S4x32x256, .bf16⟩
  | .local _ .vmem, ⟨1, _⟩ => ⟨S4x32x256, .bf16⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | _, _ => ⟨S4x96x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdDecayIdeal.lean ====
abbrev S4x96x256 : Shape := ⟨3, ![4, 96, 256]⟩
abbrev S1x96x256 : Shape := ⟨3, ![1, 96, 256]⟩
abbrev S_ : Shape := ⟨0, ![]⟩
abbrev S96x256 : Shape := ⟨2, ![96, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x96x256, .bf16⟩
  | .hbm, ⟨1, _⟩ => ⟨S1x96x256, .f32⟩
  | .hbm, ⟨2, _⟩ => ⟨S1x96x256, .f32⟩
  | .hbm, ⟨3, _⟩ => ⟨S1x96x256, .f32⟩
  | .hbm, ⟨4, _⟩ => ⟨S4x96x256, .f32⟩
  | .hbm, ⟨5, _⟩ => ⟨S_, .f32⟩
  | .hbm, ⟨6, _⟩ => ⟨S96x256, .f32⟩
  | .hbm, ⟨7, _⟩ => ⟨S1x96x256, .f32⟩
  | .hbm, ⟨8, _⟩ => ⟨S_, .f32⟩
  | .hbm, ⟨9, _⟩ => ⟨S1x96x256, .f32⟩
  | .hbm, ⟨10, _⟩ => ⟨S1x96x256, .f32⟩
  | .hbm, ⟨11, _⟩ => ⟨S_, .f32⟩
  | .hbm, ⟨12, _⟩ => ⟨S1x96x256, .f32⟩
  | .hbm, ⟨13, _⟩ => ⟨S1x96x256, .f32⟩
  | .hbm, ⟨14, _⟩ => ⟨S1x96x256, .f32⟩
  | .hbm, ⟨15, _⟩ => ⟨S_, .f32⟩
  | .hbm, ⟨16, _⟩ => ⟨S1x96x256, .f32⟩
  | .hbm, ⟨17, _⟩ => ⟨S1x96x256, .f32⟩
  | .hbm, ⟨18, _⟩ => ⟨S1x96x256, .f32⟩
  | .hbm, ⟨19, _⟩ => ⟨S_, .f32⟩
  | .hbm, ⟨20, _⟩ => ⟨S1x96x256, .f32⟩
  | .hbm, ⟨21, _⟩ => ⟨S1x96x256, .f32⟩
  | .hbm, ⟨22, _⟩ => ⟨S1x96x256, .f32⟩
  | .hbm, ⟨23, _⟩ => ⟨S_, .f32⟩
  | .hbm, ⟨24, _⟩ => ⟨S1x96x256, .f32⟩
  | .hbm, ⟨25, _⟩ => ⟨S1x96x256, .f32⟩
  | .hbm, ⟨26, _⟩ => ⟨S_, .f32⟩
  | .hbm, ⟨27, _⟩ => ⟨S1x96x256, .f32⟩
  | .hbm, ⟨28, _⟩ => ⟨S1x96x256, .f32⟩
  | .hbm, ⟨29, _⟩ => ⟨S1x96x256, .f32⟩
  | .hbm, ⟨30, _⟩ => ⟨S_, .f32⟩
  | .hbm, ⟨31, _⟩ => ⟨S1x96x256, .f32⟩
  | .hbm, ⟨32, _⟩ => ⟨S1x96x256, .f32⟩
  | .hbm, ⟨33, _⟩ => ⟨S1x96x256, .f32⟩
  | .hbm, ⟨34, _⟩ => ⟨S_, .f32⟩
  | .hbm, ⟨35, _⟩ => ⟨S1x96x256, .f32⟩
  | .hbm, ⟨36, _⟩ => ⟨S1x96x256, .f32⟩
  | .hbm, ⟨37, _⟩ => ⟨S1x96x256, .f32⟩
  | .hbm, ⟨38, _⟩ => ⟨S_, .f32⟩
  | .hbm, ⟨39, _⟩ => ⟨S1x96x256, .f32⟩
  | .hbm, ⟨40, _⟩ => ⟨S1x96x256, .f32⟩
  | _, _ => ⟨S4x96x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdSmall.lean ====
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S8x1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdSmallIdeal.lean ====
abbrev S8x1024x128 : Shape := ⟨3, ![8, 1024, 128]⟩
abbrev S1024x128 : Shape := ⟨2, ![1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Blocked.lean ====
/- A product in blocks: the sum over the contraction is taken in `nk` pieces of `tk` terms, each added to what the
   pieces before left. Over the extended reals the pieces add up to the whole sum in any order, whatever the operands. -/
module
public import Idealize.ShloMosaic.Lib.Pointwise
public import Idealize.ShloMosaic.Lib.Pipeline.ValueKit

@[expose] public section

noncomputable section

namespace Cert.Blocked

/-- A matrix read at natural coordinates, zero outside. -/
def nat2 {m n : ℕ} (a : Fin m → Fin n → EReal) (r c : ℕ) : EReal :=
  if h : r < m ∧ c < n then a ⟨r, h.1⟩ ⟨c, h.2⟩ else 0

theorem nat2_of {m n : ℕ} (a : Fin m → Fin n → EReal) {r c : ℕ} (hr : r < m) (hc : c < n) :
    nat2 a r c = a ⟨r, hr⟩ ⟨c, hc⟩ := dif_pos ⟨hr, hc⟩

theorem nat2_val {m n : ℕ} (a : Fin m → Fin n → EReal) (r : Fin m) (c : Fin n) : nat2 a r.val c.val = a r c :=
  nat2_of a r.isLt c.isLt

/-- An accumulator that starts anew at the multiples of `nk` and takes `tk` further terms of the sum of its block `n / nk`
    at each point `n` holds the terms of all its points so far. -/
theorem partial_sum {N nk tk : ℕ} (S : (n : ℕ) → n < N → EReal) (f : ℕ → ℕ → EReal)
    (h0 : ∀ n h, n % nk = 0 → S n h = ∑ k : Fin tk, f (n / nk) (n % nk * tk + k.val))
    (hs : ∀ n h, ¬(n + 1) % nk = 0 →
      S (n + 1) h = S n (Nat.lt_of_succ_lt h) + ∑ k : Fin tk, f ((n + 1) / nk) ((n + 1) % nk * tk + k.val)) :
    ∀ n h, S n h = ∑ k ∈ Finset.range ((n % nk + 1) * tk), f (n / nk) k
  | 0, h => by
    rw [h0 0 h (Nat.zero_mod _), Nat.zero_mod, Nat.zero_add, Nat.one_mul, Finset.sum_range]
    simp only [Nat.zero_mul, Nat.zero_add]
  | n + 1, h => by
    by_cases hn : (n + 1) % nk = 0
    · rw [h0 _ h hn, hn, Nat.zero_add, Nat.one_mul, Finset.sum_range]
      simp only [Nat.zero_mul, Nat.zero_add]
    · have e1 : (n + 1) % nk = n % nk + 1 := by
        rcases Nat.eq_zero_or_pos nk with rfl | hp
        · simp
        · have hd := Nat.div_add_mod n nk
          rcases Nat.lt_or_ge (n % nk + 1) nk with h2 | h2
          · conv_lhs => rw [← hd, Nat.add_assoc, Nat.mul_add_mod, Nat.mod_eq_of_lt h2]
          · have := Nat.mod_lt n hp
            refine absurd ?_ hn
            rw [← hd, Nat.add_assoc, Nat.mul_add_mod, show n % nk + 1 = nk by omega, Nat.mod_self]
      have e2 : (n + 1) / nk = n / nk := by
        have a := Nat.div_add_mod (n + 1) nk
        have b := Nat.div_add_mod n nk
        rcases Nat.eq_zero_or_pos nk with rfl | hp
        · simp
        · exact Nat.eq_of_mul_eq_mul_left hp (by omega)
      rw [hs n h hn, partial_sum S f h0 hs n (Nat.lt_of_succ_lt h), e1, e2, Nat.succ_mul (n % nk + 1), Finset.sum_range_add]
      exact congrArg (_ + ·) (Finset.sum_range fun k => f (n / nk) ((n % nk + 1) * tk + k)).symm

/-- At the block's last point it holds the whole sum. -/
theorem whole_sum {N nk tk K : ℕ} (S : (n : ℕ) → n < N → EReal) (f : ℕ → ℕ → EReal) (hK : nk * tk = K)
    (h0 : ∀ n h, n % nk = 0 → S n h = ∑ k : Fin tk, f (n / nk) (n % nk * tk + k.val))
    (hs : ∀ n h, ¬(n + 1) % nk = 0 →
      S (n + 1) h = S n (Nat.lt_of_succ_lt h) + ∑ k : Fin tk, f ((n + 1) / nk) ((n + 1) % nk * tk + k.val))
    (n : ℕ) (h : n < N) (hl : n % nk + 1 = nk) : S n h = ∑ k : Fin K, f (n / nk) k.val := by
  rw [partial_sum S f h0 hs n h, hl, hK, Finset.sum_range]

/-- The whole sum at naturals that are indices is the sum over the rows there. -/
theorem sum_val {M N K : ℕ} (a : Fin M → Fin K → EReal) (b : Fin N → Fin K → EReal) (i : Fin M) (j : Fin N) {r c : ℕ}
    (hr : i.val = r) (hc : j.val = c) : ∑ k : Fin K, nat2 a r k.val * nat2 b c k.val = ∑ k : Fin K, a i k * b j k := by
  subst hr hc
  simp only [nat2_val]

/-- A product in blocks. The grid's points run through the row blocks, in each through the `gn` column blocks, and in each
    through the `nk` pieces of the contraction; the accumulator `S` takes the product of the point's two blocks, which are
    cut out of the operands `a` and `b`. At a block's last point it holds the whole product there. -/
theorem block_value {N nk gn tm tn tk M L K : ℕ} (S : (n : ℕ) → n < N → Fin tm → Fin tn → EReal)
    (X : Fin N → Fin tm → Fin tk → EReal) (Y : Fin N → Fin tn → Fin tk → EReal) (a : Fin M → Fin K → EReal)
    (b : Fin L → Fin K → EReal) (hK : nk * tk = K)
    (hX : ∀ t p k, X t p k = nat2 a (t.val / nk / gn * tm + p.val) (t.val % nk * tk + k.val))
    (hY : ∀ t q k, Y t q k = nat2 b (t.val / nk % gn * tn + q.val) (t.val % nk * tk + k.val))
    (h0 : ∀ (t : Fin N) p q, t.val % nk = 0 → S t.val t.isLt p q = ∑ k, X t p k * Y t q k)
    (hs : ∀ (t : Fin N) p q, ¬t.val % nk = 0 →
      S t.val t.isLt p q = S (t.val - 1) (Nat.lt_of_le_of_lt (Nat.sub_le _ _) t.isLt) p q + ∑ k, X t p k * Y t q k)
    (t : Fin N) (ht : t.val % nk + 1 = nk) (p : Fin tm) (q : Fin tn) (i : Fin M) (j : Fin L)
    (hi : i.val = t.val / nk / gn * tm + p.val) (hj : j.val = t.val / nk % gn * tn + q.val) :
    S t.val t.isLt p q = ∑ k : Fin K, a i k * b j k := by
  rw [← sum_val a b i j hi hj]
  refine whole_sum (fun n h => S n h p q)
    (fun n k => nat2 a (n / gn * tm + p.val) k * nat2 b (n % gn * tn + q.val) k) hK ?_ ?_ t.val t.isLt ht
  · intro n h hn
    simp only [h0 ⟨n, h⟩ p q hn, hX, hY]
  · intro n h hn
    simp only [hs ⟨n + 1, h⟩ p q hn, hX, hY]
    rfl

end Cert.Blocked

end
-- ==== Proof.ActValue.lean ====
/- The gradient of the squared relu's argument (`KernelAct`): the product of the cotangent with the transposed weights in
   two pieces of 2048 terms, times twice the positive part of the argument. -/
module
public import proofs.«01_k».proof.Proof.Blocked
public import proofs.«01_k».proof.Proof.Gen.KernelActIdeal.Value
public import proofs.«01_k».proof.Proof.Gen.ReferenceActIdeal.Run
public import proofs.«01_k».proof.Proof.Gen.KernelActIdeal
public import proofs.«01_k».proof.Proof.Gen.ReferenceActIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ActValue
open Cert.Blocked Cert.KernelActIdeal Cert.KernelActIdeal.Gen

variable (m : (ℓ : Loc nD τ sig) → Buf (Elt Ideal) ℓ)

theorem idx : ∀ t : Fin cfg0.N,
    win0_0.index t = ![t.val / 2 / 16, t.val % 2] ∧ win0_1.index t = ![t.val / 2 % 16, t.val % 2]
      ∧ win0_2.index t = ![t.val / 2 / 16, t.val / 2 % 16] ∧ win0_3.index t = ![t.val / 2 / 16, t.val / 2 % 16]
      ∧ t.val / 2 / 16 < 4 :=
  (by decide +kernel : ∀ t : Fin grid0.N, _)

/-- One step of the accumulation. -/
theorem step_at (acc : Vec Ideal S1024x1024 .f32) (x y : Vec Ideal S1024x2048 .bf16) (p q : Fin 1024) :
    k0_pay2 (F := Ideal) acc x y (ix2 p q) = (acc (ix2 p q) : EReal) + ∑ k : Fin 2048, (x (ix2 p k) : EReal) * y (ix2 q k) := by
  pointwise [k0_pay2]

theorem zero_at (p q : Fin 1024) : k0_pay1 (F := Ideal) (ix2 p q) = (0 : EReal) := by
  pointwise [k0_pay1]

/-- The epilogue. -/
theorem out_at (acc u : Vec Ideal S1024x1024 .f32) (p q : Fin 1024) :
    k0_pay3 (F := Ideal) acc u (ix2 p q) = (acc (ix2 p q) : EReal) * (Ideal.ofBits .f32 1073741824#32 * max (u (ix2 p q)) 0) := by
  pointwise [k0_pay3]

theorem scr_A (c : Dev nD) (t : Fin cfg0.N) (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  unfold sout0_A_0
  frame_out

theorem scr_B (c : Dev nD) (t : Fin cfg0.N) (h0 : ¬t.val % 2 = 0) (h1 : t.val % 2 = 1) :
    outsAt0 m c t.val t.isLt = (k0_pay3 (F := Ideal) (outsAt0 m c t.val t.isLt).2 (iblk m c 2 t),
      k0_pay2 (F := Ideal) (outsAt0 m c (t.val - 1) (Nat.lt_of_le_of_lt (Nat.sub_le _ _) t.isLt)).2 (iblk m c 0 t) (iblk m c 1 t)) := by
  rw [outsAt0_B m c t h0 h1]
  dsimp only
  unfold sout0_B_0 out0_B_3
  refine Prod.ext ?_ ?_
  · frame_out
  · frame_out
    exact congrArg (k0_pay2 (F := Ideal) · _ _) (Memref.IsWhole.read_unread _ _)

section
variable (c : Dev nD)
/-- The two operands. -/
def lhs (i : Fin 4096) (k : Fin 4096) : EReal := m ((c : Thread nD τ).loc main_arg0) (ix2 i k)
def rhs (j : Fin 16384) (k : Fin 4096) : EReal := m ((c : Thread nD τ).loc main_arg1) (ix2 j k)

theorem blk_lhs (t : Fin cfg0.N) (p : Fin 1024) (k : Fin 2048) :
    (iblk m c 0 t (ix2 p k) : EReal) = nat2 (lhs m c) (t.val / 2 / 16 * 1024 + p.val) (t.val % 2 * 2048 + k.val) := by
  have h := (idx t).2.2.2.2
  rw [nat2_of _ (by omega) (by omega)]
  unfold lhs
  blk_ext [iblk, V, idx t]

theorem blk_rhs (t : Fin cfg0.N) (q : Fin 1024) (k : Fin 2048) :
    (iblk m c 1 t (ix2 q k) : EReal) = nat2 (rhs m c) (t.val / 2 % 16 * 1024 + q.val) (t.val % 2 * 2048 + k.val) := by
  rw [nat2_of _ (by omega) (by omega)]
  unfold rhs
  blk_ext [iblk, V, idx t]

/-- The accumulator at a block's last point: the whole product there. -/
theorem acc_at (t : Fin cfg0.N) (h : t.val % 2 = 1) (p q : Fin 1024) (i : Fin 4096) (j : Fin 16384)
    (hi : i.val = t.val / 2 / 16 * 1024 + p.val) (hj : j.val = t.val / 2 % 16 * 1024 + q.val) :
    ((outsAt0 m c t.val t.isLt).2 (ix2 p q) : EReal) = ∑ k, lhs m c i k * rhs m c j k := by
  refine block_value (fun n h p q => ((outsAt0 m c n h).2 (ix2 p q) : EReal)) (fun t p k => (iblk m c 0 t (ix2 p k) : EReal))
    (fun t q k => (iblk m c 1 t (ix2 q k) : EReal)) (lhs m c) (rhs m c) rfl (blk_lhs m c) (blk_rhs m c) ?_ ?_ t (by omega) p q i j hi hj
  · intro t p q h
    rw [scr_A m c t h (by omega), step_at, zero_at, zero_add]
  · intro t p q h
    exact (congrFun (congrArg Prod.snd (scr_B m c t h (by omega))) _).trans (step_at _ _ _ p q)

/-- The result. -/
def arg (r : Fin 4096) (j : Fin 16384) : EReal := m ((c : Thread nD τ).loc main_arg2) (ix2 r j)

def lay (r : Fin 4096) (j : Fin 16384) : EReal :=
  (∑ k : Fin 4096, lhs m c r k * rhs m c j k) * (Ideal.ofBits .f32 1073741824#32 * max (arg m c r j) 0)

theorem final : (dats m 0 c).arrAt 3 cfg0.N = fun i : S4096x16384.Idx => lay m c (i 0) (i 1) := by
  refine (dats m 0 c).arrAt_eq_of_covers 3 _ (by decide +kernel) fun t hf y => ?_
  have h := (idx t).2.2.2.2
  have hm : t.val % 2 = 1 := (flush0_3 t).mp hf
  blk_simp
  rw [after0_3, scr_B m c t (by omega) hm]
  idx_vars y
  rw [out_at, acc_at m c t hm y0 y1 (((cfg0.win 3).blk t).view.emb (ix2 y0 y1) 0) (((cfg0.win 3).blk t).view.emb (ix2 y0 y1) 1)]
  · unfold lay arg
    refine congrArg (_ * ·) (congrArg (_ * ·) (congrArg (max · 0) ?_))
    blk_ext [iblk, V, idx t]
  · blk_ext [idx t]
  · blk_ext [idx t]
end

set_option maxHeartbeats 4000000 in
/-- The claim: the kernel's result is the reference's. -/
theorem algebraic : Cert.algebraic_KernelActIdeal_ReferenceActIdeal := by
  pair_intro
  · run_from Cert.KernelActIdeal.Gen.run_main m g
  · run_from Cert.ReferenceActIdeal.Value.run m' g'
    · refine Eq.trans ?_ (final m c).symm
      funext y
      idx_vars y
      pointwise []
      show (if 0 < arg m c y0 y1 then lay m c y0 y1 else 0) = lay m c y0 y1
      split_ifs with h
      · rfl
      · unfold lay
        rw [max_eq_right (not_lt.1 h), mul_zero, mul_zero]

end Cert.ActValue

end
-- ==== Proof.DwOutValue.lean ====
/- The gradient of the MLP's second weights (`KernelDwOut`): the product of the transposed activations with the
   cotangent, over the 4096 tokens in two pieces. -/
module
public import proofs.«01_k».proof.Proof.Blocked
public import proofs.«01_k».proof.Proof.Gen.KernelDwOutIdeal.Value
public import proofs.«01_k».proof.Proof.Gen.ReferenceDwOutIdeal.Run
public import proofs.«01_k».proof.Proof.Gen.KernelDwOutIdeal
public import proofs.«01_k».proof.Proof.Gen.ReferenceDwOutIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwOutValue
open Cert.Blocked Cert.KernelDwOutIdeal Cert.KernelDwOutIdeal.Gen

variable (m : (ℓ : Loc nD τ sig) → Buf (Elt Ideal) ℓ)

theorem idx : ∀ t : Fin cfg0.N,
    win0_0.index t = ![t.val % 2, t.val / 2 / 4] ∧ win0_1.index t = ![t.val % 2, t.val / 2 % 4]
      ∧ win0_2.index t = ![t.val / 2 / 4, t.val / 2 % 4] ∧ t.val / 2 / 4 < 16 :=
  (by decide +kernel : ∀ t : Fin grid0.N, _)

/-- One step of the accumulation. -/
theorem step_at (acc : Vec Ideal S1024x1024 .f32) (x y : Vec Ideal S2048x1024 .bf16) (p q : Fin 1024) :
    k0_pay2 (F := Ideal) acc x y (ix2 p q) = (acc (ix2 p q) : EReal) + ∑ k : Fin 2048, (x (ix2 k p) : EReal) * y (ix2 k q) := by
  pointwise [k0_pay2]

theorem zero_at (p q : Fin 1024) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p q : Fin 1024) :
    ((outsAt0 m c t.val t.isLt).1 (ix2 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 16384) (k : Fin 4096) : EReal := m ((c : Thread nD τ).loc main_arg0) (ix2 k i)
def rhs (j : Fin 4096) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 4 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 1024) (k : Fin 2048) :
    (iblk m c 1 t (ix2 k q) : EReal) = nat2 (rhs m c) (t.val / 2 % 4 * 1024 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p q : Fin 1024) (i : Fin 16384) (j : Fin 4096)
    (hi : i.val = t.val / 2 / 4 * 1024 + p.val) (hj : j.val = t.val / 2 % 4 * 1024 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S16384x4096.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDwOutIdeal_ReferenceDwOutIdeal := by
  pair_intro
  · run_from Cert.KernelDwOutIdeal.Gen.run_main m g
  · run_from Cert.ReferenceDwOutIdeal.Value.run m' g'
    · refine Eq.trans ?_ (final m c).symm
      funext y
      idx_vars y
      pointwise []
      exact Finset.sum_congr rfl fun k _ => mul_comm _ _

end Cert.DwOutValue

end
-- ==== Proof.DwInValue.lean ====
/- The gradient of the MLP's first weights (`KernelDwIn`): the product of the transposed input with the cotangent, over
   the 4096 tokens in two pieces. The 16384 columns are written as eight shards of 2048. -/
module
public import proofs.«01_k».proof.Proof.Blocked
public import proofs.«01_k».proof.Proof.Gen.KernelDwInIdeal.Value
public import proofs.«01_k».proof.Proof.Gen.ReferenceDwInIdeal.Run
public import proofs.«01_k».proof.Proof.Gen.KernelDwInIdeal
public import proofs.«01_k».proof.Proof.Gen.ReferenceDwInIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwInValue
open Cert.Blocked Cert.KernelDwInIdeal Cert.KernelDwInIdeal.Gen

variable (m : (ℓ : Loc nD τ sig) → Buf (Elt Ideal) ℓ)

theorem idx : ∀ t : Fin cfg0.N,
    win0_0.index t = ![t.val % 2, t.val / 2 / 16] ∧ win0_1.index t = ![t.val % 2, t.val / 2 % 16]
      ∧ win0_2.index t = ![t.val / 2 % 16 / 2, t.val / 2 / 16, t.val / 2 % 16 % 2] ∧ t.val / 2 / 16 < 4 :=
  (by decide +kernel : ∀ t : Fin grid0.N, _)

/-- One step of the accumulation. -/
theorem step_at (acc : Vec Ideal S1024x1024 .f32) (x y : Vec Ideal S2048x1024 .bf16) (p q : Fin 1024) :
    k0_pay2 (F := Ideal) acc x y (ix2 p q) = (acc (ix2 p q) : EReal) + ∑ k : Fin 2048, (x (ix2 k p) : EReal) * y (ix2 k q) := by
  pointwise [k0_pay2]

theorem zero_at (p q : Fin 1024) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p q : Fin 1024) :
    ((outsAt0 m c t.val t.isLt).1 (ix3 0 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 4096) (k : Fin 4096) : EReal := m ((c : Thread nD τ).loc main_arg0) (ix2 k i)
def rhs (j : Fin 16384) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 16 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 1024) (k : Fin 2048) :
    (iblk m c 1 t (ix2 k q) : EReal) = nat2 (rhs m c) (t.val / 2 % 16 * 1024 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p q : Fin 1024) (i : Fin 4096) (j : Fin 16384)
    (hi : i.val = t.val / 2 / 16 * 1024 + p.val) (hj : j.val = t.val / 2 % 16 * 1024 + q.val) :
    ((outsAt0 m c t.val t.isLt).1 (ix3 0 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

/-- Column `v` of shard `s`. -/
def col (s : Fin 8) (v : Fin 2048) : Fin 16384 := ⟨s.val * 2048 + v.val, by omega⟩

theorem final : (dats m 0 c).arrAt 2 cfg0.N = fun i : S8x4096x2048.Idx => (∑ k, lhs m c (i 1) k * rhs m c (col (i 0) (i 2)) k : EReal) := by
  refine (dats m 0 c).arrAt_eq_of_covers 2 _ (by decide +kernel) fun t hf y => ?_
  have hm : t.val % 2 = 1 := (flush0_2 t).mp hf
  blk_simp
  rw [after0_2]
  idx_vars y
  obtain rfl : y0 = 0 := Subsingleton.elim _ _
  refine out_at m c t hm y1 y2 _ _ ?_ ?_
  · blk_ext [idx t]
  · have e0 : (((cfg0.win 2).blk t).view.emb (ix3 0 y1 y2) 0).val = t.val / 2 % 16 / 2 + (0 : Fin 1).val := by
      blk_ext [idx t]
    have e2 : (((cfg0.win 2).blk t).view.emb (ix3 0 y1 y2) 2).val = t.val / 2 % 16 % 2 * 1024 + y2.val := by blk_ext [idx t]
    show (((cfg0.win 2).blk t).view.emb (ix3 0 y1 y2) 0).val * 2048 + (((cfg0.win 2).blk t).view.emb (ix3 0 y1 y2) 2).val = _
    rw [e0, e2, Fin.val_zero]
    omega
end

set_option maxHeartbeats 4000000 in
/-- The claim: the kernel's result is the reference's. -/
theorem algebraic : Cert.algebraic_KernelDwInIdeal_ReferenceDwInIdeal := by
  pair_intro
  · run_from Cert.KernelDwInIdeal.Gen.run_main m g
  · run_from Cert.ReferenceDwInIdeal.Value.run m' g'
    · refine Eq.trans ?_ (final m c).symm
      funext y
      idx_vars y
      pointwise []
      exact Finset.sum_congr rfl fun k _ => mul_comm _ _

end Cert.DwInValue

end
-- ==== Proof.OutValue.lean ====
/- The second product of the MLP (`KernelOut`): the activations times the weights, the contraction over the 16384 hidden
   units in eight pieces of 2048 terms. -/
module
public import proofs.«01_k».proof.Proof.Blocked
public import proofs.«01_k».proof.Proof.Gen.KernelOutIdeal.Value
public import proofs.«01_k».proof.Proof.Gen.ReferenceOutIdeal.Run
public import proofs.«01_k».proof.Proof.Gen.KernelOutIdeal
public import proofs.«01_k».proof.Proof.Gen.ReferenceOutIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutValue
open Cert.Blocked Cert.KernelOutIdeal Cert.KernelOutIdeal.Gen

variable (m : (ℓ : Loc nD τ sig) → Buf (Elt Ideal) ℓ)

theorem idx : ∀ t : Fin cfg0.N,
    win0_0.index t = ![t.val / 8 / 4, t.val % 8] ∧ win0_1.index t = ![t.val % 8, t.val / 8 % 4]
      ∧ win0_2.index t = ![t.val / 8 / 4, t.val / 8 % 4] ∧ t.val / 8 / 4 < 4 :=
  (by decide +kernel : ∀ t : Fin grid0.N, _)

/-- One step of the accumulation. -/
theorem step_at (acc : Vec Ideal S1024x1024 .f32) (x : Vec Ideal S1024x2048 .bf16) (y : Vec Ideal S2048x1024 .bf16) (p q : Fin 1024) :
    k0_pay2 (F := Ideal) acc x y (ix2 p q) = (acc (ix2 p q) : EReal) + ∑ k : Fin 2048, (x (ix2 p k) : EReal) * y (ix2 k q) := by
  pointwise [k0_pay2]

theorem zero_at (p q : Fin 1024) : k0_pay1 (F := Ideal) (ix2 p q) = (0 : EReal) := by
  pointwise [k0_pay1]

/-- The accumulator at a block's first point. -/
theorem scr_first (c : Dev nD) (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 8 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 8 = 7
  · rw [outsAt0_C m c t h h1]
    dsimp only
    unfold sout0_C_0
    frame_out
    exact congrArg (k0_pay2 (F := Ideal) · _ _) (Memref.IsWhole.read_unread _ _)
  · rw [outsAt0_B m c t h h1]
    dsimp only
    unfold sout0_B_0
    frame_out
    exact congrArg (k0_pay2 (F := Ideal) · _ _) (Memref.IsWhole.read_unread _ _)

/-- What a block's last point writes. -/
theorem out_last (c : Dev nD) (t : Fin cfg0.N) (h : t.val % 8 = 7) (p q : Fin 1024) :
    ((outsAt0 m c t.val t.isLt).1 (ix2 p q) : EReal) = (outsAt0 m c t.val t.isLt).2 (ix2 p q) := by
  refine congrFun (?_ : (outsAt0 m c t.val t.isLt).1 = (outsAt0 m c t.val t.isLt).2) _
  rw [outsAt0_C m c t (by omega) h]
  dsimp only
  unfold sout0_C_0 out0_C_2
  frame_out

section
variable (c : Dev nD)
/-- The two operands. -/
def lhs (i : Fin 4096) (k : Fin 16384) : EReal := m ((c : Thread nD τ).loc main_arg0) (ix2 i k)
def rhs (j : Fin 4096) (k : Fin 16384) : EReal := m ((c : Thread nD τ).loc main_arg1) (ix2 k j)

theorem blk_lhs (t : Fin cfg0.N) (p : Fin 1024) (k : Fin 2048) :
    (iblk m c 0 t (ix2 p k) : EReal) = nat2 (lhs m c) (t.val / 8 / 4 * 1024 + p.val) (t.val % 8 * 2048 + k.val) := by
  have h := (idx t).2.2.2
  rw [nat2_of _ (by omega) (by omega)]
  unfold lhs
  blk_ext [iblk, V, idx t]

theorem blk_rhs (t : Fin cfg0.N) (q : Fin 1024) (k : Fin 2048) :
    (iblk m c 1 t (ix2 k q) : EReal) = nat2 (rhs m c) (t.val / 8 % 4 * 1024 + q.val) (t.val % 8 * 2048 + k.val) := by
  rw [nat2_of _ (by omega) (by omega)]
  unfold rhs
  blk_ext [iblk, V, idx t]

/-- A block's last point writes its part of the product. -/
theorem out_at (t : Fin cfg0.N) (h : t.val % 8 = 7) (p q : Fin 1024) (i : Fin 4096) (j : Fin 4096)
    (hi : i.val = t.val / 8 / 4 * 1024 + p.val) (hj : j.val = t.val / 8 % 4 * 1024 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 p k) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  have hm : t.val % 8 = 7 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelOutIdeal_ReferenceOutIdeal := by
  pair_intro
  · run_from Cert.KernelOutIdeal.Gen.run_main m g
  · refine (θ_run Cert.ReferenceOutIdeal.defs _ _).mono (fun r h c => ⟨(h c).1.trans ?_, (h c).2⟩)
      (Cert.ReferenceOutIdeal.Value.run m' g')
    rw [(hagree c).1, (hagree c).2]
    refine Eq.trans ?_ (final m c).symm
    funext y
    idx_vars y
    pointwise []
    rfl

end Cert.OutValue

end
-- ==== Proof.DwValue.lean ====
/- The gradient of a square weight matrix (`KernelDw`): the product of the transposed input with the cotangent, over the 4096 tokens in two pieces. -/
module
public import proofs.«01_k».proof.Proof.Blocked
public import proofs.«01_k».proof.Proof.Gen.KernelDwIdeal.Value
public import proofs.«01_k».proof.Proof.Gen.ReferenceDwIdeal.Run
public import proofs.«01_k».proof.Proof.Gen.KernelDwIdeal
public import proofs.«01_k».proof.Proof.Gen.ReferenceDwIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwValue
open Cert.Blocked Cert.KernelDwIdeal Cert.KernelDwIdeal.Gen

variable (m : (ℓ : Loc nD τ sig) → Buf (Elt Ideal) ℓ)

theorem idx : ∀ t : Fin cfg0.N,
    win0_0.index t = ![t.val % 2, t.val / 2 / 4] ∧ win0_1.index t = ![t.val % 2, t.val / 2 % 4]
      ∧ win0_2.index t = ![t.val / 2 / 4, t.val / 2 % 4] ∧ t.val / 2 / 4 < 4 :=
  (by decide +kernel : ∀ t : Fin grid0.N, _)

/-- One step of the accumulation. -/
theorem step_at (acc : Vec Ideal S1024x1024 .f32) (x y : Vec Ideal S2048x1024 .bf16) (p q : Fin 1024) :
    k0_pay2 (F := Ideal) acc x y (ix2 p q) = (acc (ix2 p q) : EReal) + ∑ k : Fin 2048, (x (ix2 k p) : EReal) * y (ix2 k q) := by
  pointwise [k0_pay2]

theorem zero_at (p q : Fin 1024) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p q : Fin 1024) :
    ((outsAt0 m c t.val t.isLt).1 (ix2 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 4096) (k : Fin 4096) : EReal := m ((c : Thread nD τ).loc main_arg0) (ix2 k i)
def rhs (j : Fin 4096) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 4 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 1024) (k : Fin 2048) :
    (iblk m c 1 t (ix2 k q) : EReal) = nat2 (rhs m c) (t.val / 2 % 4 * 1024 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p q : Fin 1024) (i : Fin 4096) (j : Fin 4096)
    (hi : i.val = t.val / 2 / 4 * 1024 + p.val) (hj : j.val = t.val / 2 % 4 * 1024 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDwIdeal_ReferenceDwIdeal := by
  pair_intro
  · run_from Cert.KernelDwIdeal.Gen.run_main m g
  · run_from Cert.ReferenceDwIdeal.Value.run m' g'
    · refine Eq.trans ?_ (final m c).symm
      funext y
      idx_vars y
      pointwise []
      exact Finset.sum_congr rfl fun k _ => mul_comm _ _

end Cert.DwValue

end
-- ==== Proof.DxValue.lean ====
/- The gradient of a projection's input (`KernelDx`): the product of the cotangent with the transposed weights, the
   contraction in two pieces of 2048 terms. -/
module
public import proofs.«01_k».proof.Proof.Blocked
public import proofs.«01_k».proof.Proof.Gen.KernelDxIdeal.Value
public import proofs.«01_k».proof.Proof.Gen.ReferenceDxIdeal.Run
public import proofs.«01_k».proof.Proof.Gen.KernelDxIdeal
public import proofs.«01_k».proof.Proof.Gen.ReferenceDxIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxValue
open Cert.Blocked Cert.KernelDxIdeal Cert.KernelDxIdeal.Gen

variable (m : (ℓ : Loc nD τ sig) → Buf (Elt Ideal) ℓ)

theorem idx : ∀ t : Fin cfg0.N,
    win0_0.index t = ![t.val / 2 / 4, t.val % 2] ∧ win0_1.index t = ![t.val / 2 % 4, t.val % 2]
      ∧ win0_2.index t = ![t.val / 2 / 4, t.val / 2 % 4] ∧ t.val / 2 / 4 < 4 :=
  (by decide +kernel : ∀ t : Fin grid0.N, _)

/-- One step of the accumulation. -/
theorem step_at (acc : Vec Ideal S1024x1024 .f32) (x y : Vec Ideal S1024x2048 .bf16) (p q : Fin 1024) :
    k0_pay2 (F := Ideal) acc x y (ix2 p q) = (acc (ix2 p q) : EReal) + ∑ k : Fin 2048, (x (ix2 p k) : EReal) * y (ix2 q k) := by
  pointwise [k0_pay2]

theorem zero_at (p q : Fin 1024) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p q : Fin 1024) :
    ((outsAt0 m c t.val t.isLt).1 (ix2 p q) : EReal) = (outsAt0 m c t.val t.isLt).2 (ix2 p q) := by
  refine congrFun (?_ : (outsAt0 m c t.val t.isLt).1 = (outsAt0 m c t.val t.isLt).2) _
  rw [outsAt0_B m c t (by omega) h]
  dsimp only
  unfold sout0_B_0 out0_B_2
  frame_out

section
variable (c : Dev nD)
/-- The two operands. -/
def lhs (i : Fin 4096) (k : Fin 4096) : EReal := m ((c : Thread nD τ).loc main_arg0) (ix2 i k)
def rhs (j : Fin 4096) (k : Fin 4096) : EReal := m ((c : Thread nD τ).loc main_arg1) (ix2 j k)

theorem blk_lhs (t : Fin cfg0.N) (p : Fin 1024) (k : Fin 2048) :
    (iblk m c 0 t (ix2 p k) : EReal) = nat2 (lhs m c) (t.val / 2 / 4 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 1024) (k : Fin 2048) :
    (iblk m c 1 t (ix2 q k) : EReal) = nat2 (rhs m c) (t.val / 2 % 4 * 1024 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p q : Fin 1024) (i : Fin 4096) (j : Fin 4096)
    (hi : i.val = t.val / 2 / 4 * 1024 + p.val) (hj : j.val = t.val / 2 % 4 * 1024 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 p k) : EReal))
    (fun t q k => (iblk m c 1 t (ix2 q k) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDxIdeal_ReferenceDxIdeal := by
  pair_intro
  · run_from Cert.KernelDxIdeal.Gen.run_main m g
  · run_from Cert.ReferenceDxIdeal.Value.run m' g'
    · refine Eq.trans ?_ (final m c).symm
      funext y
      idx_vars y
      pointwise []
      rfl

end Cert.DxValue

end
-- ==== Proof.YValue.lean ====
/- A projection of the layer (`KernelY`): the product of the input with a square weight matrix, the contraction in two
   pieces of 2048 terms. -/
module
public import proofs.«01_k».proof.Proof.Blocked
public import proofs.«01_k».proof.Proof.Gen.KernelYIdeal.Value
public import proofs.«01_k».proof.Proof.Gen.ReferenceYIdeal.Run
public import proofs.«01_k».proof.Proof.Gen.KernelYIdeal
public import proofs.«01_k».proof.Proof.Gen.ReferenceYIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.YValue
open Cert.Blocked Cert.KernelYIdeal Cert.KernelYIdeal.Gen

variable (m : (ℓ : Loc nD τ sig) → Buf (Elt Ideal) ℓ)

theorem idx : ∀ t : Fin cfg0.N,
    win0_0.index t = ![t.val / 2 / 4, t.val % 2] ∧ win0_1.index t = ![t.val % 2, t.val / 2 % 4]
      ∧ win0_2.index t = ![t.val / 2 / 4, t.val / 2 % 4] ∧ t.val / 2 / 4 < 4 :=
  (by decide +kernel : ∀ t : Fin grid0.N, _)

/-- One step of the accumulation. -/
theorem step_at (acc : Vec Ideal S1024x1024 .f32) (x : Vec Ideal S1024x2048 .bf16) (y : Vec Ideal S2048x1024 .bf16) (p q : Fin 1024) :
    k0_pay2 (F := Ideal) acc x y (ix2 p q) = (acc (ix2 p q) : EReal) + ∑ k : Fin 2048, (x (ix2 p k) : EReal) * y (ix2 k q) := by
  pointwise [k0_pay2]

theorem zero_at (p q : Fin 1024) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p q : Fin 1024) :
    ((outsAt0 m c t.val t.isLt).1 (ix2 p q) : EReal) = (outsAt0 m c t.val t.isLt).2 (ix2 p q) := by
  refine congrFun (?_ : (outsAt0 m c t.val t.isLt).1 = (outsAt0 m c t.val t.isLt).2) _
  rw [outsAt0_B m c t (by omega) h]
  dsimp only
  unfold sout0_B_0 out0_B_2
  frame_out

section
variable (c : Dev nD)
/-- The two operands. -/
def lhs (i : Fin 4096) (k : Fin 4096) : EReal := m ((c : Thread nD τ).loc main_arg0) (ix2 i k)
def rhs (j : Fin 4096) (k : Fin 4096) : EReal := m ((c : Thread nD τ).loc main_arg1) (ix2 k j)

theorem blk_lhs (t : Fin cfg0.N) (p : Fin 1024) (k : Fin 2048) :
    (iblk m c 0 t (ix2 p k) : EReal) = nat2 (lhs m c) (t.val / 2 / 4 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 1024) (k : Fin 2048) :
    (iblk m c 1 t (ix2 k q) : EReal) = nat2 (rhs m c) (t.val / 2 % 4 * 1024 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p q : Fin 1024) (i : Fin 4096) (j : Fin 4096)
    (hi : i.val = t.val / 2 / 4 * 1024 + p.val) (hj : j.val = t.val / 2 % 4 * 1024 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 p k) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelYIdeal_ReferenceYIdeal := by
  pair_intro
  · run_from Cert.KernelYIdeal.Gen.run_main m g
  · run_from Cert.ReferenceYIdeal.Value.run m' g'
    · refine Eq.trans ?_ (final m c).symm
      funext y
      idx_vars y
      pointwise []
      rfl

end Cert.YValue

end
-- ==== Proof.DwZValue.lean ====
/- The gradient of the columns of `w_in` that feed the recurrence (`KernelDwZ`): the product of the transposed input with
   the cotangent, in 4 · 13 blocks, each over the 4096 tokens in two pieces. -/
module
public import proofs.«01_k».proof.Proof.Blocked
public import proofs.«01_k».proof.Proof.Gen.KernelDwZIdeal.Value
public import proofs.«01_k».proof.Proof.Gen.ReferenceDwZIdeal.Run
public import proofs.«01_k».proof.Proof.Gen.KernelDwZIdeal
public import proofs.«01_k».proof.Proof.Gen.ReferenceDwZIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwZValue
open Cert.Blocked Cert.KernelDwZIdeal Cert.KernelDwZIdeal.Gen

variable (m : (ℓ : Loc nD τ sig) → Buf (Elt Ideal) ℓ)

theorem idx : ∀ t : Fin cfg0.N,
    win0_0.index t = ![t.val % 2, t.val / 2 / 13] ∧ win0_1.index t = ![t.val % 2, t.val / 2 % 13]
      ∧ win0_2.index t = ![t.val / 2 / 13, t.val / 2 % 13] ∧ t.val / 2 / 13 < 4 :=
  (by decide +kernel : ∀ t : Fin grid0.N, _)

/-- One step of the accumulation. -/
theorem step_at (acc : Vec Ideal S1024x512 .f32) (x : Vec Ideal S2048x1024 .bf16) (y : Vec Ideal S2048x512 .bf16) (p : Fin 1024) (q : Fin 512) :
    k0_pay2 (F := Ideal) acc x y (ix2 p q) = (acc (ix2 p q) : EReal) + ∑ k : Fin 2048, (x (ix2 k p) : EReal) * y (ix2 k q) := by
  pointwise [k0_pay2]

theorem zero_at (p : Fin 1024) (q : Fin 512) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p : Fin 1024) (q : Fin 512) :
    ((outsAt0 m c t.val t.isLt).1 (ix2 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 4096) (k : Fin 4096) : EReal := m ((c : Thread nD τ).loc main_arg0) (ix2 k i)
def rhs (j : Fin 6656) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 13 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 512) (k : Fin 2048) :
    (iblk m c 1 t (ix2 k q) : EReal) = nat2 (rhs m c) (t.val / 2 % 13 * 512 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p : Fin 1024) (q : Fin 512) (i : Fin 4096) (j : Fin 6656)
    (hi : i.val = t.val / 2 / 13 * 1024 + p.val) (hj : j.val = t.val / 2 % 13 * 512 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x6656.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDwZIdeal_ReferenceDwZIdeal := by
  pair_intro
  · run_from Cert.KernelDwZIdeal.Gen.run_main m g
  · run_from Cert.ReferenceDwZIdeal.Value.run m' g'
    · refine Eq.trans ?_ (final m c).symm
      funext y
      idx_vars y
      pointwise []
      exact Finset.sum_congr rfl fun k _ => mul_comm _ _

end Cert.DwZValue

end
-- ==== Proof.DwQValue.lean ====
/- The gradient of the columns of `w_in` that give the queries (`KernelDwQ`): the product of the transposed input with the
   cotangent, in 4 · 3 blocks, each over the 4096 tokens in two pieces. -/
module
public import proofs.«01_k».proof.Proof.Blocked
public import proofs.«01_k».proof.Proof.Gen.KernelDwQIdeal.Value
public import proofs.«01_k».proof.Proof.Gen.ReferenceDwQIdeal.Run
public import proofs.«01_k».proof.Proof.Gen.KernelDwQIdeal
public import proofs.«01_k».proof.Proof.Gen.ReferenceDwQIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwQValue
open Cert.Blocked Cert.KernelDwQIdeal Cert.KernelDwQIdeal.Gen

variable (m : (ℓ : Loc nD τ sig) → Buf (Elt Ideal) ℓ)

theorem idx : ∀ t : Fin cfg0.N,
    win0_0.index t = ![t.val % 2, t.val / 2 / 3] ∧ win0_1.index t = ![t.val % 2, t.val / 2 % 3]
      ∧ win0_2.index t = ![t.val / 2 / 3, t.val / 2 % 3] ∧ t.val / 2 / 3 < 4 :=
  (by decide +kernel : ∀ t : Fin grid0.N, _)

/-- One step of the accumulation. -/
theorem step_at (acc : Vec Ideal S1024x512 .f32) (x : Vec Ideal S2048x1024 .bf16) (y : Vec Ideal S2048x512 .bf16) (p : Fin 1024) (q : Fin 512) :
    k0_pay2 (F := Ideal) acc x y (ix2 p q) = (acc (ix2 p q) : EReal) + ∑ k : Fin 2048, (x (ix2 k p) : EReal) * y (ix2 k q) := by
  pointwise [k0_pay2]

theorem zero_at (p : Fin 1024) (q : Fin 512) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p : Fin 1024) (q : Fin 512) :
    ((outsAt0 m c t.val t.isLt).1 (ix2 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 4096) (k : Fin 4096) : EReal := m ((c : Thread nD τ).loc main_arg0) (ix2 k i)
def rhs (j : Fin 1536) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 3 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 512) (k : Fin 2048) :
    (iblk m c 1 t (ix2 k q) : EReal) = nat2 (rhs m c) (t.val / 2 % 3 * 512 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p : Fin 1024) (q : Fin 512) (i : Fin 4096) (j : Fin 1536)
    (hi : i.val = t.val / 2 / 3 * 1024 + p.val) (hj : j.val = t.val / 2 % 3 * 512 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x1536.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDwQIdeal_ReferenceDwQIdeal := by
  pair_intro
  · run_from Cert.KernelDwQIdeal.Gen.run_main m g
  · run_from Cert.ReferenceDwQIdeal.Value.run m' g'
    · refine Eq.trans ?_ (final m c).symm
      funext y
      idx_vars y
      pointwise []
      exact Finset.sum_congr rfl fun k _ => mul_comm _ _

end Cert.DwQValue

end
-- ==== Proof.DwVValue.lean ====
/- The gradient of the columns of `w_in` that give one attention group's values (`KernelDwV`): the product of the transposed
   input with the cotangent, in four blocks, each over the 4096 tokens in two pieces. -/
module
public import proofs.«01_k».proof.Proof.Blocked
public import proofs.«01_k».proof.Proof.Gen.KernelDwVIdeal.Value
public import proofs.«01_k».proof.Proof.Gen.ReferenceDwVIdeal.Run
public import proofs.«01_k».proof.Proof.Gen.KernelDwVIdeal
public import proofs.«01_k».proof.Proof.Gen.ReferenceDwVIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwVValue
open Cert.Blocked Cert.KernelDwVIdeal Cert.KernelDwVIdeal.Gen

variable (m : (ℓ : Loc nD τ sig) → Buf (Elt Ideal) ℓ)

theorem idx : ∀ t : Fin cfg0.N,
    win0_0.index t = ![t.val % 2, t.val / 2 / 1] ∧ win0_1.index t = ![t.val % 2, t.val / 2 % 1]
      ∧ win0_2.index t = ![t.val / 2 / 1, t.val / 2 % 1] ∧ t.val / 2 / 1 < 4 :=
  (by decide +kernel : ∀ t : Fin grid0.N, _)

/-- One step of the accumulation. -/
theorem step_at (acc : Vec Ideal S1024x512 .f32) (x : Vec Ideal S2048x1024 .bf16) (y : Vec Ideal S2048x512 .bf16) (p : Fin 1024) (q : Fin 512) :
    k0_pay2 (F := Ideal) acc x y (ix2 p q) = (acc (ix2 p q) : EReal) + ∑ k : Fin 2048, (x (ix2 k p) : EReal) * y (ix2 k q) := by
  pointwise [k0_pay2]

theorem zero_at (p : Fin 1024) (q : Fin 512) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p : Fin 1024) (q : Fin 512) :
    ((outsAt0 m c t.val t.isLt).1 (ix2 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 4096) (k : Fin 4096) : EReal := m ((c : Thread nD τ).loc main_arg0) (ix2 k i)
def rhs (j : Fin 512) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 1 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 512) (k : Fin 2048) :
    (iblk m c 1 t (ix2 k q) : EReal) = nat2 (rhs m c) (t.val / 2 % 1 * 512 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p : Fin 1024) (q : Fin 512) (i : Fin 4096) (j : Fin 512)
    (hi : i.val = t.val / 2 / 1 * 1024 + p.val) (hj : j.val = t.val / 2 % 1 * 512 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x512.Idx => (∑ k, lhs m c (i 0) k * rhs m c (i 1) k : EReal) := by
  refine (dats m 0 c).arrAt_eq_of_covers 2 _ (by decide +kernel) fun t hf y => ?_
  have hm : t.val % 2 = 1 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDwVIdeal_ReferenceDwVIdeal := by
  pair_intro
  · run_from Cert.KernelDwVIdeal.Gen.run_main m g
  · run_from Cert.ReferenceDwVIdeal.Value.run m' g'
    · refine Eq.trans ?_ (final m c).symm
      funext y
      idx_vars y
      pointwise []
      exact Finset.sum_congr rfl fun k _ => mul_comm _ _

end Cert.DwVValue

end
-- ==== Proof.DwRwValue.lean ====
/- The gradient of the recurrence's output weights (`KernelDwRw`): the product of the transposed input with the cotangent,
   over the 4096 tokens in two pieces. The 4096 columns are written as eight shards of 512. -/
module
public import proofs.«01_k».proof.Proof.Blocked
public import proofs.«01_k».proof.Proof.Gen.KernelDwRwIdeal.Value
public import proofs.«01_k».proof.Proof.Gen.ReferenceDwRwIdeal.Run
public import proofs.«01_k».proof.Proof.Gen.KernelDwRwIdeal
public import proofs.«01_k».proof.Proof.Gen.ReferenceDwRwIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwRwValue
open Cert.Blocked Cert.KernelDwRwIdeal Cert.KernelDwRwIdeal.Gen

variable (m : (ℓ : Loc nD τ sig) → Buf (Elt Ideal) ℓ)

theorem idx : ∀ t : Fin cfg0.N,
    win0_0.index t = ![t.val % 2, t.val / 2 / 8] ∧ win0_1.index t = ![t.val % 2, t.val / 2 % 8]
      ∧ win0_2.index t = ![t.val / 2 % 8, t.val / 2 / 8, 0] ∧ t.val / 2 / 8 < 2 :=
  (by decide +kernel : ∀ t : Fin grid0.N, _)

/-- One step of the accumulation. -/
theorem step_at (acc : Vec Ideal S1024x512 .f32) (x : Vec Ideal S2048x1024 .bf16) (y : Vec Ideal S2048x512 .bf16) (p : Fin 1024) (q : Fin 512) :
    k0_pay2 (F := Ideal) acc x y (ix2 p q) = (acc (ix2 p q) : EReal) + ∑ k : Fin 2048, (x (ix2 k p) : EReal) * y (ix2 k q) := by
  pointwise [k0_pay2]

theorem zero_at (p : Fin 1024) (q : Fin 512) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p : Fin 1024) (q : Fin 512) :
    ((outsAt0 m c t.val t.isLt).1 (ix3 0 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 2048) (k : Fin 4096) : EReal := m ((c : Thread nD τ).loc main_arg0) (ix2 k i)
def rhs (j : Fin 4096) (k : Fin 4096) : EReal := m ((c : Thread nD τ).loc main_arg1) (ix2 k j)

theorem blk_lhs (t : Fin cfg0.N) (p : Fin 1024) (k : Fin 2048) :
    (iblk m c 0 t (ix2 k p) : EReal) = nat2 (lhs m c) (t.val / 2 / 8 * 1024 + p.val) (t.val % 2 * 2048 + k.val) := by
  have h := (idx t).2.2.2
  rw [nat2_of _ (by omega) (by omega)]
  unfold lhs
  blk_ext [iblk, V, idx t]

theorem blk_rhs (t : Fin cfg0.N) (q : Fin 512) (k : Fin 2048) :
    (iblk m c 1 t (ix2 k q) : EReal) = nat2 (rhs m c) (t.val / 2 % 8 * 512 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p : Fin 1024) (q : Fin 512) (i : Fin 2048) (j : Fin 4096)
    (hi : i.val = t.val / 2 / 8 * 1024 + p.val) (hj : j.val = t.val / 2 % 8 * 512 + q.val) :
    ((outsAt0 m c t.val t.isLt).1 (ix3 0 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

/-- Column `v` of shard `s`. -/
def col (s : Fin 8) (v : Fin 512) : Fin 4096 := ⟨s.val * 512 + v.val, by omega⟩

theorem final : (dats m 0 c).arrAt 2 cfg0.N
    = fun i : S8x2048x512.Idx => (∑ k, lhs m c (i 1) k * rhs m c (col (i 0) (i 2)) k : EReal) := by
  refine (dats m 0 c).arrAt_eq_of_covers 2 _ (by decide +kernel) fun t hf y => ?_
  have hm : t.val % 2 = 1 := (flush0_2 t).mp hf
  blk_simp
  rw [after0_2]
  idx_vars y
  obtain rfl : y0 = 0 := Subsingleton.elim _ _
  refine out_at m c t hm y1 y2 _ _ ?_ ?_
  · blk_ext [idx t]
  · have e0 : (((cfg0.win 2).blk t).view.emb (ix3 0 y1 y2) 0).val = t.val / 2 % 8 + (0 : Fin 1).val := by
      blk_ext [idx t]
    have e2 : (((cfg0.win 2).blk t).view.emb (ix3 0 y1 y2) 2).val = 0 * 512 + y2.val := by blk_ext [idx t]
    show (((cfg0.win 2).blk t).view.emb (ix3 0 y1 y2) 0).val * 512 + (((cfg0.win 2).blk t).view.emb (ix3 0 y1 y2) 2).val = _
    rw [e0, e2, Fin.val_zero]
    omega
end

set_option maxHeartbeats 4000000 in
/-- The claim: the kernel's result is the reference's. -/
theorem algebraic : Cert.algebraic_KernelDwRwIdeal_ReferenceDwRwIdeal := by
  pair_intro
  · run_from Cert.KernelDwRwIdeal.Gen.run_main m g
  · run_from Cert.ReferenceDwRwIdeal.Value.run m' g'
    · refine Eq.trans ?_ (final m c).symm
      funext y
      idx_vars y
      pointwise []
      exact Finset.sum_congr rfl fun k _ => mul_comm _ _

end Cert.DwRwValue

end
-- ==== Proof.DxRwValue.lean ====
/- The gradient of the recurrence's output (`KernelDxRw`): the product of the cotangent with the transposed weights. The
   contraction runs over the eight shards of the weights' columns, 512 columns at each point. -/
module
public import proofs.«01_k».proof.Proof.Blocked
public import proofs.«01_k».proof.Proof.Gen.KernelDxRwIdeal.Value
public import proofs.«01_k».proof.Proof.Gen.ReferenceDxRwIdeal.Run
public import proofs.«01_k».proof.Proof.Gen.KernelDxRwIdeal
public import proofs.«01_k».proof.Proof.Gen.ReferenceDxRwIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxRwValue
open Cert.Blocked Cert.KernelDxRwIdeal Cert.KernelDxRwIdeal.Gen

variable (m : (ℓ : Loc nD τ sig) → Buf (Elt Ideal) ℓ)

theorem idx : ∀ t : Fin cfg0.N,
    win0_0.index t = ![t.val / 8 / 2, t.val % 8] ∧ win0_1.index t = ![t.val % 8, t.val / 8 % 2, 0]
      ∧ win0_2.index t = ![t.val / 8 / 2, t.val / 8 % 2] ∧ t.val / 8 / 2 < 4 :=
  (by decide +kernel : ∀ t : Fin grid0.N, _)

/-- One step of the accumulation. -/
theorem step_at (acc : Vec Ideal S1024x1024 .f32) (x : Vec Ideal S1024x512 .bf16) (y : Vec Ideal S1x1024x512 .bf16) (p : Fin 1024) (q : Fin 1024) :
    k0_pay2 (F := Ideal) acc x y (ix2 p q) = (acc (ix2 p q) : EReal) + ∑ k : Fin 512, (x (ix2 p k) : EReal) * y (ix3 0 q k) := by
  pointwise [k0_pay2]

theorem zero_at (p : Fin 1024) (q : Fin 1024) : k0_pay1 (F := Ideal) (ix2 p q) = (0 : EReal) := by
  pointwise [k0_pay1]

/-- The accumulator at a block's first point. -/
theorem scr_first (c : Dev nD) (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 8 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 8 = 7
  · rw [outsAt0_C m c t h h1]
    dsimp only
    unfold sout0_C_0
    frame_out
    exact congrArg (k0_pay2 (F := Ideal) · _ _) (Memref.IsWhole.read_unread _ _)
  · rw [outsAt0_B m c t h h1]
    dsimp only
    unfold sout0_B_0
    frame_out
    exact congrArg (k0_pay2 (F := Ideal) · _ _) (Memref.IsWhole.read_unread _ _)

/-- What a block's last point writes. -/
theorem out_last (c : Dev nD) (t : Fin cfg0.N) (h : t.val % 8 = 7) (p : Fin 1024) (q : Fin 1024) :
    ((outsAt0 m c t.val t.isLt).1 (ix2 p q) : EReal) = (outsAt0 m c t.val t.isLt).2 (ix2 p q) := by
  refine congrFun (?_ : (outsAt0 m c t.val t.isLt).1 = (outsAt0 m c t.val t.isLt).2) _
  rw [outsAt0_C m c t (by omega) h]
  dsimp only
  unfold sout0_C_0 out0_C_2
  frame_out

section
variable (c : Dev nD)
/-- Column `k` of the weights is column `slot k` of shard `shard k`. -/
def shard (k : Fin 4096) : Fin 8 := ⟨k.val / 512, by omega⟩
def slot (k : Fin 4096) : Fin 512 := ⟨k.val % 512, by omega⟩

/-- The two operands. -/
def lhs (i : Fin 4096) (k : Fin 4096) : EReal := m ((c : Thread nD τ).loc main_arg0) (ix2 i k)
def rhs (j : Fin 2048) (k : Fin 4096) : EReal := m ((c : Thread nD τ).loc main_arg1) (ix3 (shard k) j (slot k))

theorem blk_lhs (t : Fin cfg0.N) (p : Fin 1024) (k : Fin 512) :
    (iblk m c 0 t (ix2 p k) : EReal) = nat2 (lhs m c) (t.val / 8 / 2 * 1024 + p.val) (t.val % 8 * 512 + k.val) := by
  have h := (idx t).2.2.2
  rw [nat2_of _ (by omega) (by omega)]
  unfold lhs
  blk_ext [iblk, V, idx t]

theorem blk_rhs (t : Fin cfg0.N) (q : Fin 1024) (k : Fin 512) :
    (iblk m c 1 t (ix3 0 q k) : EReal) = nat2 (rhs m c) (t.val / 8 % 2 * 1024 + q.val) (t.val % 8 * 512 + k.val) := by
  rw [nat2_of _ (by omega) (by omega)]
  have e : ∀ h, shard ⟨t.val % 8 * 512 + k.val, h⟩ = ⟨t.val % 8, by omega⟩ ∧ slot ⟨t.val % 8 * 512 + k.val, h⟩ = k := fun _ =>
    ⟨Fin.ext (by show (t.val % 8 * 512 + k.val) / 512 = t.val % 8; omega), Fin.ext (by show (t.val % 8 * 512 + k.val) % 512 = k.val; omega)⟩
  unfold rhs
  rw [(e _).1, (e _).2]
  blk_ext [iblk, V, idx t]

/-- A block's last point writes its part of the product. -/
theorem out_at (t : Fin cfg0.N) (h : t.val % 8 = 7) (p : Fin 1024) (q : Fin 1024) (i : Fin 4096) (j : Fin 2048)
    (hi : i.val = t.val / 8 / 2 * 1024 + p.val) (hj : j.val = t.val / 8 % 2 * 1024 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 p k) : EReal))
    (fun t q k => (iblk m c 1 t (ix3 0 q k) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x2048.Idx => (∑ k, lhs m c (i 0) k * rhs m c (i 1) k : EReal) := by
  refine (dats m 0 c).arrAt_eq_of_covers 2 _ (by decide +kernel) fun t hf y => ?_
  have hm : t.val % 8 = 7 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDxRwIdeal_ReferenceDxRwIdeal := by
  pair_intro
  · run_from Cert.KernelDxRwIdeal.Gen.run_main m g
  · refine (θ_run Cert.ReferenceDxRwIdeal.defs _ _).mono (fun r h c => ⟨(h c).1.trans ?_, (h c).2⟩)
      (Cert.ReferenceDxRwIdeal.Value.run m' g')
    rw [(hagree c).1, (hagree c).2]
    refine Eq.trans ?_ (final m c).symm
    funext y
    idx_vars y
    pointwise []
    rfl

end Cert.DxRwValue

end
-- ==== Proof.YRwValue.lean ====
/- The recurrence's output projection (`KernelYRw`): the product with weights whose columns lie in eight shards of 512. Each
   point takes the whole contraction. -/
module
public import proofs.«01_k».proof.Proof.Blocked
public import proofs.«01_k».proof.Proof.Gen.KernelYRwIdeal.Value
public import proofs.«01_k».proof.Proof.Gen.ReferenceYRwIdeal.Run
public import proofs.«01_k».proof.Proof.Gen.KernelYRwIdeal
public import proofs.«01_k».proof.Proof.Gen.ReferenceYRwIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.YRwValue
open Cert.Blocked Cert.KernelYRwIdeal Cert.KernelYRwIdeal.Gen

variable (m : (ℓ : Loc nD τ sig) → Buf (Elt Ideal) ℓ)

theorem idx : ∀ t : Fin cfg0.N,
    win0_0.index t = ![t.val / 8, 0] ∧ win0_1.index t = ![t.val % 8, 0, 0] ∧ win0_2.index t = ![t.val / 8, t.val % 8]
      ∧ t.val / 8 < 4 :=
  (by decide +kernel : ∀ t : Fin grid0.N, _)

/-- What a point writes: the accumulator, reset and added to once. -/
theorem step_at (x : Vec Ideal S1024x2048 .bf16) (y : Vec Ideal S1x2048x512 .bf16) (p : Fin 1024) (q : Fin 512) :
    (k0_pay2 (F := Ideal) (k0_pay1 (F := Ideal)) x y (ix2 p q) : EReal) = ∑ k : Fin 2048, (x (ix2 p k) : EReal) * y (ix3 0 k q) := by
  pointwise [k0_pay2, k0_pay1]

theorem out_eq (c : Dev nD) (t : Fin cfg0.N) :
    outsAt0 m c t = k0_pay2 (F := Ideal) (k0_pay1 (F := Ideal)) (iblk m c 0 t) (iblk m c 1 t) := by
  unfold outsAt0 out0_A_2
  frame_out

section
variable (c : Dev nD)
/-- Column `j` of the weights is column `slot j` of shard `shard j`. -/
def shard (j : Fin 4096) : Fin 8 := ⟨j.val / 512, by omega⟩
def slot (j : Fin 4096) : Fin 512 := ⟨j.val % 512, by omega⟩

/-- The two operands. -/
def lhs (i : Fin 4096) (k : Fin 2048) : EReal := m ((c : Thread nD τ).loc main_arg0) (ix2 i k)
def rhs (j : Fin 4096) (k : Fin 2048) : EReal := m ((c : Thread nD τ).loc main_arg1) (ix3 (shard j) k (slot j))

theorem blk_lhs (t : Fin cfg0.N) (p : Fin 1024) (k : Fin 2048) (i : Fin 4096) (hi : i.val = t.val / 8 * 1024 + p.val) :
    (iblk m c 0 t (ix2 p k) : EReal) = lhs m c i k := by
  have h := (idx t).2.2.2
  have hb : t.val / 8 * 1024 + p.val < 4096 := by clear hi; omega
  obtain rfl : i = ⟨_, hb⟩ := Fin.ext hi
  unfold lhs
  blk_ext [iblk, V, idx t]

theorem blk_rhs (t : Fin cfg0.N) (q : Fin 512) (k : Fin 2048) (j : Fin 4096) (hj : j.val = t.val % 8 * 512 + q.val) :
    (iblk m c 1 t (ix3 0 k q) : EReal) = rhs m c j k := by
  have e : shard j = ⟨t.val % 8, by omega⟩ ∧ slot j = q := ⟨Fin.ext (by show j.val / 512 = t.val % 8; omega), Fin.ext (by show j.val % 512 = q.val; omega)⟩
  unfold rhs
  rw [e.1, e.2]
  blk_ext [iblk, V, idx t]

/-- A point writes its part of the product. -/
theorem out_at (t : Fin cfg0.N) (p : Fin 1024) (q : Fin 512) (i j : Fin 4096) (hi : i.val = t.val / 8 * 1024 + p.val)
    (hj : j.val = t.val % 8 * 512 + q.val) : (outsAt0 m c t (ix2 p q) : EReal) = ∑ k, lhs m c i k * rhs m c j k := by
  rw [out_eq, step_at]
  exact Finset.sum_congr rfl fun k _ => congrArg₂ (· * ·) (blk_lhs m c t p k i hi) (blk_rhs m c t q k j hj)

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  blk_simp
  rw [after0_2]
  idx_vars y
  refine out_at m c t y0 y1 _ _ ?_ ?_
  · blk_ext [idx t]
  · blk_ext [idx t]
end

set_option maxHeartbeats 4000000 in
/-- The claim: the kernel's result is the reference's. -/
theorem algebraic : Cert.algebraic_KernelYRwIdeal_ReferenceYRwIdeal := by
  pair_intro
  · run_from Cert.KernelYRwIdeal.Gen.run_main m g
  · run_from Cert.ReferenceYRwIdeal.Value.run m' g'
    · refine Eq.trans ?_ (final m c).symm
      funext y
      idx_vars y
      pointwise []
      rfl

end Cert.YRwValue

end
-- ==== Proof.DwAtValue.lean ====
/- The gradient of the attention's output weights (`KernelDwAt`): the product of the transposed input with the cotangent,
   over the 4096 tokens in two pieces. The 4096 columns are written as eight shards of 512. -/
module
public import proofs.«01_k».proof.Proof.Blocked
public import proofs.«01_k».proof.Proof.Gen.KernelDwAtIdeal.Value
public import proofs.«01_k».proof.Proof.Gen.ReferenceDwAtIdeal.Run
public import proofs.«01_k».proof.Proof.Gen.KernelDwAtIdeal
public import proofs.«01_k».proof.Proof.Gen.ReferenceDwAtIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwAtValue
open Cert.Blocked Cert.KernelDwAtIdeal Cert.KernelDwAtIdeal.Gen

variable (m : (ℓ : Loc nD τ sig) → Buf (Elt Ideal) ℓ)

theorem idx : ∀ t : Fin cfg0.N,
    win0_0.index t = ![t.val % 2, t.val / 2 / 8] ∧ win0_1.index t = ![t.val % 2, t.val / 2 % 8]
      ∧ win0_2.index t = ![t.val / 2 % 8, t.val / 2 / 8, 0] ∧ t.val / 2 / 8 < 1 :=
  (by decide +kernel : ∀ t : Fin grid0.N, _)

/-- One step of the accumulation. -/
theorem step_at (acc : Vec Ideal S512x512 .f32) (x y : Vec Ideal S2048x512 .bf16) (p : Fin 512) (q : Fin 512) :
    k0_pay2 (F := Ideal) acc x y (ix2 p q) = (acc (ix2 p q) : EReal) + ∑ k : Fin 2048, (x (ix2 k p) : EReal) * y (ix2 k q) := by
  pointwise [k0_pay2]

theorem zero_at (p : Fin 512) (q : Fin 512) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p : Fin 512) (q : Fin 512) :
    ((outsAt0 m c t.val t.isLt).1 (ix3 0 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 512) (k : Fin 4096) : EReal := m ((c : Thread nD τ).loc main_arg0) (ix2 k i)
def rhs (j : Fin 4096) (k : Fin 4096) : EReal := m ((c : Thread nD τ).loc main_arg1) (ix2 k j)

theorem blk_lhs (t : Fin cfg0.N) (p : Fin 512) (k : Fin 2048) :
    (iblk m c 0 t (ix2 k p) : EReal) = nat2 (lhs m c) (t.val / 2 / 8 * 512 + p.val) (t.val % 2 * 2048 + k.val) := by
  have h := (idx t).2.2.2
  rw [nat2_of _ (by omega) (by omega)]
  unfold lhs
  blk_ext [iblk, V, idx t]

theorem blk_rhs (t : Fin cfg0.N) (q : Fin 512) (k : Fin 2048) :
    (iblk m c 1 t (ix2 k q) : EReal) = nat2 (rhs m c) (t.val / 2 % 8 * 512 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p : Fin 512) (q : Fin 512) (i : Fin 512) (j : Fin 4096)
    (hi : i.val = t.val / 2 / 8 * 512 + p.val) (hj : j.val = t.val / 2 % 8 * 512 + q.val) :
    ((outsAt0 m c t.val t.isLt).1 (ix3 0 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

/-- Column `v` of shard `s`. -/
def col (s : Fin 8) (v : Fin 512) : Fin 4096 := ⟨s.val * 512 + v.val, by omega⟩

theorem final : (dats m 0 c).arrAt 2 cfg0.N
    = fun i : S8x512x512.Idx => (∑ k, lhs m c (i 1) k * rhs m c (col (i 0) (i 2)) k : EReal) := by
  refine (dats m 0 c).arrAt_eq_of_covers 2 _ (by decide +kernel) fun t hf y => ?_
  have hm : t.val % 2 = 1 := (flush0_2 t).mp hf
  blk_simp
  rw [after0_2]
  idx_vars y
  obtain rfl : y0 = 0 := Subsingleton.elim _ _
  refine out_at m c t hm y1 y2 _ _ ?_ ?_
  · blk_ext [idx t]
  · have e0 : (((cfg0.win 2).blk t).view.emb (ix3 0 y1 y2) 0).val = t.val / 2 % 8 + (0 : Fin 1).val := by
      blk_ext [idx t]
    have e2 : (((cfg0.win 2).blk t).view.emb (ix3 0 y1 y2) 2).val = 0 * 512 + y2.val := by blk_ext [idx t]
    show (((cfg0.win 2).blk t).view.emb (ix3 0 y1 y2) 0).val * 512 + (((cfg0.win 2).blk t).view.emb (ix3 0 y1 y2) 2).val = _
    rw [e0, e2, Fin.val_zero]
    omega
end

set_option maxHeartbeats 4000000 in
/-- The claim: the kernel's result is the reference's. -/
theorem algebraic : Cert.algebraic_KernelDwAtIdeal_ReferenceDwAtIdeal := by
  pair_intro
  · run_from Cert.KernelDwAtIdeal.Gen.run_main m g
  · run_from Cert.ReferenceDwAtIdeal.Value.run m' g'
    · refine Eq.trans ?_ (final m c).symm
      funext y
      idx_vars y
      pointwise []
      exact Finset.sum_congr rfl fun k _ => mul_comm _ _

end Cert.DwAtValue

end
-- ==== Proof.DxAtValue.lean ====
/- The gradient of the attention's output (`KernelDxAt`): the product of the cotangent with the transposed weights. The
   contraction runs over the eight shards of the weights' columns, 512 columns at each point. -/
module
public import proofs.«01_k».proof.Proof.Blocked
public import proofs.«01_k».proof.Proof.Gen.KernelDxAtIdeal.Value
public import proofs.«01_k».proof.Proof.Gen.ReferenceDxAtIdeal.Run
public import proofs.«01_k».proof.Proof.Gen.KernelDxAtIdeal
public import proofs.«01_k».proof.Proof.Gen.ReferenceDxAtIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DxAtValue
open Cert.Blocked Cert.KernelDxAtIdeal Cert.KernelDxAtIdeal.Gen

variable (m : (ℓ : Loc nD τ sig) → Buf (Elt Ideal) ℓ)

theorem idx : ∀ t : Fin cfg0.N,
    win0_0.index t = ![t.val / 8 / 1, t.val % 8] ∧ win0_1.index t = ![t.val % 8, t.val / 8 % 1, 0]
      ∧ win0_2.index t = ![t.val / 8 / 1, t.val / 8 % 1] ∧ t.val / 8 / 1 < 4 :=
  (by decide +kernel : ∀ t : Fin grid0.N, _)

/-- One step of the accumulation. -/
theorem step_at (acc : Vec Ideal S1024x512 .f32) (x : Vec Ideal S1024x512 .bf16) (y : Vec Ideal S1x512x512 .bf16) (p : Fin 1024) (q : Fin 512) :
    k0_pay2 (F := Ideal) acc x y (ix2 p q) = (acc (ix2 p q) : EReal) + ∑ k : Fin 512, (x (ix2 p k) : EReal) * y (ix3 0 q k) := by
  pointwise [k0_pay2]

theorem zero_at (p : Fin 1024) (q : Fin 512) : k0_pay1 (F := Ideal) (ix2 p q) = (0 : EReal) := by
  pointwise [k0_pay1]

/-- The accumulator at a block's first point. -/
theorem scr_first (c : Dev nD) (t : Fin cfg0.N) (h : t.val % 8 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 8 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  by_cases h1 : t.val % 8 = 7
  · rw [outsAt0_C m c t h h1]
    dsimp only
    unfold sout0_C_0
    frame_out
    exact congrArg (k0_pay2 (F := Ideal) · _ _) (Memref.IsWhole.read_unread _ _)
  · rw [outsAt0_B m c t h h1]
    dsimp only
    unfold sout0_B_0
    frame_out
    exact congrArg (k0_pay2 (F := Ideal) · _ _) (Memref.IsWhole.read_unread _ _)

/-- What a block's last point writes. -/
theorem out_last (c : Dev nD) (t : Fin cfg0.N) (h : t.val % 8 = 7) (p : Fin 1024) (q : Fin 512) :
    ((outsAt0 m c t.val t.isLt).1 (ix2 p q) : EReal) = (outsAt0 m c t.val t.isLt).2 (ix2 p q) := by
  refine congrFun (?_ : (outsAt0 m c t.val t.isLt).1 = (outsAt0 m c t.val t.isLt).2) _
  rw [outsAt0_C m c t (by omega) h]
  dsimp only
  unfold sout0_C_0 out0_C_2
  frame_out

section
variable (c : Dev nD)
/-- Column `k` of the weights is column `slot k` of shard `shard k`. -/
def shard (k : Fin 4096) : Fin 8 := ⟨k.val / 512, by omega⟩
def slot (k : Fin 4096) : Fin 512 := ⟨k.val % 512, by omega⟩

/-- The two operands. -/
def lhs (i : Fin 4096) (k : Fin 4096) : EReal := m ((c : Thread nD τ).loc main_arg0) (ix2 i k)
def rhs (j : Fin 512) (k : Fin 4096) : EReal := m ((c : Thread nD τ).loc main_arg1) (ix3 (shard k) j (slot k))

theorem blk_lhs (t : Fin cfg0.N) (p : Fin 1024) (k : Fin 512) :
    (iblk m c 0 t (ix2 p k) : EReal) = nat2 (lhs m c) (t.val / 8 / 1 * 1024 + p.val) (t.val % 8 * 512 + k.val) := by
  have h := (idx t).2.2.2
  rw [nat2_of _ (by omega) (by omega)]
  unfold lhs
  blk_ext [iblk, V, idx t]

theorem blk_rhs (t : Fin cfg0.N) (q : Fin 512) (k : Fin 512) :
    (iblk m c 1 t (ix3 0 q k) : EReal) = nat2 (rhs m c) (t.val / 8 % 1 * 512 + q.val) (t.val % 8 * 512 + k.val) := by
  rw [nat2_of _ (by omega) (by omega)]
  have e : ∀ h, shard ⟨t.val % 8 * 512 + k.val, h⟩ = ⟨t.val % 8, by omega⟩ ∧ slot ⟨t.val % 8 * 512 + k.val, h⟩ = k := fun _ =>
    ⟨Fin.ext (by show (t.val % 8 * 512 + k.val) / 512 = t.val % 8; omega), Fin.ext (by show (t.val % 8 * 512 + k.val) % 512 = k.val; omega)⟩
  unfold rhs
  rw [(e _).1, (e _).2]
  blk_ext [iblk, V, idx t]

/-- A block's last point writes its part of the product. -/
theorem out_at (t : Fin cfg0.N) (h : t.val % 8 = 7) (p : Fin 1024) (q : Fin 512) (i : Fin 4096) (j : Fin 512)
    (hi : i.val = t.val / 8 / 1 * 1024 + p.val) (hj : j.val = t.val / 8 % 1 * 512 + q.val) :
    ((outsAt0 m c t.val t.isLt).1 (ix2 p q) : EReal) = ∑ k, lhs m c i k * rhs m c j k := by
  rw [out_last m c t h]
  refine block_value (fun n h p q => ((outsAt0 m c n h).2 (ix2 p q) : EReal)) (fun t p k => (iblk m c 0 t (ix2 p k) : EReal))
    (fun t q k => (iblk m c 1 t (ix3 0 q k) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

theorem final : (dats m 0 c).arrAt 2 cfg0.N = fun i : S4096x512.Idx => (∑ k, lhs m c (i 0) k * rhs m c (i 1) k : EReal) := by
  refine (dats m 0 c).arrAt_eq_of_covers 2 _ (by decide +kernel) fun t hf y => ?_
  have hm : t.val % 8 = 7 := (flush0_2 t).mp hf
  blk_simp
  rw [after0_2]
  idx_vars y
  refine out_at m c t hm y0 y1 _ _ ?_ ?_
  · blk_ext [idx t]
  · blk_ext [idx t]
end

set_option maxHeartbeats 4000000 in
/-- The claim: the kernel's result is the reference's. -/
theorem algebraic : Cert.algebraic_KernelDxAtIdeal_ReferenceDxAtIdeal := by
  pair_intro
  · run_from Cert.KernelDxAtIdeal.Gen.run_main m g
  · refine (θ_run Cert.ReferenceDxAtIdeal.defs _ _).mono (fun r h c => ⟨(h c).1.trans ?_, (h c).2⟩)
      (Cert.ReferenceDxAtIdeal.Value.run m' g')
    rw [(hagree c).1, (hagree c).2]
    refine Eq.trans ?_ (final m c).symm
    funext y
    idx_vars y
    pointwise []
    rfl

end Cert.DxAtValue

end
-- ==== Proof.YAtValue.lean ====
/- The attention's output projection (`KernelYAt`): the product with weights whose columns lie in eight shards of 512. Each
   point takes the whole contraction. -/
module
public import proofs.«01_k».proof.Proof.Blocked
public import proofs.«01_k».proof.Proof.Gen.KernelYAtIdeal.Value
public import proofs.«01_k».proof.Proof.Gen.ReferenceYAtIdeal.Run
public import proofs.«01_k».proof.Proof.Gen.KernelYAtIdeal
public import proofs.«01_k».proof.Proof.Gen.ReferenceYAtIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.YAtValue
open Cert.Blocked Cert.KernelYAtIdeal Cert.KernelYAtIdeal.Gen

variable (m : (ℓ : Loc nD τ sig) → Buf (Elt Ideal) ℓ)

theorem idx : ∀ t : Fin cfg0.N,
    win0_0.index t = ![t.val / 8, 0] ∧ win0_1.index t = ![t.val % 8, 0, 0] ∧ win0_2.index t = ![t.val / 8, t.val % 8]
      ∧ t.val / 8 < 4 :=
  (by decide +kernel : ∀ t : Fin grid0.N, _)

/-- What a point writes: the accumulator, reset and added to once. -/
theorem step_at (x : Vec Ideal S1024x512 .bf16) (y : Vec Ideal S1x512x512 .bf16) (p : Fin 1024) (q : Fin 512) :
    (k0_pay2 (F := Ideal) (k0_pay1 (F := Ideal)) x y (ix2 p q) : EReal) = ∑ k : Fin 512, (x (ix2 p k) : EReal) * y (ix3 0 k q) := by
  pointwise [k0_pay2, k0_pay1]

theorem out_eq (c : Dev nD) (t : Fin cfg0.N) :
    outsAt0 m c t = k0_pay2 (F := Ideal) (k0_pay1 (F := Ideal)) (iblk m c 0 t) (iblk m c 1 t) := by
  unfold outsAt0 out0_A_2
  frame_out

section
variable (c : Dev nD)
/-- Column `j` of the weights is column `slot j` of shard `shard j`. -/
def shard (j : Fin 4096) : Fin 8 := ⟨j.val / 512, by omega⟩
def slot (j : Fin 4096) : Fin 512 := ⟨j.val % 512, by omega⟩

/-- The two operands. -/
def lhs (i : Fin 4096) (k : Fin 512) : EReal := m ((c : Thread nD τ).loc main_arg0) (ix2 i k)
def rhs (j : Fin 4096) (k : Fin 512) : EReal := m ((c : Thread nD τ).loc main_arg1) (ix3 (shard j) k (slot j))

theorem blk_lhs (t : Fin cfg0.N) (p : Fin 1024) (k : Fin 512) (i : Fin 4096) (hi : i.val = t.val / 8 * 1024 + p.val) :
    (iblk m c 0 t (ix2 p k) : EReal) = lhs m c i k := by
  have h := (idx t).2.2.2
  have hb : t.val / 8 * 1024 + p.val < 4096 := by clear hi; omega
  obtain rfl : i = ⟨_, hb⟩ := Fin.ext hi
  unfold lhs
  blk_ext [iblk, V, idx t]

theorem blk_rhs (t : Fin cfg0.N) (q : Fin 512) (k : Fin 512) (j : Fin 4096) (hj : j.val = t.val % 8 * 512 + q.val) :
    (iblk m c 1 t (ix3 0 k q) : EReal) = rhs m c j k := by
  have e : shard j = ⟨t.val % 8, by omega⟩ ∧ slot j = q := ⟨Fin.ext (by show j.val / 512 = t.val % 8; omega), Fin.ext (by show j.val % 512 = q.val; omega)⟩
  unfold rhs
  rw [e.1, e.2]
  blk_ext [iblk, V, idx t]

/-- A point writes its part of the product. -/
theorem out_at (t : Fin cfg0.N) (p : Fin 1024) (q : Fin 512) (i j : Fin 4096) (hi : i.val = t.val / 8 * 1024 + p.val)
    (hj : j.val = t.val % 8 * 512 + q.val) : (outsAt0 m c t (ix2 p q) : EReal) = ∑ k, lhs m c i k * rhs m c j k := by
  rw [out_eq, step_at]
  exact Finset.sum_congr rfl fun k _ => congrArg₂ (· * ·) (blk_lhs m c t p k i hi) (blk_rhs m c t q k j hj)

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  blk_simp
  rw [after0_2]
  idx_vars y
  refine out_at m c t y0 y1 _ _ ?_ ?_
  · blk_ext [idx t]
  · blk_ext [idx t]
end

set_option maxHeartbeats 4000000 in
/-- The claim: the kernel's result is the reference's. -/
theorem algebraic : Cert.algebraic_KernelYAtIdeal_ReferenceYAtIdeal := by
  pair_intro
  · run_from Cert.KernelYAtIdeal.Gen.run_main m g
  · run_from Cert.ReferenceYAtIdeal.Value.run m' g'
    · refine Eq.trans ?_ (final m c).symm
      funext y
      idx_vars y
      pointwise []
      rfl

end Cert.YAtValue

end
-- ==== Proof.DwPleValue.lean ====
/- The gradient of the layer embedding's weights (`KernelDwPle`): the product of the transposed input with the cotangent,
   over the 4096 tokens in two pieces. The 4096 columns are written as eight shards of 512. -/
module
public import proofs.«01_k».proof.Proof.Blocked
public import proofs.«01_k».proof.Proof.Gen.KernelDwPleIdeal.Value
public import proofs.«01_k».proof.Proof.Gen.ReferenceDwPleIdeal.Run
public import proofs.«01_k».proof.Proof.Gen.KernelDwPleIdeal
public import proofs.«01_k».proof.Proof.Gen.ReferenceDwPleIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwPleValue
open Cert.Blocked Cert.KernelDwPleIdeal Cert.KernelDwPleIdeal.Gen

variable (m : (ℓ : Loc nD τ sig) → Buf (Elt Ideal) ℓ)

theorem idx : ∀ t : Fin cfg0.N,
    win0_0.index t = ![t.val % 2, t.val / 2 / 8] ∧ win0_1.index t = ![t.val % 2, t.val / 2 % 8]
      ∧ win0_2.index t = ![t.val / 2 % 8, t.val / 2 / 8, 0] ∧ t.val / 2 / 8 < 1 :=
  (by decide +kernel : ∀ t : Fin grid0.N, _)

/-- One step of the accumulation. -/
theorem step_at (acc : Vec Ideal S256x512 .f32) (x : Vec Ideal S2048x256 .bf16) (y : Vec Ideal S2048x512 .bf16) (p : Fin 256) (q : Fin 512) :
    k0_pay2 (F := Ideal) acc x y (ix2 p q) = (acc (ix2 p q) : EReal) + ∑ k : Fin 2048, (x (ix2 k p) : EReal) * y (ix2 k q) := by
  pointwise [k0_pay2]

theorem zero_at (p : Fin 256) (q : Fin 512) : k0_pay1 (F := Ideal) (ix2 p q) = (0 : EReal) := by
  pointwise [k0_pay1]

/-- The accumulator at a block's first point. -/
theorem scr_first (c : Dev nD) (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  dsimp only
  unfold sout0_A_0
  frame_out

/-- The accumulator at another point. -/
theorem scr_next (c : Dev nD) (t : Fin cfg0.N) (h : ¬t.val % 2 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  rw [outsAt0_B m c t h (by omega)]
  dsimp only
  unfold sout0_B_0
  frame_out
  exact congrArg (k0_pay2 (F := Ideal) · _ _) (Memref.IsWhole.read_unread _ _)

/-- What a block's last point writes. -/
theorem out_last (c : Dev nD) (t : Fin cfg0.N) (h : t.val % 2 = 1) (p : Fin 256) (q : Fin 512) :
    ((outsAt0 m c t.val t.isLt).1 (ix3 0 p q) : EReal) = (outsAt0 m c t.val t.isLt).2 (ix2 p q) := by
  have e : (outsAt0 m c t.val t.isLt).1 = k0_pay3 (F := Ideal) (outsAt0 m c t.val t.isLt).2 := by
    rw [outsAt0_B m c t (by omega) h]
    dsimp only
    unfold sout0_B_0 out0_B_2
    frame_out
  rw [e]
  pointwise [k0_pay3]

section
variable (c : Dev nD)
/-- The two operands. -/
def lhs (i : Fin 256) (k : Fin 4096) : EReal := m ((c : Thread nD τ).loc main_arg0) (ix2 k i)
def rhs (j : Fin 4096) (k : Fin 4096) : EReal := m ((c : Thread nD τ).loc main_arg1) (ix2 k j)

theorem blk_lhs (t : Fin cfg0.N) (p : Fin 256) (k : Fin 2048) :
    (iblk m c 0 t (ix2 k p) : EReal) = nat2 (lhs m c) (t.val / 2 / 8 * 256 + p.val) (t.val % 2 * 2048 + k.val) := by
  have h := (idx t).2.2.2
  rw [nat2_of _ (by omega) (by omega)]
  unfold lhs
  blk_ext [iblk, V, idx t]

theorem blk_rhs (t : Fin cfg0.N) (q : Fin 512) (k : Fin 2048) :
    (iblk m c 1 t (ix2 k q) : EReal) = nat2 (rhs m c) (t.val / 2 % 8 * 512 + q.val) (t.val % 2 * 2048 + k.val) := by
  rw [nat2_of _ (by omega) (by omega)]
  unfold rhs
  blk_ext [iblk, V, idx t]

/-- A block's last point writes its part of the product. -/
theorem out_at (t : Fin cfg0.N) (h : t.val % 2 = 1) (p : Fin 256) (q : Fin 512) (i : Fin 256) (j : Fin 4096)
    (hi : i.val = t.val / 2 / 8 * 256 + p.val) (hj : j.val = t.val / 2 % 8 * 512 + q.val) :
    ((outsAt0 m c t.val t.isLt).1 (ix3 0 p q) : EReal) = ∑ k, lhs m c i k * rhs m c j k := by
  rw [out_last m c t h]
  refine block_value (fun n h p q => ((outsAt0 m c n h).2 (ix2 p q) : EReal)) (fun t p k => (iblk m c 0 t (ix2 k p) : EReal))
    (fun t q k => (iblk m c 1 t (ix2 k q) : EReal)) (lhs m c) (rhs m c) rfl (blk_lhs m c) (blk_rhs m c) ?_ ?_ t (by omega) p q i j hi hj
  · intro t p q h
    rw [scr_first m c t h, step_at, zero_at, zero_add]
  · intro t p q h
    rw [scr_next m c t h, step_at]

/-- Column `v` of shard `s`. -/
def col (s : Fin 8) (v : Fin 512) : Fin 4096 := ⟨s.val * 512 + v.val, by omega⟩

theorem final : (dats m 0 c).arrAt 2 cfg0.N
    = fun i : S8x256x512.Idx => (∑ k, lhs m c (i 1) k * rhs m c (col (i 0) (i 2)) k : EReal) := by
  refine (dats m 0 c).arrAt_eq_of_covers 2 _ (by decide +kernel) fun t hf y => ?_
  have hm : t.val % 2 = 1 := (flush0_2 t).mp hf
  blk_simp
  rw [after0_2]
  idx_vars y
  obtain rfl : y0 = 0 := Subsingleton.elim _ _
  refine out_at m c t hm y1 y2 _ _ ?_ ?_
  · blk_ext [idx t]
  · have e0 : (((cfg0.win 2).blk t).view.emb (ix3 0 y1 y2) 0).val = t.val / 2 % 8 + (0 : Fin 1).val := by
      blk_ext [idx t]
    have e2 : (((cfg0.win 2).blk t).view.emb (ix3 0 y1 y2) 2).val = 0 * 512 + y2.val := by blk_ext [idx t]
    show (((cfg0.win 2).blk t).view.emb (ix3 0 y1 y2) 0).val * 512 + (((cfg0.win 2).blk t).view.emb (ix3 0 y1 y2) 2).val = _
    rw [e0, e2, Fin.val_zero]
    omega
end

set_option maxHeartbeats 4000000 in
/-- The claim: the kernel's result is the reference's. -/
theorem algebraic : Cert.algebraic_KernelDwPleIdeal_ReferenceDwPleIdeal := by
  pair_intro
  · run_from Cert.KernelDwPleIdeal.Gen.run_main m g
  · run_from Cert.ReferenceDwPleIdeal.Value.run m' g'
    · refine Eq.trans ?_ (final m c).symm
      funext y
      idx_vars y
      pointwise []
      exact Finset.sum_congr rfl fun k _ => mul_comm _ _

end Cert.DwPleValue

end
-- ==== Proof.YPleValue.lean ====
/- The layer embedding's projection (`KernelYPle`): the product with weights whose columns lie in eight shards of 512. Each
   point takes the whole contraction. -/
module
public import proofs.«01_k».proof.Proof.Blocked
public import proofs.«01_k».proof.Proof.Gen.KernelYPleIdeal.Value
public import proofs.«01_k».proof.Proof.Gen.ReferenceYPleIdeal.Run
public import proofs.«01_k».proof.Proof.Gen.KernelYPleIdeal
public import proofs.«01_k».proof.Proof.Gen.ReferenceYPleIdeal
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.YPleValue
open Cert.Blocked Cert.KernelYPleIdeal Cert.KernelYPleIdeal.Gen

variable (m : (ℓ : Loc nD τ sig) → Buf (Elt Ideal) ℓ)

theorem idx : ∀ t : Fin cfg0.N,
    win0_0.index t = ![t.val / 8, 0] ∧ win0_1.index t = ![t.val % 8, 0, 0] ∧ win0_2.index t = ![t.val / 8, t.val % 8]
      ∧ t.val / 8 < 4 :=
  (by decide +kernel : ∀ t : Fin grid0.N, _)

/-- What a point writes: the accumulator, reset and added to once. -/
theorem step_at (x : Vec Ideal S1024x256 .bf16) (y : Vec Ideal S1x256x512 .bf16) (p : Fin 1024) (q : Fin 512) :
    (k0_pay2 (F := Ideal) (k0_pay1 (F := Ideal)) x y (ix2 p q) : EReal) = ∑ k : Fin 256, (x (ix2 p k) : EReal) * y (ix3 0 k q) := by
  pointwise [k0_pay2, k0_pay1]

theorem out_eq (c : Dev nD) (t : Fin cfg0.N) :
    outsAt0 m c t = k0_pay2 (F := Ideal) (k0_pay1 (F := Ideal)) (iblk m c 0 t) (iblk m c 1 t) := by
  unfold outsAt0 out0_A_2
  frame_out

section
variable (c : Dev nD)
/-- Column `j` of the weights is column `slot j` of shard `shard j`. -/
def shard (j : Fin 4096) : Fin 8 := ⟨j.val / 512, by omega⟩
def slot (j : Fin 4096) : Fin 512 := ⟨j.val % 512, by omega⟩

/-- The two operands. -/
def lhs (i : Fin 4096) (k : Fin 256) : EReal := m ((c : Thread nD τ).loc main_arg0) (ix2 i k)
def rhs (j : Fin 4096) (k : Fin 256) : EReal := m ((c : Thread nD τ).loc main_arg1) (ix3 (shard j) k (slot j))

theorem blk_lhs (t : Fin cfg0.N) (p : Fin 1024) (k : Fin 256) (i : Fin 4096) (hi : i.val = t.val / 8 * 1024 + p.val) :
    (iblk m c 0 t (ix2 p k) : EReal) = lhs m c i k := by
  have h := (idx t).2.2.2
  have hb : t.val / 8 * 1024 + p.val < 4096 := by clear hi; omega
  obtain rfl : i = ⟨_, hb⟩ := Fin.ext hi
  unfold lhs
  blk_ext [iblk, V, idx t]

theorem blk_rhs (t : Fin cfg0.N) (q : Fin 512) (k : Fin 256) (j : Fin 4096) (hj : j.val = t.val % 8 * 512 + q.val) :
    (iblk m c 1 t (ix3 0 k q) : EReal) = rhs m c j k := by
  have e : shard j = ⟨t.val % 8, by omega⟩ ∧ slot j = q := ⟨Fin.ext (by show j.val / 512 = t.val % 8; omega), Fin.ext (by show j.val % 512 = q.val; omega)⟩
  unfold rhs
  rw [e.1, e.2]
  blk_ext [iblk, V, idx t]

/-- A point writes its part of the product. -/
theorem out_at (t : Fin cfg0.N) (p : Fin 1024) (q : Fin 512) (i j : Fin 4096) (hi : i.val = t.val / 8 * 1024 + p.val)
    (hj : j.val = t.val % 8 * 512 + q.val) : (outsAt0 m c t (ix2 p q) : EReal) = ∑ k, lhs m c i k * rhs m c j k := by
  rw [out_eq, step_at]
  exact Finset.sum_congr rfl fun k _ => congrArg₂ (· * ·) (blk_lhs m c t p k i hi) (blk_rhs m c t q k j hj)

theorem final : (dats m 0 c).arrAt 2 cfg0.N = fun i : S4096x4096.Idx => (∑ k, lhs m c (i 0) k * rhs m c (i 1) k : EReal) := by
  refine (dats m 0 c).arrAt_eq_of_covers 2 _ (by decide +kernel) fun t hf y => ?_
  blk_simp
  rw [after0_2]
  idx_vars y
  refine out_at m c t y0 y1 _ _ ?_ ?_
  · blk_ext [idx t]
  · blk_ext [idx t]
end

set_option maxHeartbeats 4000000 in
/-- The claim: the kernel's result is the reference's. -/
theorem algebraic : Cert.algebraic_KernelYPleIdeal_ReferenceYPleIdeal := by
  pair_intro
  · run_from Cert.KernelYPleIdeal.Gen.run_main m g
  · run_from Cert.ReferenceYPleIdeal.Value.run m' g'
    · refine Eq.trans ?_ (final m c).symm
      funext y
      idx_vars y
      pointwise []
      rfl

end Cert.YPleValue

end
-- ==== Proof.Adam.lean ====
/- The AdamW step of one element: what it makes of the summed gradient and of the element's weight and moments. The
   factors are the float32 words that stand in the kernel as in the reference, so that no value of theirs is needed. -/
module

public import Idealize.ShloMosaic.Lib.Pointwise
public import Idealize.ShloMosaic.Lib.Pipeline.ValueKit
public import Idealize.ShloMosaic.Lib.Claim

@[expose] public section

noncomputable section

open Idealize.ShloMosaic Idealize.ShloMosaic.TcCoe Idealize.SL.Sem

namespace Cert.Adam

/-- The new first moment, of the old one and the gradient: 0.9 and 0.1 parts. -/
def moment1 (m g : EReal) : EReal := Ideal.ofBits .f32 0x3F666666#32 * m + Ideal.ofBits .f32 0x3DCCCCCD#32 * g

/-- The new second moment: 0.999 and 0.001 parts. -/
def moment2 (v g : EReal) : EReal := Ideal.ofBits .f32 0x3F7FBE77#32 * v + Ideal.ofBits .f32 0x3A83126F#32 * (g * g)

/-- The change of the weight: minus the learning rate times the quotient of the two corrected moments plus the decay. -/
def delta (w m v g : EReal) : EReal :=
  Ideal.ofBits .f32 0xBA83126F#32
    * (Ideal.div (Ideal.div (moment1 m g) (Ideal.ofBits .f32 0x3F26BD02#32))
        (Ideal.sqrt (Ideal.div (moment2 v g) (Ideal.ofBits .f32 0x3C231ACC#32)) + Ideal.ofBits .f32 0x322BCC77#32)
      + Ideal.ofBits .f32 0x3C23D70A#32 * w)

/-- The kernel adds four parts of a gradient one after the other. -/
theorem four (p : Fin 4 → EReal) : ∑ r, p r = p 0 + p 1 + p 2 + p 3 := Fin.sum_univ_four p

/-- And eight. -/
theorem eight (p : Fin 8 → EReal) : ∑ r, p r = p 0 + p 1 + p 2 + p 3 + p 4 + p 5 + p 6 + p 7 := Fin.sum_univ_eight p

/-! The references compute the step on whole arrays, of whatever shape, with each factor spread over the array. -/

variable {s : Shape} (h : (⟨0, ![]⟩ : Shape).BroadcastsInDim s (![] : Fin 0 → Fin s.rank))

/-- A float32 word spread over an array. -/
abbrev spread (w : BitVec 32) : FVec Ideal s .f32 := broadcastInDim s ![] h (constant (F := Ideal) ⟨0, ![]⟩ .f32 w)

theorem ref_moment1 (m g : FVec Ideal s .f32) :
    addf (mulf (spread h 0x3F666666#32) m) (mulf (spread h 0x3DCCCCCD#32) g) = fun i => moment1 (m i) (g i) := rfl

theorem ref_moment2 (v g : FVec Ideal s .f32) :
    addf (mulf (spread h 0x3F7FBE77#32) v) (mulf (spread h 0x3A83126F#32) (mulf g g)) = fun i => moment2 (v i) (g i) := rfl

theorem ref_delta (w m v g : FVec Ideal s .f32) :
    mulf (spread h 0xBA83126F#32)
      (addf (Host.divf
          (Host.divf (addf (mulf (spread h 0x3F666666#32) m) (mulf (spread h 0x3DCCCCCD#32) g)) (spread h 0x3F26BD02#32))
          (addf (Host.sqrt (Host.divf (addf (mulf (spread h 0x3F7FBE77#32) v) (mulf (spread h 0x3A83126F#32) (mulf g g)))
              (spread h 0x3C231ACC#32))) (spread h 0x322BCC77#32)))
        (mulf (spread h 0x3C23D70A#32) w)) = fun i => delta (w i) (m i) (v i) (g i) := rfl

end Cert.Adam

end
-- ==== Proof.AdInValue.lean ====
/- The AdamW step of a [4096, 2424] shard of weights (`KernelAdInIdeal`). A point updates 64 whole rows. -/
module

public import proofs.«01_k».proof.Proof.Adam
public import proofs.«01_k».proof.Proof.Gen.KernelAdInIdeal.Frame
public import proofs.«01_k».proof.Proof.Gen.KernelAdInIdeal.Skeleton
public import proofs.«01_k».proof.Proof.Gen.ReferenceAdInIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdInValue

open Cert.KernelAdInIdeal Cert.KernelAdInIdeal.Gen

variable (m : (ℓ : Loc nD τ sig) → Buf (Elt Ideal) ℓ)

/-- All windows of a point stand at the same block. -/
theorem idx : ∀ t : Fin cfg0.N,
    win0_0.index t = ![0, t.val, 0] ∧ win0_1.index t = ![0, t.val, 0]
      ∧ win0_2.index t = ![0, t.val, 0] ∧ win0_3.index t = ![0, t.val, 0]
      ∧ win0_4.index t = ![0, t.val, 0] ∧ win0_5.index t = ![0, t.val, 0]
      ∧ win0_6.index t = ![0, t.val, 0] ∧ win0_7.index t = ![0, t.val, 0] :=
  (by decide +kernel : ∀ t : Fin grid0.N, _)

section
variable (c : Dev nD)

/-- The parts of the gradient, and their sum. -/
def part (r : Fin 4) (i : S1x4096x2424.Idx) : EReal := m ((c : Thread nD τ).loc main_arg0) (ix3 r (i 1) (i 2))
def grad (i : S1x4096x2424.Idx) : EReal := ∑ r, part m c r i
/-- The weights and the two moments. -/
def wt (i : S1x4096x2424.Idx) : EReal := m ((c : Thread nD τ).loc main_arg1) i
def mom (i : S1x4096x2424.Idx) : EReal := m ((c : Thread nD τ).loc main_arg2) i
def vel (i : S1x4096x2424.Idx) : EReal := m ((c : Thread nD τ).loc main_arg3) i

/-- The array index of a point's block index. -/
def at_ (t : Fin cfg0.N) (p : Fin 64) (q : Fin 2424) : S1x4096x2424.Idx :=
  have h : t.val < 64 := t.isLt
  ix3 0 ⟨t.val * 64 + p.val, by omega⟩ q

/-- The blocks' elements: the parts' block holds the point's block of each part. -/
theorem blk0 (t : Fin cfg0.N) (r : Fin 4) (p : Fin 64) (q : Fin 2424) :
    (iblk m c 0 t (ix3 r p q) : EReal) = part m c r (at_ t p q) := by
  have h : t.val < 64 := t.isLt
  unfold part at_
  blk_ext [iblk, V, idx t]

theorem blk1 (t : Fin cfg0.N) (p : Fin 64) (q : Fin 2424) : (iblk m c 1 t (ix3 0 p q) : EReal) = wt m c (at_ t p q) := by
  have h : t.val < 64 := t.isLt
  unfold wt at_
  blk_ext [iblk, V, idx t]

theorem blk2 (t : Fin cfg0.N) (p : Fin 64) (q : Fin 2424) : (iblk m c 2 t (ix3 0 p q) : EReal) = mom m c (at_ t p q) := by
  have h : t.val < 64 := t.isLt
  unfold mom at_
  blk_ext [iblk, V, idx t]

theorem blk3 (t : Fin cfg0.N) (p : Fin 64) (q : Fin 2424) : (iblk m c 3 t (ix3 0 p q) : EReal) = vel m c (at_ t p q) := by
  have h : t.val < 64 := t.isLt
  unfold vel at_
  blk_ext [iblk, V, idx t]

theorem sum_eq (i : S1x4096x2424.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdInIdeal.S1x4096x2424 (Host.reduceAdd (extf (F := Ideal) .f32
      (m ((c : Thread nD τ).loc main_arg0) : FVec Ideal Cert.ReferenceAdInIdeal.S4x4096x2424 .bf16) Cert.ReferenceAdInIdeal.Gen.bitsLt_bf16_f32)
      (constant Cert.ReferenceAdInIdeal.S_ .f32 0x00000000#32) Cert.ReferenceAdInIdeal.Gen.reducesTo_S4x4096x2424_S4096x2424_d0 Cert.ReferenceAdInIdeal.Gen.h_S_)
      Cert.ReferenceAdInIdeal.Gen.shapeCasts_S4096x2424_S1x4096x2424 = grad m c := by
  funext y
  idx_vars y
  pointwise [grad, part]

/-- The claim: the kernel's results are the reference's. -/
theorem algebraic : Cert.algebraic_KernelAdInIdeal_ReferenceAdInIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdInIdeal.Gen.run_main m g
    · exact final4 m c
    · exact final5 m c
    · exact final6 m c
    · exact final7 m c
  · refine θ_run_mono (Cert.ReferenceAdInIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdInValue

end
-- ==== Proof.AdMlpInValue.lean ====
/- The AdamW step of a [4096, 2048] shard of weights (`KernelAdMlpInIdeal`). A point updates 128 whole rows. -/
module

public import proofs.«01_k».proof.Proof.Adam
public import proofs.«01_k».proof.Proof.Gen.KernelAdMlpInIdeal.Frame
public import proofs.«01_k».proof.Proof.Gen.KernelAdMlpInIdeal.Skeleton
public import proofs.«01_k».proof.Proof.Gen.ReferenceAdMlpInIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdMlpInValue

open Cert.KernelAdMlpInIdeal Cert.KernelAdMlpInIdeal.Gen

variable (m : (ℓ : Loc nD τ sig) → Buf (Elt Ideal) ℓ)

/-- All windows of a point stand at the same block. -/
theorem idx : ∀ t : Fin cfg0.N,
    win0_0.index t = ![0, t.val, 0] ∧ win0_1.index t = ![0, t.val, 0]
      ∧ win0_2.index t = ![0, t.val, 0] ∧ win0_3.index t = ![0, t.val, 0]
      ∧ win0_4.index t = ![0, t.val, 0] ∧ win0_5.index t = ![0, t.val, 0]
      ∧ win0_6.index t = ![0, t.val, 0] ∧ win0_7.index t = ![0, t.val, 0] :=
  (by decide +kernel : ∀ t : Fin grid0.N, _)

section
variable (c : Dev nD)

/-- The parts of the gradient, and their sum. -/
def part (r : Fin 4) (i : S1x4096x2048.Idx) : EReal := m ((c : Thread nD τ).loc main_arg0) (ix3 r (i 1) (i 2))
def grad (i : S1x4096x2048.Idx) : EReal := ∑ r, part m c r i
/-- The weights and the two moments. -/
def wt (i : S1x4096x2048.Idx) : EReal := m ((c : Thread nD τ).loc main_arg1) i
def mom (i : S1x4096x2048.Idx) : EReal := m ((c : Thread nD τ).loc main_arg2) i
def vel (i : S1x4096x2048.Idx) : EReal := m ((c : Thread nD τ).loc main_arg3) i

/-- The array index of a point's block index. -/
def at_ (t : Fin cfg0.N) (p : Fin 128) (q : Fin 2048) : S1x4096x2048.Idx :=
  have h : t.val < 32 := t.isLt
  ix3 0 ⟨t.val * 128 + p.val, by omega⟩ q

/-- The blocks' elements: the parts' block holds the point's block of each part. -/
theorem blk0 (t : Fin cfg0.N) (r : Fin 4) (p : Fin 128) (q : Fin 2048) :
    (iblk m c 0 t (ix3 r p q) : EReal) = part m c r (at_ t p q) := by
  have h : t.val < 32 := t.isLt
  unfold part at_
  blk_ext [iblk, V, idx t]

theorem blk1 (t : Fin cfg0.N) (p : Fin 128) (q : Fin 2048) : (iblk m c 1 t (ix3 0 p q) : EReal) = wt m c (at_ t p q) := by
  have h : t.val < 32 := t.isLt
  unfold wt at_
  blk_ext [iblk, V, idx t]

theorem blk2 (t : Fin cfg0.N) (p : Fin 128) (q : Fin 2048) : (iblk m c 2 t (ix3 0 p q) : EReal) = mom m c (at_ t p q) := by
  have h : t.val < 32 := t.isLt
  unfold mom at_
  blk_ext [iblk, V, idx t]

theorem blk3 (t : Fin cfg0.N) (p : Fin 128) (q : Fin 2048) : (iblk m c 3 t (ix3 0 p q) : EReal) = vel m c (at_ t p q) := by
  have h : t.val < 32 := t.isLt
  unfold vel at_
  blk_ext [iblk, V, idx t]

theorem sum_eq (i : S1x4096x2048.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdMlpInIdeal.S1x4096x2048 (Host.reduceAdd (extf (F := Ideal) .f32
      (m ((c : Thread nD τ).loc main_arg0) : FVec Ideal Cert.ReferenceAdMlpInIdeal.S4x4096x2048 .bf16) Cert.ReferenceAdMlpInIdeal.Gen.bitsLt_bf16_f32)
      (constant Cert.ReferenceAdMlpInIdeal.S_ .f32 0x00000000#32) Cert.ReferenceAdMlpInIdeal.Gen.reducesTo_S4x4096x2048_S4096x2048_d0 Cert.ReferenceAdMlpInIdeal.Gen.h_S_)
      Cert.ReferenceAdMlpInIdeal.Gen.shapeCasts_S4096x2048_S1x4096x2048 = grad m c := by
  funext y
  idx_vars y
  pointwise [grad, part]

/-- The claim: the kernel's results are the reference's. -/
theorem algebraic : Cert.algebraic_KernelAdMlpInIdeal_ReferenceAdMlpInIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdMlpInIdeal.Gen.run_main m g
    · exact final4 m c
    · exact final5 m c
    · exact final6 m c
    · exact final7 m c
  · refine θ_run_mono (Cert.ReferenceAdMlpInIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdMlpInValue

end
-- ==== Proof.AdMlpOutValue.lean ====
/- The AdamW step of a [2048, 4096] shard of weights (`KernelAdMlpOutIdeal`). A point updates 128
   rows of half the columns. -/
module

public import proofs.«01_k».proof.Proof.Adam
public import proofs.«01_k».proof.Proof.Gen.KernelAdMlpOutIdeal.Frame
public import proofs.«01_k».proof.Proof.Gen.KernelAdMlpOutIdeal.Skeleton
public import proofs.«01_k».proof.Proof.Gen.ReferenceAdMlpOutIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdMlpOutValue

open Cert.KernelAdMlpOutIdeal Cert.KernelAdMlpOutIdeal.Gen

variable (m : (ℓ : Loc nD τ sig) → Buf (Elt Ideal) ℓ)

/-- All windows of a point stand at the same block. -/
theorem idx : ∀ t : Fin cfg0.N,
    win0_0.index t = ![0, t.val / 2, t.val % 2] ∧ win0_1.index t = ![0, t.val / 2, t.val % 2]
      ∧ win0_2.index t = ![0, t.val / 2, t.val % 2] ∧ win0_3.index t = ![0, t.val / 2, t.val % 2]
      ∧ win0_4.index t = ![0, t.val / 2, t.val % 2] ∧ win0_5.index t = ![0, t.val / 2, t.val % 2]
      ∧ win0_6.index t = ![0, t.val / 2, t.val % 2] ∧ win0_7.index t = ![0, t.val / 2, t.val % 2] :=
  (by decide +kernel : ∀ t : Fin grid0.N, _)

section
variable (c : Dev nD)

/-- The parts of the gradient, and their sum. -/
def part (r : Fin 4) (i : S1x2048x4096.Idx) : EReal := m ((c : Thread nD τ).loc main_arg0) (ix3 r (i 1) (i 2))
def grad (i : S1x2048x4096.Idx) : EReal := ∑ r, part m c r i
/-- The weights and the two moments. -/
def wt (i : S1x2048x4096.Idx) : EReal := m ((c : Thread nD τ).loc main_arg1) i
def mom (i : S1x2048x4096.Idx) : EReal := m ((c : Thread nD τ).loc main_arg2) i
def vel (i : S1x2048x4096.Idx) : EReal := m ((c : Thread nD τ).loc main_arg3) i

/-- The array index of a point's block index. -/
def at_ (t : Fin cfg0.N) (p : Fin 128) (q : Fin 2048) : S1x2048x4096.Idx :=
  have h : t.val < 32 := t.isLt
  ix3 0 ⟨t.val / 2 * 128 + p.val, by omega⟩ ⟨t.val % 2 * 2048 + q.val, by omega⟩

/-- The blocks' elements: the parts' block holds the point's block of each part. -/
theorem blk0 (t : Fin cfg0.N) (r : Fin 4) (p : Fin 128) (q : Fin 2048) :
    (iblk m c 0 t (ix3 r p q) : EReal) = part m c r (at_ t p q) := by
  have h : t.val < 32 := t.isLt
  unfold part at_
  blk_ext [iblk, V, idx t]

theorem blk1 (t : Fin cfg0.N) (p : Fin 128) (q : Fin 2048) : (iblk m c 1 t (ix3 0 p q) : EReal) = wt m c (at_ t p q) := by
  have h : t.val < 32 := t.isLt
  unfold wt at_
  blk_ext [iblk, V, idx t]

theorem blk2 (t : Fin cfg0.N) (p : Fin 128) (q : Fin 2048) : (iblk m c 2 t (ix3 0 p q) : EReal) = mom m c (at_ t p q) := by
  have h : t.val < 32 := t.isLt
  unfold mom at_
  blk_ext [iblk, V, idx t]

theorem blk3 (t : Fin cfg0.N) (p : Fin 128) (q : Fin 2048) : (iblk m c 3 t (ix3 0 p q) : EReal) = vel m c (at_ t p q) := by
  have h : t.val < 32 := t.isLt
  unfold vel at_
  blk_ext [iblk, V, idx t]

theorem sum_eq (i : S1x2048x4096.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdMlpOutIdeal.S1x2048x4096 (Host.reduceAdd (extf (F := Ideal) .f32
      (m ((c : Thread nD τ).loc main_arg0) : FVec Ideal Cert.ReferenceAdMlpOutIdeal.S4x2048x4096 .bf16) Cert.ReferenceAdMlpOutIdeal.Gen.bitsLt_bf16_f32)
      (constant Cert.ReferenceAdMlpOutIdeal.S_ .f32 0x00000000#32) Cert.ReferenceAdMlpOutIdeal.Gen.reducesTo_S4x2048x4096_S2048x4096_d0 Cert.ReferenceAdMlpOutIdeal.Gen.h_S_)
      Cert.ReferenceAdMlpOutIdeal.Gen.shapeCasts_S2048x4096_S1x2048x4096 = grad m c := by
  funext y
  idx_vars y
  pointwise [grad, part]

/-- The claim: the kernel's results are the reference's. -/
theorem algebraic : Cert.algebraic_KernelAdMlpOutIdeal_ReferenceAdMlpOutIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdMlpOutIdeal.Gen.run_main m g
    · exact final4 m c
    · exact final5 m c
    · exact final6 m c
    · exact final7 m c
  · refine θ_run_mono (Cert.ReferenceAdMlpOutIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdMlpOutValue

end
-- ==== Proof.AdOutValue.lean ====
/- The AdamW step of a [512, 4096] shard of weights (`KernelAdOutIdeal`). A point updates a block of 128 rows and 2048
   columns, element by element. -/
module

public import proofs.«01_k».proof.Proof.Adam
public import proofs.«01_k».proof.Proof.Gen.KernelAdOutIdeal.Frame
public import proofs.«01_k».proof.Proof.Gen.KernelAdOutIdeal.Skeleton
public import proofs.«01_k».proof.Proof.Gen.ReferenceAdOutIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdOutValue

open Cert.KernelAdOutIdeal Cert.KernelAdOutIdeal.Gen

variable (m : (ℓ : Loc nD τ sig) → Buf (Elt Ideal) ℓ)

/-- All windows of a point stand at the same block. -/
theorem idx : ∀ t : Fin cfg0.N,
    win0_0.index t = ![0, t.val / 2, t.val % 2] ∧ win0_1.index t = ![0, t.val / 2, t.val % 2]
      ∧ win0_2.index t = ![0, t.val / 2, t.val % 2] ∧ win0_3.index t = ![0, t.val / 2, t.val % 2]
      ∧ win0_4.index t = ![0, t.val / 2, t.val % 2] ∧ win0_5.index t = ![0, t.val / 2, t.val % 2]
      ∧ win0_6.index t = ![0, t.val / 2, t.val % 2] ∧ win0_7.index t = ![0, t.val / 2, t.val % 2] :=
  (by decide +kernel : ∀ t : Fin grid0.N, _)

section
variable (c : Dev nD)

/-- The parts of the gradient, and their sum. -/
def part (r : Fin 4) (i : S1x512x4096.Idx) : EReal := m ((c : Thread nD τ).loc main_arg0) (ix3 r (i 1) (i 2))
def grad (i : S1x512x4096.Idx) : EReal := ∑ r, part m c r i
/-- The weights and the two moments. -/
def wt (i : S1x512x4096.Idx) : EReal := m ((c : Thread nD τ).loc main_arg1) i
def mom (i : S1x512x4096.Idx) : EReal := m ((c : Thread nD τ).loc main_arg2) i
def vel (i : S1x512x4096.Idx) : EReal := m ((c : Thread nD τ).loc main_arg3) i

/-- The array index of a point's block index. -/
def at_ (t : Fin cfg0.N) (p : Fin 128) (q : Fin 2048) : S1x512x4096.Idx :=
  have h : t.val < 8 := t.isLt
  ix3 0 ⟨t.val / 2 * 128 + p.val, by omega⟩ ⟨t.val % 2 * 2048 + q.val, by omega⟩

/-- The blocks' elements: the parts' block holds the point's block of each part. -/
theorem blk0 (t : Fin cfg0.N) (r : Fin 4) (p : Fin 128) (q : Fin 2048) :
    (iblk m c 0 t (ix3 r p q) : EReal) = part m c r (at_ t p q) := by
  have h : t.val < 8 := t.isLt
  unfold part at_
  blk_ext [iblk, V, idx t]

theorem blk1 (t : Fin cfg0.N) (p : Fin 128) (q : Fin 2048) : (iblk m c 1 t (ix3 0 p q) : EReal) = wt m c (at_ t p q) := by
  have h : t.val < 8 := t.isLt
  unfold wt at_
  blk_ext [iblk, V, idx t]

theorem blk2 (t : Fin cfg0.N) (p : Fin 128) (q : Fin 2048) : (iblk m c 2 t (ix3 0 p q) : EReal) = mom m c (at_ t p q) := by
  have h : t.val < 8 := t.isLt
  unfold mom at_
  blk_ext [iblk, V, idx t]

theorem blk3 (t : Fin cfg0.N) (p : Fin 128) (q : Fin 2048) : (iblk m c 3 t (ix3 0 p q) : EReal) = vel m c (at_ t p q) := by
  have h : t.val < 8 := t.isLt
  unfold vel at_
  blk_ext [iblk, V, idx t]

theorem sum_eq (i : S1x512x4096.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdOutIdeal.S1x512x4096 (Host.reduceAdd (extf (F := Ideal) .f32
      (m ((c : Thread nD τ).loc main_arg0) : FVec Ideal Cert.ReferenceAdOutIdeal.S4x512x4096 .bf16) Cert.ReferenceAdOutIdeal.Gen.bitsLt_bf16_f32)
      (constant Cert.ReferenceAdOutIdeal.S_ .f32 0x00000000#32) Cert.ReferenceAdOutIdeal.Gen.reducesTo_S4x512x4096_S512x4096_d0 Cert.ReferenceAdOutIdeal.Gen.h_S_)
      Cert.ReferenceAdOutIdeal.Gen.shapeCasts_S512x4096_S1x512x4096 = grad m c := by
  funext y
  idx_vars y
  pointwise [grad, part]

/-- The claim: the kernel's results are the reference's. -/
theorem algebraic : Cert.algebraic_KernelAdOutIdeal_ReferenceAdOutIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdOutIdeal.Gen.run_main m g
    · exact final4 m c
    · exact final5 m c
    · exact final6 m c
    · exact final7 m c
  · refine θ_run_mono (Cert.ReferenceAdOutIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdOutValue

end
-- ==== Proof.AdRwValue.lean ====
/- The AdamW step of a [2048, 512] shard of weights (`KernelAdRwIdeal`). A point updates 512 whole rows. -/
module

public import proofs.«01_k».proof.Proof.Adam
public import proofs.«01_k».proof.Proof.Gen.KernelAdRwIdeal.Frame
public import proofs.«01_k».proof.Proof.Gen.KernelAdRwIdeal.Skeleton
public import proofs.«01_k».proof.Proof.Gen.ReferenceAdRwIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdRwValue

open Cert.KernelAdRwIdeal Cert.KernelAdRwIdeal.Gen

variable (m : (ℓ : Loc nD τ sig) → Buf (Elt Ideal) ℓ)

/-- All windows of a point stand at the same block. -/
theorem idx : ∀ t : Fin cfg0.N,
    win0_0.index t = ![0, t.val, 0] ∧ win0_1.index t = ![0, t.val, 0]
      ∧ win0_2.index t = ![0, t.val, 0] ∧ win0_3.index t = ![0, t.val, 0]
      ∧ win0_4.index t = ![0, t.val, 0] ∧ win0_5.index t = ![0, t.val, 0]
      ∧ win0_6.index t = ![0, t.val, 0] ∧ win0_7.index t = ![0, t.val, 0] :=
  (by decide +kernel : ∀ t : Fin grid0.N, _)

section
variable (c : Dev nD)

/-- The parts of the gradient, and their sum. -/
def part (r : Fin 4) (i : S1x2048x512.Idx) : EReal := m ((c : Thread nD τ).loc main_arg0) (ix3 r (i 1) (i 2))
def grad (i : S1x2048x512.Idx) : EReal := ∑ r, part m c r i
/-- The weights and the two moments. -/
def wt (i : S1x2048x512.Idx) : EReal := m ((c : Thread nD τ).loc main_arg1) i
def mom (i : S1x2048x512.Idx) : EReal := m ((c : Thread nD τ).loc main_arg2) i
def vel (i : S1x2048x512.Idx) : EReal := m ((c : Thread nD τ).loc main_arg3) i

/-- The array index of a point's block index. -/
def at_ (t : Fin cfg0.N) (p : Fin 512) (q : Fin 512) : S1x2048x512.Idx :=
  have h : t.val < 4 := t.isLt
  ix3 0 ⟨t.val * 512 + p.val, by omega⟩ q

/-- The blocks' elements: the parts' block holds the point's block of each part. -/
theorem blk0 (t : Fin cfg0.N) (r : Fin 4) (p : Fin 512) (q : Fin 512) :
    (iblk m c 0 t (ix3 r p q) : EReal) = part m c r (at_ t p q) := by
  have h : t.val < 4 := t.isLt
  unfold part at_
  blk_ext [iblk, V, idx t]

theorem blk1 (t : Fin cfg0.N) (p : Fin 512) (q : Fin 512) : (iblk m c 1 t (ix3 0 p q) : EReal) = wt m c (at_ t p q) := by
  have h : t.val < 4 := t.isLt
  unfold wt at_
  blk_ext [iblk, V, idx t]

theorem blk2 (t : Fin cfg0.N) (p : Fin 512) (q : Fin 512) : (iblk m c 2 t (ix3 0 p q) : EReal) = mom m c (at_ t p q) := by
  have h : t.val < 4 := t.isLt
  unfold mom at_
  blk_ext [iblk, V, idx t]

theorem blk3 (t : Fin cfg0.N) (p : Fin 512) (q : Fin 512) : (iblk m c 3 t (ix3 0 p q) : EReal) = vel m c (at_ t p q) := by
  have h : t.val < 4 := t.isLt
  unfold vel at_
  blk_ext [iblk, V, idx t]

theorem sum_eq (i : S1x2048x512.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdRwIdeal.S1x2048x512 (Host.reduceAdd (extf (F := Ideal) .f32
      (m ((c : Thread nD τ).loc main_arg0) : FVec Ideal Cert.ReferenceAdRwIdeal.S4x2048x512 .bf16) Cert.ReferenceAdRwIdeal.Gen.bitsLt_bf16_f32)
      (constant Cert.ReferenceAdRwIdeal.S_ .f32 0x00000000#32) Cert.ReferenceAdRwIdeal.Gen.reducesTo_S4x2048x512_S2048x512_d0 Cert.ReferenceAdRwIdeal.Gen.h_S_)
      Cert.ReferenceAdRwIdeal.Gen.shapeCasts_S2048x512_S1x2048x512 = grad m c := by
  funext y
  idx_vars y
  pointwise [grad, part]

/-- The claim: the kernel's results are the reference's. -/
theorem algebraic : Cert.algebraic_KernelAdRwIdeal_ReferenceAdRwIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdRwIdeal.Gen.run_main m g
    · exact final4 m c
    · exact final5 m c
    · exact final6 m c
    · exact final7 m c
  · refine θ_run_mono (Cert.ReferenceAdRwIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdRwValue

end
-- ==== Proof.AdAtValue.lean ====
/- The AdamW step of a [512, 512] shard of weights (`KernelAdAtIdeal`). One point updates it all. -/
module

public import proofs.«01_k».proof.Proof.Adam
public import proofs.«01_k».proof.Proof.Gen.KernelAdAtIdeal.Frame
public import proofs.«01_k».proof.Proof.Gen.KernelAdAtIdeal.Skeleton
public import proofs.«01_k».proof.Proof.Gen.ReferenceAdAtIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdAtValue

open Cert.KernelAdAtIdeal Cert.KernelAdAtIdeal.Gen

variable (m : (ℓ : Loc nD τ sig) → Buf (Elt Ideal) ℓ)

/-- All windows of a point stand at the same block. -/
theorem idx : ∀ t : Fin cfg0.N,
    win0_0.index t = ![0, 0, 0] ∧ win0_1.index t = ![0, 0, 0]
      ∧ win0_2.index t = ![0, 0, 0] ∧ win0_3.index t = ![0, 0, 0]
      ∧ win0_4.index t = ![0, 0, 0] ∧ win0_5.index t = ![0, 0, 0]
      ∧ win0_6.index t = ![0, 0, 0] ∧ win0_7.index t = ![0, 0, 0] :=
  (by decide +kernel : ∀ t : Fin grid0.N, _)

section
variable (c : Dev nD)

/-- The parts of the gradient, and their sum. -/
def part (r : Fin 4) (i : S1x512x512.Idx) : EReal := m ((c : Thread nD τ).loc main_arg0) (ix3 r (i 1) (i 2))
def grad (i : S1x512x512.Idx) : EReal := ∑ r, part m c r i
/-- The weights and the two moments. -/
def wt (i : S1x512x512.Idx) : EReal := m ((c : Thread nD τ).loc main_arg1) i
def mom (i : S1x512x512.Idx) : EReal := m ((c : Thread nD τ).loc main_arg2) i
def vel (i : S1x512x512.Idx) : EReal := m ((c : Thread nD τ).loc main_arg3) i

/-- The array index of a point's block index. -/
def at_ (t : Fin cfg0.N) (p : Fin 512) (q : Fin 512) : S1x512x512.Idx :=
  ix3 0 p q

/-- The blocks' elements: the parts' block holds the point's block of each part. -/
theorem blk0 (t : Fin cfg0.N) (r : Fin 4) (p : Fin 512) (q : Fin 512) :
    (iblk m c 0 t (ix3 r p q) : EReal) = part m c r (at_ t p q) := by
  unfold part at_
  blk_ext [iblk, V, idx t]

theorem blk1 (t : Fin cfg0.N) (p : Fin 512) (q : Fin 512) : (iblk m c 1 t (ix3 0 p q) : EReal) = wt m c (at_ t p q) := by
  unfold wt at_
  blk_ext [iblk, V, idx t]

theorem blk2 (t : Fin cfg0.N) (p : Fin 512) (q : Fin 512) : (iblk m c 2 t (ix3 0 p q) : EReal) = mom m c (at_ t p q) := by
  unfold mom at_
  blk_ext [iblk, V, idx t]

theorem blk3 (t : Fin cfg0.N) (p : Fin 512) (q : Fin 512) : (iblk m c 3 t (ix3 0 p q) : EReal) = vel m c (at_ t p q) := by
  unfold vel at_
  blk_ext [iblk, V, idx t]

theorem sum_eq (i : S1x512x512.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdAtIdeal.S1x512x512 (Host.reduceAdd (extf (F := Ideal) .f32
      (m ((c : Thread nD τ).loc main_arg0) : FVec Ideal Cert.ReferenceAdAtIdeal.S4x512x512 .bf16) Cert.ReferenceAdAtIdeal.Gen.bitsLt_bf16_f32)
      (constant Cert.ReferenceAdAtIdeal.S_ .f32 0x00000000#32) Cert.ReferenceAdAtIdeal.Gen.reducesTo_S4x512x512_S512x512_d0 Cert.ReferenceAdAtIdeal.Gen.h_S_)
      Cert.ReferenceAdAtIdeal.Gen.shapeCasts_S512x512_S1x512x512 = grad m c := by
  funext y
  idx_vars y
  pointwise [grad, part]

/-- The claim: the kernel's results are the reference's. -/
theorem algebraic : Cert.algebraic_KernelAdAtIdeal_ReferenceAdAtIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdAtIdeal.Gen.run_main m g
    · exact final4 m c
    · exact final5 m c
    · exact final6 m c
    · exact final7 m c
  · refine θ_run_mono (Cert.ReferenceAdAtIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdAtValue

end
-- ==== Proof.AdPleValue.lean ====
/- The AdamW step of a [256, 512] shard of weights (`KernelAdPleIdeal`). One point updates it all. -/
module

public import proofs.«01_k».proof.Proof.Adam
public import proofs.«01_k».proof.Proof.Gen.KernelAdPleIdeal.Frame
public import proofs.«01_k».proof.Proof.Gen.KernelAdPleIdeal.Skeleton
public import proofs.«01_k».proof.Proof.Gen.ReferenceAdPleIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdPleValue

open Cert.KernelAdPleIdeal Cert.KernelAdPleIdeal.Gen

variable (m : (ℓ : Loc nD τ sig) → Buf (Elt Ideal) ℓ)

/-- All windows of a point stand at the same block. -/
theorem idx : ∀ t : Fin cfg0.N,
    win0_0.index t = ![0, 0, 0] ∧ win0_1.index t = ![0, 0, 0]
      ∧ win0_2.index t = ![0, 0, 0] ∧ win0_3.index t = ![0, 0, 0]
      ∧ win0_4.index t = ![0, 0, 0] ∧ win0_5.index t = ![0, 0, 0]
      ∧ win0_6.index t = ![0, 0, 0] ∧ win0_7.index t = ![0, 0, 0] :=
  (by decide +kernel : ∀ t : Fin grid0.N, _)

section
variable (c : Dev nD)

/-- The parts of the gradient, and their sum. -/
def part (r : Fin 4) (i : S1x256x512.Idx) : EReal := m ((c : Thread nD τ).loc main_arg0) (ix3 r (i 1) (i 2))
def grad (i : S1x256x512.Idx) : EReal := ∑ r, part m c r i
/-- The weights and the two moments. -/
def wt (i : S1x256x512.Idx) : EReal := m ((c : Thread nD τ).loc main_arg1) i
def mom (i : S1x256x512.Idx) : EReal := m ((c : Thread nD τ).loc main_arg2) i
def vel (i : S1x256x512.Idx) : EReal := m ((c : Thread nD τ).loc main_arg3) i

/-- The array index of a point's block index. -/
def at_ (t : Fin cfg0.N) (p : Fin 256) (q : Fin 512) : S1x256x512.Idx :=
  ix3 0 p q

/-- The blocks' elements: the parts' block holds the point's block of each part. -/
theorem blk0 (t : Fin cfg0.N) (r : Fin 4) (p : Fin 256) (q : Fin 512) :
    (iblk m c 0 t (ix3 r p q) : EReal) = part m c r (at_ t p q) := by
  unfold part at_
  blk_ext [iblk, V, idx t]

theorem blk1 (t : Fin cfg0.N) (p : Fin 256) (q : Fin 512) : (iblk m c 1 t (ix3 0 p q) : EReal) = wt m c (at_ t p q) := by
  unfold wt at_
  blk_ext [iblk, V, idx t]

theorem blk2 (t : Fin cfg0.N) (p : Fin 256) (q : Fin 512) : (iblk m c 2 t (ix3 0 p q) : EReal) = mom m c (at_ t p q) := by
  unfold mom at_
  blk_ext [iblk, V, idx t]

theorem blk3 (t : Fin cfg0.N) (p : Fin 256) (q : Fin 512) : (iblk m c 3 t (ix3 0 p q) : EReal) = vel m c (at_ t p q) := by
  unfold vel at_
  blk_ext [iblk, V, idx t]

theorem sum_eq (i : S1x256x512.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdPleIdeal.S1x256x512 (Host.reduceAdd (extf (F := Ideal) .f32
      (m ((c : Thread nD τ).loc main_arg0) : FVec Ideal Cert.ReferenceAdPleIdeal.S4x256x512 .bf16) Cert.ReferenceAdPleIdeal.Gen.bitsLt_bf16_f32)
      (constant Cert.ReferenceAdPleIdeal.S_ .f32 0x00000000#32) Cert.ReferenceAdPleIdeal.Gen.reducesTo_S4x256x512_S256x512_d0 Cert.ReferenceAdPleIdeal.Gen.h_S_)
      Cert.ReferenceAdPleIdeal.Gen.shapeCasts_S256x512_S1x256x512 = grad m c := by
  funext y
  idx_vars y
  pointwise [grad, part]

/-- The claim: the kernel's results are the reference's. -/
theorem algebraic : Cert.algebraic_KernelAdPleIdeal_ReferenceAdPleIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdPleIdeal.Gen.run_main m g
    · exact final4 m c
    · exact final5 m c
    · exact final6 m c
    · exact final7 m c
  · refine θ_run_mono (Cert.ReferenceAdPleIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdPleValue

end
-- ==== Proof.AdGateValue.lean ====
/- The AdamW step of a [256, 256] shard of weights (`KernelAdGateIdeal`). One point updates it all. -/
module

public import proofs.«01_k».proof.Proof.Adam
public import proofs.«01_k».proof.Proof.Gen.KernelAdGateIdeal.Frame
public import proofs.«01_k».proof.Proof.Gen.KernelAdGateIdeal.Skeleton
public import proofs.«01_k».proof.Proof.Gen.ReferenceAdGateIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdGateValue

open Cert.KernelAdGateIdeal Cert.KernelAdGateIdeal.Gen

variable (m : (ℓ : Loc nD τ sig) → Buf (Elt Ideal) ℓ)

/-- All windows of a point stand at the same block. -/
theorem idx : ∀ t : Fin cfg0.N,
    win0_0.index t = ![0, 0, 0] ∧ win0_1.index t = ![0, 0, 0]
      ∧ win0_2.index t = ![0, 0, 0] ∧ win0_3.index t = ![0, 0, 0]
      ∧ win0_4.index t = ![0, 0, 0] ∧ win0_5.index t = ![0, 0, 0]
      ∧ win0_6.index t = ![0, 0, 0] ∧ win0_7.index t = ![0, 0, 0] :=
  (by decide +kernel : ∀ t : Fin grid0.N, _)

section
variable (c : Dev nD)

/-- The parts of the gradient, and their sum. -/
def part (r : Fin 4) (i : S1x256x256.Idx) : EReal := m ((c : Thread nD τ).loc main_arg0) (ix3 r (i 1) (i 2))
def grad (i : S1x256x256.Idx) : EReal := ∑ r, part m c r i
/-- The weights and the two moments. -/
def wt (i : S1x256x256.Idx) : EReal := m ((c : Thread nD τ).loc main_arg1) i
def mom (i : S1x256x256.Idx) : EReal := m ((c : Thread nD τ).loc main_arg2) i
def vel (i : S1x256x256.Idx) : EReal := m ((c : Thread nD τ).loc main_arg3) i

/-- The array index of a point's block index. -/
def at_ (t : Fin cfg0.N) (p : Fin 256) (q : Fin 256) : S1x256x256.Idx :=
  ix3 0 p q

/-- The blocks' elements: the parts' block holds the point's block of each part. -/
theorem blk0 (t : Fin cfg0.N) (r : Fin 4) (p : Fin 256) (q : Fin 256) :
    (iblk m c 0 t (ix3 r p q) : EReal) = part m c r (at_ t p q) := by
  unfold part at_
  blk_ext [iblk, V, idx t]

theorem blk1 (t : Fin cfg0.N) (p : Fin 256) (q : Fin 256) : (iblk m c 1 t (ix3 0 p q) : EReal) = wt m c (at_ t p q) := by
  unfold wt at_
  blk_ext [iblk, V, idx t]

theorem blk2 (t : Fin cfg0.N) (p : Fin 256) (q : Fin 256) : (iblk m c 2 t (ix3 0 p q) : EReal) = mom m c (at_ t p q) := by
  unfold mom at_
  blk_ext [iblk, V, idx t]

theorem blk3 (t : Fin cfg0.N) (p : Fin 256) (q : Fin 256) : (iblk m c 3 t (ix3 0 p q) : EReal) = vel m c (at_ t p q) := by
  unfold vel at_
  blk_ext [iblk, V, idx t]

theorem sum_eq (i : S1x256x256.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdGateIdeal.S1x256x256 (Host.reduceAdd (extf (F := Ideal) .f32
      (m ((c : Thread nD τ).loc main_arg0) : FVec Ideal Cert.ReferenceAdGateIdeal.S4x256x256 .bf16) Cert.ReferenceAdGateIdeal.Gen.bitsLt_bf16_f32)
      (constant Cert.ReferenceAdGateIdeal.S_ .f32 0x00000000#32) Cert.ReferenceAdGateIdeal.Gen.reducesTo_S4x256x256_S256x256_d0 Cert.ReferenceAdGateIdeal.Gen.h_S_)
      Cert.ReferenceAdGateIdeal.Gen.shapeCasts_S256x256_S1x256x256 = grad m c := by
  funext y
  idx_vars y
  pointwise [grad, part]

/-- The claim: the kernel's results are the reference's. -/
theorem algebraic : Cert.algebraic_KernelAdGateIdeal_ReferenceAdGateIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdGateIdeal.Gen.run_main m g
    · exact final4 m c
    · exact final5 m c
    · exact final6 m c
    · exact final7 m c
  · refine θ_run_mono (Cert.ReferenceAdGateIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdGateValue

end
-- ==== Proof.AdDecayValue.lean ====
/- The AdamW step of a [96, 256] shard of weights (`KernelAdDecayIdeal`). A point updates 32 whole rows. -/
module

public import proofs.«01_k».proof.Proof.Adam
public import proofs.«01_k».proof.Proof.Gen.KernelAdDecayIdeal.Frame
public import proofs.«01_k».proof.Proof.Gen.KernelAdDecayIdeal.Skeleton
public import proofs.«01_k».proof.Proof.Gen.ReferenceAdDecayIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdDecayValue

open Cert.KernelAdDecayIdeal Cert.KernelAdDecayIdeal.Gen

variable (m : (ℓ : Loc nD τ sig) → Buf (Elt Ideal) ℓ)

/-- All windows of a point stand at the same block. -/
theorem idx : ∀ t : Fin cfg0.N,
    win0_0.index t = ![0, t.val, 0] ∧ win0_1.index t = ![0, t.val, 0]
      ∧ win0_2.index t = ![0, t.val, 0] ∧ win0_3.index t = ![0, t.val, 0]
      ∧ win0_4.index t = ![0, t.val, 0] ∧ win0_5.index t = ![0, t.val, 0]
      ∧ win0_6.index t = ![0, t.val, 0] ∧ win0_7.index t = ![0, t.val, 0] :=
  (by decide +kernel : ∀ t : Fin grid0.N, _)

section
variable (c : Dev nD)

/-- The parts of the gradient, and their sum. -/
def part (r : Fin 4) (i : S1x96x256.Idx) : EReal := m ((c : Thread nD τ).loc main_arg0) (ix3 r (i 1) (i 2))
def grad (i : S1x96x256.Idx) : EReal := ∑ r, part m c r i
/-- The weights and the two moments. -/
def wt (i : S1x96x256.Idx) : EReal := m ((c : Thread nD τ).loc main_arg1) i
def mom (i : S1x96x256.Idx) : EReal := m ((c : Thread nD τ).loc main_arg2) i
def vel (i : S1x96x256.Idx) : EReal := m ((c : Thread nD τ).loc main_arg3) i

/-- The array index of a point's block index. -/
def at_ (t : Fin cfg0.N) (p : Fin 32) (q : Fin 256) : S1x96x256.Idx :=
  have h : t.val < 3 := t.isLt
  ix3 0 ⟨t.val * 32 + p.val, by omega⟩ q

/-- The blocks' elements: the parts' block holds the point's block of each part. -/
theorem blk0 (t : Fin cfg0.N) (r : Fin 4) (p : Fin 32) (q : Fin 256) :
    (iblk m c 0 t (ix3 r p q) : EReal) = part m c r (at_ t p q) := by
  have h : t.val < 3 := t.isLt
  unfold part at_
  blk_ext [iblk, V, idx t]

theorem blk1 (t : Fin cfg0.N) (p : Fin 32) (q : Fin 256) : (iblk m c 1 t (ix3 0 p q) : EReal) = wt m c (at_ t p q) := by
  have h : t.val < 3 := t.isLt
  unfold wt at_
  blk_ext [iblk, V, idx t]

theorem blk2 (t : Fin cfg0.N) (p : Fin 32) (q : Fin 256) : (iblk m c 2 t (ix3 0 p q) : EReal) = mom m c (at_ t p q) := by
  have h : t.val < 3 := t.isLt
  unfold mom at_
  blk_ext [iblk, V, idx t]

theorem blk3 (t : Fin cfg0.N) (p : Fin 32) (q : Fin 256) : (iblk m c 3 t (ix3 0 p q) : EReal) = vel m c (at_ t p q) := by
  have h : t.val < 3 := t.isLt
  unfold vel at_
  blk_ext [iblk, V, idx t]

theorem sum_eq (i : S1x96x256.Idx) : part m c 0 i + part m c 1 i + part m c 2 i + part m c 3 i = grad m c i :=
  (Cert.Adam.four fun r => part m c r i).symm

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  pointwise [k0_pay1, k0_pay5]
  simp only [blk0, sum_eq]
  refine congrArg (grad m c) (?_ : at_ t y1 y2 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay8, k0_pay9, k0_pay6, k0_pay7, k0_pay5]
  simp only [blk0, sum_eq, blk1, blk2, blk3]
  refine congrArg (fun i => Cert.Adam.delta (wt m c i) (mom m c i) (vel m c i) (grad m c i)) (?_ : at_ t y1 y2 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  pointwise [k0_pay3, k0_pay6, k0_pay5]
  simp only [blk0, sum_eq, blk2]
  refine congrArg (fun i => Cert.Adam.moment1 (mom m c i) (grad m c i)) (?_ : at_ t y1 y2 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay4, k0_pay7, k0_pay5]
  simp only [blk0, sum_eq, blk3]
  refine congrArg (fun i => Cert.Adam.moment2 (vel m c i) (grad m c i)) (?_ : at_ t y1 y2 = _)
  unfold at_
  blk_ext [idx t]
end

/-- The reference's sum of the parts. -/
theorem ref_grad (c : Dev nD) : shapeCast Cert.ReferenceAdDecayIdeal.S1x96x256 (Host.reduceAdd (extf (F := Ideal) .f32
      (m ((c : Thread nD τ).loc main_arg0) : FVec Ideal Cert.ReferenceAdDecayIdeal.S4x96x256 .bf16) Cert.ReferenceAdDecayIdeal.Gen.bitsLt_bf16_f32)
      (constant Cert.ReferenceAdDecayIdeal.S_ .f32 0x00000000#32) Cert.ReferenceAdDecayIdeal.Gen.reducesTo_S4x96x256_S96x256_d0 Cert.ReferenceAdDecayIdeal.Gen.h_S_)
      Cert.ReferenceAdDecayIdeal.Gen.shapeCasts_S96x256_S1x96x256 = grad m c := by
  funext y
  idx_vars y
  pointwise [grad, part]

/-- The claim: the kernel's results are the reference's. -/
theorem algebraic : Cert.algebraic_KernelAdDecayIdeal_ReferenceAdDecayIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdDecayIdeal.Gen.run_main m g
    · exact final4 m c
    · exact final5 m c
    · exact final6 m c
    · exact final7 m c
  · refine θ_run_mono (Cert.ReferenceAdDecayIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdDecayValue

end
-- ==== Proof.AdSmallValue.lean ====
/- The AdamW step of the packed small weights (`KernelAdSmallIdeal`): 1024 rows of 128, of eight devices' gradients. One
   point updates it all. -/
module

public import proofs.«01_k».proof.Proof.Adam
public import proofs.«01_k».proof.Proof.Gen.KernelAdSmallIdeal.Frame
public import proofs.«01_k».proof.Proof.Gen.KernelAdSmallIdeal.Skeleton
public import proofs.«01_k».proof.Proof.Gen.ReferenceAdSmallIdeal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdSmallValue

open Cert.KernelAdSmallIdeal Cert.KernelAdSmallIdeal.Gen

variable (m : (ℓ : Loc nD τ sig) → Buf (Elt Ideal) ℓ)

/-- All windows of a point stand at the same block. -/
theorem idx : ∀ t : Fin cfg0.N,
    win0_0.index t = ![0, 0, 0] ∧ win0_1.index t = ![0, 0]
      ∧ win0_2.index t = ![0, 0] ∧ win0_3.index t = ![0, 0]
      ∧ win0_4.index t = ![0, 0] ∧ win0_5.index t = ![0, 0]
      ∧ win0_6.index t = ![0, 0] ∧ win0_7.index t = ![0, 0] :=
  (by decide +kernel : ∀ t : Fin grid0.N, _)

section
variable (c : Dev nD)

/-- The parts of the gradient, and their sum. -/
def part (r : Fin 8) (i : S1024x128.Idx) : EReal := m ((c : Thread nD τ).loc main_arg0) (ix3 r (i 0) (i 1))
def grad (i : S1024x128.Idx) : EReal := ∑ r, part m c r i
/-- The weights and the two moments. -/
def wt (i : S1024x128.Idx) : EReal := m ((c : Thread nD τ).loc main_arg1) i
def mom (i : S1024x128.Idx) : EReal := m ((c : Thread nD τ).loc main_arg2) i
def vel (i : S1024x128.Idx) : EReal := m ((c : Thread nD τ).loc main_arg3) i

/-- The array index of a point's block index. -/
def at_ (t : Fin cfg0.N) (p : Fin 1024) (q : Fin 128) : S1024x128.Idx :=
  ix2 p q

/-- The blocks' elements: the parts' block holds the point's block of each part. -/
theorem blk0 (t : Fin cfg0.N) (r : Fin 8) (p : Fin 1024) (q : Fin 128) :
    (iblk m c 0 t (ix3 r p q) : EReal) = part m c r (at_ t p q) := by
  unfold part at_
  blk_ext [iblk, V, idx t]

theorem blk1 (t : Fin cfg0.N) (p : Fin 1024) (q : Fin 128) : (iblk m c 1 t (ix2 p q) : EReal) = wt m c (at_ t p q) := by
  unfold wt at_
  blk_ext [iblk, V, idx t]

theorem blk2 (t : Fin cfg0.N) (p : Fin 1024) (q : Fin 128) : (iblk m c 2 t (ix2 p q) : EReal) = mom m c (at_ t p q) := by
  unfold mom at_
  blk_ext [iblk, V, idx t]

theorem blk3 (t : Fin cfg0.N) (p : Fin 1024) (q : Fin 128) : (iblk m c 3 t (ix2 p q) : EReal) = vel m c (at_ t p q) := by
  unfold vel at_
  blk_ext [iblk, V, idx t]

theorem sum_eq (i : S1024x128.Idx) : part m c 0 i + part m c 1 i + part m c 2 i + part m c 3 i + part m c 4 i
    + part m c 5 i + part m c 6 i + part m c 7 i = grad m c i :=
  (Cert.Adam.eight fun r => part m c r i).symm

/-- The payloads that the results share, at an element: the summed gradient and the first moment. -/
theorem pay3_at (t : Fin cfg0.N) (p : Fin 1024) (q : Fin 128) :
    (k0_pay3 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 p q) : EReal)
      = grad m c (at_ t p q) := by
  pointwise [k0_pay3]
  simp only [blk0, sum_eq]

theorem pay5_at (t : Fin cfg0.N) (p : Fin 1024) (q : Fin 128) :
    (k0_pay5 (F := Ideal) (iblk m c 0 t) (iblk m c 1 t) (iblk m c 2 t) (iblk m c 3 t) (ix2 p q) : EReal)
      = grad m c (at_ t p q) := by
  unfold k0_pay5
  exact pay3_at m c t p q

theorem pay6_at (t : Fin cfg0.N) (p : Fin 1024) (q : Fin 128) :
    (k0_pay6 (F := Ideal) (iblk m c 0 t) (iblk m c 1 t) (iblk m c 2 t) (iblk m c 3 t) (ix2 p q) : EReal)
      = Cert.Adam.moment1 (mom m c (at_ t p q)) (grad m c (at_ t p q)) := by
  unfold k0_pay6
  pointwise [k0_pay4]
  rw [blk2]
  exact congrArg (Cert.Adam.moment1 (mom m c (at_ t p q))) (pay3_at m c t p q)

/-- The four results after the run. -/
theorem final4 : (dats m 0 c).arrAt 4 (cfgs 0).N = grad m c := by
  refine (dats m 0 c).arrAt_eq_of_covers 4 _ (by decide +kernel) fun t _ y => ?_
  blk_simp
  rw [after0_4]; frame_out
  idx_vars y
  refine (pay3_at m c t y0 y1).trans ?_
  refine congrArg (grad m c) (?_ : at_ t y0 y1 = _)
  unfold at_
  blk_ext [idx t]

theorem final5 : (dats m 0 c).arrAt 5 (cfgs 0).N = fun i => Cert.Adam.delta (wt m c i) (mom m c i) (vel m c i) (grad m c i) := by
  refine (dats m 0 c).arrAt_eq_of_covers 5 _ (by decide +kernel) fun t _ y => ?_
  blk_simp
  rw [after0_5]; frame_out
  idx_vars y
  pointwise [k0_pay2, k0_pay1, pay5_at, pay6_at]
  rw [blk1, blk3]
  refine congrArg (fun i => Cert.Adam.delta (wt m c i) (mom m c i) (vel m c i) (grad m c i)) (?_ : at_ t y0 y1 = _)
  unfold at_
  blk_ext [idx t]

theorem final6 : (dats m 0 c).arrAt 6 (cfgs 0).N = fun i => Cert.Adam.moment1 (mom m c i) (grad m c i) := by
  refine (dats m 0 c).arrAt_eq_of_covers 6 _ (by decide +kernel) fun t _ y => ?_
  blk_simp
  rw [after0_6]; frame_out
  idx_vars y
  refine (pay6_at m c t y0 y1).trans ?_
  refine congrArg (fun i => Cert.Adam.moment1 (mom m c i) (grad m c i)) (?_ : at_ t y0 y1 = _)
  unfold at_
  blk_ext [idx t]

theorem final7 : (dats m 0 c).arrAt 7 (cfgs 0).N = fun i => Cert.Adam.moment2 (vel m c i) (grad m c i) := by
  refine (dats m 0 c).arrAt_eq_of_covers 7 _ (by decide +kernel) fun t _ y => ?_
  blk_simp
  rw [after0_7]; frame_out
  idx_vars y
  pointwise [k0_pay1, pay5_at]
  rw [blk3]
  refine congrArg (fun i => Cert.Adam.moment2 (vel m c i) (grad m c i)) (?_ : at_ t y0 y1 = _)
  unfold at_
  blk_ext [idx t]
end

/-- The reference's sum of the parts. -/
theorem ref_grad (c : Dev nD) : Host.reduceAdd (F := Ideal)
      (m ((c : Thread nD τ).loc main_arg0) : FVec Ideal Cert.ReferenceAdSmallIdeal.S8x1024x128 .f32)
      (constant Cert.ReferenceAdSmallIdeal.S_ .f32 0x00000000#32)
      Cert.ReferenceAdSmallIdeal.Gen.reducesTo_S8x1024x128_S1024x128_d0 Cert.ReferenceAdSmallIdeal.Gen.h_S_ = grad m c := by
  funext y
  idx_vars y
  pointwise [grad, part]

/-- The claim: the kernel's results are the reference's. -/
theorem algebraic : Cert.algebraic_KernelAdSmallIdeal_ReferenceAdSmallIdeal := by
  intro m g m' g' _ hagree
  refine ⟨grad m, fun c i => Cert.Adam.delta (wt m c i) (mom m c i) (vel m c i) (grad m c i),
    fun c i => Cert.Adam.moment1 (mom m c i) (grad m c i), fun c i => Cert.Adam.moment2 (vel m c i) (grad m c i), ?_, ?_⟩
  · run_from Cert.KernelAdSmallIdeal.Gen.run_main m g
    · exact final4 m c
    · exact final5 m c
    · exact final6 m c
    · exact final7 m c
  · refine θ_run_mono (Cert.ReferenceAdSmallIdeal.Value.run m' g') fun r hr c => ?_
    obtain ⟨h0, h1, h2, h3, ha⟩ := hr c
    rw [(hagree c).1] at h0 h1 h2 h3
    rw [(hagree c).2.2.1] at h1 h2
    rw [(hagree c).2.2.2] at h1 h3
    rw [(hagree c).2.1] at h1
    refine ⟨h0.trans (ref_grad m c), h1.trans ((Cert.Adam.ref_delta ..).trans ?_),
      h2.trans ((Cert.Adam.ref_moment1 ..).trans ?_), h3.trans ((Cert.Adam.ref_moment2 ..).trans ?_), ha⟩
    all_goals
      rw [ref_grad m c]
      rfl

end Cert.AdSmallValue

end
-- ==== Proof.KvValue.lean ====
/- The key and value gradients of one attention group (`KernelKvIdeal`): a block of keys is read by its own block of
   queries and by the next one, and the gradient is the sum of the two parts. Each grid point of the kernel adds the
   NEXT block's previous-block part, times 1 where there is a next block and 0 where there is none. The reference adds
   the gradient of `previous`: the rows from 512 on, with 512 zero rows behind them. Read at one element, both are the
   element itself plus the element 128 rows below in the class view, or plus zero in the last block. -/
module

public import proofs.«01_k».proof.Proof.Gen.KernelKvIdeal.Value
public import proofs.«01_k».proof.Proof.Gen.KernelKvIdeal.Skeleton
public import proofs.«01_k».proof.Proof.Gen.ReferenceKvIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvSum

section
open Cert.ReferenceKvIdeal Cert.ReferenceKvIdeal.Gen

/-- The reference's composed term for one result, over its two arguments. -/
def REF (a b : FVec Ideal S1024x2048 .f32) : FVec Ideal S1024x2048 .f32 :=
  shapeCast _ (addf (shapeCast _ a shapeCasts_S1024x2048_S4096x512) (pad S4096x512 ![0, 0] ![512, 0] ![0, 0] (extractStridedSlice S3584x512 ![512, 0] (shapeCast _ b shapeCasts_S1024x2048_S4096x512) slices_S4096x512_S3584x512_512_0) (constant S_ .f32 0x00000000#32) pads_S3584x512_S4096x512_05120_000 h_S_)) shapeCasts_S4096x512_S1024x2048

/-- The reference at one element of the class view. -/
theorem REF_at (a b : FVec Ideal S1024x2048 .f32) (R : Fin 1024) (C : Fin 2048) :
    REF a b (ix2 R C) = a (ix2 R C) + (if h : R.val + 128 < 1024 then b (ix2 ⟨R.val + 128, h⟩ C) else 0) := by
  pointwise [REF]
  refine congrArg (a (ix2 R C) + ·) ?_
  by_cases h : R.val + 128 < 1024
  · rw [dif_pos h, dif_pos (show R.val * 4 + C.val / 512 < 3584 ∧ C.val % 512 < 512 by omega)]
    exact congrArg b ((ix2_inj ..).2 ⟨Fin.ext (by simp only; omega), rfl⟩)
  · split_ifs <;> first | rfl | omega

end

section
open Cert.KernelKvIdeal Cert.KernelKvIdeal.Gen

variable (m : (ℓ : Loc nD τ sig) → Buf (Elt Ideal) ℓ)

/-- Where the windows of point `t = 32 h + 8 r + n` stand: block row `n`, block column `4 r + h`; the next-block
    windows one row below, the last one at the last row again. -/
theorem idx : ∀ t : Fin cfg0.N,
    win0_0.index t = ![t.val % 8, (t.val / 8 % 4) * 4 + t.val / 32]
      ∧ win0_1.index t = ![min (t.val % 8 + 1) 7, (t.val / 8 % 4) * 4 + t.val / 32]
      ∧ win0_2.index t = ![t.val % 8, (t.val / 8 % 4) * 4 + t.val / 32]
      ∧ win0_3.index t = ![min (t.val % 8 + 1) 7, (t.val / 8 % 4) * 4 + t.val / 32]
      ∧ win0_4.index t = ![t.val % 8, (t.val / 8 % 4) * 4 + t.val / 32]
      ∧ win0_5.index t = ![t.val % 8, (t.val / 8 % 4) * 4 + t.val / 32]
      ∧ t.val / 32 < 4 :=
  (by decide +kernel : ∀ t : Fin grid0.N, _)

/-- The word that says whether there is a next block. -/
theorem next_word : ∀ t : Fin cfg0.N,
    (Scalar.extui (Scalar.cmpi .slt (Scalar.addi (BitVec.ofNat 32 (grid0.coords t 2).val) 1#32) 8#32) : BitVec 32)
      = if t.val % 8 = 7 then 0#32 else 1#32 :=
  (by decide +kernel : ∀ t : Fin grid0.N, _)

/-- As a factor: zero in the last block and one elsewhere. -/
theorem next_factor (t : Fin cfg0.N) :
    k0_pay1 (F := Ideal) (grid0.coords t) = if t.val % 8 = 7 then (0 : EReal) else 1 := by
  unfold k0_pay1
  dsimp only
  rw [next_word t]
  split <;> simp [Ideal.scalar_sitofp_def]

/-- What point `t` stores into a block, over the two blocks it read. -/
theorem pay_at (t : Fin cfg0.N) (x0 x1 : Vec Ideal S128x128 .f32) (y : S128x128.Idx) :
    k0_pay2 (F := Ideal) (grid0.coords t) x0 x1 y = (x0 y : EReal) + x1 y * (if t.val % 8 = 7 then (0 : EReal) else 1) := by
  idx_vars y
  pointwise [k0_pay2, next_factor t]

/-- The value gradient's payload is the same function. -/
theorem pay3_eq (t : Fin cfg0.N) (x0 x1 : Vec Ideal S128x128 .f32) :
    k0_pay3 (F := Ideal) (grid0.coords t) x0 x1 = k0_pay2 (F := Ideal) (grid0.coords t) x0 x1 := rfl

/-- The kernel's sum at block index `(p, q)` is the reference at the array index there: the two reads `u`, `v` being
    the arrays' elements at the block's own place and at the next block's. -/
theorem sum_eq (a b : FVec Ideal Cert.ReferenceKvIdeal.S1024x2048 .f32) (n K : ℕ) (hn : n < 8) (hK : K < 16) (p q : Fin 128) (u v : EReal)
    (hu : u = a (ix2 ⟨n * 128 + p.val, by omega⟩ ⟨K * 128 + q.val, by omega⟩))
    (hv : v = b (ix2 ⟨min (n + 1) 7 * 128 + p.val, by omega⟩ ⟨K * 128 + q.val, by omega⟩)) :
    u + v * (if n = 7 then (0 : EReal) else 1) = REF a b (ix2 ⟨n * 128 + p.val, by omega⟩ ⟨K * 128 + q.val, by omega⟩) := by
  rw [REF_at, hu, hv]
  refine congrArg (_ + ·) ?_
  by_cases h : n = 7
  · rw [if_pos h, dif_neg (by simp only; omega), mul_zero]
  · rw [if_neg h, dif_pos (by simp only; omega), mul_one]
    exact congrArg b ((ix2_inj ..).2 ⟨Fin.ext (by simp only; omega), rfl⟩)

/-- One point's block of the key gradient is the reference's. -/
theorem point4 (c : Dev nD) (t : Fin cfg0.N) (y : S128x128.Idx) :
    k0_pay2 (F := Ideal) (grid0.coords t) (iblk m c 0 t) (iblk m c 1 t) y
      = REF (m ((c : Thread nD τ).loc main_arg0)) (m ((c : Thread nD τ).loc main_arg1)) (((cfg0.win 4).blk t).view.emb y) := by
  rw [pay_at]
  idx_vars y
  have h := (idx t).2.2.2.2.2.2
  refine (sum_eq _ _ (t.val % 8) (t.val / 8 % 4 * 4 + t.val / 32) (by omega) (by omega) y0 y1 _ _ ?_ ?_).trans (congrArg _ ?_)
  · blk_ext [iblk, V, idx t]
  · blk_ext [iblk, V, idx t]
  · blk_ext [idx t]

/-- One point's block of the value gradient is the reference's. -/
theorem point5 (c : Dev nD) (t : Fin cfg0.N) (y : S128x128.Idx) :
    k0_pay3 (F := Ideal) (grid0.coords t) (iblk m c 2 t) (iblk m c 3 t) y
      = REF (m ((c : Thread nD τ).loc main_arg2)) (m ((c : Thread nD τ).loc main_arg3)) (((cfg0.win 5).blk t).view.emb y) := by
  rw [pay3_eq, pay_at]
  idx_vars y
  have h := (idx t).2.2.2.2.2.2
  refine (sum_eq _ _ (t.val % 8) (t.val / 8 % 4 * 4 + t.val / 32) (by omega) (by omega) y0 y1 _ _ ?_ ?_).trans (congrArg _ ?_)
  · blk_ext [iblk, V, idx t]
  · blk_ext [iblk, V, idx t]
  · blk_ext [idx t]

/-- The key gradient after the run. -/
theorem final4 (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]; frame_out
  exact point4 m c t y

/-- The value gradient after the run. -/
theorem final5 (c : Dev nD) : (dats m 0 c).arrAt 5 (cfgs 0).N
    = REF (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

end

end Cert.KvSum

end
-- ==== Proof.AttnRun.lean ====
/- The run of the attention gradient's program (`KernelIdeal`) with what each grid point leaves in its outputs named.
   The grid is (head, class, block) = (4, 4, 8). At a point whose class and block are both 0 (case A: points 0, 32, 64,
   96) the two bias gradients are stored, at every other point (case B) they are added to what the point before left.
   The five row gradients are stored at every point. So only the pair of bias gradients is carried from point to point
   (`acc`); a row gradient is a function of the point's own blocks. -/
module

public import proofs.«01_k».proof.Proof.Gen.KernelIdeal.Frame.RunB
public import Idealize.ShloMosaic.Lib.Claim

@[expose] public section

set_option maxRecDepth 16384

noncomputable section

namespace Cert.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases -/

theorem points (t : Fin cfg0.N) : t.val < 128 := lt_of_lt_of_eq t.isLt (show cfg0.N = 128 from N_0)

/-- At the first point of a head the second condition fails, -/
theorem not1 (t : Fin cfg0.N) (h : t.val % 32 = 0) : ¬cond0_1 (grid0.coords t) := fun h' => by
  have := (hcond0_1 t).mp h'; have := points t; omega

/-- and at every other point it holds. -/
theorem yes1 (t : Fin cfg0.N) (h : ¬t.val % 32 = 0) : cond0_1 (grid0.coords t) :=
  (hcond0_1 t).mpr (by have := points t; omega)

/-- The body's run at the first point of a head. -/
def runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h) (not1 t h) (iblk m c 0 t) (iblk m c 1 t) (iblk m c 2 t) (iblk m c 3 t) (iblk m c 4 t) (iblk m c 5 t) (iblk m c 6 t) (iblk m c 7 t) (iblk m c 8 t)

/-- The body's run at any other point, over what the two bias gradients held. -/
def runB (c : Dev nD) (t : Fin cfg0.N) (h : ¬t.val % 32 = 0) (u v : Vec F S1x128x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h' => h ((hcond0_0 t).mp h')) (yes1 t h) (iblk m c 0 t) (iblk m c 1 t) (iblk m c 2 t) (iblk m c 3 t) (iblk m c 4 t) (iblk m c 5 t) (iblk m c 6 t) (iblk m c 7 t) (iblk m c 8 t) u v

/-! ## What a point stores covers each output's block -/

theorem coverA9 (c : Dev nD) (t : Fin cfg0.N) (h : t.val % 32 = 0) (y : S128x128.Idx) : ∃ pc ∈ (runA m c t h).1, y ∈ pc.1.set :=
  View.cover_of_tiledL (runA m c t h).1 S128x128.size (by sl_kernel_rfl) y
theorem coverB9 (c : Dev nD) (t : Fin cfg0.N) (h : ¬t.val % 32 = 0) (u v : Vec F S1x128x128 .f32) (y : S128x128.Idx) : ∃ pc ∈ (runB m c t h u v).1, y ∈ pc.1.set :=
  View.cover_of_tiledL (runB m c t h u v).1 S128x128.size (by sl_kernel_rfl) y

theorem coverA10 (c : Dev nD) (t : Fin cfg0.N) (h : t.val % 32 = 0) (y : S128x128.Idx) : ∃ pc ∈ (runA m c t h).2.1, y ∈ pc.1.set :=
  View.cover_of_tiledL (runA m c t h).2.1 S128x128.size (by sl_kernel_rfl) y
theorem coverB10 (c : Dev nD) (t : Fin cfg0.N) (h : ¬t.val % 32 = 0) (u v : Vec F S1x128x128 .f32) (y : S128x128.Idx) : ∃ pc ∈ (runB m c t h u v).2.1, y ∈ pc.1.set :=
  View.cover_of_tiledL (runB m c t h u v).2.1 S128x128.size (by sl_kernel_rfl) y

theorem coverA11 (c : Dev nD) (t : Fin cfg0.N) (h : t.val % 32 = 0) (y : S128x128.Idx) : ∃ pc ∈ (runA m c t h).2.2.1, y ∈ pc.1.set :=
  View.cover_of_tiledL (runA m c t h).2.2.1 S128x128.size (by sl_kernel_rfl) y
theorem coverB11 (c : Dev nD) (t : Fin cfg0.N) (h : ¬t.val % 32 = 0) (u v : Vec F S1x128x128 .f32) (y : S128x128.Idx) : ∃ pc ∈ (runB m c t h u v).2.2.1, y ∈ pc.1.set :=
  View.cover_of_tiledL (runB m c t h u v).2.2.1 S128x128.size (by sl_kernel_rfl) y

theorem coverA12 (c : Dev nD) (t : Fin cfg0.N) (h : t.val % 32 = 0) (y : S128x128.Idx) : ∃ pc ∈ (runA m c t h).2.2.2.1, y ∈ pc.1.set :=
  View.cover_of_tiledL (runA m c t h).2.2.2.1 S128x128.size (by sl_kernel_rfl) y
theorem coverB12 (c : Dev nD) (t : Fin cfg0.N) (h : ¬t.val % 32 = 0) (u v : Vec F S1x128x128 .f32) (y : S128x128.Idx) : ∃ pc ∈ (runB m c t h u v).2.2.2.1, y ∈ pc.1.set :=
  View.cover_of_tiledL (runB m c t h u v).2.2.2.1 S128x128.size (by sl_kernel_rfl) y

theorem coverA13 (c : Dev nD) (t : Fin cfg0.N) (h : t.val % 32 = 0) (y : S128x128.Idx) : ∃ pc ∈ (runA m c t h).2.2.2.2.1, y ∈ pc.1.set :=
  View.cover_of_tiledL (runA m c t h).2.2.2.2.1 S128x128.size (by sl_kernel_rfl) y
theorem coverB13 (c : Dev nD) (t : Fin cfg0.N) (h : ¬t.val % 32 = 0) (u v : Vec F S1x128x128 .f32) (y : S128x128.Idx) : ∃ pc ∈ (runB m c t h u v).2.2.2.2.1, y ∈ pc.1.set :=
  View.cover_of_tiledL (runB m c t h u v).2.2.2.2.1 S128x128.size (by sl_kernel_rfl) y

theorem coverA14 (c : Dev nD) (t : Fin cfg0.N) (h : t.val % 32 = 0) (y : S1x128x128.Idx) : ∃ pc ∈ (runA m c t h).2.2.2.2.2.1, y ∈ pc.1.set :=
  View.cover_of_tiledL (runA m c t h).2.2.2.2.2.1 S1x128x128.size (by sl_kernel_rfl) y
theorem coverB14 (c : Dev nD) (t : Fin cfg0.N) (h : ¬t.val % 32 = 0) (u v : Vec F S1x128x128 .f32) (y : S1x128x128.Idx) : ∃ pc ∈ (runB m c t h u v).2.2.2.2.2.1, y ∈ pc.1.set :=
  View.cover_of_tiledL (runB m c t h u v).2.2.2.2.2.1 S1x128x128.size (by sl_kernel_rfl) y

theorem coverA15 (c : Dev nD) (t : Fin cfg0.N) (h : t.val % 32 = 0) (y : S1x128x128.Idx) : ∃ pc ∈ (runA m c t h).2.2.2.2.2.2.1, y ∈ pc.1.set :=
  View.cover_of_tiledL (runA m c t h).2.2.2.2.2.2.1 S1x128x128.size (by sl_kernel_rfl) y
theorem coverB15 (c : Dev nD) (t : Fin cfg0.N) (h : ¬t.val % 32 = 0) (u v : Vec F S1x128x128 .f32) (y : S1x128x128.Idx) : ∃ pc ∈ (runB m c t h u v).2.2.2.2.2.2.1, y ∈ pc.1.set :=
  View.cover_of_tiledL (runB m c t h u v).2.2.2.2.2.2.1 S1x128x128.size (by sl_kernel_rfl) y

/-! ## What a point leaves in each output's buffer -/

def outA9 (c : Dev nD) (t : Fin cfg0.N) (h : t.val % 32 = 0) : Vec F S128x128 .f32 :=
  VO0_9.read (Elt F) (VO0_9.writes (Elt F) VO0_9.junk (runA m c t h).1)
def outB9 (c : Dev nD) (t : Fin cfg0.N) (h : ¬t.val % 32 = 0) (u v : Vec F S1x128x128 .f32) : Vec F S128x128 .f32 :=
  VO0_9.read (Elt F) (VO0_9.writes (Elt F) VO0_9.junk (runB m c t h u v).1)

def outA10 (c : Dev nD) (t : Fin cfg0.N) (h : t.val % 32 = 0) : Vec F S128x128 .f32 :=
  VO0_10.read (Elt F) (VO0_10.writes (Elt F) VO0_10.junk (runA m c t h).2.1)
def outB10 (c : Dev nD) (t : Fin cfg0.N) (h : ¬t.val % 32 = 0) (u v : Vec F S1x128x128 .f32) : Vec F S128x128 .f32 :=
  VO0_10.read (Elt F) (VO0_10.writes (Elt F) VO0_10.junk (runB m c t h u v).2.1)

def outA11 (c : Dev nD) (t : Fin cfg0.N) (h : t.val % 32 = 0) : Vec F S128x128 .f32 :=
  VO0_11.read (Elt F) (VO0_11.writes (Elt F) VO0_11.junk (runA m c t h).2.2.1)
def outB11 (c : Dev nD) (t : Fin cfg0.N) (h : ¬t.val % 32 = 0) (u v : Vec F S1x128x128 .f32) : Vec F S128x128 .f32 :=
  VO0_11.read (Elt F) (VO0_11.writes (Elt F) VO0_11.junk (runB m c t h u v).2.2.1)

def outA12 (c : Dev nD) (t : Fin cfg0.N) (h : t.val % 32 = 0) : Vec F S128x128 .f32 :=
  VO0_12.read (Elt F) (VO0_12.writes (Elt F) VO0_12.junk (runA m c t h).2.2.2.1)
def outB12 (c : Dev nD) (t : Fin cfg0.N) (h : ¬t.val % 32 = 0) (u v : Vec F S1x128x128 .f32) : Vec F S128x128 .f32 :=
  VO0_12.read (Elt F) (VO0_12.writes (Elt F) VO0_12.junk (runB m c t h u v).2.2.2.1)

def outA13 (c : Dev nD) (t : Fin cfg0.N) (h : t.val % 32 = 0) : Vec F S128x128 .f32 :=
  VO0_13.read (Elt F) (VO0_13.writes (Elt F) VO0_13.junk (runA m c t h).2.2.2.2.1)
def outB13 (c : Dev nD) (t : Fin cfg0.N) (h : ¬t.val % 32 = 0) (u v : Vec F S1x128x128 .f32) : Vec F S128x128 .f32 :=
  VO0_13.read (Elt F) (VO0_13.writes (Elt F) VO0_13.junk (runB m c t h u v).2.2.2.2.1)

def outA14 (c : Dev nD) (t : Fin cfg0.N) (h : t.val % 32 = 0) : Vec F S1x128x128 .f32 :=
  VO0_14.read (Elt F) (VO0_14.writes (Elt F) VO0_14.junk (runA m c t h).2.2.2.2.2.1)
def outB14 (c : Dev nD) (t : Fin cfg0.N) (h : ¬t.val % 32 = 0) (u v : Vec F S1x128x128 .f32) : Vec F S1x128x128 .f32 :=
  VO0_14.read (Elt F) (VO0_14.writes (Elt F) VO0_14.junk (runB m c t h u v).2.2.2.2.2.1)

def outA15 (c : Dev nD) (t : Fin cfg0.N) (h : t.val % 32 = 0) : Vec F S1x128x128 .f32 :=
  VO0_15.read (Elt F) (VO0_15.writes (Elt F) VO0_15.junk (runA m c t h).2.2.2.2.2.2.1)
def outB15 (c : Dev nD) (t : Fin cfg0.N) (h : ¬t.val % 32 = 0) (u v : Vec F S1x128x128 .f32) : Vec F S1x128x128 .f32 :=
  VO0_15.read (Elt F) (VO0_15.writes (Elt F) VO0_15.junk (runB m c t h u v).2.2.2.2.2.2.1)

/-- The two bias gradients' buffers after point `n`: the first point of a head starts them, the others go on from the
    point before. -/
def acc (c : Dev nD) : (n : ℕ) → n < cfg0.N → Vec F S1x128x128 .f32 × Vec F S1x128x128 .f32
  | 0, hn => (outA14 m c ⟨0, hn⟩ (Nat.zero_mod _), outA15 m c ⟨0, hn⟩ (Nat.zero_mod _))
  | n + 1, hn =>
    if h : (n + 1) % 32 = 0 then (outA14 m c ⟨n + 1, hn⟩ h, outA15 m c ⟨n + 1, hn⟩ h)
    else
      (outB14 m c ⟨n + 1, hn⟩ h (acc c n (Nat.lt_of_succ_lt hn)).1 (acc c n (Nat.lt_of_succ_lt hn)).2,
        outB15 m c ⟨n + 1, hn⟩ h (acc c n (Nat.lt_of_succ_lt hn)).1 (acc c n (Nat.lt_of_succ_lt hn)).2)

/-- What the point before `t` left. -/
def accBefore (c : Dev nD) (t : Fin cfg0.N) : Vec F S1x128x128 .f32 × Vec F S1x128x128 .f32 :=
  acc m c (t.val - 1) (Nat.lt_of_le_of_lt (Nat.sub_le _ _) t.isLt)

theorem acc_A (c : Dev nD) (t : Fin cfg0.N) (h : t.val % 32 = 0) :
    acc m c t.val t.isLt = (outA14 m c t h, outA15 m c t h) := by
  obtain ⟨n, hn⟩ := t
  cases n with
  | zero => exact acc.eq_1 ..
  | succ n =>
    have e := acc.eq_2 m c n hn
    rw [dif_pos h] at e
    exact e

theorem acc_B (c : Dev nD) (t : Fin cfg0.N) (h : ¬t.val % 32 = 0) :
    acc m c t.val t.isLt = (outB14 m c t h (accBefore m c t).1 (accBefore m c t).2, outB15 m c t h (accBefore m c t).1 (accBefore m c t).2) := by
  obtain ⟨n, hn⟩ := t
  cases n with
  | zero => exact absurd (Nat.zero_mod _) h
  | succ n =>
    have e := acc.eq_2 m c n hn
    rw [dif_neg h] at e
    exact e

def out9 (c : Dev nD) (t : Fin cfg0.N) : Vec F S128x128 .f32 :=
  if h : t.val % 32 = 0 then outA9 m c t h else outB9 m c t h (accBefore m c t).1 (accBefore m c t).2
theorem out9_A (c : Dev nD) (t : Fin cfg0.N) (h : t.val % 32 = 0) : out9 m c t = outA9 m c t h := by rw [out9, dif_pos h]
theorem out9_B (c : Dev nD) (t : Fin cfg0.N) (h : ¬t.val % 32 = 0) :
    out9 m c t = outB9 m c t h (accBefore m c t).1 (accBefore m c t).2 := by rw [out9, dif_neg h]

def out10 (c : Dev nD) (t : Fin cfg0.N) : Vec F S128x128 .f32 :=
  if h : t.val % 32 = 0 then outA10 m c t h else outB10 m c t h (accBefore m c t).1 (accBefore m c t).2
theorem out10_A (c : Dev nD) (t : Fin cfg0.N) (h : t.val % 32 = 0) : out10 m c t = outA10 m c t h := by rw [out10, dif_pos h]
theorem out10_B (c : Dev nD) (t : Fin cfg0.N) (h : ¬t.val % 32 = 0) :
    out10 m c t = outB10 m c t h (accBefore m c t).1 (accBefore m c t).2 := by rw [out10, dif_neg h]

def out11 (c : Dev nD) (t : Fin cfg0.N) : Vec F S128x128 .f32 :=
  if h : t.val % 32 = 0 then outA11 m c t h else outB11 m c t h (accBefore m c t).1 (accBefore m c t).2
theorem out11_A (c : Dev nD) (t : Fin cfg0.N) (h : t.val % 32 = 0) : out11 m c t = outA11 m c t h := by rw [out11, dif_pos h]
theorem out11_B (c : Dev nD) (t : Fin cfg0.N) (h : ¬t.val % 32 = 0) :
    out11 m c t = outB11 m c t h (accBefore m c t).1 (accBefore m c t).2 := by rw [out11, dif_neg h]

def out12 (c : Dev nD) (t : Fin cfg0.N) : Vec F S128x128 .f32 :=
  if h : t.val % 32 = 0 then outA12 m c t h else outB12 m c t h (accBefore m c t).1 (accBefore m c t).2
theorem out12_A (c : Dev nD) (t : Fin cfg0.N) (h : t.val % 32 = 0) : out12 m c t = outA12 m c t h := by rw [out12, dif_pos h]
theorem out12_B (c : Dev nD) (t : Fin cfg0.N) (h : ¬t.val % 32 = 0) :
    out12 m c t = outB12 m c t h (accBefore m c t).1 (accBefore m c t).2 := by rw [out12, dif_neg h]

def out13 (c : Dev nD) (t : Fin cfg0.N) : Vec F S128x128 .f32 :=
  if h : t.val % 32 = 0 then outA13 m c t h else outB13 m c t h (accBefore m c t).1 (accBefore m c t).2
theorem out13_A (c : Dev nD) (t : Fin cfg0.N) (h : t.val % 32 = 0) : out13 m c t = outA13 m c t h := by rw [out13, dif_pos h]
theorem out13_B (c : Dev nD) (t : Fin cfg0.N) (h : ¬t.val % 32 = 0) :
    out13 m c t = outB13 m c t h (accBefore m c t).1 (accBefore m c t).2 := by rw [out13, dif_neg h]

/-! ## The proof data -/

/-- The arrays as the region finds them, each input's buffer at its block after a point, each output's as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => out11 m c t
    | ⟨12, _⟩ => out12 m c t
    | ⟨13, _⟩ => out13 m c t
    | ⟨14, _⟩ => (acc m c t.val t.isLt).1
    | ⟨15, _⟩ => (acc m c t.val t.isLt).2
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem after12 (c : Dev nD) (t : Fin cfg0.N) : (dats m 0 c).after 12 t = out12 m c t := by dsimp only [dats]
theorem after13 (c : Dev nD) (t : Fin cfg0.N) : (dats m 0 c).after 13 t = out13 m c t := by dsimp only [dats]
theorem after14 (c : Dev nD) (t : Fin cfg0.N) : (dats m 0 c).after 14 t = (acc m c t.val t.isLt).1 := by dsimp only [dats]
theorem after15 (c : Dev nD) (t : Fin cfg0.N) : (dats m 0 c).after 15 t = (acc m c t.val t.isLt).2 := by dsimp only [dats]

/-- Before the body each input's buffer holds its block. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- A bias gradient's buffer is written at every point. -/
theorem live14 (t : Fin cfg0.N) : cfg0.idle 14 (grid0.coords t) = false := by
  by_cases h : t.val % 32 = 0
  · exact liveAt0_14_A t ((hcond0_0 t).mpr h) (not1 t h)
  · exact liveAt0_14_B t (fun h' => h ((hcond0_0 t).mp h')) (yes1 t h)

/-- Away from a head's first point it holds what the point before left. -/
theorem before14 (c : Dev nD) (t : Fin cfg0.N) (h : ¬t.val % 32 = 0) (d) :
    (dats m 0 c).before 14 t d = (accBefore m c t).1 := by
  rw [Dat.before_out_traj _ 14 rfl (fun _ _ => rfl) (fun t _ hi _ => absurd ((live14 t).symm.trans hi) Bool.false_ne_true) t.val t rfl d,
    if_neg (by rw [notFresh0_14_B t (fun h' => h ((hcond0_0 t).mp h')) (yes1 t h)]; exact Bool.false_ne_true)]
  dsimp only [dats, accBefore]

/-- A bias gradient's buffer is written at every point. -/
theorem live15 (t : Fin cfg0.N) : cfg0.idle 15 (grid0.coords t) = false := by
  by_cases h : t.val % 32 = 0
  · exact liveAt0_15_A t ((hcond0_0 t).mpr h) (not1 t h)
  · exact liveAt0_15_B t (fun h' => h ((hcond0_0 t).mp h')) (yes1 t h)

/-- Away from a head's first point it holds what the point before left. -/
theorem before15 (c : Dev nD) (t : Fin cfg0.N) (h : ¬t.val % 32 = 0) (d) :
    (dats m 0 c).before 15 t d = (accBefore m c t).2 := by
  rw [Dat.before_out_traj _ 15 rfl (fun _ _ => rfl) (fun t _ hi _ => absurd ((live15 t).symm.trans hi) Bool.false_ne_true) t.val t rfl d,
    if_neg (by rw [notFresh0_15_B t (fun h' => h ((hcond0_0 t).mp h')) (yes1 t h)]; exact Bool.false_ne_true)]
  dsimp only [dats, accBefore]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves0 (c : Dev nD) (t : Fin cfg0.N) : (dats m 0 c).leavesExact 0 t = owns (c : Thread nD τ) (ms0_0 t) fullShare ((dats m 0 c).after 0 t) := by
  unfold Dat.leavesExact; rw [liveAt0_0 t]
theorem leaves1 (c : Dev nD) (t : Fin cfg0.N) : (dats m 0 c).leavesExact 1 t = owns (c : Thread nD τ) (ms0_1 t) fullShare ((dats m 0 c).after 1 t) := by
  unfold Dat.leavesExact; rw [liveAt0_1 t]
theorem leaves2 (c : Dev nD) (t : Fin cfg0.N) : (dats m 0 c).leavesExact 2 t = owns (c : Thread nD τ) (ms0_2 t) fullShare ((dats m 0 c).after 2 t) := by
  unfold Dat.leavesExact; rw [liveAt0_2 t]
theorem leaves3 (c : Dev nD) (t : Fin cfg0.N) : (dats m 0 c).leavesExact 3 t = owns (c : Thread nD τ) (ms0_3 t) fullShare ((dats m 0 c).after 3 t) := by
  unfold Dat.leavesExact; rw [liveAt0_3 t]
theorem leaves4 (c : Dev nD) (t : Fin cfg0.N) : (dats m 0 c).leavesExact 4 t = owns (c : Thread nD τ) (ms0_4 t) fullShare ((dats m 0 c).after 4 t) := by
  unfold Dat.leavesExact; rw [liveAt0_4 t]
theorem leaves5 (c : Dev nD) (t : Fin cfg0.N) : (dats m 0 c).leavesExact 5 t = owns (c : Thread nD τ) (ms0_5 t) fullShare ((dats m 0 c).after 5 t) := by
  unfold Dat.leavesExact; rw [liveAt0_5 t]
theorem leaves6 (c : Dev nD) (t : Fin cfg0.N) : (dats m 0 c).leavesExact 6 t = owns (c : Thread nD τ) (ms0_6 t) fullShare ((dats m 0 c).after 6 t) := by
  unfold Dat.leavesExact; rw [liveAt0_6 t]
theorem leaves7 (c : Dev nD) (t : Fin cfg0.N) : (dats m 0 c).leavesExact 7 t = owns (c : Thread nD τ) (ms0_7 t) fullShare ((dats m 0 c).after 7 t) := by
  unfold Dat.leavesExact; rw [liveAt0_7 t]
theorem leaves8 (c : Dev nD) (t : Fin cfg0.N) : (dats m 0 c).leavesExact 8 t = owns (c : Thread nD τ) (ms0_8 t) fullShare ((dats m 0 c).after 8 t) := by
  unfold Dat.leavesExact; rw [liveAt0_8 t]
theorem leaves9 (c : Dev nD) (t : Fin cfg0.N) : (dats m 0 c).leavesExact 9 t = owns (c : Thread nD τ) (ms0_9 t) fullShare ((dats m 0 c).after 9 t) := by
  unfold Dat.leavesExact; rw [liveAt0_9 t]
theorem leaves10 (c : Dev nD) (t : Fin cfg0.N) : (dats m 0 c).leavesExact 10 t = owns (c : Thread nD τ) (ms0_10 t) fullShare ((dats m 0 c).after 10 t) := by
  unfold Dat.leavesExact; rw [liveAt0_10 t]
theorem leaves11 (c : Dev nD) (t : Fin cfg0.N) : (dats m 0 c).leavesExact 11 t = owns (c : Thread nD τ) (ms0_11 t) fullShare ((dats m 0 c).after 11 t) := by
  unfold Dat.leavesExact; rw [liveAt0_11 t]
theorem leaves12 (c : Dev nD) (t : Fin cfg0.N) : (dats m 0 c).leavesExact 12 t = owns (c : Thread nD τ) (ms0_12 t) fullShare ((dats m 0 c).after 12 t) := by
  unfold Dat.leavesExact; rw [liveAt0_12 t]
theorem leaves13 (c : Dev nD) (t : Fin cfg0.N) : (dats m 0 c).leavesExact 13 t = owns (c : Thread nD τ) (ms0_13 t) fullShare ((dats m 0 c).after 13 t) := by
  unfold Dat.leavesExact; rw [liveAt0_13 t]
theorem leaves14 (c : Dev nD) (t : Fin cfg0.N) : (dats m 0 c).leavesExact 14 t = owns (c : Thread nD τ) (ms0_14 t) fullShare ((dats m 0 c).after 14 t) := by
  unfold Dat.leavesExact; rw [live14 t]
theorem leaves15 (c : Dev nD) (t : Fin cfg0.N) : (dats m 0 c).leavesExact 15 t = owns (c : Thread nD τ) (ms0_15 t) fullShare ((dats m 0 c).after 15 t) := by
  unfold Dat.leavesExact; rw [live15 t]

set_option maxHeartbeats 3200000 in
/-- Case A's triple. -/
theorem bodyA (c : Dev nD) (t : Fin cfg0.N) (h : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, leaves9, leaves10, leaves11, leaves12, leaves13, leaves14, leaves15, after0, after1, after2, after3, after4, after5, after6, after7, after8, after9, after10, after11, after12, after13, after14, after15]
  rw [out9_A m c t h, out10_A m c t h, out11_A m c t h, out12_A m c t h, out13_A m c t h, acc_A m c t h]
  unfold outA9 outA10 outA11 outA12 outA13 outA14 outA15; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA m c t h).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverA9 m c t h)
  isplitl [H10]
  · unfold owns; iexists _; isplitr
    swap; · iexact H10
    ipureintro; exact View.read_writes_of_cover _ _ _ _ _ (coverA10 m c t h)
  isplitl [H11]
  · unfold owns; iexists _; isplitr
    swap; · iexact H11
    ipureintro; exact View.read_writes_of_cover _ _ _ _ _ (coverA11 m c t h)
  isplitl [H12]
  · unfold owns; iexists _; isplitr
    swap; · iexact H12
    ipureintro; exact View.read_writes_of_cover _ _ _ _ _ (coverA12 m c t h)
  isplitl [H13]
  · unfold owns; iexists _; isplitr
    swap; · iexact H13
    ipureintro; exact View.read_writes_of_cover _ _ _ _ _ (coverA13 m c t h)
  isplitl [H14]
  · unfold owns; iexists _; isplitr
    swap; · iexact H14
    ipureintro; exact View.read_writes_of_cover _ _ _ _ _ (coverA14 m c t h)
  unfold owns; iexists _; isplitr
  swap; · iexact H15
  ipureintro; exact View.read_writes_of_cover _ _ _ _ _ (coverA15 m c t h)

set_option maxHeartbeats 3200000 in
/-- Case B's triple. -/
theorem bodyB (c : Dev nD) (t : Fin cfg0.N) (h : ¬t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, leaves9, leaves10, leaves11, leaves12, leaves13, leaves14, leaves15, after0, after1, after2, after3, after4, after5, after6, after7, after8, after9, after10, after11, after12, after13, after14, after15]
  rw [out9_B m c t h, out10_B m c t h, out11_B m c t h, out12_B m c t h, out13_B m c t h, acc_B m c t h]
  simp only [before14 m c t h, before15 m c t h]
  unfold outB9 outB10 outB11 outB12 outB13 outB14 outB15; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB m c t h (accBefore m c t).1 (accBefore m c t).2).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverB9 m c t h (accBefore m c t).1 (accBefore m c t).2)
  isplitl [H10]
  · unfold owns; iexists _; isplitr
    swap; · iexact H10
    ipureintro; exact View.read_writes_of_cover _ _ _ _ _ (coverB10 m c t h (accBefore m c t).1 (accBefore m c t).2)
  isplitl [H11]
  · unfold owns; iexists _; isplitr
    swap; · iexact H11
    ipureintro; exact View.read_writes_of_cover _ _ _ _ _ (coverB11 m c t h (accBefore m c t).1 (accBefore m c t).2)
  isplitl [H12]
  · unfold owns; iexists _; isplitr
    swap; · iexact H12
    ipureintro; exact View.read_writes_of_cover _ _ _ _ _ (coverB12 m c t h (accBefore m c t).1 (accBefore m c t).2)
  isplitl [H13]
  · unfold owns; iexists _; isplitr
    swap; · iexact H13
    ipureintro; exact View.read_writes_of_cover _ _ _ _ _ (coverB13 m c t h (accBefore m c t).1 (accBefore m c t).2)
  isplitl [H14]
  · unfold owns; iexists _; isplitr
    swap; · iexact H14
    ipureintro; exact View.read_writes_of_cover _ _ _ _ _ (coverB14 m c t h (accBefore m c t).1 (accBefore m c t).2)
  unfold owns; iexists _; isplitr
  swap; · iexact H15
  ipureintro; exact View.read_writes_of_cover _ _ _ _ _ (coverB15 m c t h (accBefore m c t).1 (accBefore m c t).2)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated ?_ rfl .rfl fun _ => .rfl
  by_cases h : t.val % 32 = 0
  · exact bodyA m c t h
  · exact bodyB m c t h

/-! ## The run -/

set_option backward.isDefEq.respectTransparency.types false in
/-- Every execution ends, with every array at what the proof data says, and with every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiescent m ρ))

end Cert.AttnRun

end
-- ==== Proof.Model.lean ====
module

public import Idealize.ShloMosaic.Lib.Pointwise

@[expose] public section

/-! The gradient of one block of dilated attention, over the real numbers.  A block has 128 query
rows and 256 key rows, the previous block of the same class first.  The weights are `exp` of the
scores without any shift; both programs shift the scores by a row maximum, which multiplies the
weights of a row by one positive factor, and `ds_of_shift` says that the factor cancels. -/

namespace Cert.Model

/-- The operands of one block: the rows of queries, keys, values, the bias, the cotangents of the
attention output and of the logarithm of the row sum, and the block's number in its class. -/
structure Block where
  q : Fin 128 → Fin 128 → ℝ
  k : Fin 256 → Fin 128 → ℝ
  v : Fin 256 → Fin 128 → ℝ
  b : Fin 128 → Fin 256 → ℝ
  ct : Fin 128 → Fin 128 → ℝ
  cl : Fin 128 → Fin 128 → ℝ
  scale : ℝ
  n : ℕ

namespace Block
variable (B : Block)

/-- Query `i` reads key `j`: at most 128 rows back, and no key before the first block. -/
def Reads (i : Fin 128) (j : Fin 256) : Prop :=
  i.val ≤ j.val ∧ j.val ≤ 128 + i.val ∧ ¬ (B.n = 0 ∧ j.val < 128)

instance (i : Fin 128) (j : Fin 256) : Decidable (B.Reads i j) := by
  unfold Reads; infer_instance

/-- The score of a query and a key. -/
noncomputable def S (i : Fin 128) (j : Fin 256) : ℝ := (∑ e, B.q i e * B.k j e) * B.scale + B.b i j
/-- The weight, not normalised. -/
noncomputable def W (i : Fin 128) (j : Fin 256) : ℝ := if B.Reads i j then Real.exp (B.S i j) else 0
/-- The row sum. -/
noncomputable def L (i : Fin 128) : ℝ := ∑ j, B.W i j
/-- The cotangent of the logarithm of the row sum. -/
noncomputable def G (i : Fin 128) : ℝ := ∑ e, B.cl i e
/-- The weighted values, not normalised. -/
noncomputable def EV (i : Fin 128) (e : Fin 128) : ℝ := ∑ j, B.W i j * B.v j e
/-- The gradient of the scores, which summed over blocks is the gradient of the bias. -/
noncomputable def DS (i : Fin 128) (j : Fin 256) : ℝ :=
  B.W i j / B.L i * (∑ e, B.ct i e * B.v j e + (B.G i - ∑ e, B.ct i e * (B.EV i e / B.L i)))
/-- The gradients of the queries, keys and values. -/
noncomputable def DQ (i : Fin 128) (e : Fin 128) : ℝ := ∑ j, B.DS i j * B.scale * B.k j e
noncomputable def DK (j : Fin 256) (e : Fin 128) : ℝ := ∑ i, B.DS i j * B.scale * B.q i e
noncomputable def DV (j : Fin 256) (e : Fin 128) : ℝ := ∑ i, B.W i j / B.L i * B.ct i e

theorem reads_diag (i : Fin 128) : B.Reads i ⟨128 + i.val, by omega⟩ := by
  refine ⟨?_, ?_, ?_⟩ <;> simp

theorem W_nonneg (i : Fin 128) (j : Fin 256) : 0 ≤ B.W i j := by
  unfold W; split_ifs
  · exact (Real.exp_pos _).le
  · exact le_rfl

theorem L_pos (i : Fin 128) : 0 < B.L i := by
  refine Finset.sum_pos' (fun j _ => B.W_nonneg i j) ⟨⟨128 + i.val, by omega⟩, Finset.mem_univ _, ?_⟩
  rw [W, if_pos (B.reads_diag i)]
  exact Real.exp_pos _

theorem L_ne (i : Fin 128) : B.L i ≠ 0 := (B.L_pos i).ne'

/-- The gradient of the scores from shifted weights. -/
theorem ds_of_shift {κ : ℝ} (hκ : κ ≠ 0) (i : Fin 128) (j : Fin 256) :
    ((∑ e, B.ct i e / (κ * B.L i) * B.v j e)
      + (B.G i / (κ * B.L i)
        - ∑ e, B.ct i e * (1 / (κ * B.L i * (κ * B.L i))) * (κ * B.EV i e))) * (κ * B.W i j)
    = B.DS i j := by
  have hL := B.L_ne i
  have h1 : (∑ e, B.ct i e / (κ * B.L i) * B.v j e) = (∑ e, B.ct i e * B.v j e) / (κ * B.L i) := by
    rw [Finset.sum_div]; exact Finset.sum_congr rfl fun e _ => by ring
  have h2 : (∑ e, B.ct i e * (1 / (κ * B.L i * (κ * B.L i))) * (κ * B.EV i e))
      = (∑ e, B.ct i e * (B.EV i e / B.L i)) / (κ * B.L i) := by
    rw [Finset.sum_div]; exact Finset.sum_congr rfl fun e _ => by field_simp
  rw [h1, h2, DS]
  field_simp

/-- The gradient of the values from shifted weights. -/
theorem dv_of_shift {κ : ℝ} (hκ : κ ≠ 0) (j : Fin 256) (e : Fin 128) (κ' : Fin 128 → ℝ)
    (h : ∀ i, κ' i ≠ 0) :
    (∑ i, κ' i * B.W i j * (B.ct i e / (κ' i * B.L i))) = B.DV j e :=
  Finset.sum_congr rfl fun i _ => by
    have hL := B.L_ne i
    have := h i
    field_simp

/-- Along a row the gradient of the scores sums to the cotangent of the logarithm of the row sum,
so nothing flows through the row maximum. -/
theorem sum_ds (i : Fin 128) : ∑ j, B.DS i j = B.G i := by
  have hL := B.L_ne i
  have h1 : ∑ j, B.DS i j
      = (∑ j, B.W i j / B.L i * ∑ e, B.ct i e * B.v j e)
        + (∑ j, B.W i j / B.L i) * (B.G i - ∑ e, B.ct i e * (B.EV i e / B.L i)) := by
    rw [Finset.sum_mul, ← Finset.sum_add_distrib]
    exact Finset.sum_congr rfl fun j _ => by rw [DS]; ring
  have h2 : (∑ j, B.W i j / B.L i) = 1 := by
    rw [← Finset.sum_div]; exact div_self hL
  have h3 : (∑ j, B.W i j / B.L i * ∑ e, B.ct i e * B.v j e)
      = ∑ e, B.ct i e * (B.EV i e / B.L i) := by
    simp only [Finset.mul_sum, EV, Finset.sum_div]
    rw [Finset.sum_comm]
    exact Finset.sum_congr rfl fun e _ => Finset.sum_congr rfl fun j _ => by ring
  rw [h1, h2, h3]; ring

end Block

/-- The two halves of the key rows: the previous block and the current one. -/
def lo (j : Fin 128) : Fin 256 := ⟨j.val, by omega⟩
def hi (j : Fin 128) : Fin 256 := ⟨128 + j.val, by omega⟩

/-- A sum over the key rows is the sum of the two halves. -/
theorem sum_halves {M : Type} [AddCommMonoid M] (f : Fin 256 → M) :
    ∑ j, f j = ∑ j, f (lo j) + ∑ j, f (hi j) :=
  Fin.sum_univ_add (a := 128) (b := 128) f

/-- The seven operands of the attention gradient as reals, in token order. -/
structure Args where
  q : Fin 4096 → Fin 512 → ℝ
  k : Fin 4096 → Fin 512 → ℝ
  v : Fin 4096 → Fin 512 → ℝ
  bp : Fin 4 → Fin 128 → Fin 128 → ℝ
  bc : Fin 4 → Fin 128 → Fin 128 → ℝ
  ct : Fin 4096 → Fin 512 → ℝ
  cl : Fin 4096 → Fin 512 → ℝ
  scale : ℝ

namespace Args
variable (A : Args)

/-- A token, from its class, its block in the class and its row in the block. -/
def tok (r : Fin 4) (n : Fin 8) (i : Fin 128) : Fin 4096 := ⟨(n.val * 128 + i.val) * 4 + r.val, by omega⟩
/-- A column, from its head and its place in the head. -/
def col (h : Fin 4) (e : Fin 128) : Fin 512 := ⟨h.val * 128 + e.val, by omega⟩

/-- The key rows of block `n`: the previous block, which before the first block is zero, and the current one. -/
def keys (t : Fin 4096 → Fin 512 → ℝ) (r h : Fin 4) (n : Fin 8) (j : Fin 256) (e : Fin 128) : ℝ :=
  if hj : 128 ≤ n.val * 128 + j.val then t ⟨(n.val * 128 + j.val - 128) * 4 + r.val, by omega⟩ (col h e) else 0

/-- Block `n` of class `r` and head `h`. -/
def block (r h : Fin 4) (n : Fin 8) : Block where
  q i e := A.q (tok r n i) (col h e)
  k := keys A.k r h n
  v := keys A.v r h n
  b i j := if hj : j.val < 128 then A.bp h i ⟨j.val, hj⟩ else A.bc h i ⟨j.val - 128, by omega⟩
  ct i e := A.ct (tok r n i) (col h e)
  cl i e := A.cl (tok r n i) (col h e)
  scale := A.scale
  n := n.val

/-- The block at an element of the class view: 1024 rows, and the columns of the four classes side by side. -/
def at_ (R : Fin 1024) (C : Fin 2048) : Block :=
  A.block ⟨C.val / 512, by omega⟩ ⟨C.val % 512 / 128, by omega⟩ ⟨R.val / 128, by omega⟩

/-- The seven gradients as arrays. -/
noncomputable def dq (R : Fin 1024) (C : Fin 2048) : ℝ := (A.at_ R C).DQ ⟨R.val % 128, by omega⟩ ⟨C.val % 128, by omega⟩
noncomputable def dkp (R : Fin 1024) (C : Fin 2048) : ℝ := (A.at_ R C).DK (lo ⟨R.val % 128, by omega⟩) ⟨C.val % 128, by omega⟩
noncomputable def dkc (R : Fin 1024) (C : Fin 2048) : ℝ := (A.at_ R C).DK (hi ⟨R.val % 128, by omega⟩) ⟨C.val % 128, by omega⟩
noncomputable def dvp (R : Fin 1024) (C : Fin 2048) : ℝ := (A.at_ R C).DV (lo ⟨R.val % 128, by omega⟩) ⟨C.val % 128, by omega⟩
noncomputable def dvc (R : Fin 1024) (C : Fin 2048) : ℝ := (A.at_ R C).DV (hi ⟨R.val % 128, by omega⟩) ⟨C.val % 128, by omega⟩
noncomputable def db (h : Fin 4) (i : Fin 128) (j : Fin 256) : ℝ := ∑ r, ∑ n, (A.block r h n).DS i j

end Args

/-- A sum of reals, in the extended reals. -/
theorem coe_sum {ι : Type} [Fintype ι] (f : ι → ℝ) :
    (∑ i, ((f i : ℝ) : EReal)) = ((∑ i, f i : ℝ) : EReal) := by
  classical
  have : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact this _

/-- A sum of products of reals, in the extended reals. -/
theorem coe_dot {ι : Type} [Fintype ι] {x y : ι → EReal} {f g : ι → ℝ}
    (hx : ∀ i, x i = f i) (hy : ∀ i, y i = g i) :
    (∑ i, x i * y i) = ((∑ i, f i * g i : ℝ) : EReal) := by
  rw [← coe_sum]
  exact Finset.sum_congr rfl fun i _ => by rw [hx, hy, EReal.coe_mul]

/-- The same for a sum, a product of three and the reciprocal of a square. -/
theorem sum_coe {ι : Type} [Fintype ι] {x : ι → EReal} {f : ι → ℝ} (hx : ∀ i, x i = f i) :
    (∑ i, x i) = ((∑ i, f i : ℝ) : EReal) :=
  (Finset.sum_congr rfl fun i _ => hx i).trans (coe_sum f)

theorem mul3_coe {x y z : EReal} {a b c : ℝ} (hx : x = a) (hy : y = b) (hz : z = c) :
    x * y * z = ((a * b * c : ℝ) : EReal) := by
  rw [hx, hy, hz, EReal.coe_mul, EReal.coe_mul]

theorem neg_coe {x : EReal} {a : ℝ} (hx : x = a) : -x = ((-a : ℝ) : EReal) := by rw [hx, EReal.coe_neg]

/-- A quotient of reals by one that is not zero. -/
theorem coe_div {x y : ℝ} (h : y ≠ 0) :
    Idealize.ShloMosaic.Ideal.div (x : EReal) (y : EReal) = ((x / y : ℝ) : EReal) := by
  rw [Idealize.ShloMosaic.Ideal.div_coe h, ← EReal.coe_mul]
  congr 1; ring

theorem inv_sq_coe {x : EReal} {y : ℝ} (hx : x = y) (h : y ≠ 0) :
    Idealize.ShloMosaic.Ideal.div 1 (x * x) = ((1 / (y * y) : ℝ) : EReal) := by
  rw [hx, ← EReal.coe_mul, ← EReal.coe_one, coe_div (mul_ne_zero h h)]

/-- A maximum over a row in which some entries are real and the others `-∞` is a real that some entry attains. -/
theorem max_attained (f : Fin 256 → EReal) (S : Fin 256 → ℝ) (p : Fin 256 → Prop) [DecidablePred p]
    (hf : ∀ j, f j = if p j then (S j : EReal) else ⊥) (j0 : Fin 256) (h0 : p j0) :
    ∃ μ : ℝ, Finset.fold max (⊥ : EReal) f Finset.univ = (μ : EReal)
      ∧ ∃ j, f j = Finset.fold max (⊥ : EReal) f Finset.univ := by
  obtain ⟨j, -, hj⟩ := Finset.exists_mem_eq_sup (Finset.univ : Finset (Fin 256)) ⟨0, Finset.mem_univ _⟩ f
  have ej : f j = Finset.fold max (⊥ : EReal) f Finset.univ := hj.symm
  have hd : (S j0 : EReal) ≤ Finset.fold max (⊥ : EReal) f Finset.univ := by
    rw [Finset.le_fold_max]
    exact .inr ⟨j0, Finset.mem_univ _, by rw [hf, if_pos h0]⟩
  have hs := hf j
  rw [ej] at hs
  split_ifs at hs with hr
  · exact ⟨_, hs, j, ej⟩
  · rw [hs] at hd; exact absurd (le_bot_iff.1 hd) (EReal.coe_ne_bot _)

/-- The words of the programs' constants: the scale is some real, the fill of a masked score too,
and the fill of a masked score of the reference is `-∞`. -/
theorem scale_real : ∃ c : ℝ, Idealize.ShloMosaic.Ideal.ofBits .f32 1035273459#32 = (c : EReal) := by
  simp only [Idealize.ShloMosaic.Ideal.ofBits, Idealize.ShloMosaic.Ideal.ieee]
  rw [if_neg (by decide), if_neg (by decide)]
  exact ⟨_, rfl⟩
theorem fill_real : ∃ c : ℝ, Idealize.ShloMosaic.Ideal.ofBits .f32 4048155338#32 = (c : EReal) := by
  simp only [Idealize.ShloMosaic.Ideal.ofBits, Idealize.ShloMosaic.Ideal.ieee]
  rw [if_neg (by decide), if_neg (by decide)]
  exact ⟨_, rfl⟩
theorem ninf_bot : Idealize.ShloMosaic.Ideal.ofBits .f32 4286578688#32 = (⊥ : EReal) := by
  simp [Idealize.ShloMosaic.Ideal.ofBits, Idealize.ShloMosaic.Ideal.ieee]

end Cert.Model
-- ==== Proof.KernelRows.lean ====
/- What one point of the attention gradient's kernel computes, as real numbers: over a block of finite operands
   (`Holds`), each value of the body at one element is the model's. The scores of a row are shifted by some real row
   maximum, so the weights are the model's times one positive factor (`kap`), which cancels in every result. -/
module
public import proofs.«01_k».proof.Proof.Model
public import proofs.«01_k».proof.Proof.Gen.KernelIdeal.Skeleton
public import proofs.«01_k».proof.Proof.Gen.KernelIdeal
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.KernelRows

open Cert.KernelIdeal Cert.KernelIdeal.Gen
open Cert.Model

/-- What a point reads: its coordinates and its nine blocks. -/
structure Ops where
  i : grid0.Coords
  x0 : Vec Ideal S128x128 .f32
  x1 : Vec Ideal S128x128 .f32
  x2 : Vec Ideal S128x128 .f32
  x3 : Vec Ideal S128x128 .f32
  x4 : Vec Ideal S128x128 .f32
  x5 : Vec Ideal S1x128x128 .f32
  x6 : Vec Ideal S1x128x128 .f32
  x7 : Vec Ideal S128x128 .f32
  x8 : Vec Ideal S128x128 .f32

/-- The operands are the model's block. -/
structure Holds (B : Block) (O : Ops) : Prop where
  n : (O.i 2).val = B.n
  scale : Ideal.ofBits .f32 1035273459#32 = (B.scale : EReal)
  q : ∀ i e, O.x0 (ix2 i e) = (B.q i e : EReal)
  kp : ∀ j e, O.x1 (ix2 j e) = (B.k (lo j) e : EReal)
  kc : ∀ j e, O.x2 (ix2 j e) = (B.k (hi j) e : EReal)
  vp : ∀ j e, O.x3 (ix2 j e) = (B.v (lo j) e : EReal)
  vc : ∀ j e, O.x4 (ix2 j e) = (B.v (hi j) e : EReal)
  bp : ∀ i j, O.x5 (ix3 0 i j) = (B.b i (lo j) : EReal)
  bc : ∀ i j, O.x6 (ix3 0 i j) = (B.b i (hi j) : EReal)
  ct : ∀ i e, O.x7 (ix2 i e) = (B.ct i e : EReal)
  cl : ∀ i e, O.x8 (ix2 i e) = (B.cl i e : EReal)

namespace Ops
variable (O : Ops)

/-- The body's values, composed of the payloads. -/
def sc : EReal := FloatOps.ofBits (F := Ideal) FTy.f32 1035273459#32
def cs := k0_pay16 (F := Ideal) O.x0 O.x2 O.x6
def pp := k0_pay17 (F := Ideal) O.x0 O.x1
def ps := k0_pay18 (F := Ideal) (k0_pay13 O.x5) (k0_pay15 O.i) O.pp sc
def mx := k0_pay19 (F := Ideal) (k0_pay13 O.x5) (k0_pay15 O.i) O.cs O.pp sc
def ce := k0_pay20 (F := Ideal) (k0_pay13 O.x5) (k0_pay15 O.i) O.cs O.pp sc
def cw := k0_pay21 (F := Ideal) (k0_pay13 O.x5) k0_pay14 (k0_pay15 O.i) O.cs O.pp sc
def pe := k0_pay22 (F := Ideal) (k0_pay13 O.x5) (k0_pay15 O.i) O.cs O.pp sc
def pw := k0_pay23 (F := Ideal) (k0_pay13 O.x5) (k0_pay15 O.i) O.cs O.pp sc
def ll := k0_pay24 (F := Ideal) (k0_pay13 O.x5) k0_pay14 (k0_pay15 O.i) O.cs O.pp sc
def gg := k0_pay26 (F := Ideal) (k0_pay13 O.x5) k0_pay14 (k0_pay15 O.i) O.cs O.pp sc O.x8
def ee := k0_pay27 (F := Ideal) (k0_pay11 O.x3) (k0_pay12 O.x4) (k0_pay13 O.x5) k0_pay14 (k0_pay15 O.i) O.cs O.pp sc O.x7
def dp := k0_pay32 (F := Ideal) (k0_pay11 O.x3) (k0_pay15 O.i) O.pe O.ll (k0_pay25 O.x7) O.gg O.ee
def dc := k0_pay36 (F := Ideal) (k0_pay12 O.x4) k0_pay14 O.ce O.ll (k0_pay25 O.x7) O.gg O.ee
def dqp := k0_pay34 (F := Ideal) (k0_pay9 O.x1) (k0_pay11 O.x3) (k0_pay15 O.i) O.pe O.ll (k0_pay25 O.x7) O.gg O.ee
def dq := k0_pay3 (F := Ideal) (k0_pay10 O.x2) O.dqp O.dc
def dkp := k0_pay35 (F := Ideal) (k0_pay8 O.x0) (k0_pay11 O.x3) (k0_pay15 O.i) O.pe O.ll (k0_pay25 O.x7) O.gg O.ee
def dkc := k0_pay2 (F := Ideal) (k0_pay8 O.x0) O.dc
def dvp := k0_pay30 (F := Ideal) O.pw O.ll (k0_pay25 O.x7)
def dvc := k0_pay31 (F := Ideal) O.cw O.ll (k0_pay25 O.x7)

end Ops

/-- A maximum of reals over a nonempty range is a real. -/
theorem fold_max_real {n : ℕ} [NeZero n] (f : Fin n → ℝ) (g : Fin n → EReal) (h : ∀ x, g x = f x) :
    ∃ r : ℝ, Finset.fold max (⊥ : EReal) g Finset.univ = (r : EReal) := by
  have h1 : Finset.fold max (⊥ : EReal) g Finset.univ < ⊤ := by
    rw [Finset.fold_max_lt]
    exact ⟨bot_lt_top, fun x _ => by rw [h]; exact EReal.coe_lt_top _⟩
  have h2 : ((f 0 : ℝ) : EReal) ≤ Finset.fold max (⊥ : EReal) g Finset.univ := by
    rw [Finset.le_fold_max]
    exact .inr ⟨0, Finset.mem_univ _, (h 0).ge⟩
  have h3 : Finset.fold max (⊥ : EReal) g Finset.univ ≠ ⊥ := fun e => by
    rw [e] at h2; exact absurd (le_bot_iff.1 h2) (EReal.coe_ne_bot _)
  exact ⟨_, (EReal.coe_toReal h1.ne h3).symm⟩

/-! ## The two masks -/

theorem mask_cur (i j : Fin 128) : k0_pay14 (ix2 i j) = if j.val ≤ i.val then 1#1 else 0#1 := by
  pointwise [k0_pay14]
  rw [WordCmp.cmpi_sle_ofNat (by omega) (by omega)]
  by_cases h : j.val ≤ i.val
  · rw [if_pos h, decide_eq_true h]; rfl
  · rw [if_neg h, decide_eq_false h]; rfl

theorem mask_prev (c : grid0.Coords) (i j : Fin 128) :
    k0_pay15 c (ix2 i j) = if i.val ≤ j.val ∧ (c 2).val ≠ 0 then 1#1 else 0#1 := by
  pointwise [k0_pay15]
  have hc : (c 2).val < 8 := (c 2).isLt
  have h0 : Scalar.cmpi CmpIPredicate.sgt (BitVec.ofNat 32 (c 2).val) 0#32 = BitVec.ofBool (decide (0 < (c 2).val)) :=
    WordCmp.cmpi_sgt_ofNat (w := 32) (by omega) (by omega)
  rw [h0]
  by_cases hz : (c 2).val = 0
  · have e : IntOp.addi (BitVec.ofNat 32 i.val) (Scalar.select (BitVec.ofBool (decide (0 < (c 2).val))) 0#32 128#32)
        = BitVec.ofNat 32 (i.val + 128) := by
      rw [hz]; exact (BitVec.ofNat_add ..).symm
    rw [e, WordCmp.cmpi_sge_ofNat (by omega) (by omega), if_neg (fun h => h.2 hz), decide_eq_false (by omega)]
    rfl
  · have e : IntOp.addi (BitVec.ofNat 32 i.val) (Scalar.select (BitVec.ofBool (decide (0 < (c 2).val))) 0#32 128#32)
        = BitVec.ofNat 32 i.val := by
      rw [decide_eq_true (by omega)]; exact BitVec.add_zero _
    rw [e, WordCmp.cmpi_sge_ofNat (by omega) (by omega)]
    by_cases h : i.val ≤ j.val
    · rw [if_pos ⟨h, hz⟩, decide_eq_true h]; rfl
    · rw [if_neg (fun h' => h h'.1), decide_eq_false h]; rfl

theorem select_mask (p : Prop) [Decidable p] (a b : EReal) :
    (Scalar.select (if p then 1#1 else 0#1) a b : EReal) = if p then a else b := by
  split_ifs <;> rfl

variable {B : Block} {O : Ops} (H : Holds B O)

theorem reads_hi (B : Block) (i j : Fin 128) : B.Reads i (hi j) ↔ j.val ≤ i.val := by
  unfold Block.Reads hi; simp only; omega
theorem reads_lo (B : Block) (i j : Fin 128) : B.Reads i (lo j) ↔ i.val ≤ j.val ∧ B.n ≠ 0 := by
  unfold Block.Reads lo; simp only; omega

section
include H

theorem m14 (i j : Fin 128) : k0_pay14 (ix2 i j) = if B.Reads i (hi j) then 1#1 else 0#1 := by
  rw [mask_cur]; exact if_congr (reads_hi B i j).symm rfl rfl
theorem m15 (i j : Fin 128) : k0_pay15 O.i (ix2 i j) = if B.Reads i (lo j) then 1#1 else 0#1 := by
  rw [mask_prev, H.n]; exact if_congr (reads_lo B i j).symm rfl rfl

/-! ## The scores, their maximum and the weights -/

theorem cs_at (i j : Fin 128) : ∃ f : ℝ, O.cs (ix2 i j) = ((if B.Reads i (hi j) then B.S i (hi j) else f : ℝ) : EReal) := by
  obtain ⟨f, hf⟩ := fill_real
  refine ⟨f, ?_⟩
  unfold Ops.cs
  pointwise [k0_pay16, k0_pay8, k0_pay10]
  rw [m14 H, select_mask, coe_dot (H.q i) (H.kc j), H.scale, H.bc, hf, ← EReal.coe_mul, ← EReal.coe_add]
  split_ifs <;> rfl

theorem pp_at (i j : Fin 128) : O.pp (ix2 i j) = ((∑ e, B.q i e * B.k (lo j) e : ℝ) : EReal) := by
  unfold Ops.pp
  pointwise [k0_pay17, k0_pay8, k0_pay9]
  exact coe_dot (H.q i) (H.kp j)

theorem ps_at (i j : Fin 128) : ∃ f : ℝ, O.ps (ix2 i j) = ((if B.Reads i (lo j) then B.S i (lo j) else f : ℝ) : EReal) := by
  obtain ⟨f, hf⟩ := fill_real
  refine ⟨f, ?_⟩
  unfold Ops.ps
  pointwise [k0_pay18, k0_pay13]
  rw [m15 H, select_mask, pp_at H, show Ops.sc = _ from H.scale, H.bp, hf, ← EReal.coe_mul, ← EReal.coe_add]
  split_ifs <;> rfl

theorem mx_at (i : Fin 128) : ∃ μ : ℝ, O.mx (ix2 i 0) = (μ : EReal) := by
  choose f hf using cs_at H i
  choose g hg using ps_at H i
  obtain ⟨a, ha⟩ := fold_max_real _ _ hf
  obtain ⟨b, hb⟩ := fold_max_real _ _ hg
  refine ⟨max a b, ?_⟩
  unfold Ops.mx
  pointwise [k0_pay19]
  rw [ninf_bot]
  refine (congrArg₂ max ha hb).trans ?_
  exact (EReal.coe_strictMono.monotone.map_max).symm

/-- The factor that the shift leaves on the weights of a row. -/
def kap (i : Fin 128) : ℝ := Real.exp (-(mx_at H i).choose)
theorem kap_ne (i : Fin 128) : kap H i ≠ 0 := (Real.exp_pos _).ne'
theorem kapL_ne (i : Fin 128) : kap H i * B.L i ≠ 0 := mul_ne_zero (kap_ne H i) (B.L_ne i)

theorem ce_at (i j : Fin 128) (h : B.Reads i (hi j)) : O.ce (ix2 i j) = ((kap H i * B.W i (hi j) : ℝ) : EReal) := by
  obtain ⟨f, hf⟩ := cs_at H i j
  have hm := (mx_at H i).choose_spec
  unfold Ops.ce
  pointwise [k0_pay20]
  refine (congrArg₂ (fun x y : EReal => Ideal.exp (x - y)) hf hm).trans ?_
  rw [if_pos h, ← EReal.coe_sub, Ideal.exp_coe, Block.W, if_pos h, kap, ← Real.exp_add]
  exact congrArg (fun x : ℝ => ((Real.exp x : ℝ) : EReal)) (by ring)

theorem pe_at (i j : Fin 128) (h : B.Reads i (lo j)) : O.pe (ix2 i j) = ((kap H i * B.W i (lo j) : ℝ) : EReal) := by
  obtain ⟨f, hf⟩ := ps_at H i j
  have hm := (mx_at H i).choose_spec
  unfold Ops.pe
  pointwise [k0_pay22]
  refine (congrArg₂ (fun x y : EReal => Ideal.exp (x - y)) hf hm).trans ?_
  rw [if_pos h, ← EReal.coe_sub, Ideal.exp_coe, Block.W, if_pos h, kap, ← Real.exp_add]
  exact congrArg (fun x : ℝ => ((Real.exp x : ℝ) : EReal)) (by ring)

theorem cw_at (i j : Fin 128) : O.cw (ix2 i j) = ((kap H i * B.W i (hi j) : ℝ) : EReal) := by
  unfold Ops.cw
  pointwise [k0_pay21]
  rw [m14 H, select_mask]
  split_ifs with h
  · exact ce_at H i j h
  · rw [Block.W, if_neg h, mul_zero]; rfl

theorem pw_at (i j : Fin 128) : O.pw (ix2 i j) = ((kap H i * B.W i (lo j) : ℝ) : EReal) := by
  unfold Ops.pw
  pointwise [k0_pay23]
  rw [m15 H, select_mask]
  split_ifs with h
  · exact pe_at H i j h
  · rw [Block.W, if_neg h, mul_zero]; rfl

/-! ## The row sums -/

theorem ll_at (i : Fin 128) : O.ll (ix2 i 0) = ((kap H i * B.L i : ℝ) : EReal) := by
  unfold Ops.ll
  pointwise [k0_pay24]
  refine (congrArg₂ (fun x y : EReal => x + y) ((Finset.sum_congr rfl fun x _ => cw_at H i x).trans (coe_sum _))
    ((Finset.sum_congr rfl fun x _ => pw_at H i x).trans (coe_sum _))).trans ?_
  rw [← EReal.coe_add, Block.L, sum_halves, mul_add, Finset.mul_sum, Finset.mul_sum, add_comm]

theorem gg_at (i : Fin 128) : O.gg (ix2 i 0) = ((B.G i / (kap H i * B.L i) : ℝ) : EReal) := by
  unfold Ops.gg
  pointwise [k0_pay26]
  refine (congrArg₂ (fun x y : EReal => Ideal.div x y) ((Finset.sum_congr rfl fun x _ => H.cl i x).trans (coe_sum _))
    (ll_at H i)).trans ?_
  rw [coe_div (kapL_ne H i), Block.G]

theorem ee_at (i e : Fin 128) : O.ee (ix2 i e)
    = ((B.ct i e * (1 / (kap H i * B.L i * (kap H i * B.L i))) * (kap H i * B.EV i e) : ℝ) : EReal) := by
  unfold Ops.ee
  pointwise [k0_pay27, k0_pay25, k0_pay11, k0_pay12]
  have hl := ll_at H i
  have h1 : (∑ x, O.cw (ix2 i x) * O.x4 (ix2 x e) + ∑ x, O.pw (ix2 i x) * O.x3 (ix2 x e) : EReal)
      = ((kap H i * B.EV i e : ℝ) : EReal) := by
    rw [coe_dot (cw_at H i) (fun x => H.vc x e), coe_dot (pw_at H i) (fun x => H.vp x e), ← EReal.coe_add,
      Block.EV, sum_halves, mul_add, Finset.mul_sum, Finset.mul_sum, add_comm]
    simp only [mul_assoc]
  have h2 : (Ideal.div 1 (O.ll (ix2 i 0) * O.ll (ix2 i 0)) : EReal)
      = ((1 / (kap H i * B.L i * (kap H i * B.L i)) : ℝ) : EReal) := by
    rw [hl, ← EReal.coe_mul, ← EReal.coe_one, coe_div (mul_ne_zero (kapL_ne H i) (kapL_ne H i))]
  refine (congrArg₂ (fun x y : EReal => O.x7 (ix2 i e) * x * y) h2 h1).trans ?_
  rw [H.ct, ← EReal.coe_mul, ← EReal.coe_mul]

/-- The term of a row that does not depend on the key. -/
theorem p28_at (i : Fin 128) : k0_pay28 (F := Ideal) O.gg O.ee (ix2 i 0)
    = ((B.G i / (kap H i * B.L i)
        - ∑ e, B.ct i e * (1 / (kap H i * B.L i * (kap H i * B.L i))) * (kap H i * B.EV i e) : ℝ) : EReal) := by
  pointwise [k0_pay28]
  rw [gg_at H, (Finset.sum_congr rfl fun x _ => ee_at H i x).trans (coe_sum _), ← EReal.coe_zero, ← EReal.coe_sub,
    ← EReal.coe_add]
  congr 1; ring

/-- The cotangent of the output over the row sum. -/
theorem ctl_at (i e : Fin 128) : (Ideal.div (O.x7 (ix2 i e)) (O.ll (ix2 i 0)) : EReal)
    = ((B.ct i e / (kap H i * B.L i) : ℝ) : EReal) := by
  rw [H.ct, ll_at H, coe_div (kapL_ne H i)]

/-! ## The results -/

theorem dp_at (i j : Fin 128) : O.dp (ix2 i j) = ((B.DS i (lo j) : ℝ) : EReal) := by
  unfold Ops.dp
  pointwise [k0_pay32, k0_pay29, k0_pay25, k0_pay11]
  rw [m15 H, select_mask, select_mask]
  split_ifs with h
  · rw [coe_dot (ctl_at H i) (H.vp j), pe_at H i j h, Fin.sum_univ_one, p28_at H, ← EReal.coe_add, ← EReal.coe_mul,
      B.ds_of_shift (kap_ne H i)]
  · rw [Block.DS, Block.W, if_neg h, zero_div, zero_mul]; rfl

theorem dc_at (i j : Fin 128) : O.dc (ix2 i j) = ((B.DS i (hi j) : ℝ) : EReal) := by
  unfold Ops.dc
  pointwise [k0_pay36, k0_pay29, k0_pay25, k0_pay12]
  rw [m14 H, select_mask, select_mask]
  split_ifs with h
  · rw [coe_dot (ctl_at H i) (H.vc j), ce_at H i j h, Fin.sum_univ_one, p28_at H, ← EReal.coe_add, ← EReal.coe_mul,
      B.ds_of_shift (kap_ne H i)]
  · rw [Block.DS, Block.W, if_neg h, zero_div, zero_mul]; rfl

theorem dps_at (i j : Fin 128) : (O.dp (ix2 i j) * Ideal.ofBits .f32 1035273459#32 : EReal) = ((B.DS i (lo j) * B.scale : ℝ) : EReal) := by
  rw [dp_at H, H.scale, ← EReal.coe_mul]
theorem dcs_at (i j : Fin 128) : (O.dc (ix2 i j) * Ideal.ofBits .f32 1035273459#32 : EReal) = ((B.DS i (hi j) * B.scale : ℝ) : EReal) := by
  rw [dc_at H, H.scale, ← EReal.coe_mul]

theorem dq_at (i e : Fin 128) : O.dq (ix2 i e) = ((B.DQ i e : ℝ) : EReal) := by
  unfold Ops.dq Ops.dqp
  pointwise [k0_pay3, k0_pay1, k0_pay34, k0_pay33, k0_pay9, k0_pay10]
  refine (congrArg₂ (fun x y : EReal => x + y) (coe_dot (dps_at H i) fun x => H.kp x e)
    (coe_dot (dcs_at H i) fun x => H.kc x e)).trans ?_
  rw [← EReal.coe_add, Block.DQ, sum_halves]

theorem dkp_at (j e : Fin 128) : O.dkp (ix2 j e) = ((B.DK (lo j) e : ℝ) : EReal) := by
  unfold Ops.dkp
  pointwise [k0_pay35, k0_pay33, k0_pay8]
  exact coe_dot (fun x => dps_at H x j) fun x => H.q x e

theorem dkc_at (j e : Fin 128) : O.dkc (ix2 j e) = ((B.DK (hi j) e : ℝ) : EReal) := by
  unfold Ops.dkc
  pointwise [k0_pay2, k0_pay1, k0_pay8]
  exact coe_dot (fun x => dcs_at H x j) fun x => H.q x e

theorem dvp_at (j e : Fin 128) : O.dvp (ix2 j e) = ((B.DV (lo j) e : ℝ) : EReal) := by
  unfold Ops.dvp
  pointwise [k0_pay30, k0_pay29, k0_pay25]
  refine (coe_dot (fun x => pw_at H x j) fun x => ctl_at H x e).trans ?_
  exact congrArg _ (B.dv_of_shift (κ := 1) one_ne_zero (lo j) e (kap H) (kap_ne H))

theorem dvc_at (j e : Fin 128) : O.dvc (ix2 j e) = ((B.DV (hi j) e : ℝ) : EReal) := by
  unfold Ops.dvc
  pointwise [k0_pay31, k0_pay29, k0_pay25]
  refine (coe_dot (fun x => cw_at H x j) fun x => ctl_at H x e).trans ?_
  exact congrArg _ (B.dv_of_shift (κ := 1) one_ne_zero (hi j) e (kap H) (kap_ne H))

end

end Cert.KernelRows

end
-- ==== Proof.ModelMore.lean ====
/- Two facts about the model: rows of keys and values that no query reads do not matter, and a sum over the classes and
   blocks of a head is a sum over its 32 grid points. -/
module

public import proofs.«01_k».proof.Proof.Model

@[expose] public section

namespace Cert.Model

/-- The same block but for the key and value rows before the first block. -/
structure Agree (B B' : Block) : Prop where
  q : B.q = B'.q
  b : B.b = B'.b
  ct : B.ct = B'.ct
  cl : B.cl = B'.cl
  scale : B.scale = B'.scale
  n : B.n = B'.n
  k : ∀ j e, ¬ (B.n = 0 ∧ j.val < 128) → B.k j e = B'.k j e
  v : ∀ j e, ¬ (B.n = 0 ∧ j.val < 128) → B.v j e = B'.v j e

namespace Agree
variable {B B' : Block} (H : Agree B B')
include H

theorem reads (i : Fin 128) (j : Fin 256) : B.Reads i j ↔ B'.Reads i j := by
  unfold Block.Reads; rw [H.n]

theorem W (i : Fin 128) (j : Fin 256) : B.W i j = B'.W i j := by
  unfold Block.W
  by_cases h : B.Reads i j
  · rw [if_pos h, if_pos ((H.reads i j).1 h)]
    unfold Block.S
    rw [H.q, H.scale, H.b]
    exact congrArg (fun x => Real.exp (x * _ + _)) (Finset.sum_congr rfl fun e _ => by rw [H.k j e h.2.2])
  · rw [if_neg h, if_neg fun h' => h ((H.reads i j).2 h')]

theorem L (i : Fin 128) : B.L i = B'.L i := Finset.sum_congr rfl fun j _ => H.W i j

/-- A weight of a row that is not read is zero. -/
theorem unread {i : Fin 128} {j : Fin 256} (h : B.n = 0 ∧ j.val < 128) : B'.W i j = 0 := by
  unfold Block.W
  exact if_neg fun h' => h'.2.2 (H.n ▸ h)

theorem EV (i e : Fin 128) : B.EV i e = B'.EV i e := by
  refine Finset.sum_congr rfl fun j _ => ?_
  rw [H.W i j]
  by_cases h : B.n = 0 ∧ j.val < 128
  · rw [H.unread h, zero_mul, zero_mul]
  · rw [H.v j e h]

theorem DS (i : Fin 128) (j : Fin 256) : B.DS i j = B'.DS i j := by
  unfold Block.DS Block.G
  simp only [H.W i j, H.L i, H.EV i, H.ct, H.cl]
  by_cases h : B.n = 0 ∧ j.val < 128
  · rw [H.unread h, zero_div, zero_mul, zero_mul]
  · simp only [H.v j _ h]

theorem DQ (i e : Fin 128) : B.DQ i e = B'.DQ i e := by
  refine Finset.sum_congr rfl fun j _ => ?_
  rw [H.DS i j, H.scale]
  by_cases h : B.n = 0 ∧ j.val < 128
  · have z : B'.DS i j = 0 := by unfold Block.DS; rw [H.unread h, zero_div, zero_mul]
    rw [z, zero_mul, zero_mul, zero_mul]
  · rw [H.k j e h]

theorem DK (j : Fin 256) (e : Fin 128) : B.DK j e = B'.DK j e :=
  Finset.sum_congr rfl fun i _ => by rw [H.DS i j, H.scale, H.q]

theorem DV (j : Fin 256) (e : Fin 128) : B.DV j e = B'.DV j e :=
  Finset.sum_congr rfl fun i _ => by rw [H.W i j, H.L i, H.ct]

end Agree

/-- The 32 points of a head, in the order of the grid: the classes, and in each its blocks. -/
theorem sum_points (f : Fin 4 → Fin 8 → ℝ) :
    ∑ s ∈ Finset.range 32, f ⟨s / 8 % 4, by omega⟩ ⟨s % 8, by omega⟩ = ∑ r, ∑ n, f r n := by
  rw [← Fintype.sum_prod_type', ← finProdFinEquiv.symm.sum_comp, Finset.sum_range]
  refine Finset.sum_congr rfl fun s _ => ?_
  refine congrArg₂ f (Fin.ext ?_) (Fin.ext ?_)
  · have := s.isLt
    simp only [finProdFinEquiv, Equiv.coe_fn_symm_mk, Fin.divNat]
    omega
  · rfl

/-- A row of keys or values as the kernel's windows read it: the previous block of the first block is that block. -/
def Args.rows (t : Fin 4096 → Fin 512 → ℝ) (r h : Fin 4) (n : Fin 8) (j : Fin 256) (e : Fin 128) : ℝ :=
  t ⟨((n.val - (if j.val < 128 then 1 else 0)) * 128 + j.val % 128) * 4 + r.val, by split <;> omega⟩ (Args.col h e)

/-- The block as the kernel reads it. -/
def Args.blockK (A : Args) (r h : Fin 4) (n : Fin 8) : Block :=
  { A.block r h n with k := Args.rows A.k r h n, v := Args.rows A.v r h n }

theorem Args.rows_eq (t : Fin 4096 → Fin 512 → ℝ) (r h : Fin 4) (n : Fin 8) (j : Fin 256) (e : Fin 128)
    (hj : ¬ (n.val = 0 ∧ j.val < 128)) : Args.rows t r h n j e = Args.keys t r h n j e := by
  have := j.isLt
  unfold Args.rows Args.keys
  rw [dif_pos (by omega)]
  refine congrArg (fun x => t x (Args.col h e)) (Fin.ext ?_)
  simp only
  split <;> omega

theorem Args.agree (A : Args) (r h : Fin 4) (n : Fin 8) : Agree (A.blockK r h n) (A.block r h n) :=
  ⟨rfl, rfl, rfl, rfl, rfl, rfl, fun j e hj => Args.rows_eq A.k r h n j e hj, fun j e hj => Args.rows_eq A.v r h n j e hj⟩

end Cert.Model
-- ==== Proof.AttnPoint.lean ====
/- What a point of the attention gradient's kernel reads and leaves: its nine blocks as elements of the arguments, and
   its seven blocks as the body's values on them. -/
module
public import proofs.«01_k».proof.Proof.AttnRun
public import proofs.«01_k».proof.Proof.KernelRows
public import proofs.«01_k».proof.Proof.ModelMore
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.AttnValue
open Cert.KernelIdeal Cert.KernelIdeal.Gen Cert.AttnRun Cert.Model Cert.KernelRows
/-- The arguments of the kernel are the reals of `A`. -/
structure Given (A : Args) (m : (ℓ : Loc nD τ sig) → Buf (Elt Ideal) ℓ) (c : Dev nD) : Prop where
  scale : Ideal.ofBits .f32 1035273459#32 = (A.scale : EReal)
  q : ∀ t e, m ((c : Thread nD τ).loc main_arg0) (ix2 t e) = (A.q t e : EReal)
  k : ∀ t e, m ((c : Thread nD τ).loc main_arg1) (ix2 t e) = (A.k t e : EReal)
  v : ∀ t e, m ((c : Thread nD τ).loc main_arg2) (ix2 t e) = (A.v t e : EReal)
  ct : ∀ t e, m ((c : Thread nD τ).loc main_arg5) (ix2 t e) = (A.ct t e : EReal)
  cl : ∀ t e, m ((c : Thread nD τ).loc main_arg6) (ix2 t e) = (A.cl t e : EReal)
  bp : ∀ h i j, m ((c : Thread nD τ).loc main_arg3) (ix3 h i j) = (A.bp h i j : EReal)
  bc : ∀ h i j, m ((c : Thread nD τ).loc main_arg4) (ix3 h i j) = (A.bc h i j : EReal)

variable (m : (ℓ : Loc nD τ sig) → Buf (Elt Ideal) ℓ)

/-- Where the input windows of point `t = 32 h + 8 r + n` stand: block row `n` (the previous block one row above, but not
    above the first), block column `4 r + h`; the bias at the head. -/
theorem idx : ∀ t : Fin cfg0.N,
    win0_0.index t = ![t.val % 8, (t.val / 8 % 4) * 4 + t.val / 32]
      ∧ win0_1.index t = ![t.val % 8 - 1, (t.val / 8 % 4) * 4 + t.val / 32]
      ∧ win0_2.index t = ![t.val % 8, (t.val / 8 % 4) * 4 + t.val / 32]
      ∧ win0_3.index t = ![t.val % 8 - 1, (t.val / 8 % 4) * 4 + t.val / 32]
      ∧ win0_4.index t = ![t.val % 8, (t.val / 8 % 4) * 4 + t.val / 32]
      ∧ win0_5.index t = ![t.val / 32, 0, 0]
      ∧ win0_6.index t = ![t.val / 32, 0, 0]
      ∧ win0_7.index t = ![t.val % 8, (t.val / 8 % 4) * 4 + t.val / 32]
      ∧ win0_8.index t = ![t.val % 8, (t.val / 8 % 4) * 4 + t.val / 32]
      ∧ t.val / 32 < 4 ∧ (grid0.coords t 2).val = t.val % 8 :=
  (by decide +kernel : ∀ t : Fin grid0.N, _)

/-- The same for the output windows. -/
theorem idxO : ∀ t : Fin cfg0.N,
    win0_9.index t = ![t.val % 8, (t.val / 8 % 4) * 4 + t.val / 32]
      ∧ win0_10.index t = ![t.val % 8, (t.val / 8 % 4) * 4 + t.val / 32]
      ∧ win0_11.index t = ![t.val % 8, (t.val / 8 % 4) * 4 + t.val / 32]
      ∧ win0_12.index t = ![t.val % 8, (t.val / 8 % 4) * 4 + t.val / 32]
      ∧ win0_13.index t = ![t.val % 8, (t.val / 8 % 4) * 4 + t.val / 32]
      ∧ win0_14.index t = ![t.val / 32, 0, 0]
      ∧ win0_15.index t = ![t.val / 32, 0, 0] :=
  (by decide +kernel : ∀ t : Fin grid0.N, _)

/-- The two halves of the rows the kernel reads, and of the bias. -/
theorem row_lo (x : Fin 4096 → Fin 512 → ℝ) (r h : Fin 4) (n : Fin 8) (j e : Fin 128) :
    x ⟨((n.val - 1) * 128 + j.val) * 4 + r.val, by omega⟩ (Args.col h e) = Args.rows x r h n (lo j) e := by
  have := j.isLt
  unfold Args.rows lo
  refine congrArg (fun y => x y (Args.col h e)) (Fin.ext ?_)
  simp only
  split <;> omega
theorem row_hi (x : Fin 4096 → Fin 512 → ℝ) (r h : Fin 4) (n : Fin 8) (j e : Fin 128) :
    x (Args.tok r n j) (Args.col h e) = Args.rows x r h n (hi j) e := by
  have := j.isLt
  unfold Args.rows hi Args.tok
  refine congrArg (fun y => x y (Args.col h e)) (Fin.ext ?_)
  simp only
  split <;> omega
theorem bias_hi (A : Args) (r h : Fin 4) (n : Fin 8) (i j : Fin 128) :
    A.bc h i j = (A.blockK r h n).b i (hi j) := by
  have := j.isLt
  unfold Args.blockK Args.block hi
  dsimp only
  rw [dif_neg (by omega)]
  exact congrArg (A.bc h i) (Fin.ext (by simp only; omega))
theorem bias_lo (A : Args) (r h : Fin 4) (n : Fin 8) (i j : Fin 128) :
    A.bp h i j = (A.blockK r h n).b i (lo j) := by
  unfold Args.blockK Args.block lo
  dsimp only
  rw [dif_pos j.isLt]

/-- The class, head and block of a point. -/
def cls (t : Fin cfg0.N) : Fin 4 := ⟨t.val / 8 % 4, by omega⟩
def head (t : Fin cfg0.N) : Fin 4 := ⟨t.val / 32, (idx t).2.2.2.2.2.2.2.2.2.1⟩
def blkNo (t : Fin cfg0.N) : Fin 8 := ⟨t.val % 8, by omega⟩

/-- What a point reads. -/
def ops (c : Dev nD) (t : Fin cfg0.N) : Ops :=
  ⟨grid0.coords t, iblk m c 0 t, iblk m c 1 t, iblk m c 2 t, iblk m c 3 t, iblk m c 4 t, iblk m c 5 t, iblk m c 6 t,
    iblk m c 7 t, iblk m c 8 t⟩

/-! ## The blocks a point reads, as elements of the arguments -/

theorem read0 (c : Dev nD) (t : Fin cfg0.N) (i e : Fin 128) : iblk m c 0 t (ix2 i e)
    = m ((c : Thread nD τ).loc main_arg0) (ix2 (Args.tok (cls t) (blkNo t) i) (Args.col (head t) e)) := by
  have h := (idx t).2.2.2.2.2.2.2.2.2.1
  blk_ext! [iblk, idx t, Args.tok, Args.col, cls, head, blkNo]
theorem read1 (c : Dev nD) (t : Fin cfg0.N) (i e : Fin 128) : iblk m c 1 t (ix2 i e)
    = m ((c : Thread nD τ).loc main_arg1) (ix2 ⟨(((blkNo t).val - 1) * 128 + i.val) * 4 + (cls t).val, by omega⟩ (Args.col (head t) e)) := by
  have h := (idx t).2.2.2.2.2.2.2.2.2.1
  blk_ext! [iblk, idx t, Args.tok, Args.col, cls, head, blkNo]
theorem read2 (c : Dev nD) (t : Fin cfg0.N) (i e : Fin 128) : iblk m c 2 t (ix2 i e)
    = m ((c : Thread nD τ).loc main_arg1) (ix2 (Args.tok (cls t) (blkNo t) i) (Args.col (head t) e)) := by
  have h := (idx t).2.2.2.2.2.2.2.2.2.1
  blk_ext! [iblk, idx t, Args.tok, Args.col, cls, head, blkNo]
theorem read3 (c : Dev nD) (t : Fin cfg0.N) (i e : Fin 128) : iblk m c 3 t (ix2 i e)
    = m ((c : Thread nD τ).loc main_arg2) (ix2 ⟨(((blkNo t).val - 1) * 128 + i.val) * 4 + (cls t).val, by omega⟩ (Args.col (head t) e)) := by
  have h := (idx t).2.2.2.2.2.2.2.2.2.1
  blk_ext! [iblk, idx t, Args.tok, Args.col, cls, head, blkNo]
theorem read4 (c : Dev nD) (t : Fin cfg0.N) (i e : Fin 128) : iblk m c 4 t (ix2 i e)
    = m ((c : Thread nD τ).loc main_arg2) (ix2 (Args.tok (cls t) (blkNo t) i) (Args.col (head t) e)) := by
  have h := (idx t).2.2.2.2.2.2.2.2.2.1
  blk_ext! [iblk, idx t, Args.tok, Args.col, cls, head, blkNo]
theorem read7 (c : Dev nD) (t : Fin cfg0.N) (i e : Fin 128) : iblk m c 7 t (ix2 i e)
    = m ((c : Thread nD τ).loc main_arg5) (ix2 (Args.tok (cls t) (blkNo t) i) (Args.col (head t) e)) := by
  have h := (idx t).2.2.2.2.2.2.2.2.2.1
  blk_ext! [iblk, idx t, Args.tok, Args.col, cls, head, blkNo]
theorem read8 (c : Dev nD) (t : Fin cfg0.N) (i e : Fin 128) : iblk m c 8 t (ix2 i e)
    = m ((c : Thread nD τ).loc main_arg6) (ix2 (Args.tok (cls t) (blkNo t) i) (Args.col (head t) e)) := by
  have h := (idx t).2.2.2.2.2.2.2.2.2.1
  blk_ext! [iblk, idx t, Args.tok, Args.col, cls, head, blkNo]
theorem read5 (c : Dev nD) (t : Fin cfg0.N) (i j : Fin 128) : iblk m c 5 t (ix3 0 i j)
    = m ((c : Thread nD τ).loc main_arg3) (ix3 (head t) i j) := by
  have h := (idx t).2.2.2.2.2.2.2.2.2.1
  blk_ext! [iblk, V, idx t, head]
theorem read6 (c : Dev nD) (t : Fin cfg0.N) (i j : Fin 128) : iblk m c 6 t (ix3 0 i j)
    = m ((c : Thread nD τ).loc main_arg4) (ix3 (head t) i j) := by
  have h := (idx t).2.2.2.2.2.2.2.2.2.1
  blk_ext! [iblk, V, idx t, head]

variable {m} {A : Args} {c : Dev nD} (H : Given A m c)
include H

/-- The operands of a point are the model's block. -/
theorem holds (t : Fin cfg0.N) : Holds (A.blockK (cls t) (head t) (blkNo t)) (ops m c t) where
  n := (idx t).2.2.2.2.2.2.2.2.2.2
  scale := H.scale
  q i e := (read0 m c t i e).trans (H.q _ _)
  kp j e := (read1 m c t j e).trans ((H.k _ _).trans (congrArg _ (row_lo A.k _ _ _ _ _)))
  kc j e := (read2 m c t j e).trans ((H.k _ _).trans (congrArg _ (row_hi A.k _ _ _ _ _)))
  vp j e := (read3 m c t j e).trans ((H.v _ _).trans (congrArg _ (row_lo A.v _ _ _ _ _)))
  vc j e := (read4 m c t j e).trans ((H.v _ _).trans (congrArg _ (row_hi A.v _ _ _ _ _)))
  bp i j := (read5 m c t i j).trans ((H.bp _ _ _).trans (congrArg _ (bias_lo A _ _ _ _ _)))
  bc i j := (read6 m c t i j).trans ((H.bc _ _ _).trans (congrArg _ (bias_hi A _ _ _ _ _)))
  ct i e := (read7 m c t i e).trans (H.ct _ _)
  cl i e := (read8 m c t i e).trans (H.cl _ _)

/-! ## What a point leaves -/

omit H in
theorem pay4_at (v : Vec Ideal S128x128 .f32) (i j : Fin 128) : k0_pay4 (F := Ideal) v (ix3 0 i j) = v (ix2 i j) := by pointwise [k0_pay4]
omit H in
theorem pay5_at (v : Vec Ideal S128x128 .f32) (i j : Fin 128) : k0_pay5 (F := Ideal) v (ix3 0 i j) = v (ix2 i j) := by pointwise [k0_pay5]
omit H in
theorem pay6_at (v : Vec Ideal S128x128 .f32) (w : Vec Ideal S1x128x128 .f32) (i j : Fin 128) :
    k0_pay6 (F := Ideal) v w (ix3 0 i j) = (w (ix3 0 i j) : EReal) + v (ix2 i j) := by pointwise [k0_pay6]
omit H in
theorem pay7_at (v : Vec Ideal S128x128 .f32) (w : Vec Ideal S1x128x128 .f32) (i j : Fin 128) :
    k0_pay7 (F := Ideal) v w (ix3 0 i j) = (w (ix3 0 i j) : EReal) + v (ix2 i j) := by pointwise [k0_pay7]

omit H in
theorem out9_eq (t : Fin cfg0.N) : out9 m c t = (ops m c t).dq := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  by_cases h : t.val % 32 = 0
  · rw [out9_A m c t h]; unfold outA9 runA; frame_out
  · rw [out9_B m c t h]; unfold outB9 runB; frame_out

omit H in
theorem out10_eq (t : Fin cfg0.N) : out10 m c t = (ops m c t).dkp := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  by_cases h : t.val % 32 = 0
  · rw [out10_A m c t h]; unfold outA10 runA; frame_out
  · rw [out10_B m c t h]; unfold outB10 runB; frame_out

omit H in
theorem out11_eq (t : Fin cfg0.N) : out11 m c t = (ops m c t).dkc := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  by_cases h : t.val % 32 = 0
  · rw [out11_A m c t h]; unfold outA11 runA; frame_out
  · rw [out11_B m c t h]; unfold outB11 runB; frame_out

omit H in
theorem out12_eq (t : Fin cfg0.N) : out12 m c t = (ops m c t).dvp := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  by_cases h : t.val % 32 = 0
  · rw [out12_A m c t h]; unfold outA12 runA; frame_out
  · rw [out12_B m c t h]; unfold outB12 runB; frame_out

omit H in
theorem out13_eq (t : Fin cfg0.N) : out13 m c t = (ops m c t).dvc := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  by_cases h : t.val % 32 = 0
  · rw [out13_A m c t h]; unfold outA13 runA; frame_out
  · rw [out13_B m c t h]; unfold outB13 runB; frame_out

omit H in
theorem start14 (t : Fin cfg0.N) (h : t.val % 32 = 0) (i j : Fin 128) :
    (acc m c t.val t.isLt).1 (ix3 0 i j) = (ops m c t).dp (ix2 i j) := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  rw [acc_A m c t h]; dsimp only; unfold outA14 runA; frame_out
  exact pay4_at _ _ _

omit H in
theorem step14 (t : Fin cfg0.N) (h : ¬t.val % 32 = 0) (i j : Fin 128) :
    (acc m c t.val t.isLt).1 (ix3 0 i j) = ((accBefore m c t).1 (ix3 0 i j) : EReal) + (ops m c t).dp (ix2 i j) := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  rw [acc_B m c t h]; dsimp only; unfold outB14 runB; frame_out
  exact pay6_at _ _ _ _

omit H in
theorem start15 (t : Fin cfg0.N) (h : t.val % 32 = 0) (i j : Fin 128) :
    (acc m c t.val t.isLt).2 (ix3 0 i j) = (ops m c t).dc (ix2 i j) := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  rw [acc_A m c t h]; dsimp only; unfold outA15 runA; frame_out
  exact pay5_at _ _ _

omit H in
theorem step15 (t : Fin cfg0.N) (h : ¬t.val % 32 = 0) (i j : Fin 128) :
    (acc m c t.val t.isLt).2 (ix3 0 i j) = ((accBefore m c t).2 (ix3 0 i j) : EReal) + (ops m c t).dc (ix2 i j) := by
  dsimp only [ops, Ops.sc, Ops.cs, Ops.pp, Ops.ps, Ops.mx, Ops.ce, Ops.cw, Ops.pe, Ops.pw, Ops.ll, Ops.gg, Ops.ee, Ops.dp, Ops.dc, Ops.dqp, Ops.dq, Ops.dkp, Ops.dkc, Ops.dvp, Ops.dvc]
  rw [acc_B m c t h]; dsimp only; unfold outB15 runB; frame_out
  exact pay7_at _ _ _ _

end Cert.AttnValue

end
-- ==== Proof.AttnValue.lean ====
/- The kernel's arrays after its run, on finite arguments: each block of the five arrays of rows is the model's gradient
   of that block, and the bias gradient's block of a head holds, after its 32 points, the sum of the scores' gradients
   over the classes and their blocks. -/
module
public import proofs.«01_k».proof.Proof.AttnPoint
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.AttnValue
open Cert.KernelIdeal Cert.KernelIdeal.Gen Cert.AttnRun Cert.Model Cert.KernelRows

variable {m : (ℓ : Loc nD τ sig) → Buf (Elt Ideal) ℓ} {A : Args} {c : Dev nD} (H : Given A m c)
include H

/-! ## The five arrays of rows -/

omit H in
/-- A gradient at a place of a point's block is the gradient at that element of the array. -/
theorem at_point (f : Block → Fin 128 → Fin 128 → ℝ) (t : Fin cfg0.N) (i e : Fin 128) (R : Fin 1024) (C : Fin 2048)
    (hR : R.val = t.val % 8 * 128 + i.val) (hC : C.val = (t.val / 8 % 4 * 4 + t.val / 32) * 128 + e.val) :
    f (A.block (cls t) (head t) (blkNo t)) i e
      = f (A.at_ R C) ⟨R.val % 128, Nat.mod_lt _ (by decide)⟩ ⟨C.val % 128, Nat.mod_lt _ (by decide)⟩ := by
  have h := (idx t).2.2.2.2.2.2.2.2.2.1
  have e1 : cls t = ⟨C.val / 512, by omega⟩ := Fin.ext (by unfold cls; simp only; omega)
  have e2 : head t = ⟨C.val % 512 / 128, by omega⟩ := Fin.ext (by unfold head; simp only; omega)
  have e3 : blkNo t = ⟨R.val / 128, by omega⟩ := Fin.ext (by unfold blkNo; simp only; omega)
  have e4 : i = ⟨R.val % 128, Nat.mod_lt _ (by decide)⟩ := Fin.ext (by simp only; omega)
  have e5 : e = ⟨C.val % 128, Nat.mod_lt _ (by decide)⟩ := Fin.ext (by simp only; omega)
  unfold Args.at_
  rw [← e1, ← e2, ← e3, ← e4, ← e5]

theorem final9 (R : Fin 1024) (C : Fin 2048) :
    (dats m 0 c).arrAt 9 (cfgs 0).N (ix2 R C) = ((A.dq R C : ℝ) : EReal) := by
  have e : (dats m 0 c).arrAt 9 (cfgs 0).N = fun y => ((A.dq (y 0) (y 1) : ℝ) : EReal) := by
    refine (dats m 0 c).arrAt_eq_of_covers 9 _ (by decide +kernel) fun t _ y => ?_
    blk_simp
    rw [after9, out9_eq]
    idx_vars y
    refine (dq_at (holds H t) y0 y1).trans (congrArg _ (((A.agree _ _ _).DQ _ _).trans ?_))
    refine at_point (fun B i e => B.DQ i e) t y0 y1 _ _ ?_ ?_
    · blk_ext [idxO t]
    · blk_ext [idxO t]
  exact congrFun e _

theorem final10 (R : Fin 1024) (C : Fin 2048) :
    (dats m 0 c).arrAt 10 (cfgs 0).N (ix2 R C) = ((A.dkp R C : ℝ) : EReal) := by
  have e : (dats m 0 c).arrAt 10 (cfgs 0).N = fun y => ((A.dkp (y 0) (y 1) : ℝ) : EReal) := by
    refine (dats m 0 c).arrAt_eq_of_covers 10 _ (by decide +kernel) fun t _ y => ?_
    blk_simp
    rw [after10, out10_eq]
    idx_vars y
    refine (dkp_at (holds H t) y0 y1).trans (congrArg _ (((A.agree _ _ _).DK _ _).trans ?_))
    refine at_point (fun B i e => B.DK (lo i) e) t y0 y1 _ _ ?_ ?_
    · blk_ext [idxO t]
    · blk_ext [idxO t]
  exact congrFun e _

theorem final11 (R : Fin 1024) (C : Fin 2048) :
    (dats m 0 c).arrAt 11 (cfgs 0).N (ix2 R C) = ((A.dkc R C : ℝ) : EReal) := by
  have e : (dats m 0 c).arrAt 11 (cfgs 0).N = fun y => ((A.dkc (y 0) (y 1) : ℝ) : EReal) := by
    refine (dats m 0 c).arrAt_eq_of_covers 11 _ (by decide +kernel) fun t _ y => ?_
    blk_simp
    rw [after11, out11_eq]
    idx_vars y
    refine (dkc_at (holds H t) y0 y1).trans (congrArg _ (((A.agree _ _ _).DK _ _).trans ?_))
    refine at_point (fun B i e => B.DK (hi i) e) t y0 y1 _ _ ?_ ?_
    · blk_ext [idxO t]
    · blk_ext [idxO t]
  exact congrFun e _

theorem final12 (R : Fin 1024) (C : Fin 2048) :
    (dats m 0 c).arrAt 12 (cfgs 0).N (ix2 R C) = ((A.dvp R C : ℝ) : EReal) := by
  have e : (dats m 0 c).arrAt 12 (cfgs 0).N = fun y => ((A.dvp (y 0) (y 1) : ℝ) : EReal) := by
    refine (dats m 0 c).arrAt_eq_of_covers 12 _ (by decide +kernel) fun t _ y => ?_
    blk_simp
    rw [after12, out12_eq]
    idx_vars y
    refine (dvp_at (holds H t) y0 y1).trans (congrArg _ (((A.agree _ _ _).DV _ _).trans ?_))
    refine at_point (fun B i e => B.DV (lo i) e) t y0 y1 _ _ ?_ ?_
    · blk_ext [idxO t]
    · blk_ext [idxO t]
  exact congrFun e _

theorem final13 (R : Fin 1024) (C : Fin 2048) :
    (dats m 0 c).arrAt 13 (cfgs 0).N (ix2 R C) = ((A.dvc R C : ℝ) : EReal) := by
  have e : (dats m 0 c).arrAt 13 (cfgs 0).N = fun y => ((A.dvc (y 0) (y 1) : ℝ) : EReal) := by
    refine (dats m 0 c).arrAt_eq_of_covers 13 _ (by decide +kernel) fun t _ y => ?_
    blk_simp
    rw [after13, out13_eq]
    idx_vars y
    refine (dvc_at (holds H t) y0 y1).trans (congrArg _ (((A.agree _ _ _).DV _ _).trans ?_))
    refine at_point (fun B i e => B.DV (hi i) e) t y0 y1 _ _ ?_ ?_
    · blk_ext [idxO t]
    · blk_ext [idxO t]
  exact congrFun e _

/-! ## The bias gradient -/

/-- One half of the bias gradient as an array. -/
def lay (A : Args) (f : Fin 128 → Fin 256) : FVec Ideal S4x128x128 .f32 := fun y => ((A.db (y 0) (y 1) (f (y 2)) : ℝ) : EReal)

/-- After a point the buffer holds the sum over the points of the head so far. -/
theorem accum14 (i j : Fin 128) (n : ℕ) (hn : n < cfg0.N) :
    (acc m c n hn).1 (ix3 0 i j)
      = ((∑ s ∈ Finset.range (n % 32 + 1), (A.block ⟨s / 8 % 4, by omega⟩ (head ⟨n, hn⟩) ⟨s % 8, by omega⟩).DS i (lo j) : ℝ) : EReal) := by
  induction n with
  | zero =>
    rw [start14 ⟨0, hn⟩ (Nat.zero_mod _) i j, dp_at (holds H ⟨0, hn⟩), (A.agree _ _ _).DS]
    refine congrArg _ ?_
    rw [Nat.zero_mod, Finset.sum_range_one]
    have e1 : cls ⟨0, hn⟩ = ⟨0 / 8 % 4, by omega⟩ := Fin.ext (by unfold cls; simp only)
    have e2 : blkNo ⟨0, hn⟩ = ⟨0 % 8, by omega⟩ := Fin.ext (by unfold blkNo; simp only)
    rw [e1, e2]
  | succ n ih =>
    have hp := dp_at (holds H ⟨n + 1, hn⟩) i j
    rw [(A.agree _ _ _).DS] at hp
    by_cases h : (n + 1) % 32 = 0
    · refine (start14 ⟨n + 1, hn⟩ h i j).trans (hp.trans (congrArg _ ?_))
      rw [h, Finset.sum_range_one]
      have e1 : cls ⟨n + 1, hn⟩ = ⟨0 / 8 % 4, by omega⟩ := Fin.ext (by unfold cls; simp only; omega)
      have e2 : blkNo ⟨n + 1, hn⟩ = ⟨0 % 8, by omega⟩ := Fin.ext (by unfold blkNo; simp only; omega)
      rw [e1, e2]
    · have ih' := ih (Nat.lt_of_succ_lt hn)
      refine (step14 ⟨n + 1, hn⟩ h i j).trans ?_
      have e0 : head ⟨n, Nat.lt_of_succ_lt hn⟩ = head ⟨n + 1, hn⟩ := Fin.ext (by unfold head; simp only; omega)
      have e1 : cls ⟨n + 1, hn⟩ = ⟨(n % 32 + 1) / 8 % 4, by omega⟩ := Fin.ext (by unfold cls; simp only; omega)
      have e2 : blkNo ⟨n + 1, hn⟩ = ⟨(n % 32 + 1) % 8, by omega⟩ := Fin.ext (by unfold blkNo; simp only; omega)
      rw [e0] at ih'
      rw [e1, e2] at hp
      rw [show (n + 1) % 32 + 1 = n % 32 + 1 + 1 by omega, Finset.sum_range_succ, EReal.coe_add]
      exact congrArg₂ (HAdd.hAdd : EReal → EReal → EReal) ih' hp

omit H in
/-- The bias gradient's block is written to its array after a head's last point. -/
theorem flush14 : ∀ t : Fin cfg0.N, (cfg0.win 14).flush t = true → t.val % 32 = 31 :=
  (by decide +kernel : ∀ t : Fin grid0.N, (cfg0.win 14).flush t = true → t.val % 32 = 31)

theorem final14 (h : Fin 4) (i j : Fin 128) :
    (dats m 0 c).arrAt 14 (cfgs 0).N (ix3 h i j) = ((A.db h i (lo j) : ℝ) : EReal) := by
  have e : (dats m 0 c).arrAt 14 (cfgs 0).N = lay A lo := by
    refine (dats m 0 c).arrAt_eq_of_covers 14 _ (by decide +kernel) fun t hf y => ?_
    have ht : t.val % 32 = 31 := flush14 t hf
    blk_simp
    rw [after14]
    idx_vars y
    refine Eq.trans (b := lay A lo (ix3 (head t) y1 y2)) ?_ (congrArg (lay A lo) ?_)
    · obtain rfl : y0 = 0 := Subsingleton.elim _ _
      refine (accum14 H y1 y2 t.val t.isLt).trans (congrArg _ ?_)
      rw [ht]
      exact sum_points fun r n => (A.block r (head t) n).DS y1 (lo y2)
    · blk_ext [idxO t, head]
  exact congrFun e _

/-- After a point the buffer holds the sum over the points of the head so far. -/
theorem accum15 (i j : Fin 128) (n : ℕ) (hn : n < cfg0.N) :
    (acc m c n hn).2 (ix3 0 i j)
      = ((∑ s ∈ Finset.range (n % 32 + 1), (A.block ⟨s / 8 % 4, by omega⟩ (head ⟨n, hn⟩) ⟨s % 8, by omega⟩).DS i (hi j) : ℝ) : EReal) := by
  induction n with
  | zero =>
    rw [start15 ⟨0, hn⟩ (Nat.zero_mod _) i j, dc_at (holds H ⟨0, hn⟩), (A.agree _ _ _).DS]
    refine congrArg _ ?_
    rw [Nat.zero_mod, Finset.sum_range_one]
    have e1 : cls ⟨0, hn⟩ = ⟨0 / 8 % 4, by omega⟩ := Fin.ext (by unfold cls; simp only)
    have e2 : blkNo ⟨0, hn⟩ = ⟨0 % 8, by omega⟩ := Fin.ext (by unfold blkNo; simp only)
    rw [e1, e2]
  | succ n ih =>
    have hp := dc_at (holds H ⟨n + 1, hn⟩) i j
    rw [(A.agree _ _ _).DS] at hp
    by_cases h : (n + 1) % 32 = 0
    · refine (start15 ⟨n + 1, hn⟩ h i j).trans (hp.trans (congrArg _ ?_))
      rw [h, Finset.sum_range_one]
      have e1 : cls ⟨n + 1, hn⟩ = ⟨0 / 8 % 4, by omega⟩ := Fin.ext (by unfold cls; simp only; omega)
      have e2 : blkNo ⟨n + 1, hn⟩ = ⟨0 % 8, by omega⟩ := Fin.ext (by unfold blkNo; simp only; omega)
      rw [e1, e2]
    · have ih' := ih (Nat.lt_of_succ_lt hn)
      refine (step15 ⟨n + 1, hn⟩ h i j).trans ?_
      have e0 : head ⟨n, Nat.lt_of_succ_lt hn⟩ = head ⟨n + 1, hn⟩ := Fin.ext (by unfold head; simp only; omega)
      have e1 : cls ⟨n + 1, hn⟩ = ⟨(n % 32 + 1) / 8 % 4, by omega⟩ := Fin.ext (by unfold cls; simp only; omega)
      have e2 : blkNo ⟨n + 1, hn⟩ = ⟨(n % 32 + 1) % 8, by omega⟩ := Fin.ext (by unfold blkNo; simp only; omega)
      rw [e0] at ih'
      rw [e1, e2] at hp
      rw [show (n + 1) % 32 + 1 = n % 32 + 1 + 1 by omega, Finset.sum_range_succ, EReal.coe_add]
      exact congrArg₂ (HAdd.hAdd : EReal → EReal → EReal) ih' hp

omit H in
/-- The bias gradient's block is written to its array after a head's last point. -/
theorem flush15 : ∀ t : Fin cfg0.N, (cfg0.win 15).flush t = true → t.val % 32 = 31 :=
  (by decide +kernel : ∀ t : Fin grid0.N, (cfg0.win 15).flush t = true → t.val % 32 = 31)

theorem final15 (h : Fin 4) (i j : Fin 128) :
    (dats m 0 c).arrAt 15 (cfgs 0).N (ix3 h i j) = ((A.db h i (hi j) : ℝ) : EReal) := by
  have e : (dats m 0 c).arrAt 15 (cfgs 0).N = lay A hi := by
    refine (dats m 0 c).arrAt_eq_of_covers 15 _ (by decide +kernel) fun t hf y => ?_
    have ht : t.val % 32 = 31 := flush15 t hf
    blk_simp
    rw [after15]
    idx_vars y
    refine Eq.trans (b := lay A hi (ix3 (head t) y1 y2)) ?_ (congrArg (lay A hi) ?_)
    · obtain rfl : y0 = 0 := Subsingleton.elim _ _
      refine (accum15 H y1 y2 t.val t.isLt).trans (congrArg _ ?_)
      rw [ht]
      exact sum_points fun r n => (A.block r (head t) n).DS y1 (hi y2)
    · blk_ext [idxO t, head]
  exact congrFun e _

end Cert.AttnValue

end
-- ==== Proof.RefRows.lean ====
/- What the reference of the attention gradient computes, as real numbers: on finite arguments (`Holds`) each of its
   terms at one element is the model's. The maximum of a row is a real that some key attains; the gradient that the
   derivative sends through it is the row sum of the scores' gradient less itself, divided by the number of keys that
   attain the maximum, and so zero. -/
module
public import proofs.«01_k».proof.Proof.Model
public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.RefRows

open Cert.ReferenceIdeal Cert.ReferenceIdeal.Gen Cert.ReferenceIdeal.Value
open Cert.Model

/-- The arguments are the reals of `A`. -/
structure Holds (A : Args) (V : Valuation τ sig (Elt Ideal)) : Prop where
  scale : Ideal.ofBits .f32 1035273459#32 = (A.scale : EReal)
  q : ∀ t e, V (Proc.devRef .tc main_arg0) (ix2 t e) = (A.q t e : EReal)
  k : ∀ t e, V (Proc.devRef .tc main_arg1) (ix2 t e) = (A.k t e : EReal)
  v : ∀ t e, V (Proc.devRef .tc main_arg2) (ix2 t e) = (A.v t e : EReal)
  bp : ∀ h i j, V (Proc.devRef .tc main_arg3) (ix3 h i j) = (A.bp h i j : EReal)
  bc : ∀ h i j, V (Proc.devRef .tc main_arg4) (ix3 h i j) = (A.bc h i j : EReal)
  ct : ∀ t e, V (Proc.devRef .tc main_arg5) (ix2 t e) = (A.ct t e : EReal)
  cl : ∀ t e, V (Proc.devRef .tc main_arg6) (ix2 t e) = (A.cl t e : EReal)

/-! ## Two reductions -/

/-- The indices that drop to `ix4 r h n i` along the last axis. -/
theorem fiber4 (r h : Fin 4) (n : Fin 8) (i : Fin 128) (a : S4x4x8x128x256.Idx) :
    reducesTo_S4x4x8x128x256_S4x4x8x128_d4.drop a = ix4 r h n i ↔ ∃ k : Fin 256, ix5 r h n i k = a := by
  constructor
  · intro e
    refine ⟨a 4, ?_⟩
    funext b; apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext b; apply Fin.ext
    match b with
    | ⟨0, _⟩ => rfl
    | ⟨1, _⟩ => rfl
    | ⟨2, _⟩ => rfl
    | ⟨3, _⟩ => rfl

/-- The sum over the first and third axes of a rank-5 array, at one element. -/
theorem sum02 {n0 n2 : ℕ} (h : (⟨5, ![n0, 4, n2, 128, 256]⟩ : Shape).ReducesTo [0, 2] ⟨3, ![4, 128, 256]⟩)
    (v : (⟨5, ![n0, 4, n2, 128, 256]⟩ : Shape).Idx → EReal) (a : Fin 4) (i : Fin 128) (j : Fin 256) :
    Ideal.hostReduceAdd h v 0 (ix3 a i j) = ∑ r : Fin n0, ∑ n : Fin n2, v (ix5 r a n i j) := by
  refine (zero_add _).trans ?_
  refine (Finset.sum_filter_eq_sum_of_fiber _ (fun k : Fin n0 × Fin n2 => ix5 k.1 a k.2 i j)
    (fun _ _ e => Prod.ext (congrFun e 0) (congrFun e 2)) (fun b => ?_) v).trans ?_
  · constructor
    · intro e
      refine ⟨(b 0, b 2), ?_⟩
      funext d; apply Fin.ext
      match d with
      | ⟨0, _⟩ => rfl
      | ⟨1, _⟩ => exact (congrArg Fin.val (congrFun e 0)).symm
      | ⟨2, _⟩ => rfl
      | ⟨3, _⟩ => exact (congrArg Fin.val (congrFun e 1)).symm
      | ⟨4, _⟩ => exact (congrArg Fin.val (congrFun e 2)).symm
    · rintro ⟨k, rfl⟩
      funext d; apply Fin.ext
      match d with
      | ⟨0, _⟩ => rfl
      | ⟨1, _⟩ => rfl
      | ⟨2, _⟩ => rfl
  · simp only [Fintype.sum_prod_type]

theorem select_mask (p : Prop) [Decidable p] (a b : EReal) :
    (Scalar.select (if p then 1#1 else 0#1) a b : EReal) = if p then a else b := by
  split_ifs <;> rfl

/-- The word of a query's distance to a key, 128 + i − j, lies between 0 and 128. -/
theorem band (i : Fin 128) (j : Fin 256) :
    IntOp.andi
        (IntOp.cmpi CmpIPredicate.sge (IntOp.subi (IntOp.addi (128#32) (BitVec.ofNat 32 i.val)) (BitVec.ofNat 32 j.val)) 0#32)
        (IntOp.cmpi CmpIPredicate.sle (IntOp.subi (IntOp.addi (128#32) (BitVec.ofNat 32 i.val)) (BitVec.ofNat 32 j.val)) 128#32)
      = BitVec.ofBool (decide (i.val ≤ j.val ∧ j.val ≤ 128 + i.val)) := by
  by_cases h : j.val ≤ 128 + i.val
  · have e : IntOp.subi (IntOp.addi (128#32) (BitVec.ofNat 32 i.val)) (BitVec.ofNat 32 j.val)
        = BitVec.ofNat 32 (128 + i.val - j.val) := by
      apply BitVec.eq_of_toNat_eq
      simp only [IntOp.subi, IntOp.addi, BitVec.toNat_sub, BitVec.toNat_add, BitVec.toNat_ofNat]
      omega
    rw [e, show (0#32) = BitVec.ofNat 32 0 from rfl, WordCmp.cmpi_sge_ofNat (by omega) (by omega),
      WordCmp.cmpi_sle_ofNat (by omega) (by omega), decide_eq_true (Nat.zero_le _)]
    by_cases h' : i.val ≤ j.val
    · rw [decide_eq_true (show 128 + i.val - j.val ≤ 128 by omega), decide_eq_true ⟨h', h⟩]; rfl
    · rw [decide_eq_false (show ¬ 128 + i.val - j.val ≤ 128 by omega), decide_eq_false (fun h'' => h' h''.1)]; rfl
  · have e : (IntOp.subi (IntOp.addi (128#32) (BitVec.ofNat 32 i.val)) (BitVec.ofNat 32 j.val)).toNat
        = 2 ^ 32 - (j.val - 128 - i.val) := by
      simp only [IntOp.subi, IntOp.addi, BitVec.toNat_sub, BitVec.toNat_add, BitVec.toNat_ofNat]
      omega
    rw [WordCmp.cmpi_sge_zero, e, decide_eq_false (show ¬ 2 ^ 32 - (j.val - 128 - i.val) < 2 ^ (32 - 1) by omega),
      decide_eq_false (fun h'' => h h''.2)]
    exact BitVec.zero_and

theorem first (n : Fin 8) (j : Fin 256) :
    IntOp.andi (IntOp.cmpi CmpIPredicate.eq (BitVec.ofNat 32 n.val) 0#32)
        (IntOp.cmpi CmpIPredicate.slt (BitVec.ofNat 32 j.val) 128#32)
      = BitVec.ofBool (decide (n.val = 0 ∧ j.val < 128)) := by
  rw [show (0#32) = BitVec.ofNat 32 0 from rfl, WordCmp.cmpi_eq_ofNat (by omega) (by omega),
    WordCmp.cmpi_slt_ofNat (by omega) (by omega)]
  by_cases h : n.val = 0 <;> by_cases h' : j.val < 128 <;> simp [h, h', IntOp.andi]

/-- A row of scores. -/
def row (V : Valuation τ sig (Elt Ideal)) (r h : Fin 4) (n : Fin 8) (i : Fin 128) : Fin 256 → EReal :=
  fun j => res_main_v62_0 V (ix5 r h n i j)

variable {A : Args} {V : Valuation τ sig (Elt Ideal)} (H : Holds A V)
variable (r h : Fin 4) (n : Fin 8)

/-- The mask is the model's. -/
theorem mask_at (i : Fin 128) (j : Fin 256) :
    res_main_v62_1 V (ix5 r h n i j) = if (A.block r h n).Reads i j then 1#1 else 0#1 := by
  pointwise [res_main_v62_1, res_main_v36, res_main_v31]
  rw [band, first]
  have hp : (A.block r h n).Reads i j ↔ (i.val ≤ j.val ∧ j.val ≤ 128 + i.val) ∧ ¬(n.val = 0 ∧ j.val < 128) :=
    ⟨fun x => ⟨⟨x.1, x.2.1⟩, x.2.2⟩, fun x => ⟨x.1.1, x.1.2, x.2⟩⟩
  by_cases h1 : i.val ≤ j.val ∧ j.val ≤ 128 + i.val
  · by_cases h2 : n.val = 0 ∧ j.val < 128
    · rw [decide_eq_true h1, decide_eq_true h2, if_neg (fun x => (hp.1 x).2 h2)]; rfl
    · rw [decide_eq_true h1, decide_eq_false h2, if_pos (hp.2 ⟨h1, h2⟩)]; rfl
  · rw [decide_eq_false h1, if_neg (fun x => h1 (hp.1 x).1)]; exact BitVec.zero_and

section
include H

/-! ## The blocks -/

theorem q_at (i e : Fin 128) : res_main_v10 V (ix5 r h n i e) = ((A.block r h n).q i e : EReal) := by
  pointwise [res_main_v10]
  exact H.q _ _

theorem ct_at (i e : Fin 128) : res_main_v100 V (ix5 r h n i e) = ((A.block r h n).ct i e : EReal) := by
  pointwise [res_main_v100]
  exact H.ct _ _

theorem k_at (j : Fin 256) (e : Fin 128) : res_main_v17 V (ix5 r h n j e) = ((A.block r h n).k j e : EReal) := by
  pointwise [res_main_v17]
  by_cases h0 : 128 ≤ n.val * 128 + j.val
  · rw [show (A.block r h n).k j e = A.k ⟨(n.val * 128 + j.val - 128) * 4 + r.val, by omega⟩ (Args.col h e) from dif_pos h0]
    split_ifs <;> first
    | omega
    | exact (H.k _ _).trans (congrArg (fun z : ℝ => (z : EReal)) (congrArg₂ A.k (Fin.ext (by simp only; omega)) rfl))
  · rw [show (A.block r h n).k j e = 0 from dif_neg h0]
    split_ifs <;> first | rfl | omega

theorem v_at (j : Fin 256) (e : Fin 128) : res_main_v24 V (ix5 r h n j e) = ((A.block r h n).v j e : EReal) := by
  pointwise [res_main_v24]
  by_cases h0 : 128 ≤ n.val * 128 + j.val
  · rw [show (A.block r h n).v j e = A.v ⟨(n.val * 128 + j.val - 128) * 4 + r.val, by omega⟩ (Args.col h e) from dif_pos h0]
    split_ifs <;> first
    | omega
    | exact (H.v _ _).trans (congrArg (fun z : ℝ => (z : EReal)) (congrArg₂ A.v (Fin.ext (by simp only; omega)) rfl))
  · rw [show (A.block r h n).v j e = 0 from dif_neg h0]
    split_ifs <;> first | rfl | omega

/-! ## The scores, their maximum and the weights -/

theorem s_at (i : Fin 128) (j : Fin 256) : res_main_v62_0 V (ix5 r h n i j)
    = if (A.block r h n).Reads i j then (((A.block r h n).S i j : ℝ) : EReal) else ⊥ := by
  pointwise [res_main_v62_0]
  rw [mask_at (A := A), select_mask, coe_dot (q_at H r h n i) (k_at H r h n j), H.scale]
  refine if_congr Iff.rfl ?_ ninf_bot
  rw [Block.S, EReal.coe_add, EReal.coe_mul]
  refine congrArg₂ (HAdd.hAdd : EReal → EReal → EReal) rfl ?_
  by_cases hj : j.val < 128
  · rw [show (A.block r h n).b i j = A.bp h i ⟨j.val, hj⟩ from dif_pos hj, dif_pos hj]
    exact H.bp _ _ _
  · rw [show (A.block r h n).b i j = A.bc h i ⟨j.val - 128, by omega⟩ from dif_neg hj, dif_neg hj]
    exact H.bc _ _ _

/-- The maximum of a row is a real that some key attains. -/
theorem m_at (i : Fin 128) : ∃ μ : ℝ, res_main_v63 V (ix4 r h n i) = (μ : EReal)
    ∧ ∃ j, res_main_v62_0 V (ix5 r h n i j) = res_main_v63 V (ix4 r h n i) := by
  have e : Finset.fold max (⊥ : EReal) (row V r h n i) Finset.univ = res_main_v63 V (ix4 r h n i) := by
    symm
    pointwise [res_main_v63]
    rw [ninf_bot]
    exact Finset.fold_filter_eq_fold_of_fiber max _ (fun k : Fin 256 => ix5 r h n i k) (fun _ _ e => congrFun e 4)
      (fiber4 r h n i) _ _
  rw [← e]
  exact max_attained (row V r h n i) _ _ (s_at H r h n i) _ ((A.block r h n).reads_diag i)

/-- The factor that the shift leaves on the weights of a row. -/
def kap (i : Fin 128) : ℝ := Real.exp (-(m_at H r h n i).choose)
theorem kap_ne (i : Fin 128) : kap H r h n i ≠ 0 := (Real.exp_pos _).ne'
theorem kapL_ne (i : Fin 128) : kap H r h n i * (A.block r h n).L i ≠ 0 := mul_ne_zero (kap_ne H r h n i) (Block.L_ne _ i)

theorem w_at (i : Fin 128) (j : Fin 256) :
    res_main_v72 V (ix5 r h n i j) = ((kap H r h n i * (A.block r h n).W i j : ℝ) : EReal) := by
  have hm : res_main_v69 V (ix5 r h n i 0) = (((m_at H r h n i).choose : ℝ) : EReal) := by
    pointwise [res_main_v69]
    exact (m_at H r h n i).choose_spec.1
  pointwise [res_main_v72]
  refine (congrArg₂ (fun x y : EReal => Ideal.exp (x - y)) (s_at H r h n i j) hm).trans ?_
  by_cases hr : (A.block r h n).Reads i j
  · rw [if_pos hr, ← EReal.coe_sub, Ideal.exp_coe, Block.W, if_pos hr, kap, ← Real.exp_add]
    exact congrArg (fun x : ℝ => ((Real.exp x : ℝ) : EReal)) (by ring)
  · rw [if_neg hr, Block.W, if_neg hr, mul_zero, EReal.bot_sub, Ideal.exp_bot]; rfl

/-! ## The row sums -/

theorem l_at (i : Fin 128) : res_main_v74 V (ix5 r h n i 0) = ((kap H r h n i * (A.block r h n).L i : ℝ) : EReal) := by
  pointwise [res_main_v74]
  rw [Block.L, Finset.mul_sum]
  exact sum_coe (w_at H r h n i)

theorem ev_at (i e : Fin 128) : res_main_v75 V (ix5 r h n i e) = ((kap H r h n i * (A.block r h n).EV i e : ℝ) : EReal) := by
  pointwise [res_main_v75]
  rw [Block.EV, Finset.mul_sum]
  refine (coe_dot (w_at H r h n i) fun x => v_at H r h n x e).trans ?_
  simp only [mul_assoc]

theorem g_at (i : Fin 128) : res_main_v101 V (ix5 r h n i 0) = (((A.block r h n).G i : ℝ) : EReal) := by
  pointwise [res_main_v101]
  rw [Fin.sum_univ_one]
  exact sum_coe fun x => H.cl _ _

theorem ctl_at (i e : Fin 128) : res_main_v111 V (ix5 r h n i e)
    = (((A.block r h n).ct i e / (kap H r h n i * (A.block r h n).L i) : ℝ) : EReal) := by
  pointwise [res_main_v111]
  rw [ct_at H, l_at H, coe_div (kapL_ne H r h n i)]

/-! ## The gradient of the scores -/

theorem ds0_at (i : Fin 128) (j : Fin 256) : res_main_v118 V (ix5 r h n i j) = (((A.block r h n).DS i j : ℝ) : EReal) := by
  pointwise [res_main_v118]
  rw [Fin.sum_univ_one, coe_dot (ctl_at H r h n i) (v_at H r h n j), g_at H,
    sum_coe fun x => mul3_coe (ct_at H r h n i x) (inv_sq_coe (l_at H r h n i) (kapL_ne H r h n i)) (ev_at H r h n i x),
    l_at H, coe_div (kapL_ne H r h n i), w_at H,
    ← EReal.coe_neg, ← EReal.coe_add, ← EReal.coe_add, ← EReal.coe_mul, ← sub_eq_add_neg,
    (A.block r h n).ds_of_shift (kap_ne H r h n i)]

/-- Whether a key attains the maximum, as a number. -/
theorem top_at (i : Fin 128) (j : Fin 256) : res_main_v67 V (ix5 r h n i j)
    = (((if res_main_v62_0 V (ix5 r h n i j) = res_main_v63 V (ix4 r h n i) then 1 else 0 : ℝ)) : EReal) := by
  pointwise [res_main_v67]
  by_cases e : res_main_v62_0 V (ix5 r h n i j) = res_main_v63 V (ix4 r h n i)
  · rw [if_pos e, decide_eq_true e]; exact congrArg (fun x : ℝ => (x : EReal)) (by simp)
  · rw [if_neg e, decide_eq_false e]; exact congrArg (fun x : ℝ => (x : EReal)) (by simp)

theorem ds_at (i : Fin 128) (j : Fin 256) : res_main_v128 V (ix5 r h n i j) = (((A.block r h n).DS i j : ℝ) : EReal) := by
  pointwise [res_main_v128]
  rw [mask_at (A := A), select_mask]
  split_ifs with hr
  · obtain ⟨μ, -, j0, hj0⟩ := m_at H r h n i
    have hc : (∑ x, (if res_main_v62_0 V (ix5 r h n i x) = res_main_v63 V (ix4 r h n i) then 1 else 0 : ℝ)) ≠ 0 := by
      refine (Finset.sum_pos' (fun x _ => ?_) ⟨j0, Finset.mem_univ _, ?_⟩).ne'
      · split_ifs <;> norm_num
      · rw [if_pos hj0]; norm_num
    have hn : (∑ x, -(A.block r h n).DS i x) = -(A.block r h n).G i := by
      rw [Finset.sum_neg_distrib, Block.sum_ds]
    rw [Fin.sum_univ_one, sum_coe fun x => neg_coe (ds0_at H r h n i x), hn, g_at H, ← EReal.coe_add, add_neg_cancel,
      sum_coe (top_at H r h n i), coe_div hc, top_at H, ds0_at H,
      ← EReal.coe_mul, ← EReal.coe_add, zero_div, zero_mul, add_zero]
  · rw [Block.DS, Block.W, if_neg hr, zero_div, zero_mul]; rfl

/-! ## The results -/

theorem dk_at (j : Fin 256) (e : Fin 128) : res_main_v138 V (ix5 r h n j e) = (((A.block r h n).DK j e : ℝ) : EReal) := by
  pointwise [res_main_v138, res_main_v137]
  exact sum_coe fun x => mul3_coe (ds_at H r h n x j) H.scale (q_at H r h n x e)

theorem dv_at (j : Fin 256) (e : Fin 128) : res_main_v113 V (ix5 r h n j e) = (((A.block r h n).DV j e : ℝ) : EReal) := by
  pointwise [res_main_v113]
  refine (coe_dot (fun x => ctl_at H r h n x e) fun x => w_at H r h n x j).trans ?_
  rw [← (A.block r h n).dv_of_shift (κ := 1) one_ne_zero j e (kap H r h n) (kap_ne H r h n)]
  exact congrArg _ (Finset.sum_congr rfl fun x _ => mul_comm _ _)

theorem db_at (i : Fin 128) (j : Fin 256) : res_main_v133 V (ix3 h i j) = ((A.db h i j : ℝ) : EReal) := by
  pointwise [res_main_v133]
  rw [Fin.sum_univ_one]
  refine (sum02 _ _ h i j).trans ?_
  rw [Fin.sum_univ_one, Fin.sum_univ_one]
  pointwise []
  refine (sum02 _ _ h i j).trans ?_
  rw [Args.db, ← coe_sum]
  refine Finset.sum_congr rfl fun r _ => ?_
  rw [← coe_sum]
  exact Finset.sum_congr rfl fun n _ => ds_at H r h n i j

end

end Cert.RefRows

end
-- ==== Proof.Finite.lean ====
/- The precondition, element by element: an argument whose entries are all below infinity in absolute value has real
   entries. -/
module
public import proofs.«01_k».proof.Pre_finite
public import proofs.«01_k».proof.Proof.Gen.Pre_finite
public import Idealize.ShloMosaic.Lib.ReduceAll
public import Idealize.ShloMosaic.Lib.Pointwise

@[expose] public section

set_option maxRecDepth 16384

noncomputable section

open Idealize.ShloMosaic

namespace Cert.Finite

/-- The word of the bound is `+∞`. -/
theorem inf_top : Ideal.ofBits .f32 2139095040#32 = (⊤ : EReal) := by
  simp [Ideal.ofBits, Ideal.ieee]

/-- A number below infinity in absolute value is real. -/
theorem real_of_abs (x : EReal) (h : FloatOps.cmpf (F := Ideal) (φ := .f32) .olt (FloatOps.absf (F := Ideal) (φ := .f32) x) (Ideal.ofBits .f32 2139095040#32) = 1#1) :
    x = (x.toReal : EReal) := by
  rw [inf_top] at h
  refine (EReal.coe_toReal ?_ ?_).symm
  · rintro rfl
    exact absurd h (by simp [FloatOps.cmpf, FloatOps.absf, Ideal.cmp])
  · rintro rfl
    exact absurd h (by simp [FloatOps.cmpf, FloatOps.absf, Ideal.cmp])

open Cert.Pre_finite in
instance : Subsingleton S_.Idx := ⟨fun a b => funext fun i => i.elim0⟩

/-- The two words of a conjunction. -/
theorem and_one (a b : BitVec 1) (h : IntOp.andi a b = 1#1) : a = 1#1 ∧ b = 1#1 := by
  revert a b h; decide

open Cert.Pre_finite in
theorem rows_real (x : FVec Ideal S4096x512 .f32) (h1 : S_.BroadcastsInDim S4096x512 (![] : Fin 0 → Fin S4096x512.rank))
    (h2 : S4096x512.ReducesTo [0, 1] S_) (h3 : 0 < S_.numel) (j : S_.Idx)
    (h : Host.reduce IntOp.andi (cmpf .olt (Host.absf x) (broadcastInDim S4096x512 ![] h1 (constant S_ .f32 0x7F800000#32)))
      (constantI S_ 1 1#1) h2 h3 j = 1#1) (i : S4096x512.Idx) : x i = ((x i : EReal).toReal : EReal) :=
  real_of_abs _ (Host.reduce_andi_all _ _ _ _ j h i)

open Cert.Pre_finite in
theorem bias_real (x : FVec Ideal S4x128x128 .f32) (h1 : S_.BroadcastsInDim S4x128x128 (![] : Fin 0 → Fin S4x128x128.rank))
    (h2 : S4x128x128.ReducesTo [0, 1, 2] S_) (h3 : 0 < S_.numel) (j : S_.Idx)
    (h : Host.reduce IntOp.andi (cmpf .olt (Host.absf x) (broadcastInDim S4x128x128 ![] h1 (constant S_ .f32 0x7F800000#32)))
      (constantI S_ 1 1#1) h2 h3 j = 1#1) (i : S4x128x128.Idx) : x i = ((x i : EReal).toReal : EReal) :=
  real_of_abs _ (Host.reduce_andi_all _ _ _ _ j h i)

open Cert.Pre_finite in
/-- Under the precondition every entry of every argument is real. -/
theorem all_real [Facts] (q k v : FVec Ideal S4096x512 .f32) (bp bc : FVec Ideal S4x128x128 .f32) (ct cl : FVec Ideal S4096x512 .f32)
    (h : fn (F := Ideal) q k v bp bc ct cl = fun _ => 1#1) :
    (∀ i, q i = ((q i : EReal).toReal : EReal)) ∧ (∀ i, k i = ((k i : EReal).toReal : EReal)) ∧ (∀ i, v i = ((v i : EReal).toReal : EReal))
      ∧ (∀ i, bp i = ((bp i : EReal).toReal : EReal)) ∧ (∀ i, bc i = ((bc i : EReal).toReal : EReal))
      ∧ (∀ i, ct i = ((ct i : EReal).toReal : EReal)) ∧ (∀ i, cl i = ((cl i : EReal).toReal : EReal)) := by
  have e := congrFun h (fun i => i.elim0)
  dsimp only [fn, fn_part1] at e
  obtain ⟨e, h6⟩ := and_one _ _ e
  obtain ⟨e, h5⟩ := and_one _ _ e
  obtain ⟨e, h4⟩ := and_one _ _ e
  obtain ⟨e, h3⟩ := and_one _ _ e
  obtain ⟨e, h2⟩ := and_one _ _ e
  obtain ⟨h0, h1⟩ := and_one _ _ e
  exact ⟨rows_real q _ _ _ _ h0, rows_real k _ _ _ _ h1, rows_real v _ _ _ _ h2, bias_real bp _ _ _ _ h3, bias_real bc _ _ _ _ h4,
    rows_real ct _ _ _ _ h5, rows_real cl _ _ _ _ h6⟩

end Cert.Finite

end
-- ==== Proof.AttnArgs.lean ====
/- The arguments of the attention gradient as reals: under the precondition both programs, started on the same
   arguments, hold the entries of one `Args`. -/
module
public import proofs.«01_k».proof.Proof.AttnPoint
public import proofs.«01_k».proof.Proof.RefRows
public import proofs.«01_k».proof.Proof.Finite

@[expose] public section

set_option maxRecDepth 16384

noncomputable section

open Idealize.ShloMosaic Idealize.ShloMosaic.TcCoe Idealize.SL.Sem

namespace Cert.AttnArgs

open Cert.KernelIdeal Cert.Model

/-- The arguments' entries; the scale is the number of the programs' constant. -/
def args (m : (ℓ : Loc nD τ sig) → Buf (Elt Ideal) ℓ) (c : Dev nD) : Args where
  q t e := (m ((c : Thread nD τ).loc main_arg0) (ix2 t e) : EReal).toReal
  k t e := (m ((c : Thread nD τ).loc main_arg1) (ix2 t e) : EReal).toReal
  v t e := (m ((c : Thread nD τ).loc main_arg2) (ix2 t e) : EReal).toReal
  bp h i j := (m ((c : Thread nD τ).loc main_arg3) (ix3 h i j) : EReal).toReal
  bc h i j := (m ((c : Thread nD τ).loc main_arg4) (ix3 h i j) : EReal).toReal
  ct t e := (m ((c : Thread nD τ).loc main_arg5) (ix2 t e) : EReal).toReal
  cl t e := (m ((c : Thread nD τ).loc main_arg6) (ix2 t e) : EReal).toReal
  scale := (Ideal.ofBits .f32 1035273459#32 : EReal).toReal

theorem scale_eq : Ideal.ofBits .f32 1035273459#32 = (((Ideal.ofBits .f32 1035273459#32 : EReal).toReal : ℝ) : EReal) := by
  obtain ⟨r, e⟩ := scale_real
  rw [e]; rfl

theorem given [Cert.Pre_finite.Facts] (m : (ℓ : Loc nD τ sig) → Buf (Elt Ideal) ℓ) (c : Dev nD)
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Cert.AttnValue.Given (args m c) m c := by
  obtain ⟨h0, h1, h2, h3, h4, h5, h6⟩ := Cert.Finite.all_real _ _ _ _ _ _ _ h
  exact ⟨scale_eq, fun t e => h0 _, fun t e => h1 _, fun t e => h2 _, fun t e => h5 _, fun t e => h6 _, fun a i j => h3 _, fun a i j => h4 _⟩

/-- The reference, started on the same arguments. -/
theorem ref_holds {m : (ℓ : Loc nD τ sig) → Buf (Elt Ideal) ℓ} {c : Dev nD} {A : Args} (H : Cert.AttnValue.Given A m c)
    (V : Valuation Cert.ReferenceIdeal.τ Cert.ReferenceIdeal.sig (Elt Ideal))
    (h0 : V (Proc.devRef .tc Cert.ReferenceIdeal.main_arg0) = m ((c.tc : Thread nD τ).loc main_arg0))
    (h1 : V (Proc.devRef .tc Cert.ReferenceIdeal.main_arg1) = m ((c.tc : Thread nD τ).loc main_arg1))
    (h2 : V (Proc.devRef .tc Cert.ReferenceIdeal.main_arg2) = m ((c.tc : Thread nD τ).loc main_arg2))
    (h3 : V (Proc.devRef .tc Cert.ReferenceIdeal.main_arg3) = m ((c.tc : Thread nD τ).loc main_arg3))
    (h4 : V (Proc.devRef .tc Cert.ReferenceIdeal.main_arg4) = m ((c.tc : Thread nD τ).loc main_arg4))
    (h5 : V (Proc.devRef .tc Cert.ReferenceIdeal.main_arg5) = m ((c.tc : Thread nD τ).loc main_arg5))
    (h6 : V (Proc.devRef .tc Cert.ReferenceIdeal.main_arg6) = m ((c.tc : Thread nD τ).loc main_arg6)) :
    Cert.RefRows.Holds A V where
  scale := H.scale
  q t e := (congrFun h0 _).trans (H.q t e)
  k t e := (congrFun h1 _).trans (H.k t e)
  v t e := (congrFun h2 _).trans (H.v t e)
  bp h i j := (congrFun h3 _).trans (H.bp h i j)
  bc h i j := (congrFun h4 _).trans (H.bc h i j)
  ct t e := (congrFun h5 _).trans (H.ct t e)
  cl t e := (congrFun h6 _).trans (H.cl t e)

end Cert.AttnArgs

end
-- ==== Proof.RefResults.lean ====
/- The seven results of the reference, on finite arguments: the gradients of the model, laid out as arrays. -/
module
public import proofs.«01_k».proof.Proof.RefRows

@[expose] public section

set_option maxRecDepth 16384

noncomputable section

open Idealize.ShloMosaic Idealize.ShloMosaic.TcCoe Idealize.SL.Sem

namespace Cert.RefRows

open Cert.ReferenceIdeal Cert.ReferenceIdeal.Gen Cert.ReferenceIdeal.Value
open Cert.Model

/-- The class and head of a column of the class view, by its number of 128 columns. -/
theorem at_eq (A : Args) (R : Fin 1024) (C : Fin 2048) :
    A.at_ R C = A.block ⟨C.val / 512, by omega⟩ ⟨C.val / 128 % 4, by omega⟩ ⟨R.val / 128, by omega⟩ :=
  congrArg (fun h => A.block _ h _) (Fin.ext (by simp only; omega))

variable {A : Args} {V : Valuation τ sig (Elt Ideal)} (H : Holds A V)
include H

theorem dq_res (R : Fin 1024) (C : Fin 2048) :
    (shapeCast S1024x2048 (shapeCast S4096x512 (transpose S1024x4x4x128 [2, 0, 1, 3] (shapeCast S4x4x1024x128 (Host.dotGeneral (φ₁ := .f32) (φ₂ := .f32) dot_S4x4x8x128x256_S4x4x8x256x128_S4x4x8x128x128_4_3_3_4_012_012 none (res_main_v137 V) (res_main_v17 V)) shapeCasts_S4x4x8x128x128_S4x4x1024x128) transposes_S4x4x1024x128_S1024x4x4x128_2_0_1_3) shapeCasts_S1024x4x4x128_S4096x512) shapeCasts_S4096x512_S1024x2048 : FVec Ideal S1024x2048 .f32) (ix2 R C)
      = ((A.dq R C : ℝ) : EReal) := by
  pointwise [res_main_v137]
  rw [Args.dq, at_eq]
  exact sum_coe fun x => mul3_coe (ds_at H _ _ _ _ x) H.scale (k_at H _ _ _ x _)

theorem dkp_res (R : Fin 1024) (C : Fin 2048) :
    (shapeCast S1024x2048 (shapeCast S4096x512 (transpose S1024x4x4x128 [2, 0, 1, 3] (shapeCast S4x4x1024x128 (extractStridedSlice S4x4x8x128x128 ![0, 0, 0, 0, 0] (res_main_v138 V) slices_S4x4x8x256x128_S4x4x8x128x128_0_0_0_0_0) shapeCasts_S4x4x8x128x128_S4x4x1024x128) transposes_S4x4x1024x128_S1024x4x4x128_2_0_1_3) shapeCasts_S1024x4x4x128_S4096x512) shapeCasts_S4096x512_S1024x2048 : FVec Ideal S1024x2048 .f32) (ix2 R C)
      = ((A.dkp R C : ℝ) : EReal) := by
  pointwise
  rw [Args.dkp, at_eq]
  exact dk_at H _ _ _ _ _

theorem dkc_res (R : Fin 1024) (C : Fin 2048) :
    (shapeCast S1024x2048 (shapeCast S4096x512 (transpose S1024x4x4x128 [2, 0, 1, 3] (shapeCast S4x4x1024x128 (extractStridedSlice S4x4x8x128x128 ![0, 0, 0, 128, 0] (res_main_v138 V) slices_S4x4x8x256x128_S4x4x8x128x128_0_0_0_128_0) shapeCasts_S4x4x8x128x128_S4x4x1024x128) transposes_S4x4x1024x128_S1024x4x4x128_2_0_1_3) shapeCasts_S1024x4x4x128_S4096x512) shapeCasts_S4096x512_S1024x2048 : FVec Ideal S1024x2048 .f32) (ix2 R C)
      = ((A.dkc R C : ℝ) : EReal) := by
  pointwise
  rw [Args.dkc, at_eq]
  exact dk_at H _ _ _ _ _

theorem dvp_res (R : Fin 1024) (C : Fin 2048) :
    (shapeCast S1024x2048 (shapeCast S4096x512 (transpose S1024x4x4x128 [2, 0, 1, 3] (shapeCast S4x4x1024x128 (extractStridedSlice S4x4x8x128x128 ![0, 0, 0, 0, 0] (res_main_v113 V) slices_S4x4x8x256x128_S4x4x8x128x128_0_0_0_0_0) shapeCasts_S4x4x8x128x128_S4x4x1024x128) transposes_S4x4x1024x128_S1024x4x4x128_2_0_1_3) shapeCasts_S1024x4x4x128_S4096x512) shapeCasts_S4096x512_S1024x2048 : FVec Ideal S1024x2048 .f32) (ix2 R C)
      = ((A.dvp R C : ℝ) : EReal) := by
  pointwise
  rw [Args.dvp, at_eq]
  exact dv_at H _ _ _ _ _

theorem dvc_res (R : Fin 1024) (C : Fin 2048) :
    (shapeCast S1024x2048 (shapeCast S4096x512 (transpose S1024x4x4x128 [2, 0, 1, 3] (shapeCast S4x4x1024x128 (extractStridedSlice S4x4x8x128x128 ![0, 0, 0, 128, 0] (res_main_v113 V) slices_S4x4x8x256x128_S4x4x8x128x128_0_0_0_128_0) shapeCasts_S4x4x8x128x128_S4x4x1024x128) transposes_S4x4x1024x128_S1024x4x4x128_2_0_1_3) shapeCasts_S1024x4x4x128_S4096x512) shapeCasts_S4096x512_S1024x2048 : FVec Ideal S1024x2048 .f32) (ix2 R C)
      = ((A.dvc R C : ℝ) : EReal) := by
  pointwise
  rw [Args.dvc, at_eq]
  exact dv_at H _ _ _ _ _

theorem dbp_res (h : Fin 4) (i j : Fin 128) :
    (extractStridedSlice S4x128x128 ![0, 0, 0] (res_main_v133 V) slices_S4x128x256_S4x128x128_0_0_0 : FVec Ideal S4x128x128 .f32) (ix3 h i j)
      = ((A.db h i (lo j) : ℝ) : EReal) := by
  pointwise
  exact db_at H _ _ _

theorem dbc_res (h : Fin 4) (i j : Fin 128) :
    (extractStridedSlice S4x128x128 ![0, 0, 128] (res_main_v133 V) slices_S4x128x256_S4x128x128_0_0_128 : FVec Ideal S4x128x128 .f32) (ix3 h i j)
      = ((A.db h i (hi j) : ℝ) : EReal) := by
  pointwise
  exact db_at H _ _ _

end Cert.RefRows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.ReferenceKvIdeal
public import proofs.«01_k».proof.Proof.Gen.Pre_finite
public import proofs.«01_k».proof.Proof.Gen.KernelKvIdeal.Value
public import proofs.«01_k».proof.Proof.Gen.ReferenceIdeal.Run
public import proofs.«01_k».proof.Proof.Gen.ReferenceKvIdeal.Run
public import proofs.«01_k».proof.Proof.Gen.KernelAct
public import proofs.«01_k».proof.Proof.Gen.KernelAct.Skeleton
public import proofs.«01_k».proof.Proof.Gen.KernelAct.Launch
public import proofs.«01_k».proof.Proof.Gen.KernelAct.Points
public import proofs.«01_k».proof.Proof.Gen.KernelAct.Frame
public import proofs.«01_k».proof.Proof.Gen.KernelActIdeal
public import proofs.«01_k».proof.Proof.Gen.KernelActIdeal.Skeleton
public import proofs.«01_k».proof.Proof.Gen.KernelActIdeal.Launch
public import proofs.«01_k».proof.Proof.Gen.KernelActIdeal.Points
public import proofs.«01_k».proof.Proof.Gen.KernelActIdeal.Frame
public import proofs.«01_k».proof.Proof.Gen.ReferenceActIdeal
public import proofs.«01_k».proof.Proof.Gen.KernelActIdeal.Value
public import proofs.«01_k».proof.Proof.Gen.ReferenceActIdeal.Run
public import proofs.«01_k».proof.Proof.Gen.KernelDwOut
public import proofs.«01_k».proof.Proof.Gen.KernelDwOut.Skeleton
public import proofs.«01_k».proof.Proof.Gen.KernelDwOut.Launch
public import proofs.«01_k».proof.Proof.Gen.KernelDwOut.Points
public import proofs.«01_k».proof.Proof.Gen.KernelDwOut.Frame
public import proofs.«01_k».proof.Proof.Gen.KernelDwOutIdeal
public import proofs.«01_k».proof.Proof.Gen.KernelDwOutIdeal.Skeleton
public import proofs.«01_k».proof.Proof.Gen.KernelDwOutIdeal.Launch
public import proofs.«01_k».proof.Proof.Gen.KernelDwOutIdeal.Points
public import proofs.«01_k».proof.Proof.Gen.KernelDwOutIdeal.Frame
public import proofs.«01_k».proof.Proof.Gen.ReferenceDwOutIdeal
public import proofs.«01_k».proof.Proof.Gen.KernelDwOutIdeal.Value
public import proofs.«01_k».proof.Proof.Gen.ReferenceDwOutIdeal.Run
public import proofs.«01_k».proof.Proof.Gen.KernelDwIn
public import proofs.«01_k».proof.Proof.Gen.KernelDwIn.Skeleton
public import proofs.«01_k».proof.Proof.Gen.KernelDwIn.Launch
public import proofs.«01_k».proof.Proof.Gen.KernelDwIn.Points
public import proofs.«01_k».proof.Proof.Gen.KernelDwIn.Frame
public import proofs.«01_k».proof.Proof.Gen.KernelDwInIdeal
public import proofs.«01_k».proof.Proof.Gen.KernelDwInIdeal.Skeleton
public import proofs.«01_k».proof.Proof.Gen.KernelDwInIdeal.Launch
public import proofs.«01_k».proof.Proof.Gen.KernelDwInIdeal.Points
public import proofs.«01_k».proof.Proof.Gen.KernelDwInIdeal.Frame
public import proofs.«01_k».proof.Proof.Gen.ReferenceDwInIdeal
public import proofs.«01_k».proof.Proof.Gen.KernelDwInIdeal.Value
public import proofs.«01_k».proof.Proof.Gen.ReferenceDwInIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelOutIdeal.Value
public import proofs.«01_k».proof.Proof.Gen.ReferenceOutIdeal.Run
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.ReferenceDwIdeal
public import proofs.«01_k».proof.Proof.Gen.KernelDwIdeal.Value
public import proofs.«01_k».proof.Proof.Gen.ReferenceDwIdeal.Run
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.ReferenceDxIdeal
public import proofs.«01_k».proof.Proof.Gen.KernelDxIdeal.Value
public import proofs.«01_k».proof.Proof.Gen.ReferenceDxIdeal.Run
public import proofs.«01_k».proof.Proof.Gen.KernelY
public import proofs.«01_k».proof.Proof.Gen.KernelY.Skeleton
public import proofs.«01_k».proof.Proof.Gen.KernelY.Launch
public import proofs.«01_k».proof.Proof.Gen.KernelY.Points
public import proofs.«01_k».proof.Proof.Gen.KernelY.Frame
public import proofs.«01_k».proof.Proof.Gen.KernelYIdeal
public import proofs.«01_k».proof.Proof.Gen.KernelYIdeal.Skeleton
public import proofs.«01_k».proof.Proof.Gen.KernelYIdeal.Launch
public import proofs.«01_k».proof.Proof.Gen.KernelYIdeal.Points
public import proofs.«01_k».proof.Proof.Gen.KernelYIdeal.Frame
public import proofs.«01_k».proof.Proof.Gen.ReferenceYIdeal
public import proofs.«01_k».proof.Proof.Gen.KernelYIdeal.Value
public import proofs.«01_k».proof.Proof.Gen.ReferenceYIdeal.Run
public import proofs.«01_k».proof.Proof.Gen.KernelDwZ
public import proofs.«01_k».proof.Proof.Gen.KernelDwZ.Skeleton
public import proofs.«01_k».proof.Proof.Gen.KernelDwZ.Launch
public import proofs.«01_k».proof.Proof.Gen.KernelDwZ.Points
public import proofs.«01_k».proof.Proof.Gen.KernelDwZ.Frame
public import proofs.«01_k».proof.Proof.Gen.KernelDwZIdeal
public import proofs.«01_k».proof.Proof.Gen.KernelDwZIdeal.Skeleton
public import proofs.«01_k».proof.Proof.Gen.KernelDwZIdeal.Launch
public import proofs.«01_k».proof.Proof.Gen.KernelDwZIdeal.Points
public import proofs.«01_k».proof.Proof.Gen.KernelDwZIdeal.Frame
public import proofs.«01_k».proof.Proof.Gen.ReferenceDwZIdeal
public import proofs.«01_k».proof.Proof.Gen.KernelDwZIdeal.Value
public import proofs.«01_k».proof.Proof.Gen.ReferenceDwZIdeal.Run
public import proofs.«01_k».proof.Proof.Gen.KernelDwQ
public import proofs.«01_k».proof.Proof.Gen.KernelDwQ.Skeleton
public import proofs.«01_k».proof.Proof.Gen.KernelDwQ.Launch
public import proofs.«01_k».proof.Proof.Gen.KernelDwQ.Points
public import proofs.«01_k».proof.Proof.Gen.KernelDwQ.Frame
public import proofs.«01_k».proof.Proof.Gen.KernelDwQIdeal
public import proofs.«01_k».proof.Proof.Gen.KernelDwQIdeal.Skeleton
public import proofs.«01_k».proof.Proof.Gen.KernelDwQIdeal.Launch
public import proofs.«01_k».proof.Proof.Gen.KernelDwQIdeal.Points
public import proofs.«01_k».proof.Proof.Gen.KernelDwQIdeal.Frame
public import proofs.«01_k».proof.Proof.Gen.ReferenceDwQIdeal
public import proofs.«01_k».proof.Proof.Gen.KernelDwQIdeal.Value
public import proofs.«01_k».proof.Proof.Gen.ReferenceDwQIdeal.Run
public import proofs.«01_k».proof.Proof.Gen.KernelDwV
public import proofs.«01_k».proof.Proof.Gen.KernelDwV.Skeleton
public import proofs.«01_k».proof.Proof.Gen.KernelDwV.Launch
public import proofs.«01_k».proof.Proof.Gen.KernelDwV.Points
public import proofs.«01_k».proof.Proof.Gen.KernelDwV.Frame
public import proofs.«01_k».proof.Proof.Gen.KernelDwVIdeal
public import proofs.«01_k».proof.Proof.Gen.KernelDwVIdeal.Skeleton
public import proofs.«01_k».proof.Proof.Gen.KernelDwVIdeal.Launch
public import proofs.«01_k».proof.Proof.Gen.KernelDwVIdeal.Points
public import proofs.«01_k».proof.Proof.Gen.KernelDwVIdeal.Frame
public import proofs.«01_k».proof.Proof.Gen.ReferenceDwVIdeal
public import proofs.«01_k».proof.Proof.Gen.KernelDwVIdeal.Value
public import proofs.«01_k».proof.Proof.Gen.ReferenceDwVIdeal.Run
public import proofs.«01_k».proof.Proof.Gen.KernelDwRw
public import proofs.«01_k».proof.Proof.Gen.KernelDwRw.Skeleton
public import proofs.«01_k».proof.Proof.Gen.KernelDwRw.Launch
public import proofs.«01_k».proof.Proof.Gen.KernelDwRw.Points
public import proofs.«01_k».proof.Proof.Gen.KernelDwRw.Frame
public import proofs.«01_k».proof.Proof.Gen.KernelDwRwIdeal
public import proofs.«01_k».proof.Proof.Gen.KernelDwRwIdeal.Skeleton
public import proofs.«01_k».proof.Proof.Gen.KernelDwRwIdeal.Launch
public import proofs.«01_k».proof.Proof.Gen.KernelDwRwIdeal.Points
public import proofs.«01_k».proof.Proof.Gen.KernelDwRwIdeal.Frame
public import proofs.«01_k».proof.Proof.Gen.ReferenceDwRwIdeal
public import proofs.«01_k».proof.Proof.Gen.KernelDwRwIdeal.Value
public import proofs.«01_k».proof.Proof.Gen.ReferenceDwRwIdeal.Run
public import proofs.«01_k».proof.Proof.Gen.KernelDxRw
public import proofs.«01_k».proof.Proof.Gen.KernelDxRw.Skeleton
public import proofs.«01_k».proof.Proof.Gen.KernelDxRw.Launch
public import proofs.«01_k».proof.Proof.Gen.KernelDxRw.Points
public import proofs.«01_k».proof.Proof.Gen.KernelDxRw.Frame
public import proofs.«01_k».proof.Proof.Gen.KernelDxRwIdeal
public import proofs.«01_k».proof.Proof.Gen.KernelDxRwIdeal.Skeleton
public import proofs.«01_k».proof.Proof.Gen.KernelDxRwIdeal.Launch
public import proofs.«01_k».proof.Proof.Gen.KernelDxRwIdeal.Points
public import proofs.«01_k».proof.Proof.Gen.KernelDxRwIdeal.Frame
public import proofs.«01_k».proof.Proof.Gen.ReferenceDxRwIdeal
public import proofs.«01_k».proof.Proof.Gen.KernelDxRwIdeal.Value
public import proofs.«01_k».proof.Proof.Gen.ReferenceDxRwIdeal.Run
public import proofs.«01_k».proof.Proof.Gen.KernelYRw
public import proofs.«01_k».proof.Proof.Gen.KernelYRw.Skeleton
public import proofs.«01_k».proof.Proof.Gen.KernelYRw.Launch
public import proofs.«01_k».proof.Proof.Gen.KernelYRw.Points
public import proofs.«01_k».proof.Proof.Gen.KernelYRw.Frame
public import proofs.«01_k».proof.Proof.Gen.KernelYRwIdeal
public import proofs.«01_k».proof.Proof.Gen.KernelYRwIdeal.Skeleton
public import proofs.«01_k».proof.Proof.Gen.KernelYRwIdeal.Launch
public import proofs.«01_k».proof.Proof.Gen.KernelYRwIdeal.Points
public import proofs.«01_k».proof.Proof.Gen.KernelYRwIdeal.Frame
public import proofs.«01_k».proof.Proof.Gen.ReferenceYRwIdeal
public import proofs.«01_k».proof.Proof.Gen.KernelYRwIdeal.Value
public import proofs.«01_k».proof.Proof.Gen.ReferenceYRwIdeal.Run
public import proofs.«01_k».proof.Proof.Gen.KernelDwAt
public import proofs.«01_k».proof.Proof.Gen.KernelDwAt.Skeleton
public import proofs.«01_k».proof.Proof.Gen.KernelDwAt.Launch
public import proofs.«01_k».proof.Proof.Gen.KernelDwAt.Points
public import proofs.«01_k».proof.Proof.Gen.KernelDwAt.Frame
public import proofs.«01_k».proof.Proof.Gen.KernelDwAtIdeal
public import proofs.«01_k».proof.Proof.Gen.KernelDwAtIdeal.Skeleton
public import proofs.«01_k».proof.Proof.Gen.KernelDwAtIdeal.Launch
public import proofs.«01_k».proof.Proof.Gen.KernelDwAtIdeal.Points
public import proofs.«01_k».proof.Proof.Gen.KernelDwAtIdeal.Frame
public import proofs.«01_k».proof.Proof.Gen.ReferenceDwAtIdeal
public import proofs.«01_k».proof.Proof.Gen.KernelDwAtIdeal.Value
public import proofs.«01_k».proof.Proof.Gen.ReferenceDwAtIdeal.Run
public import proofs.«01_k».proof.Proof.Gen.KernelDxAt
public import proofs.«01_k».proof.Proof.Gen.KernelDxAt.Skeleton
public import proofs.«01_k».proof.Proof.Gen.KernelDxAt.Launch
public import proofs.«01_k».proof.Proof.Gen.KernelDxAt.Points
public import proofs.«01_k».proof.Proof.Gen.KernelDxAt.Frame
public import proofs.«01_k».proof.Proof.Gen.KernelDxAtIdeal
public import proofs.«01_k».proof.Proof.Gen.KernelDxAtIdeal.Skeleton
public import proofs.«01_k».proof.Proof.Gen.KernelDxAtIdeal.Launch
public import proofs.«01_k».proof.Proof.Gen.KernelDxAtIdeal.Points
public import proofs.«01_k».proof.Proof.Gen.KernelDxAtIdeal.Frame
public import proofs.«01_k».proof.Proof.Gen.ReferenceDxAtIdeal
public import proofs.«01_k».proof.Proof.Gen.KernelDxAtIdeal.Value
public import proofs.«01_k».proof.Proof.Gen.ReferenceDxAtIdeal.Run
public import proofs.«01_k».proof.Proof.Gen.KernelYAt
public import proofs.«01_k».proof.Proof.Gen.KernelYAt.Skeleton
public import proofs.«01_k».proof.Proof.Gen.KernelYAt.Launch
public import proofs.«01_k».proof.Proof.Gen.KernelYAt.Points
public import proofs.«01_k».proof.Proof.Gen.KernelYAt.Frame
public import proofs.«01_k».proof.Proof.Gen.KernelYAtIdeal
public import proofs.«01_k».proof.Proof.Gen.KernelYAtIdeal.Skeleton
public import proofs.«01_k».proof.Proof.Gen.KernelYAtIdeal.Launch
public import proofs.«01_k».proof.Proof.Gen.KernelYAtIdeal.Points
public import proofs.«01_k».proof.Proof.Gen.KernelYAtIdeal.Frame
public import proofs.«01_k».proof.Proof.Gen.ReferenceYAtIdeal
public import proofs.«01_k».proof.Proof.Gen.KernelYAtIdeal.Value
public import proofs.«01_k».proof.Proof.Gen.ReferenceYAtIdeal.Run
public import proofs.«01_k».proof.Proof.Gen.KernelDwPle
public import proofs.«01_k».proof.Proof.Gen.KernelDwPle.Skeleton
public import proofs.«01_k».proof.Proof.Gen.KernelDwPle.Launch
public import proofs.«01_k».proof.Proof.Gen.KernelDwPle.Points
public import proofs.«01_k».proof.Proof.Gen.KernelDwPle.Frame
public import proofs.«01_k».proof.Proof.Gen.KernelDwPleIdeal
public import proofs.«01_k».proof.Proof.Gen.KernelDwPleIdeal.Skeleton
public import proofs.«01_k».proof.Proof.Gen.KernelDwPleIdeal.Launch
public import proofs.«01_k».proof.Proof.Gen.KernelDwPleIdeal.Points
public import proofs.«01_k».proof.Proof.Gen.KernelDwPleIdeal.Frame
public import proofs.«01_k».proof.Proof.Gen.ReferenceDwPleIdeal
public import proofs.«01_k».proof.Proof.Gen.KernelDwPleIdeal.Value
public import proofs.«01_k».proof.Proof.Gen.ReferenceDwPleIdeal.Run
public import proofs.«01_k».proof.Proof.Gen.KernelYPle
public import proofs.«01_k».proof.Proof.Gen.KernelYPle.Skeleton
public import proofs.«01_k».proof.Proof.Gen.KernelYPle.Launch
public import proofs.«01_k».proof.Proof.Gen.KernelYPle.Points
public import proofs.«01_k».proof.Proof.Gen.KernelYPle.Frame
public import proofs.«01_k».proof.Proof.Gen.KernelYPleIdeal
public import proofs.«01_k».proof.Proof.Gen.KernelYPleIdeal.Skeleton
public import proofs.«01_k».proof.Proof.Gen.KernelYPleIdeal.Launch
public import proofs.«01_k».proof.Proof.Gen.KernelYPleIdeal.Points
public import proofs.«01_k».proof.Proof.Gen.KernelYPleIdeal.Frame
public import proofs.«01_k».proof.Proof.Gen.ReferenceYPleIdeal
public import proofs.«01_k».proof.Proof.Gen.KernelYPleIdeal.Value
public import proofs.«01_k».proof.Proof.Gen.ReferenceYPleIdeal.Run
public import proofs.«01_k».proof.Proof.Gen.KernelAdIn
public import proofs.«01_k».proof.Proof.Gen.KernelAdIn.Skeleton
public import proofs.«01_k».proof.Proof.Gen.KernelAdIn.Launch
public import proofs.«01_k».proof.Proof.Gen.KernelAdIn.Points
public import proofs.«01_k».proof.Proof.Gen.KernelAdIn.Frame
public import proofs.«01_k».proof.Proof.Gen.KernelAdInIdeal
public import proofs.«01_k».proof.Proof.Gen.KernelAdInIdeal.Skeleton
public import proofs.«01_k».proof.Proof.Gen.KernelAdInIdeal.Launch
public import proofs.«01_k».proof.Proof.Gen.KernelAdInIdeal.Points
public import proofs.«01_k».proof.Proof.Gen.KernelAdInIdeal.Frame
public import proofs.«01_k».proof.Proof.Gen.ReferenceAdInIdeal
public import proofs.«01_k».proof.Proof.Gen.ReferenceAdInIdeal.Run
public import proofs.«01_k».proof.Proof.Gen.KernelAdMlpIn
public import proofs.«01_k».proof.Proof.Gen.KernelAdMlpIn.Skeleton
public import proofs.«01_k».proof.Proof.Gen.KernelAdMlpIn.Launch
public import proofs.«01_k».proof.Proof.Gen.KernelAdMlpIn.Points
public import proofs.«01_k».proof.Proof.Gen.KernelAdMlpIn.Frame
public import proofs.«01_k».proof.Proof.Gen.KernelAdMlpInIdeal
public import proofs.«01_k».proof.Proof.Gen.KernelAdMlpInIdeal.Skeleton
public import proofs.«01_k».proof.Proof.Gen.KernelAdMlpInIdeal.Launch
public import proofs.«01_k».proof.Proof.Gen.KernelAdMlpInIdeal.Points
public import proofs.«01_k».proof.Proof.Gen.KernelAdMlpInIdeal.Frame
public import proofs.«01_k».proof.Proof.Gen.ReferenceAdMlpInIdeal
public import proofs.«01_k».proof.Proof.Gen.ReferenceAdMlpInIdeal.Run
public import proofs.«01_k».proof.Proof.Gen.KernelAdMlpOut
public import proofs.«01_k».proof.Proof.Gen.KernelAdMlpOut.Skeleton
public import proofs.«01_k».proof.Proof.Gen.KernelAdMlpOut.Launch
public import proofs.«01_k».proof.Proof.Gen.KernelAdMlpOut.Points
public import proofs.«01_k».proof.Proof.Gen.KernelAdMlpOut.Frame
public import proofs.«01_k».proof.Proof.Gen.KernelAdMlpOutIdeal
public import proofs.«01_k».proof.Proof.Gen.KernelAdMlpOutIdeal.Skeleton
public import proofs.«01_k».proof.Proof.Gen.KernelAdMlpOutIdeal.Launch
public import proofs.«01_k».proof.Proof.Gen.KernelAdMlpOutIdeal.Points
public import proofs.«01_k».proof.Proof.Gen.KernelAdMlpOutIdeal.Frame
public import proofs.«01_k».proof.Proof.Gen.ReferenceAdMlpOutIdeal
public import proofs.«01_k».proof.Proof.Gen.ReferenceAdMlpOutIdeal.Run
public import proofs.«01_k».proof.Proof.Gen.KernelAdOut
public import proofs.«01_k».proof.Proof.Gen.KernelAdOut.Skeleton
public import proofs.«01_k».proof.Proof.Gen.KernelAdOut.Launch
public import proofs.«01_k».proof.Proof.Gen.KernelAdOut.Points
public import proofs.«01_k».proof.Proof.Gen.KernelAdOut.Frame
public import proofs.«01_k».proof.Proof.Gen.KernelAdOutIdeal
public import proofs.«01_k».proof.Proof.Gen.KernelAdOutIdeal.Skeleton
public import proofs.«01_k».proof.Proof.Gen.KernelAdOutIdeal.Launch
public import proofs.«01_k».proof.Proof.Gen.KernelAdOutIdeal.Points
public import proofs.«01_k».proof.Proof.Gen.KernelAdOutIdeal.Frame
public import proofs.«01_k».proof.Proof.Gen.ReferenceAdOutIdeal
public import proofs.«01_k».proof.Proof.Gen.ReferenceAdOutIdeal.Run
public import proofs.«01_k».proof.Proof.Gen.KernelAdRw
public import proofs.«01_k».proof.Proof.Gen.KernelAdRw.Skeleton
public import proofs.«01_k».proof.Proof.Gen.KernelAdRw.Launch
public import proofs.«01_k».proof.Proof.Gen.KernelAdRw.Points
public import proofs.«01_k».proof.Proof.Gen.KernelAdRw.Frame
public import proofs.«01_k».proof.Proof.Gen.KernelAdRwIdeal
public import proofs.«01_k».proof.Proof.Gen.KernelAdRwIdeal.Skeleton
public import proofs.«01_k».proof.Proof.Gen.KernelAdRwIdeal.Launch
public import proofs.«01_k».proof.Proof.Gen.KernelAdRwIdeal.Points
public import proofs.«01_k».proof.Proof.Gen.KernelAdRwIdeal.Frame
public import proofs.«01_k».proof.Proof.Gen.ReferenceAdRwIdeal
public import proofs.«01_k».proof.Proof.Gen.ReferenceAdRwIdeal.Run
public import proofs.«01_k».proof.Proof.Gen.KernelAdAt
public import proofs.«01_k».proof.Proof.Gen.KernelAdAt.Skeleton
public import proofs.«01_k».proof.Proof.Gen.KernelAdAt.Launch
public import proofs.«01_k».proof.Proof.Gen.KernelAdAt.Points
public import proofs.«01_k».proof.Proof.Gen.KernelAdAt.Frame
public import proofs.«01_k».proof.Proof.Gen.KernelAdAtIdeal
public import proofs.«01_k».proof.Proof.Gen.KernelAdAtIdeal.Skeleton
public import proofs.«01_k».proof.Proof.Gen.KernelAdAtIdeal.Launch
public import proofs.«01_k».proof.Proof.Gen.KernelAdAtIdeal.Points
public import proofs.«01_k».proof.Proof.Gen.KernelAdAtIdeal.Frame
public import proofs.«01_k».proof.Proof.Gen.ReferenceAdAtIdeal
public import proofs.«01_k».proof.Proof.Gen.ReferenceAdAtIdeal.Run
public import proofs.«01_k».proof.Proof.Gen.KernelAdPle
public import proofs.«01_k».proof.Proof.Gen.KernelAdPle.Skeleton
public import proofs.«01_k».proof.Proof.Gen.KernelAdPle.Launch
public import proofs.«01_k».proof.Proof.Gen.KernelAdPle.Points
public import proofs.«01_k».proof.Proof.Gen.KernelAdPle.Frame
public import proofs.«01_k».proof.Proof.Gen.KernelAdPleIdeal
public import proofs.«01_k».proof.Proof.Gen.KernelAdPleIdeal.Skeleton
public import proofs.«01_k».proof.Proof.Gen.KernelAdPleIdeal.Launch
public import proofs.«01_k».proof.Proof.Gen.KernelAdPleIdeal.Points
public import proofs.«01_k».proof.Proof.Gen.KernelAdPleIdeal.Frame
public import proofs.«01_k».proof.Proof.Gen.ReferenceAdPleIdeal
public import proofs.«01_k».proof.Proof.Gen.ReferenceAdPleIdeal.Run
public import proofs.«01_k».proof.Proof.Gen.KernelAdGate
public import proofs.«01_k».proof.Proof.Gen.KernelAdGate.Skeleton
public import proofs.«01_k».proof.Proof.Gen.KernelAdGate.Launch
public import proofs.«01_k».proof.Proof.Gen.KernelAdGate.Points
public import proofs.«01_k».proof.Proof.Gen.KernelAdGate.Frame
public import proofs.«01_k».proof.Proof.Gen.KernelAdGateIdeal
public import proofs.«01_k».proof.Proof.Gen.KernelAdGateIdeal.Skeleton
public import proofs.«01_k».proof.Proof.Gen.KernelAdGateIdeal.Launch
public import proofs.«01_k».proof.Proof.Gen.KernelAdGateIdeal.Points
public import proofs.«01_k».proof.Proof.Gen.KernelAdGateIdeal.Frame
public import proofs.«01_k».proof.Proof.Gen.ReferenceAdGateIdeal
public import proofs.«01_k».proof.Proof.Gen.ReferenceAdGateIdeal.Run
public import proofs.«01_k».proof.Proof.Gen.KernelAdDecay
public import proofs.«01_k».proof.Proof.Gen.KernelAdDecay.Skeleton
public import proofs.«01_k».proof.Proof.Gen.KernelAdDecay.Launch
public import proofs.«01_k».proof.Proof.Gen.KernelAdDecay.Points
public import proofs.«01_k».proof.Proof.Gen.KernelAdDecay.Frame
public import proofs.«01_k».proof.Proof.Gen.KernelAdDecayIdeal
public import proofs.«01_k».proof.Proof.Gen.KernelAdDecayIdeal.Skeleton
public import proofs.«01_k».proof.Proof.Gen.KernelAdDecayIdeal.Launch
public import proofs.«01_k».proof.Proof.Gen.KernelAdDecayIdeal.Points
public import proofs.«01_k».proof.Proof.Gen.KernelAdDecayIdeal.Frame
public import proofs.«01_k».proof.Proof.Gen.ReferenceAdDecayIdeal
public import proofs.«01_k».proof.Proof.Gen.ReferenceAdDecayIdeal.Run
public import proofs.«01_k».proof.Proof.Gen.KernelAdSmall
public import proofs.«01_k».proof.Proof.Gen.KernelAdSmall.Skeleton
public import proofs.«01_k».proof.Proof.Gen.KernelAdSmall.Launch
public import proofs.«01_k».proof.Proof.Gen.KernelAdSmall.Points
public import proofs.«01_k».proof.Proof.Gen.KernelAdSmall.Frame
public import proofs.«01_k».proof.Proof.Gen.KernelAdSmallIdeal
public import proofs.«01_k».proof.Proof.Gen.KernelAdSmallIdeal.Skeleton
public import proofs.«01_k».proof.Proof.Gen.KernelAdSmallIdeal.Launch
public import proofs.«01_k».proof.Proof.Gen.KernelAdSmallIdeal.Points
public import proofs.«01_k».proof.Proof.Gen.KernelAdSmallIdeal.Frame
public import proofs.«01_k».proof.Proof.Gen.ReferenceAdSmallIdeal
public import proofs.«01_k».proof.Proof.Gen.ReferenceAdSmallIdeal.Run
public import proofs.«01_k».proof.Proof.ActValue
public import proofs.«01_k».proof.Proof.DwOutValue
public import proofs.«01_k».proof.Proof.DwInValue
public import proofs.«01_k».proof.Proof.OutValue
public import proofs.«01_k».proof.Proof.DwValue
public import proofs.«01_k».proof.Proof.DxValue
public import proofs.«01_k».proof.Proof.YValue
public import proofs.«01_k».proof.Proof.DwZValue
public import proofs.«01_k».proof.Proof.DwQValue
public import proofs.«01_k».proof.Proof.DwVValue
public import proofs.«01_k».proof.Proof.DwRwValue
public import proofs.«01_k».proof.Proof.DxRwValue
public import proofs.«01_k».proof.Proof.YRwValue
public import proofs.«01_k».proof.Proof.DwAtValue
public import proofs.«01_k».proof.Proof.DxAtValue
public import proofs.«01_k».proof.Proof.YAtValue
public import proofs.«01_k».proof.Proof.DwPleValue
public import proofs.«01_k».proof.Proof.YPleValue
public import proofs.«01_k».proof.Proof.AdInValue
public import proofs.«01_k».proof.Proof.AdMlpInValue
public import proofs.«01_k».proof.Proof.AdMlpOutValue
public import proofs.«01_k».proof.Proof.AdOutValue
public import proofs.«01_k».proof.Proof.AdRwValue
public import proofs.«01_k».proof.Proof.AdAtValue
public import proofs.«01_k».proof.Proof.AdPleValue
public import proofs.«01_k».proof.Proof.AdGateValue
public import proofs.«01_k».proof.Proof.AdDecayValue
public import proofs.«01_k».proof.Proof.AdSmallValue
public import proofs.«01_k».proof.Proof.KvValue
public import proofs.«01_k».proof.Proof.AttnRun
public import proofs.«01_k».proof.Proof.AttnRunBits
public import proofs.«01_k».proof.Proof.AttnValue
public import proofs.«01_k».proof.Proof.AttnArgs
public import proofs.«01_k».proof.Proof.RefResults
public import Idealize.ShloMosaic.Lib.Claim
public import Idealize.ShloMosaic.Adequacy
public import Idealize.ShloMosaic.Init

@[expose] public section

noncomputable section

namespace Cert.Proof

open Idealize.ShloMosaic Idealize.SL.Sem

set_option maxRecDepth 16384

/-- The reference of the attention gradient ends with its arguments unchanged; it has no semaphore. -/
theorem reference_frame : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run m ρ)

/-- The reference of the sum of the key and value gradients ends with its arguments unchanged. -/
theorem reference_kv_frame : Cert.quiescent_ReferenceKvIdeal := fun m ρ _ =>
  (θ_run Cert.ReferenceKvIdeal.defs _ _).mono (fun r h => ⟨fun c => (h c).2.2, sem_eq_zero_of_no_sems (by decide) r.2⟩)
    (Cert.ReferenceKvIdeal.Value.run m ρ)

/-! The references of the products end with their arguments unchanged. -/

theorem reference_act_frame : Cert.quiescent_ReferenceActIdeal := fun m ρ _ =>
  (θ_run Cert.ReferenceActIdeal.defs _ _).mono (fun r h => ⟨fun c => (h c).2, sem_eq_zero_of_no_sems (by decide) r.2⟩)
    (Cert.ReferenceActIdeal.Value.run m ρ)

theorem reference_dwout_frame : Cert.quiescent_ReferenceDwOutIdeal := fun m ρ _ =>
  (θ_run Cert.ReferenceDwOutIdeal.defs _ _).mono (fun r h => ⟨fun c => (h c).2, sem_eq_zero_of_no_sems (by decide) r.2⟩)
    (Cert.ReferenceDwOutIdeal.Value.run m ρ)

theorem reference_dwin_frame : Cert.quiescent_ReferenceDwInIdeal := fun m ρ _ =>
  (θ_run Cert.ReferenceDwInIdeal.defs _ _).mono (fun r h => ⟨fun c => (h c).2, sem_eq_zero_of_no_sems (by decide) r.2⟩)
    (Cert.ReferenceDwInIdeal.Value.run m ρ)

theorem reference_out_frame : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run m ρ)

theorem reference_dw_frame : Cert.quiescent_ReferenceDwIdeal := fun m ρ _ =>
  (θ_run Cert.ReferenceDwIdeal.defs _ _).mono (fun r h => ⟨fun c => (h c).2, sem_eq_zero_of_no_sems (by decide) r.2⟩)
    (Cert.ReferenceDwIdeal.Value.run m ρ)

theorem reference_dx_frame : Cert.quiescent_ReferenceDxIdeal := fun m ρ _ =>
  (θ_run Cert.ReferenceDxIdeal.defs _ _).mono (fun r h => ⟨fun c => (h c).2, sem_eq_zero_of_no_sems (by decide) r.2⟩)
    (Cert.ReferenceDxIdeal.Value.run m ρ)

theorem reference_y_frame : Cert.quiescent_ReferenceYIdeal := fun m ρ _ =>
  (θ_run Cert.ReferenceYIdeal.defs _ _).mono (fun r h => ⟨fun c => (h c).2, sem_eq_zero_of_no_sems (by decide) r.2⟩)
    (Cert.ReferenceYIdeal.Value.run m ρ)

theorem reference_dwz_frame : Cert.quiescent_ReferenceDwZIdeal := fun m ρ _ =>
  (θ_run Cert.ReferenceDwZIdeal.defs _ _).mono (fun r h => ⟨fun c => (h c).2, sem_eq_zero_of_no_sems (by decide) r.2⟩)
    (Cert.ReferenceDwZIdeal.Value.run m ρ)

theorem reference_dwq_frame : Cert.quiescent_ReferenceDwQIdeal := fun m ρ _ =>
  (θ_run Cert.ReferenceDwQIdeal.defs _ _).mono (fun r h => ⟨fun c => (h c).2, sem_eq_zero_of_no_sems (by decide) r.2⟩)
    (Cert.ReferenceDwQIdeal.Value.run m ρ)

theorem reference_dwv_frame : Cert.quiescent_ReferenceDwVIdeal := fun m ρ _ =>
  (θ_run Cert.ReferenceDwVIdeal.defs _ _).mono (fun r h => ⟨fun c => (h c).2, sem_eq_zero_of_no_sems (by decide) r.2⟩)
    (Cert.ReferenceDwVIdeal.Value.run m ρ)

theorem reference_dwrw_frame : Cert.quiescent_ReferenceDwRwIdeal := fun m ρ _ =>
  (θ_run Cert.ReferenceDwRwIdeal.defs _ _).mono (fun r h => ⟨fun c => (h c).2, sem_eq_zero_of_no_sems (by decide) r.2⟩)
    (Cert.ReferenceDwRwIdeal.Value.run m ρ)

theorem reference_dxrw_frame : Cert.quiescent_ReferenceDxRwIdeal := fun m ρ _ =>
  (θ_run Cert.ReferenceDxRwIdeal.defs _ _).mono (fun r h => ⟨fun c => (h c).2, sem_eq_zero_of_no_sems (by decide) r.2⟩)
    (Cert.ReferenceDxRwIdeal.Value.run m ρ)

theorem reference_yrw_frame : Cert.quiescent_ReferenceYRwIdeal := fun m ρ _ =>
  (θ_run Cert.ReferenceYRwIdeal.defs _ _).mono (fun r h => ⟨fun c => (h c).2, sem_eq_zero_of_no_sems (by decide) r.2⟩)
    (Cert.ReferenceYRwIdeal.Value.run m ρ)

theorem reference_dwat_frame : Cert.quiescent_ReferenceDwAtIdeal := fun m ρ _ =>
  (θ_run Cert.ReferenceDwAtIdeal.defs _ _).mono (fun r h => ⟨fun c => (h c).2, sem_eq_zero_of_no_sems (by decide) r.2⟩)
    (Cert.ReferenceDwAtIdeal.Value.run m ρ)

theorem reference_dxat_frame : Cert.quiescent_ReferenceDxAtIdeal := fun m ρ _ =>
  (θ_run Cert.ReferenceDxAtIdeal.defs _ _).mono (fun r h => ⟨fun c => (h c).2, sem_eq_zero_of_no_sems (by decide) r.2⟩)
    (Cert.ReferenceDxAtIdeal.Value.run m ρ)

theorem reference_yat_frame : Cert.quiescent_ReferenceYAtIdeal := fun m ρ _ =>
  (θ_run Cert.ReferenceYAtIdeal.defs _ _).mono (fun r h => ⟨fun c => (h c).2, sem_eq_zero_of_no_sems (by decide) r.2⟩)
    (Cert.ReferenceYAtIdeal.Value.run m ρ)

theorem reference_dwple_frame : Cert.quiescent_ReferenceDwPleIdeal := fun m ρ _ =>
  (θ_run Cert.ReferenceDwPleIdeal.defs _ _).mono (fun r h => ⟨fun c => (h c).2, sem_eq_zero_of_no_sems (by decide) r.2⟩)
    (Cert.ReferenceDwPleIdeal.Value.run m ρ)

theorem reference_yple_frame : Cert.quiescent_ReferenceYPleIdeal := fun m ρ _ =>
  (θ_run Cert.ReferenceYPleIdeal.defs _ _).mono (fun r h => ⟨fun c => (h c).2, sem_eq_zero_of_no_sems (by decide) r.2⟩)
    (Cert.ReferenceYPleIdeal.Value.run m ρ)

/-! The same of the references of the AdamW steps. -/

theorem reference_adin_frame : Cert.quiescent_ReferenceAdInIdeal := fun m ρ _ =>
  (θ_run Cert.ReferenceAdInIdeal.defs _ _).mono (fun r h => ⟨fun c => (h c).2.2.2.2, sem_eq_zero_of_no_sems (by decide) r.2⟩)
    (Cert.ReferenceAdInIdeal.Value.run m ρ)

theorem reference_admlpin_frame : Cert.quiescent_ReferenceAdMlpInIdeal := fun m ρ _ =>
  (θ_run Cert.ReferenceAdMlpInIdeal.defs _ _).mono (fun r h => ⟨fun c => (h c).2.2.2.2, sem_eq_zero_of_no_sems (by decide) r.2⟩)
    (Cert.ReferenceAdMlpInIdeal.Value.run m ρ)

theorem reference_admlpout_frame : Cert.quiescent_ReferenceAdMlpOutIdeal := fun m ρ _ =>
  (θ_run Cert.ReferenceAdMlpOutIdeal.defs _ _).mono (fun r h => ⟨fun c => (h c).2.2.2.2, sem_eq_zero_of_no_sems (by decide) r.2⟩)
    (Cert.ReferenceAdMlpOutIdeal.Value.run m ρ)

theorem reference_adout_frame : Cert.quiescent_ReferenceAdOutIdeal := fun m ρ _ =>
  (θ_run Cert.ReferenceAdOutIdeal.defs _ _).mono (fun r h => ⟨fun c => (h c).2.2.2.2, sem_eq_zero_of_no_sems (by decide) r.2⟩)
    (Cert.ReferenceAdOutIdeal.Value.run m ρ)

theorem reference_adrw_frame : Cert.quiescent_ReferenceAdRwIdeal := fun m ρ _ =>
  (θ_run Cert.ReferenceAdRwIdeal.defs _ _).mono (fun r h => ⟨fun c => (h c).2.2.2.2, sem_eq_zero_of_no_sems (by decide) r.2⟩)
    (Cert.ReferenceAdRwIdeal.Value.run m ρ)

theorem reference_adat_frame : Cert.quiescent_ReferenceAdAtIdeal := fun m ρ _ =>
  (θ_run Cert.ReferenceAdAtIdeal.defs _ _).mono (fun r h => ⟨fun c => (h c).2.2.2.2, sem_eq_zero_of_no_sems (by decide) r.2⟩)
    (Cert.ReferenceAdAtIdeal.Value.run m ρ)

theorem reference_adple_frame : Cert.quiescent_ReferenceAdPleIdeal := fun m ρ _ =>
  (θ_run Cert.ReferenceAdPleIdeal.defs _ _).mono (fun r h => ⟨fun c => (h c).2.2.2.2, sem_eq_zero_of_no_sems (by decide) r.2⟩)
    (Cert.ReferenceAdPleIdeal.Value.run m ρ)

theorem reference_adgate_frame : Cert.quiescent_ReferenceAdGateIdeal := fun m ρ _ =>
  (θ_run Cert.ReferenceAdGateIdeal.defs _ _).mono (fun r h => ⟨fun c => (h c).2.2.2.2, sem_eq_zero_of_no_sems (by decide) r.2⟩)
    (Cert.ReferenceAdGateIdeal.Value.run m ρ)

theorem reference_addecay_frame : Cert.quiescent_ReferenceAdDecayIdeal := fun m ρ _ =>
  (θ_run Cert.ReferenceAdDecayIdeal.defs _ _).mono (fun r h => ⟨fun c => (h c).2.2.2.2, sem_eq_zero_of_no_sems (by decide) r.2⟩)
    (Cert.ReferenceAdDecayIdeal.Value.run m ρ)

theorem reference_adsmall_frame : Cert.quiescent_ReferenceAdSmallIdeal := fun m ρ _ =>
  (θ_run Cert.ReferenceAdSmallIdeal.defs _ _).mono (fun r h => ⟨fun c => (h c).2.2.2.2, sem_eq_zero_of_no_sems (by decide) r.2⟩)
    (Cert.ReferenceAdSmallIdeal.Value.run m ρ)

/-- The sum of the key and value gradients is the gradient of the two reads. -/
theorem kv_algebraic : Cert.algebraic_KernelKvIdeal_ReferenceKvIdeal := by
  pair_intro
  · run_from Cert.KernelKvIdeal.Gen.run_main m g
  · run_from Cert.ReferenceKvIdeal.Value.run m' g'
    · exact (Cert.KvSum.final4 m c).symm
    · exact (Cert.KvSum.final5 m c).symm

instance : Cert.Pre_finite.Facts := Cert.Pre_finite.Gen.facts

set_option maxHeartbeats 4000000 in
/-- The attention gradient: on finite arguments the seven results of the kernel are the reference's. -/
theorem attn_algebraic : Cert.algebraic_KernelIdeal_ReferenceIdeal_pre_finite := by
  pair_intro
  · run_from Cert.AttnRun.run m g
  · have H := fun c => Cert.AttnArgs.given m c (hpre c)
    have HV := fun c => Cert.AttnArgs.ref_holds (H c) (StableHlo.launchContents m' c) (hagree c).1 (hagree c).2.1 (hagree c).2.2.1
      (hagree c).2.2.2.1 (hagree c).2.2.2.2.1 (hagree c).2.2.2.2.2.1 (hagree c).2.2.2.2.2.2
    run_from Cert.ReferenceIdeal.Value.run m' g'
    · funext y; idx_vars y; exact (Cert.RefRows.dq_res (HV c) y0 y1).trans (Cert.AttnValue.final9 (H c) y0 y1).symm
    · funext y; idx_vars y; exact (Cert.RefRows.dkp_res (HV c) y0 y1).trans (Cert.AttnValue.final10 (H c) y0 y1).symm
    · funext y; idx_vars y; exact (Cert.RefRows.dkc_res (HV c) y0 y1).trans (Cert.AttnValue.final11 (H c) y0 y1).symm
    · funext y; idx_vars y; exact (Cert.RefRows.dvp_res (HV c) y0 y1).trans (Cert.AttnValue.final12 (H c) y0 y1).symm
    · funext y; idx_vars y; exact (Cert.RefRows.dvc_res (HV c) y0 y1).trans (Cert.AttnValue.final13 (H c) y0 y1).symm
    · funext y; idx_vars y; exact (Cert.RefRows.dbp_res (HV c) y0 y1 y2).trans (Cert.AttnValue.final14 (H c) y0 y1 y2).symm
    · funext y; idx_vars y; exact (Cert.RefRows.dbc_res (HV c) y0 y1 y2).trans (Cert.AttnValue.final15 (H c) y0 y1 y2).symm

theorem claim : Cert.Claim := ⟨Cert.Kernel.Gen.facts, Cert.KernelIdeal.Gen.facts, Cert.ReferenceIdeal.Gen.facts, Cert.KernelKv.Gen.facts, Cert.KernelKvIdeal.Gen.facts, Cert.ReferenceKvIdeal.Gen.facts,
  Cert.KernelAct.Gen.facts, Cert.KernelActIdeal.Gen.facts, Cert.ReferenceActIdeal.Gen.facts,
  Cert.KernelDwOut.Gen.facts, Cert.KernelDwOutIdeal.Gen.facts, Cert.ReferenceDwOutIdeal.Gen.facts,
  Cert.KernelDwIn.Gen.facts, Cert.KernelDwInIdeal.Gen.facts, Cert.ReferenceDwInIdeal.Gen.facts,
  Cert.KernelOut.Gen.facts, Cert.KernelOutIdeal.Gen.facts, Cert.ReferenceOutIdeal.Gen.facts,
  Cert.KernelDw.Gen.facts, Cert.KernelDwIdeal.Gen.facts, Cert.ReferenceDwIdeal.Gen.facts,
  Cert.KernelDx.Gen.facts, Cert.KernelDxIdeal.Gen.facts, Cert.ReferenceDxIdeal.Gen.facts,
  Cert.KernelY.Gen.facts, Cert.KernelYIdeal.Gen.facts, Cert.ReferenceYIdeal.Gen.facts,
  Cert.KernelDwZ.Gen.facts, Cert.KernelDwZIdeal.Gen.facts, Cert.ReferenceDwZIdeal.Gen.facts,
  Cert.KernelDwQ.Gen.facts, Cert.KernelDwQIdeal.Gen.facts, Cert.ReferenceDwQIdeal.Gen.facts,
  Cert.KernelDwV.Gen.facts, Cert.KernelDwVIdeal.Gen.facts, Cert.ReferenceDwVIdeal.Gen.facts,
  Cert.KernelDwRw.Gen.facts, Cert.KernelDwRwIdeal.Gen.facts, Cert.ReferenceDwRwIdeal.Gen.facts,
  Cert.KernelDxRw.Gen.facts, Cert.KernelDxRwIdeal.Gen.facts, Cert.ReferenceDxRwIdeal.Gen.facts,
  Cert.KernelYRw.Gen.facts, Cert.KernelYRwIdeal.Gen.facts, Cert.ReferenceYRwIdeal.Gen.facts,
  Cert.KernelDwAt.Gen.facts, Cert.KernelDwAtIdeal.Gen.facts, Cert.ReferenceDwAtIdeal.Gen.facts,
  Cert.KernelDxAt.Gen.facts, Cert.KernelDxAtIdeal.Gen.facts, Cert.ReferenceDxAtIdeal.Gen.facts,
  Cert.KernelYAt.Gen.facts, Cert.KernelYAtIdeal.Gen.facts, Cert.ReferenceYAtIdeal.Gen.facts,
  Cert.KernelDwPle.Gen.facts, Cert.KernelDwPleIdeal.Gen.facts, Cert.ReferenceDwPleIdeal.Gen.facts,
  Cert.KernelYPle.Gen.facts, Cert.KernelYPleIdeal.Gen.facts, Cert.ReferenceYPleIdeal.Gen.facts,
  Cert.KernelAdIn.Gen.facts, Cert.KernelAdInIdeal.Gen.facts, Cert.ReferenceAdInIdeal.Gen.facts,
  Cert.KernelAdMlpIn.Gen.facts, Cert.KernelAdMlpInIdeal.Gen.facts, Cert.ReferenceAdMlpInIdeal.Gen.facts,
  Cert.KernelAdMlpOut.Gen.facts, Cert.KernelAdMlpOutIdeal.Gen.facts, Cert.ReferenceAdMlpOutIdeal.Gen.facts,
  Cert.KernelAdOut.Gen.facts, Cert.KernelAdOutIdeal.Gen.facts, Cert.ReferenceAdOutIdeal.Gen.facts,
  Cert.KernelAdRw.Gen.facts, Cert.KernelAdRwIdeal.Gen.facts, Cert.ReferenceAdRwIdeal.Gen.facts,
  Cert.KernelAdAt.Gen.facts, Cert.KernelAdAtIdeal.Gen.facts, Cert.ReferenceAdAtIdeal.Gen.facts,
  Cert.KernelAdPle.Gen.facts, Cert.KernelAdPleIdeal.Gen.facts, Cert.ReferenceAdPleIdeal.Gen.facts,
  Cert.KernelAdGate.Gen.facts, Cert.KernelAdGateIdeal.Gen.facts, Cert.ReferenceAdGateIdeal.Gen.facts,
  Cert.KernelAdDecay.Gen.facts, Cert.KernelAdDecayIdeal.Gen.facts, Cert.ReferenceAdDecayIdeal.Gen.facts,
  Cert.KernelAdSmall.Gen.facts, Cert.KernelAdSmallIdeal.Gen.facts, Cert.ReferenceAdSmallIdeal.Gen.facts,
  Cert.Pre_finite.Gen.facts,
  fun m ρ _ => Cert.AttnRunBits.frame_holds m ρ,
  fun m ρ _ => Cert.AttnRun.frame_holds m ρ,
  fun m ρ _ => Cert.AttnRun.frame_holds m ρ,
  reference_frame,
  fun m ρ _ => reference_frame m ρ trivial,
  fun m ρ _ => Cert.KernelKv.Gen.frame m ρ,
  fun m ρ _ => Cert.KernelKvIdeal.Gen.frame m ρ,
  reference_kv_frame,
  fun m ρ _ => Cert.KernelAct.Gen.frame m ρ, fun m ρ _ => Cert.KernelActIdeal.Gen.frame m ρ, reference_act_frame,
  fun m ρ _ => Cert.KernelDwOut.Gen.frame m ρ, fun m ρ _ => Cert.KernelDwOutIdeal.Gen.frame m ρ, reference_dwout_frame,
  fun m ρ _ => Cert.KernelDwIn.Gen.frame m ρ, fun m ρ _ => Cert.KernelDwInIdeal.Gen.frame m ρ, reference_dwin_frame,
  fun m ρ _ => Cert.KernelOut.Gen.frame m ρ, fun m ρ _ => Cert.KernelOutIdeal.Gen.frame m ρ, reference_out_frame,
  fun m ρ _ => Cert.KernelDw.Gen.frame m ρ, fun m ρ _ => Cert.KernelDwIdeal.Gen.frame m ρ, reference_dw_frame,
  fun m ρ _ => Cert.KernelDx.Gen.frame m ρ, fun m ρ _ => Cert.KernelDxIdeal.Gen.frame m ρ, reference_dx_frame,
  fun m ρ _ => Cert.KernelY.Gen.frame m ρ, fun m ρ _ => Cert.KernelYIdeal.Gen.frame m ρ, reference_y_frame,
  fun m ρ _ => Cert.KernelDwZ.Gen.frame m ρ, fun m ρ _ => Cert.KernelDwZIdeal.Gen.frame m ρ, reference_dwz_frame,
  fun m ρ _ => Cert.KernelDwQ.Gen.frame m ρ, fun m ρ _ => Cert.KernelDwQIdeal.Gen.frame m ρ, reference_dwq_frame,
  fun m ρ _ => Cert.KernelDwV.Gen.frame m ρ, fun m ρ _ => Cert.KernelDwVIdeal.Gen.frame m ρ, reference_dwv_frame,
  fun m ρ _ => Cert.KernelDwRw.Gen.frame m ρ, fun m ρ _ => Cert.KernelDwRwIdeal.Gen.frame m ρ, reference_dwrw_frame,
  fun m ρ _ => Cert.KernelDxRw.Gen.frame m ρ, fun m ρ _ => Cert.KernelDxRwIdeal.Gen.frame m ρ, reference_dxrw_frame,
  fun m ρ _ => Cert.KernelYRw.Gen.frame m ρ, fun m ρ _ => Cert.KernelYRwIdeal.Gen.frame m ρ, reference_yrw_frame,
  fun m ρ _ => Cert.KernelDwAt.Gen.frame m ρ, fun m ρ _ => Cert.KernelDwAtIdeal.Gen.frame m ρ, reference_dwat_frame,
  fun m ρ _ => Cert.KernelDxAt.Gen.frame m ρ, fun m ρ _ => Cert.KernelDxAtIdeal.Gen.frame m ρ, reference_dxat_frame,
  fun m ρ _ => Cert.KernelYAt.Gen.frame m ρ, fun m ρ _ => Cert.KernelYAtIdeal.Gen.frame m ρ, reference_yat_frame,
  fun m ρ _ => Cert.KernelDwPle.Gen.frame m ρ, fun m ρ _ => Cert.KernelDwPleIdeal.Gen.frame m ρ, reference_dwple_frame,
  fun m ρ _ => Cert.KernelYPle.Gen.frame m ρ, fun m ρ _ => Cert.KernelYPleIdeal.Gen.frame m ρ, reference_yple_frame,
  fun m ρ _ => Cert.KernelAdIn.Gen.frame m ρ, fun m ρ _ => Cert.KernelAdInIdeal.Gen.frame m ρ, reference_adin_frame,
  fun m ρ _ => Cert.KernelAdMlpIn.Gen.frame m ρ, fun m ρ _ => Cert.KernelAdMlpInIdeal.Gen.frame m ρ, reference_admlpin_frame,
  fun m ρ _ => Cert.KernelAdMlpOut.Gen.frame m ρ, fun m ρ _ => Cert.KernelAdMlpOutIdeal.Gen.frame m ρ, reference_admlpout_frame,
  fun m ρ _ => Cert.KernelAdOut.Gen.frame m ρ, fun m ρ _ => Cert.KernelAdOutIdeal.Gen.frame m ρ, reference_adout_frame,
  fun m ρ _ => Cert.KernelAdRw.Gen.frame m ρ, fun m ρ _ => Cert.KernelAdRwIdeal.Gen.frame m ρ, reference_adrw_frame,
  fun m ρ _ => Cert.KernelAdAt.Gen.frame m ρ, fun m ρ _ => Cert.KernelAdAtIdeal.Gen.frame m ρ, reference_adat_frame,
  fun m ρ _ => Cert.KernelAdPle.Gen.frame m ρ, fun m ρ _ => Cert.KernelAdPleIdeal.Gen.frame m ρ, reference_adple_frame,
  fun m ρ _ => Cert.KernelAdGate.Gen.frame m ρ, fun m ρ _ => Cert.KernelAdGateIdeal.Gen.frame m ρ, reference_adgate_frame,
  fun m ρ _ => Cert.KernelAdDecay.Gen.frame m ρ, fun m ρ _ => Cert.KernelAdDecayIdeal.Gen.frame m ρ, reference_addecay_frame,
  fun m ρ _ => Cert.KernelAdSmall.Gen.frame m ρ, fun m ρ _ => Cert.KernelAdSmallIdeal.Gen.frame m ρ, reference_adsmall_frame,
  trivial,
  attn_algebraic,
  trivial,
  kv_algebraic,
  trivial, Cert.ActValue.algebraic,
  trivial, Cert.DwOutValue.algebraic,
  trivial, Cert.DwInValue.algebraic,
  trivial, Cert.OutValue.algebraic,
  trivial, Cert.DwValue.algebraic,
  trivial, Cert.DxValue.algebraic,
  trivial, Cert.YValue.algebraic,
  trivial, Cert.DwZValue.algebraic,
  trivial, Cert.DwQValue.algebraic,
  trivial, Cert.DwVValue.algebraic,
  trivial, Cert.DwRwValue.algebraic,
  trivial, Cert.DxRwValue.algebraic,
  trivial, Cert.YRwValue.algebraic,
  trivial, Cert.DwAtValue.algebraic,
  trivial, Cert.DxAtValue.algebraic,
  trivial, Cert.YAtValue.algebraic,
  trivial, Cert.DwPleValue.algebraic,
  trivial, Cert.YPleValue.algebraic,
  trivial, Cert.AdInValue.algebraic,
  trivial, Cert.AdMlpInValue.algebraic,
  trivial, Cert.AdMlpOutValue.algebraic,
  trivial, Cert.AdOutValue.algebraic,
  trivial, Cert.AdRwValue.algebraic,
  trivial, Cert.AdAtValue.algebraic,
  trivial, Cert.AdPleValue.algebraic,
  trivial, Cert.AdGateValue.algebraic,
  trivial, Cert.AdDecayValue.algebraic,
  trivial, Cert.AdSmallValue.algebraic⟩

end Cert.Proof

end
